-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v34)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v34) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v170) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S32768x2560 : Shape := ⟨2, ![32768, 2560]⟩
abbrev S2x512 : Shape := ⟨2, ![2, 512]⟩
abbrev S1x128 : Shape := ⟨2, ![1, 128]⟩
abbrev S_ : Shape := ⟨0, ![]⟩
abbrev S512 : Shape := ⟨1, ![512]⟩
abbrev S1x512 : Shape := ⟨2, ![1, 512]⟩
abbrev S128 : Shape := ⟨1, ![128]⟩
abbrev S32768x512 : Shape := ⟨2, ![32768, 512]⟩
abbrev S256x512 : Shape := ⟨2, ![256, 512]⟩
abbrev S4x128x128 : Shape := ⟨3, ![4, 128, 128]⟩
abbrev S32x32 : Shape := ⟨2, ![32, 32]⟩
abbrev S32x128 : Shape := ⟨2, ![32, 128]⟩
abbrev S128x128 : Shape := ⟨2, ![128, 128]⟩
abbrev S1x128x128 : Shape := ⟨3, ![1, 128, 128]⟩
abbrev S256x128 : Shape := ⟨2, ![256, 128]⟩
abbrev S256 : Shape := ⟨1, ![256]⟩
abbrev S256x1 : Shape := ⟨2, ![256, 1]⟩

abbrev nBuf : Space → Nat
  | .hbm => 26
  | .vmem => 13
  | .smem => 0
  | _ => 0

abbrev bufTy : (tb : Table) → Fin (tcTables nBuf tb) → BufTy
  | .hbm, ⟨0, _⟩ => ⟨S32768x2560, .f32⟩
  | .hbm, ⟨1, _⟩ => ⟨S2x512, .f32⟩
  | .hbm, ⟨2, _⟩ => ⟨S1x128, .f32⟩
  | .hbm, ⟨3, _⟩ => ⟨S_, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S1x512, .f32⟩
  | .hbm, ⟨9, _⟩ => ⟨S2x512, .f32⟩
  | .hbm, ⟨10, _⟩ => ⟨S2x512, .f32⟩
  | .hbm, ⟨11, _⟩ => ⟨S2x512, .f32⟩
  | .hbm, ⟨12, _⟩ => ⟨S_, .f32⟩
  | .hbm, ⟨13, _⟩ => ⟨S512, .f32⟩
  | .hbm, ⟨14, _⟩ => ⟨S1x512, .f32⟩
  | .hbm, ⟨15, _⟩ => ⟨S2x512, .f32⟩
  | .hbm, ⟨16, _⟩ => ⟨S2x512, .f32⟩
  | .hbm, ⟨17, _⟩ => ⟨S_, .f32⟩
  | .hbm, ⟨18, _⟩ => ⟨S_, .f32⟩
  | .hbm, ⟨19, _⟩ => ⟨S2x512, .f32⟩
  | .hbm, ⟨20, _⟩ => ⟨S1x512, .f32⟩
  | .hbm, ⟨21, _⟩ => ⟨S512, .f32⟩
  | .hbm, ⟨22, _⟩ => ⟨S128, .f32⟩
  | .hbm, ⟨23, _⟩ => ⟨S1x512, .f32⟩
  | .hbm, ⟨24, _⟩ => ⟨S1x128, .f32⟩
  | .hbm, ⟨25, _⟩ => ⟨S32768x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x128, .f32⟩
  | .local _ .vmem, ⟨10, _⟩ => ⟨S256x512, .f32⟩
  | .local _ .vmem, ⟨11, _⟩ => ⟨S256x512, .f32⟩
  | .local _ .vmem, ⟨12, _⟩ => ⟨S4x128x128, .f32⟩
  | _, _ => ⟨S32768x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S32768x2560 : Shape := ⟨2, ![32768, 2560]⟩
abbrev S2x512 : Shape := ⟨2, ![2, 512]⟩
abbrev S1x128 : Shape := ⟨2, ![1, 128]⟩
abbrev S_ : Shape := ⟨0, ![]⟩
abbrev S512 : Shape := ⟨1, ![512]⟩
abbrev S1x512 : Shape := ⟨2, ![1, 512]⟩
abbrev S2x16384x2560 : Shape := ⟨3, ![2, 16384, 2560]⟩
abbrev S2x16384x512 : Shape := ⟨3, ![2, 16384, 512]⟩
abbrev S128 : Shape := ⟨1, ![128]⟩
abbrev S4x128 : Shape := ⟨2, ![4, 128]⟩
abbrev S2x16384x4x128 : Shape := ⟨4, ![2, 16384, 4, 128]⟩
abbrev S1x1x4x128 : Shape := ⟨4, ![1, 1, 4, 128]⟩
abbrev S2x512x32x4x128 : Shape := ⟨5, ![2, 512, 32, 4, 128]⟩
abbrev S512x2x4x32x128 : Shape := ⟨5, ![512, 2, 4, 32, 128]⟩
abbrev S512x2x4x1x128 : Shape := ⟨5, ![512, 2, 4, 1, 128]⟩
abbrev S512x2x4x128 : Shape := ⟨4, ![512, 2, 4, 128]⟩
abbrev S32x32 : Shape := ⟨2, ![32, 32]⟩
abbrev S512x2x4x32x32 : Shape := ⟨5, ![512, 2, 4, 32, 32]⟩
abbrev S2x4x128x128 : Shape := ⟨4, ![2, 4, 128, 128]⟩
abbrev S1x2x4x32x128 : Shape := ⟨5, ![1, 2, 4, 32, 128]⟩
abbrev S2x4x32x128 : Shape := ⟨4, ![2, 4, 32, 128]⟩
abbrev S1x2x4x128 : Shape := ⟨4, ![1, 2, 4, 128]⟩
abbrev S2x4x128 : Shape := ⟨3, ![2, 4, 128]⟩
abbrev S2x4x128x1 : Shape := ⟨4, ![2, 4, 128, 1]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩
abbrev S32768x512 : Shape := ⟨2, ![32768, 512]⟩

abbrev nBuf : Space → Nat
  | .hbm => 190
  | .vmem => 0
  | .smem => 0
  | _ => 0

abbrev hbmTy0_0 (i : Nat) : BufTy := match i % 128 with
  | 0 => ⟨S32768x2560, .f32⟩
  | 1 => ⟨S2x512, .f32⟩
  | 2 => ⟨S1x128, .f32⟩
  | 3 => ⟨S_, .f32⟩
  | 4 => ⟨S512, .f32⟩
  | 5 => ⟨S_, .f32⟩
  | 6 => ⟨S512, .f32⟩
  | 7 => ⟨S512, .f32⟩
  | 8 => ⟨S1x512, .f32⟩
  | 9 => ⟨S2x512, .f32⟩
  | 10 => ⟨S2x512, .f32⟩
  | 11 => ⟨S2x512, .f32⟩
  | 12 => ⟨S_, .f32⟩
  | 13 => ⟨S512, .f32⟩
  | 14 => ⟨S1x512, .f32⟩
  | 15 => ⟨S2x512, .f32⟩
  | 16 => ⟨S2x512, .f32⟩
  | 17 => ⟨S_, .f32⟩
  | 18 => ⟨S_, .f32⟩
  | 19 => ⟨S2x512, .f32⟩
  | 20 => ⟨S2x16384x2560, .f32⟩
  | 21 => ⟨S2x16384x512, .f32⟩
  | 22 => ⟨S2x16384x512, .f32⟩
  | 23 => ⟨S2x16384x512, .f32⟩
  | 24 => ⟨S2x16384x512, .f32⟩
  | 25 => ⟨S2x16384x512, .f32⟩
  | 26 => ⟨S1x512, .f32⟩
  | 27 => ⟨S512, .f32⟩
  | 28 => ⟨S128, .f32⟩
  | 29 => ⟨S4x128, .f32⟩
  | 30 => ⟨S2x16384x4x128, .f32⟩
  | 31 => ⟨S2x16384x4x128, .f32⟩
  | 32 => ⟨S2x16384x4x128, .f32⟩
  | 33 => ⟨S_, .f32⟩
  | 34 => ⟨S2x16384x4x128, .f32⟩
  | 35 => ⟨S2x16384x4x128, .f32⟩
  | 36 => ⟨S_, .f32⟩
  | 37 => ⟨S2x16384x4x128, .f32⟩
  | 38 => ⟨S2x16384x4x128, .f32⟩
  | 39 => ⟨S2x16384x4x128, .f32⟩
  | 40 => ⟨S_, .f32⟩
  | 41 => ⟨S2x16384x4x128, .f32⟩
  | 42 => ⟨S2x16384x4x128, .f32⟩
  | 43 => ⟨S_, .f32⟩
  | 44 => ⟨S4x128, .f32⟩
  | 45 => ⟨S4x128, .f32⟩
  | 46 => ⟨S2x16384x4x128, .f32⟩
  | 47 => ⟨S2x16384x4x128, .f32⟩
  | 48 => ⟨S2x16384x4x128, .f32⟩
  | 49 => ⟨S_, .f32⟩
  | 50 => ⟨S2x16384x4x128, .f32⟩
  | 51 => ⟨S2x16384x4x128, .f32⟩
  | 52 => ⟨S_, .f32⟩
  | 53 => ⟨S2x16384x4x128, .f32⟩
  | 54 => ⟨S2x16384x4x128, .f32⟩
  | 55 => ⟨S1x1x4x128, .f32⟩
  | 56 => ⟨S2x16384x4x128, .f32⟩
  | 57 => ⟨S2x16384x4x128, .f32⟩
  | 58 => ⟨S1x1x4x128, .f32⟩
  | 59 => ⟨S2x16384x4x128, .f32⟩
  | 60 => ⟨S2x16384x4x128, .f32⟩
  | 61 => ⟨S2x512x32x4x128, .f32⟩
  | 62 => ⟨S512x2x4x32x128, .f32⟩
  | 63 => ⟨S_, .f32⟩
  | 64 => ⟨S2x16384x4x128, .f32⟩
  | 65 => ⟨S2x16384x4x128, .f32⟩
  | 66 => ⟨S2x512x32x4x128, .f32⟩
  | 67 => ⟨S512x2x4x32x128, .f32⟩
  | 68 => ⟨S2x16384x4x128, .f32⟩
  | 69 => ⟨S2x512x32x4x128, .f32⟩
  | 70 => ⟨S512x2x4x32x128, .f32⟩
  | 71 => ⟨S2x16384x4x128, .f32⟩
  | 72 => ⟨S2x512x32x4x128, .f32⟩
  | 73 => ⟨S512x2x4x32x128, .f32⟩
  | 74 => ⟨S_, .f32⟩
  | 75 => ⟨S_, .f32⟩
  | 76 => ⟨S512x2x4x32x128, .f32⟩
  | 77 => ⟨S512x2x4x1x128, .f32⟩
  | 78 => ⟨S512x2x4x32x128, .f32⟩
  | 79 => ⟨S512x2x4x32x128, .f32⟩
  | 80 => ⟨S512x2x4x32x128, .f32⟩
  | 81 => ⟨S512x2x4x32x128, .f32⟩
  | 82 => ⟨S512x2x4x32x128, .f32⟩
  | 83 => ⟨S512x2x4x32x128, .f32⟩
  | 84 => ⟨S512x2x4x32x128, .f32⟩
  | 85 => ⟨S512x2x4x32x128, .f32⟩
  | 86 => ⟨S512x2x4x32x128, .f32⟩
  | 87 => ⟨S512x2x4x128, .f32⟩
  | 88 => ⟨S512x2x4x128, .f32⟩
  | 89 => ⟨S_, .i1⟩
  | 90 => ⟨S32x32, .i1⟩
  | 91 => ⟨S32x32, .i32⟩
  | 92 => ⟨S_, .i32⟩
  | 93 => ⟨S32x32, .i32⟩
  | 94 => ⟨S32x32, .i32⟩
  | 95 => ⟨S32x32, .i32⟩
  | 96 => ⟨S32x32, .i1⟩
  | 97 => ⟨S_, .i1⟩
  | 98 => ⟨S32x32, .i1⟩
  | 99 => ⟨S32x32, .i1⟩
  | 100 => ⟨S512x2x4x32x32, .f32⟩
  | 101 => ⟨S_, .f32⟩
  | 102 => ⟨S_, .f32⟩
  | 103 => ⟨S512x2x4x32x32, .i1⟩
  | 104 => ⟨S512x2x4x32x32, .f32⟩
  | 105 => ⟨S512x2x4x32x32, .f32⟩
  | 106 => ⟨S512x2x4x32x128, .f32⟩
  | 107 => ⟨S_, .f32⟩
  | 108 => ⟨S2x4x128x128, .f32⟩
  | 109 => ⟨S_, .f32⟩
  | 110 => ⟨S512x2x4x32x128, .f32⟩
  | 111 => ⟨S_, .i32⟩
  | 112 => ⟨S512x2x4x32x128, .f32⟩
  | 113 => ⟨S512x2x4x32x128, .f32⟩
  | 114 => ⟨S512x2x4x32x128, .f32⟩
  | 115 => ⟨S512x2x4x128, .f32⟩
  | 116 => ⟨S_, .i32⟩
  | 117 => ⟨S2x4x128x128, .f32⟩
  | 118 => ⟨S512x2x4x32x128, .f32⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S1x2x4x32x128, .f32⟩
  | 126 => ⟨S2x4x32x128, .f32⟩
  | 127 => ⟨S_, .i32⟩
  | _ => ⟨S32768x2560, .f32⟩

abbrev hbmTy0_1 (i : Nat) : BufTy := match i % 128 with
  | 0 => ⟨S_, .i32⟩
  | 1 => ⟨S_, .i32⟩
  | 2 => ⟨S_, .i32⟩
  | 3 => ⟨S1x2x4x32x128, .f32⟩
  | 4 => ⟨S2x4x32x128, .f32⟩
  | 5 => ⟨S_, .i32⟩
  | 6 => ⟨S_, .i32⟩
  | 7 => ⟨S_, .i32⟩
  | 8 => ⟨S_, .i32⟩
  | 9 => ⟨S1x2x4x32x128, .f32⟩
  | 10 => ⟨S2x4x32x128, .f32⟩
  | 11 => ⟨S_, .i32⟩
  | 12 => ⟨S_, .i32⟩
  | 13 => ⟨S_, .i32⟩
  | 14 => ⟨S1x2x4x128, .f32⟩
  | 15 => ⟨S2x4x128, .f32⟩
  | 16 => ⟨S2x4x32x128, .f32⟩
  | 17 => ⟨S2x4x128x1, .f32⟩
  | 18 => ⟨S2x4x128x128, .f32⟩
  | 19 => ⟨S2x4x128x128, .f32⟩
  | 20 => ⟨S2x4x128x128, .f32⟩
  | 21 => ⟨S2x4x128x128, .f32⟩
  | 22 => ⟨S1x2x4x32x128, .f32⟩
  | 23 => ⟨S_, .i32⟩
  | 24 => ⟨S_, .i32⟩
  | 25 => ⟨S_, .i32⟩
  | 26 => ⟨S_, .i32⟩
  | 27 => ⟨S512x2x4x32x128, .f32⟩
  | 28 => ⟨S_, .i32⟩
  | 29 => ⟨S_, .i32⟩
  | 30 => ⟨S512x2x4x32x128, .f32⟩
  | 31 => ⟨S2x512x32x4x128, .f32⟩
  | 32 => ⟨S2x16384x4x128, .f32⟩
  | 33 => ⟨S2x16384x4x128, .f32⟩
  | 34 => ⟨S_, .f32⟩
  | 35 => ⟨S2x16384x4, .f32⟩
  | 36 => ⟨S2x16384x4x1, .f32⟩
  | 37 => ⟨S_, .f32⟩
  | 38 => ⟨S2x16384x4x1, .f32⟩
  | 39 => ⟨S2x16384x4x1, .f32⟩
  | 40 => ⟨S_, .f32⟩
  | 41 => ⟨S2x16384x4x1, .f32⟩
  | 42 => ⟨S2x16384x4x1, .f32⟩
  | 43 => ⟨S2x16384x4x1, .f32⟩
  | 44 => ⟨S2x16384x4x128, .f32⟩
  | 45 => ⟨S2x16384x4x128, .f32⟩
  | 46 => ⟨S1x1x1x128, .f32⟩
  | 47 => ⟨S2x16384x4x128, .f32⟩
  | 48 => ⟨S2x16384x4x128, .f32⟩
  | 49 => ⟨S2x16384x4x128, .f32⟩
  | 50 => ⟨S2x16384x4x128, .f32⟩
  | 51 => ⟨S2x16384x4x128, .f32⟩
  | 52 => ⟨S_, .f32⟩
  | 53 => ⟨S2x16384x4x128, .f32⟩
  | 54 => ⟨S2x16384x4x128, .f32⟩
  | 55 => ⟨S_, .f32⟩
  | 56 => ⟨S2x16384x4x128, .f32⟩
  | 57 => ⟨S2x16384x4x128, .f32⟩
  | 58 => ⟨S2x16384x4x128, .f32⟩
  | 59 => ⟨S2x16384x4x128, .f32⟩
  | 60 => ⟨S2x16384x512, .f32⟩
  | 61 => ⟨S32768x512, .f32⟩
  | _ => ⟨S32768x2560, .f32⟩

abbrev hbmTy (i : Nat) : BufTy := match i / 128 with
  | 0 => hbmTy0_0 i
  | 1 => hbmTy0_1 i
  | _ => ⟨S32768x2560, .f32⟩

abbrev bufTy : (tb : Table) → Fin (tcTables nBuf tb) → BufTy
  | .hbm, ⟨i, _⟩ => hbmTy i
  | _, _ => ⟨S32768x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call2_call0_cst : Ref sig .tc := ⟨.hbm, 74, rfl⟩
abbrev main_call2_call0_v0 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c : Ref sig .tc := ⟨.hbm, 89, rfl⟩
abbrev main_v66 : Ref sig .tc := ⟨.hbm, 90, rfl⟩
abbrev main_call3_v0 : Ref sig .tc := ⟨.hbm, 91, rfl⟩
abbrev main_call3_c : Ref sig .tc := ⟨.hbm, 92, rfl⟩
abbrev main_call3_v1 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_c_0 : Ref sig .tc := ⟨.hbm, 97, rfl⟩
abbrev main_call3_v5 : Ref sig .tc := ⟨.hbm, 98, rfl⟩
abbrev main_v67 : Ref sig .tc := ⟨.hbm, 99, rfl⟩
abbrev main_v68 : Ref sig .tc := ⟨.hbm, 100, rfl⟩
abbrev main_cst_7 : Ref sig .tc := ⟨.hbm, 101, rfl⟩
abbrev main_call4_v0 : Ref sig .tc := ⟨.hbm, 102, rfl⟩
abbrev main_call4_v1 : Ref sig .tc := ⟨.hbm, 103, rfl⟩
abbrev main_call4_v2 : Ref sig .tc := ⟨.hbm, 104, rfl⟩
abbrev main_v69 : Ref sig .tc := ⟨.hbm, 105, rfl⟩
abbrev main_v70 : Ref sig .tc := ⟨.hbm, 106, rfl⟩
abbrev main_cst_8 : Ref sig .tc := ⟨.hbm, 107, rfl⟩
abbrev main_v71 : Ref sig .tc := ⟨.hbm, 108, rfl⟩
abbrev main_cst_9 : Ref sig .tc := ⟨.hbm, 109, rfl⟩
abbrev main_v72 : Ref sig .tc := ⟨.hbm, 110, rfl⟩
abbrev main_c_10 : Ref sig .tc := ⟨.hbm, 111, rfl⟩
abbrev main_v73_0 : Ref sig .tc := ⟨.hbm, 112, rfl⟩
abbrev main_v73_1 : Ref sig .tc := ⟨.hbm, 113, rfl⟩
abbrev main_v73_2 : Ref sig .tc := ⟨.hbm, 114, rfl⟩
abbrev main_v73_3 : Ref sig .tc := ⟨.hbm, 115, rfl⟩
abbrev main_v73_4 : Ref sig .tc := ⟨.hbm, 116, rfl⟩
abbrev main_v73_5 : Ref sig .tc := ⟨.hbm, 117, rfl⟩
abbrev main_v73_6 : Ref sig .tc := ⟨.hbm, 118, rfl⟩
abbrev main_while0c_c_20 : Ref sig .tc := ⟨.hbm, 119, rfl⟩
abbrev main_while0c_v95 : Ref sig .tc := ⟨.hbm, 120, rfl⟩
abbrev main_while0b_call5_c : Ref sig .tc := ⟨.hbm, 121, rfl⟩
abbrev main_while0b_call5_c_0 : Ref sig .tc := ⟨.hbm, 122, rfl⟩
abbrev main_while0b_call5_c_1 : Ref sig .tc := ⟨.hbm, 123, rfl⟩
abbrev main_while0b_call5_c_2 : Ref sig .tc := ⟨.hbm, 124, rfl⟩
abbrev main_while0b_call5_v0 : Ref sig .tc := ⟨.hbm, 125, rfl⟩
abbrev main_while0b_v95 : Ref sig .tc := ⟨.hbm, 126, rfl⟩
abbrev main_while0b_call6_c : Ref sig .tc := ⟨.hbm, 127, rfl⟩
abbrev main_while0b_call6_c_0 : Ref sig .tc := ⟨.hbm, 128, rfl⟩
abbrev main_while0b_call6_c_1 : Ref sig .tc := ⟨.hbm, 129, rfl⟩
abbrev main_while0b_call6_c_2 : Ref sig .tc := ⟨.hbm, 130, rfl⟩
abbrev main_while0b_call6_v0 : Ref sig .tc := ⟨.hbm, 131, rfl⟩
abbrev main_while0b_v96 : Ref sig .tc := ⟨.hbm, 132, rfl⟩
abbrev main_while0b_call7_c : Ref sig .tc := ⟨.hbm, 133, rfl⟩
abbrev main_while0b_call7_c_0 : Ref sig .tc := ⟨.hbm, 134, rfl⟩
abbrev main_while0b_call7_c_1 : Ref sig .tc := ⟨.hbm, 135, rfl⟩
abbrev main_while0b_call7_c_2 : Ref sig .tc := ⟨.hbm, 136, rfl⟩
abbrev main_while0b_call7_v0 : Ref sig .tc := ⟨.hbm, 137, rfl⟩
abbrev main_while0b_v97 : Ref sig .tc := ⟨.hbm, 138, rfl⟩
abbrev main_while0b_call8_c : Ref sig .tc := ⟨.hbm, 139, rfl⟩
abbrev main_while0b_call8_c_0 : Ref sig .tc := ⟨.hbm, 140, rfl⟩
abbrev main_while0b_call8_c_1 : Ref sig .tc := ⟨.hbm, 141, rfl⟩
abbrev main_while0b_call8_v0 : Ref sig .tc := ⟨.hbm, 142, rfl⟩
abbrev main_while0b_v98 : Ref sig .tc := ⟨.hbm, 143, rfl⟩
abbrev main_while0b_v99 : Ref sig .tc := ⟨.hbm, 144, rfl⟩
abbrev main_while0b_v100 : Ref sig .tc := ⟨.hbm, 145, rfl⟩
abbrev main_while0b_v101 : Ref sig .tc := ⟨.hbm, 146, rfl⟩
abbrev main_while0b_v102 : Ref sig .tc := ⟨.hbm, 147, rfl⟩
abbrev main_while0b_v103 : Ref sig .tc := ⟨.hbm, 148, rfl⟩
abbrev main_while0b_v104 : Ref sig .tc := ⟨.hbm, 149, rfl⟩
abbrev main_while0b_call9_v0 : Ref sig .tc := ⟨.hbm, 150, rfl⟩
abbrev main_while0b_call9_c : Ref sig .tc := ⟨.hbm, 151, rfl⟩
abbrev main_while0b_call9_c_0 : Ref sig .tc := ⟨.hbm, 152, rfl⟩
abbrev main_while0b_call9_c_1 : Ref sig .tc := ⟨.hbm, 153, rfl⟩
abbrev main_while0b_call9_c_2 : Ref sig .tc := ⟨.hbm, 154, rfl⟩
abbrev main_while0b_v105 : Ref sig .tc := ⟨.hbm, 155, rfl⟩
abbrev main_while0b_c_20 : Ref sig .tc := ⟨.hbm, 156, rfl⟩
abbrev main_while0b_v106 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_cst_11 : Ref sig .tc := ⟨.hbm, 162, rfl⟩
abbrev main_v78 : Ref sig .tc := ⟨.hbm, 163, rfl⟩
abbrev main_v79 : Ref sig .tc := ⟨.hbm, 164, rfl⟩
abbrev main_cst_12 : Ref sig .tc := ⟨.hbm, 165, rfl⟩
abbrev main_v80 : Ref sig .tc := ⟨.hbm, 166, rfl⟩
abbrev main_v81 : Ref sig .tc := ⟨.hbm, 167, rfl⟩
abbrev main_cst_13 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_call10_v0 : Ref sig .tc := ⟨.hbm, 178, rfl⟩
abbrev main_call10_v1 : Ref sig .tc := ⟨.hbm, 179, rfl⟩
abbrev main_call10_cst : Ref sig .tc := ⟨.hbm, 180, rfl⟩
abbrev main_call10_v2 : Ref sig .tc := ⟨.hbm, 181, rfl⟩
abbrev main_call10_v3 : Ref sig .tc := ⟨.hbm, 182, rfl⟩
abbrev main_call10_cst_0 : Ref sig .tc := ⟨.hbm, 183, rfl⟩
abbrev main_call10_v4 : Ref sig .tc := ⟨.hbm, 184, rfl⟩
abbrev main_call10_v5 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩

abbrev nD : Nat := 1
abbrev τ : Topo := Topo.v7x

variable {F : FTy → Type} [FloatOps F]

abbrev main_while0_count : Scf.Loop 32 := ⟨0#32, 512#32, 1#32⟩
-- ==== Kernel2.lean ====
abbrev S2x16384x1024 : Shape := ⟨3, ![2, 16384, 1024]⟩
abbrev S2x1024 : Shape := ⟨2, ![2, 1024]⟩
abbrev S1x1024x2560 : Shape := ⟨3, ![1, 1024, 2560]⟩
abbrev S32768x1024 : Shape := ⟨2, ![32768, 1024]⟩
abbrev S1x1024 : Shape := ⟨2, ![1, 1024]⟩
abbrev S1024 : Shape := ⟨1, ![1024]⟩
abbrev S1024x2560 : Shape := ⟨2, ![1024, 2560]⟩
abbrev S32768x2560 : Shape := ⟨2, ![32768, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩

abbrev nBuf : Space → Nat
  | .hbm => 10
  | .vmem => 6
  | .smem => 0
  | _ => 0

abbrev bufTy : (tb : Table) → Fin (tcTables nBuf tb) → BufTy
  | .hbm, ⟨0, _⟩ => ⟨S2x16384x1024, .f32⟩
  | .hbm, ⟨1, _⟩ => ⟨S2x1024, .f32⟩
  | .hbm, ⟨2, _⟩ => ⟨S1x1024x2560, .f32⟩
  | .hbm, ⟨3, _⟩ => ⟨S32768x1024, .f32⟩
  | .hbm, ⟨4, _⟩ => ⟨S1x1024, .f32⟩
  | .hbm, ⟨5, _⟩ => ⟨S1024, .f32⟩
  | .hbm, ⟨6, _⟩ => ⟨S1024x2560, .f32⟩
  | .hbm, ⟨7, _⟩ => ⟨S1024x2560, .bf16⟩
  | .hbm, ⟨8, _⟩ => ⟨S1x1024, .f32⟩
  | .hbm, ⟨9, _⟩ => ⟨S32768x2560, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S512x2560, .f32⟩
  | .local _ .vmem, ⟨5, _⟩ => ⟨S512x2560, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S2x16384x1024 : Shape := ⟨3, ![2, 16384, 1024]⟩
abbrev S2x1024 : Shape := ⟨2, ![2, 1024]⟩
abbrev S1x1024x2560 : Shape := ⟨3, ![1, 1024, 2560]⟩
abbrev S1x1024 : Shape := ⟨2, ![1, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1024x2560 : Shape := ⟨2, ![1024, 2560]⟩
abbrev S2x16384x2560 : Shape := ⟨3, ![2, 16384, 2560]⟩
abbrev S32768x2560 : Shape := ⟨2, ![32768, 2560]⟩

abbrev nBuf : Space → Nat
  | .hbm => 24
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1024, .f32⟩
  | .hbm, ⟨2, _⟩ => ⟨S1x1024x2560, .f32⟩
  | .hbm, ⟨3, _⟩ => ⟨S1x1024, .f32⟩
  | .hbm, ⟨4, _⟩ => ⟨S1024, .f32⟩
  | .hbm, ⟨5, _⟩ => ⟨S2x16384x1024, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x1024, .f32⟩
  | .hbm, ⟨17, _⟩ => ⟨S2x16384x1024, .f32⟩
  | .hbm, ⟨18, _⟩ => ⟨S1x1x1024, .f32⟩
  | .hbm, ⟨19, _⟩ => ⟨S2x16384x1024, .f32⟩
  | .hbm, ⟨20, _⟩ => ⟨S2x16384x1024, .f32⟩
  | .hbm, ⟨21, _⟩ => ⟨S1024x2560, .f32⟩
  | .hbm, ⟨22, _⟩ => ⟨S2x16384x2560, .f32⟩
  | .hbm, ⟨23, _⟩ => ⟨S32768x2560, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x1024 : Shape := ⟨2, ![2, 1024]⟩
abbrev S1x1024x4112 : Shape := ⟨3, ![1, 1024, 4112]⟩
abbrev S1024x4112 : Shape := ⟨2, ![1024, 4112]⟩
abbrev S_ : Shape := ⟨0, ![]⟩
abbrev S1024x4224 : Shape := ⟨2, ![1024, 4224]⟩
abbrev S32768x1024 : Shape := ⟨2, ![32768, 1024]⟩
abbrev S1x1024 : Shape := ⟨2, ![1, 1024]⟩
abbrev S1024 : Shape := ⟨1, ![1024]⟩
abbrev S32768x4224 : Shape := ⟨2, ![32768, 4224]⟩
abbrev S512x1024 : Shape := ⟨2, ![512, 1024]⟩
abbrev S512x4224 : Shape := ⟨2, ![512, 4224]⟩
abbrev S512 : Shape := ⟨1, ![512]⟩
abbrev S512x1 : Shape := ⟨2, ![512, 1]⟩

abbrev nBuf : Space → Nat
  | .hbm => 13
  | .vmem => 6
  | .smem => 0
  | _ => 0

abbrev bufTy : (tb : Table) → Fin (tcTables nBuf tb) → BufTy
  | .hbm, ⟨0, _⟩ => ⟨S2x16384x1024, .f32⟩
  | .hbm, ⟨1, _⟩ => ⟨S2x1024, .f32⟩
  | .hbm, ⟨2, _⟩ => ⟨S1x1024x4112, .f32⟩
  | .hbm, ⟨3, _⟩ => ⟨S1024x4112, .f32⟩
  | .hbm, ⟨4, _⟩ => ⟨S_, .i32⟩
  | .hbm, ⟨5, _⟩ => ⟨S_, .f32⟩
  | .hbm, ⟨6, _⟩ => ⟨S1024x4224, .f32⟩
  | .hbm, ⟨7, _⟩ => ⟨S1024x4224, .bf16⟩
  | .hbm, ⟨8, _⟩ => ⟨S32768x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S32768x4224, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4224, .bf16⟩
  | .local _ .vmem, ⟨4, _⟩ => ⟨S512x4224, .f32⟩
  | .local _ .vmem, ⟨5, _⟩ => ⟨S512x4224, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S2x16384x1024 : Shape := ⟨3, ![2, 16384, 1024]⟩
abbrev S2x1024 : Shape := ⟨2, ![2, 1024]⟩
abbrev S1x1024x4112 : Shape := ⟨3, ![1, 1024, 4112]⟩
abbrev S1x1024 : Shape := ⟨2, ![1, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1024x4112 : Shape := ⟨2, ![1024, 4112]⟩
abbrev S2x16384x4112 : Shape := ⟨3, ![2, 16384, 4112]⟩
abbrev S32768x4112 : Shape := ⟨2, ![32768, 4112]⟩
abbrev S32768x4224 : Shape := ⟨2, ![32768, 4224]⟩

abbrev nBuf : Space → Nat
  | .hbm => 27
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1024, .f32⟩
  | .hbm, ⟨2, _⟩ => ⟨S1x1024x4112, .f32⟩
  | .hbm, ⟨3, _⟩ => ⟨S1x1024, .f32⟩
  | .hbm, ⟨4, _⟩ => ⟨S1024, .f32⟩
  | .hbm, ⟨5, _⟩ => ⟨S2x16384x1024, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x1024, .f32⟩
  | .hbm, ⟨17, _⟩ => ⟨S2x16384x1024, .f32⟩
  | .hbm, ⟨18, _⟩ => ⟨S1x1x1024, .f32⟩
  | .hbm, ⟨19, _⟩ => ⟨S2x16384x1024, .f32⟩
  | .hbm, ⟨20, _⟩ => ⟨S2x16384x1024, .f32⟩
  | .hbm, ⟨21, _⟩ => ⟨S1024x4112, .f32⟩
  | .hbm, ⟨22, _⟩ => ⟨S2x16384x4112, .f32⟩
  | .hbm, ⟨23, _⟩ => ⟨S32768x4112, .f32⟩
  | .hbm, ⟨24, _⟩ => ⟨S_, .i32⟩
  | .hbm, ⟨25, _⟩ => ⟨S_, .f32⟩
  | .hbm, ⟨26, _⟩ => ⟨S32768x4224, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel4.lean ====
abbrev S2x16384x1024 : Shape := ⟨3, ![2, 16384, 1024]⟩
abbrev S1024 : Shape := ⟨1, ![1024]⟩
abbrev S1024x2048 : Shape := ⟨2, ![1024, 2048]⟩
abbrev S32768x1024 : Shape := ⟨2, ![32768, 1024]⟩
abbrev S1x1024 : Shape := ⟨2, ![1, 1024]⟩
abbrev S32768x2048 : Shape := ⟨2, ![32768, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x2048, .f32⟩
  | .hbm, ⟨3, _⟩ => ⟨S32768x1024, .f32⟩
  | .hbm, ⟨4, _⟩ => ⟨S1024x2048, .bf16⟩
  | .hbm, ⟨5, _⟩ => ⟨S1x1024, .f32⟩
  | .hbm, ⟨6, _⟩ => ⟨S32768x2048, .f32⟩
  | .hbm, ⟨7, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S512x1024, .bf16⟩
  | .local _ .vmem, ⟨7, _⟩ => ⟨S512x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S2x16384x1024 : Shape := ⟨3, ![2, 16384, 1024]⟩
abbrev S1024 : Shape := ⟨1, ![1024]⟩
abbrev S1024x2048 : Shape := ⟨2, ![1024, 2048]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S32768x1024 : Shape := ⟨2, ![32768, 1024]⟩
abbrev S32768x2048 : Shape := ⟨2, ![32768, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x2048, .f32⟩
  | .hbm, ⟨3, _⟩ => ⟨S2x16384x1024, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x1024, .f32⟩
  | .hbm, ⟨15, _⟩ => ⟨S2x16384x1024, .f32⟩
  | .hbm, ⟨16, _⟩ => ⟨S1x1x1024, .f32⟩
  | .hbm, ⟨17, _⟩ => ⟨S2x16384x1024, .f32⟩
  | .hbm, ⟨18, _⟩ => ⟨S2x16384x1024, .f32⟩
  | .hbm, ⟨19, _⟩ => ⟨S32768x1024, .f32⟩
  | .hbm, ⟨20, _⟩ => ⟨S32768x2048, .f32⟩
  | .hbm, ⟨21, _⟩ => ⟨S32768x1024, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel5.lean ====
abbrev S2x16384x1024 : Shape := ⟨3, ![2, 16384, 1024]⟩
abbrev S32768x512 : Shape := ⟨2, ![32768, 512]⟩
abbrev S4x32768x128 : Shape := ⟨3, ![4, 32768, 128]⟩
abbrev S1x512x512 : Shape := ⟨3, ![1, 512, 512]⟩
abbrev S1x1024x1024 : Shape := ⟨3, ![1, 1024, 1024]⟩
abbrev S1024x1024 : Shape := ⟨2, ![1024, 1024]⟩
abbrev S32768x1024 : Shape := ⟨2, ![32768, 1024]⟩
abbrev S512x512 : Shape := ⟨2, ![512, 512]⟩
abbrev S512x1024 : Shape := ⟨2, ![512, 1024]⟩
abbrev S4x512x128 : Shape := ⟨3, ![4, 512, 128]⟩
abbrev S1x512x128 : Shape := ⟨3, ![1, 512, 128]⟩
abbrev S512x128 : Shape := ⟨2, ![512, 128]⟩

abbrev nBuf : Space → Nat
  | .hbm => 13
  | .vmem => 11
  | .smem => 0
  | _ => 0

abbrev bufTy : (tb : Table) → Fin (tcTables nBuf tb) → BufTy
  | .hbm, ⟨0, _⟩ => ⟨S2x16384x1024, .f32⟩
  | .hbm, ⟨1, _⟩ => ⟨S32768x512, .f32⟩
  | .hbm, ⟨2, _⟩ => ⟨S4x32768x128, .f32⟩
  | .hbm, ⟨3, _⟩ => ⟨S1x512x512, .f32⟩
  | .hbm, ⟨4, _⟩ => ⟨S1x1024x1024, .f32⟩
  | .hbm, ⟨5, _⟩ => ⟨S1024x1024, .f32⟩
  | .hbm, ⟨6, _⟩ => ⟨S1024x1024, .bf16⟩
  | .hbm, ⟨7, _⟩ => ⟨S32768x1024, .f32⟩
  | .hbm, ⟨8, _⟩ => ⟨S512x512, .f32⟩
  | .hbm, ⟨9, _⟩ => ⟨S512x512, .bf16⟩
  | .hbm, ⟨10, _⟩ => ⟨S512x1024, .bf16⟩
  | .hbm, ⟨11, _⟩ => ⟨S512x1024, .bf16⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S4x512x128, .f32⟩
  | .local _ .vmem, ⟨5, _⟩ => ⟨S4x512x128, .f32⟩
  | .local _ .vmem, ⟨6, _⟩ => ⟨S512x512, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S2x16384x1024 : Shape := ⟨3, ![2, 16384, 1024]⟩
abbrev S32768x512 : Shape := ⟨2, ![32768, 512]⟩
abbrev S4x32768x128 : Shape := ⟨3, ![4, 32768, 128]⟩
abbrev S1x512x512 : Shape := ⟨3, ![1, 512, 512]⟩
abbrev S1x1024x1024 : Shape := ⟨3, ![1, 1024, 1024]⟩
abbrev S32768x4x128 : Shape := ⟨3, ![32768, 4, 128]⟩
abbrev S2x16384x512 : Shape := ⟨3, ![2, 16384, 512]⟩
abbrev S512x512 : Shape := ⟨2, ![512, 512]⟩
abbrev S_ : Shape := ⟨0, ![]⟩
abbrev S1024x1024 : Shape := ⟨2, ![1024, 1024]⟩
abbrev S32768x1024 : Shape := ⟨2, ![32768, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S32768x512, .f32⟩
  | .hbm, ⟨2, _⟩ => ⟨S4x32768x128, .f32⟩
  | .hbm, ⟨3, _⟩ => ⟨S1x512x512, .f32⟩
  | .hbm, ⟨4, _⟩ => ⟨S1x1024x1024, .f32⟩
  | .hbm, ⟨5, _⟩ => ⟨S32768x4x128, .f32⟩
  | .hbm, ⟨6, _⟩ => ⟨S2x16384x512, .f32⟩
  | .hbm, ⟨7, _⟩ => ⟨S512x512, .f32⟩
  | .hbm, ⟨8, _⟩ => ⟨S2x16384x512, .f32⟩
  | .hbm, ⟨9, _⟩ => ⟨S2x16384x512, .f32⟩
  | .hbm, ⟨10, _⟩ => ⟨S2x16384x512, .f32⟩
  | .hbm, ⟨11, _⟩ => ⟨S_, .f32⟩
  | .hbm, ⟨12, _⟩ => ⟨S2x16384x512, .f32⟩
  | .hbm, ⟨13, _⟩ => ⟨S2x16384x512, .f32⟩
  | .hbm, ⟨14, _⟩ => ⟨S_, .f32⟩
  | .hbm, ⟨15, _⟩ => ⟨S2x16384x512, .f32⟩
  | .hbm, ⟨16, _⟩ => ⟨S2x16384x512, .f32⟩
  | .hbm, ⟨17, _⟩ => ⟨S2x16384x512, .f32⟩
  | .hbm, ⟨18, _⟩ => ⟨S2x16384x512, .f32⟩
  | .hbm, ⟨19, _⟩ => ⟨S2x16384x1024, .f32⟩
  | .hbm, ⟨20, _⟩ => ⟨S1024x1024, .f32⟩
  | .hbm, ⟨21, _⟩ => ⟨S2x16384x1024, .f32⟩
  | .hbm, ⟨22, _⟩ => ⟨S2x16384x1024, .f32⟩
  | .hbm, ⟨23, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel6.lean ====
abbrev S2x16384x1024 : Shape := ⟨3, ![2, 16384, 1024]⟩
abbrev S32768x1024 : Shape := ⟨2, ![32768, 1024]⟩
abbrev S1x1024x1024 : Shape := ⟨3, ![1, 1024, 1024]⟩
abbrev S1024x1024 : Shape := ⟨2, ![1024, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x16384x1024, .f32⟩
  | .hbm, ⟨1, _⟩ => ⟨S32768x1024, .f32⟩
  | .hbm, ⟨2, _⟩ => ⟨S1x1024x1024, .f32⟩
  | .hbm, ⟨3, _⟩ => ⟨S32768x1024, .f32⟩
  | .hbm, ⟨4, _⟩ => ⟨S1024x1024, .f32⟩
  | .hbm, ⟨5, _⟩ => ⟨S1024x1024, .bf16⟩
  | .hbm, ⟨6, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S2x16384x1024 : Shape := ⟨3, ![2, 16384, 1024]⟩
abbrev S32768x1024 : Shape := ⟨2, ![32768, 1024]⟩
abbrev S1x1024x1024 : Shape := ⟨3, ![1, 1024, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S32768x1024, .f32⟩
  | .hbm, ⟨2, _⟩ => ⟨S1x1024x1024, .f32⟩
  | .hbm, ⟨3, _⟩ => ⟨S2x16384x1024, .f32⟩
  | .hbm, ⟨4, _⟩ => ⟨S1024x1024, .f32⟩
  | .hbm, ⟨5, _⟩ => ⟨S2x16384x1024, .f32⟩
  | .hbm, ⟨6, _⟩ => ⟨S2x16384x1024, .f32⟩
  | .hbm, ⟨7, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S32768x4224 : Shape := ⟨2, ![32768, 4224]⟩
abbrev S1x4x3072 : Shape := ⟨3, ![1, 4, 3072]⟩
abbrev S1x8 : Shape := ⟨2, ![1, 8]⟩
abbrev S1x128 : Shape := ⟨2, ![1, 128]⟩
abbrev S4x3072 : Shape := ⟨2, ![4, 3072]⟩
abbrev S8 : Shape := ⟨1, ![8]⟩
abbrev S128 : Shape := ⟨1, ![128]⟩
abbrev S_ : Shape := ⟨0, ![]⟩
abbrev S128x1 : Shape := ⟨2, ![128, 1]⟩
abbrev S32768x1024 : Shape := ⟨2, ![32768, 1024]⟩
abbrev S128x1024 : Shape := ⟨2, ![128, 1024]⟩
abbrev S128x128 : Shape := ⟨2, ![128, 128]⟩
abbrev S8x128x128 : Shape := ⟨3, ![8, 128, 128]⟩
abbrev S3x136x1024 : Shape := ⟨3, ![3, 136, 1024]⟩
abbrev S3x8x1024 : Shape := ⟨3, ![3, 8, 1024]⟩
abbrev S1x128x1024 : Shape := ⟨3, ![1, 128, 1024]⟩
abbrev S64x64 : Shape := ⟨2, ![64, 64]⟩
abbrev S64x128 : Shape := ⟨2, ![64, 128]⟩
abbrev S128x64 : Shape := ⟨2, ![128, 64]⟩
abbrev S1x128x128 : Shape := ⟨3, ![1, 128, 128]⟩
abbrev S64x1 : Shape := ⟨2, ![64, 1]⟩
abbrev S1x64 : Shape := ⟨2, ![1, 64]⟩

abbrev nBuf : Space → Nat
  | .hbm => 60
  | .vmem => 18
  | .smem => 0
  | _ => 0

abbrev bufTy : (tb : Table) → Fin (tcTables nBuf tb) → BufTy
  | .hbm, ⟨0, _⟩ => ⟨S32768x4224, .f32⟩
  | .hbm, ⟨1, _⟩ => ⟨S1x4x3072, .f32⟩
  | .hbm, ⟨2, _⟩ => ⟨S1x8, .f32⟩
  | .hbm, ⟨3, _⟩ => ⟨S1x8, .f32⟩
  | .hbm, ⟨4, _⟩ => ⟨S1x128, .f32⟩
  | .hbm, ⟨5, _⟩ => ⟨S4x3072, .f32⟩
  | .hbm, ⟨6, _⟩ => ⟨S8, .f32⟩
  | .hbm, ⟨7, _⟩ => ⟨S8, .f32⟩
  | .hbm, ⟨8, _⟩ => ⟨S128, .f32⟩
  | .hbm, ⟨9, _⟩ => ⟨S128, .i32⟩
  | .hbm, ⟨10, _⟩ => ⟨S_, .i32⟩
  | .hbm, ⟨11, _⟩ => ⟨S128, .i32⟩
  | .hbm, ⟨12, _⟩ => ⟨S128, .i1⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i1⟩
  | .hbm, ⟨17, _⟩ => ⟨S_, .i32⟩
  | .hbm, ⟨18, _⟩ => ⟨S128, .i32⟩
  | .hbm, ⟨19, _⟩ => ⟨S128, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S8, .f32⟩
  | .hbm, ⟨29, _⟩ => ⟨S_, .i32⟩
  | .hbm, ⟨30, _⟩ => ⟨S128, .i32⟩
  | .hbm, ⟨31, _⟩ => ⟨S128, .i1⟩
  | .hbm, ⟨32, _⟩ => ⟨S_, .i32⟩
  | .hbm, ⟨33, _⟩ => ⟨S128, .i32⟩
  | .hbm, ⟨34, _⟩ => ⟨S128, .i32⟩
  | .hbm, ⟨35, _⟩ => ⟨S128, .i32⟩
  | .hbm, ⟨36, _⟩ => ⟨S128x1, .i32⟩
  | .hbm, ⟨37, _⟩ => ⟨S128, .f32⟩
  | .hbm, ⟨38, _⟩ => ⟨S128, .f32⟩
  | .hbm, ⟨39, _⟩ => ⟨S_, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S1x128, .f32⟩
  | .hbm, ⟨44, _⟩ => ⟨S_, .i32⟩
  | .hbm, ⟨45, _⟩ => ⟨S128, .i32⟩
  | .hbm, ⟨46, _⟩ => ⟨S128, .i1⟩
  | .hbm, ⟨47, _⟩ => ⟨S_, .i32⟩
  | .hbm, ⟨48, _⟩ => ⟨S128, .i32⟩
  | .hbm, ⟨49, _⟩ => ⟨S128, .i32⟩
  | .hbm, ⟨50, _⟩ => ⟨S128, .i32⟩
  | .hbm, ⟨51, _⟩ => ⟨S128x1, .i32⟩
  | .hbm, ⟨52, _⟩ => ⟨S128, .f32⟩
  | .hbm, ⟨53, _⟩ => ⟨S_, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S1x128, .f32⟩
  | .hbm, ⟨58, _⟩ => ⟨S1x128, .f32⟩
  | .hbm, ⟨59, _⟩ => ⟨S32768x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x128, .f32⟩
  | .local _ .vmem, ⟨9, _⟩ => ⟨S128x128, .f32⟩
  | .local _ .vmem, ⟨10, _⟩ => ⟨S4x3072, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x1024, .f32⟩
  | .local _ .vmem, ⟨15, _⟩ => ⟨S128x1024, .f32⟩
  | .local _ .vmem, ⟨16, _⟩ => ⟨S8x128x128, .f32⟩
  | .local _ .vmem, ⟨17, _⟩ => ⟨S3x136x1024, .f32⟩
  | _, _ => ⟨S32768x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_c_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v12 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_v15 : Ref sig .tc := ⟨.hbm, 31, rfl⟩
abbrev main_c_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst : Ref sig .tc := ⟨.hbm, 39, rfl⟩
abbrev main_call1_v0 : Ref sig .tc := ⟨.hbm, 40, rfl⟩
abbrev main_call1_v1 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_c_7 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_8 : Ref sig .tc := ⟨.hbm, 53, rfl⟩
abbrev main_call2_v0 : Ref sig .tc := ⟨.hbm, 54, rfl⟩
abbrev main_call2_v1 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 128], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c32_i32 : BitVec 32 := 32#32
  let c0_i32 : BitVec 32 := 0#32
  ![v1.toNat, c32_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference7Ideal.lean ====
abbrev S32768x4224 : Shape := ⟨2, ![32768, 4224]⟩
abbrev S1x4x3072 : Shape := ⟨3, ![1, 4, 3072]⟩
abbrev S1x8 : Shape := ⟨2, ![1, 8]⟩
abbrev S1x128 : Shape := ⟨2, ![1, 128]⟩
abbrev S32768x4112 : Shape := ⟨2, ![32768, 4112]⟩
abbrev S2x16384x4112 : Shape := ⟨3, ![2, 16384, 4112]⟩
abbrev S2x16384x3072 : Shape := ⟨3, ![2, 16384, 3072]⟩
abbrev S2x16384x1024 : Shape := ⟨3, ![2, 16384, 1024]⟩
abbrev S2x16384x8 : Shape := ⟨3, ![2, 16384, 8]⟩
abbrev S4x3072 : Shape := ⟨2, ![4, 3072]⟩
abbrev S8 : Shape := ⟨1, ![8]⟩
abbrev S128 : Shape := ⟨1, ![128]⟩
abbrev S_ : Shape := ⟨0, ![]⟩
abbrev S2x16387x3072 : Shape := ⟨3, ![2, 16387, 3072]⟩
abbrev S1x3072 : Shape := ⟨2, ![1, 3072]⟩
abbrev S3072 : Shape := ⟨1, ![3072]⟩
abbrev S1x1x3072 : Shape := ⟨3, ![1, 1, 3072]⟩
abbrev S2x16384x8x128 : Shape := ⟨4, ![2, 16384, 8, 128]⟩
abbrev S2x16384x8x1 : Shape := ⟨4, ![2, 16384, 8, 1]⟩
abbrev S1x1x8 : Shape := ⟨3, ![1, 1, 8]⟩
abbrev S2x256x64x8x128 : Shape := ⟨5, ![2, 256, 64, 8, 128]⟩
abbrev S256x2x8x64x128 : Shape := ⟨5, ![256, 2, 8, 64, 128]⟩
abbrev S2x256x64x8 : Shape := ⟨4, ![2, 256, 64, 8]⟩
abbrev S256x2x8x64 : Shape := ⟨4, ![256, 2, 8, 64]⟩
abbrev S256x2x8x64x1 : Shape := ⟨5, ![256, 2, 8, 64, 1]⟩
abbrev S64x64 : Shape := ⟨2, ![64, 64]⟩
abbrev S256x2x8x1x64 : Shape := ⟨5, ![256, 2, 8, 1, 64]⟩
abbrev S256x2x8x64x64 : Shape := ⟨5, ![256, 2, 8, 64, 64]⟩
abbrev S1x1x1x64x64 : Shape := ⟨5, ![1, 1, 1, 64, 64]⟩
abbrev S256x2x8x1 : Shape := ⟨4, ![256, 2, 8, 1]⟩
abbrev S256x2x8 : Shape := ⟨3, ![256, 2, 8]⟩
abbrev S2x8x128x128 : Shape := ⟨4, ![2, 8, 128, 128]⟩
abbrev S1x2x8x64x128 : Shape := ⟨5, ![1, 2, 8, 64, 128]⟩
abbrev S2x8x64x128 : Shape := ⟨4, ![2, 8, 64, 128]⟩
abbrev S1x2x8x64x64 : Shape := ⟨5, ![1, 2, 8, 64, 64]⟩
abbrev S2x8x64x64 : Shape := ⟨4, ![2, 8, 64, 64]⟩
abbrev S1x2x8 : Shape := ⟨3, ![1, 2, 8]⟩
abbrev S2x8 : Shape := ⟨2, ![2, 8]⟩
abbrev S2x8x1x1 : Shape := ⟨4, ![2, 8, 1, 1]⟩
abbrev S1x1x1x128 : Shape := ⟨4, ![1, 1, 1, 128]⟩
abbrev S32768x1024 : Shape := ⟨2, ![32768, 1024]⟩

abbrev nBuf : Space → Nat
  | .hbm => 565
  | .vmem => 0
  | .smem => 0
  | _ => 0

abbrev hbmTy0_0 (i : Nat) : BufTy := match i % 128 with
  | 0 => ⟨S32768x4224, .f32⟩
  | 1 => ⟨S1x4x3072, .f32⟩
  | 2 => ⟨S1x8, .f32⟩
  | 3 => ⟨S1x8, .f32⟩
  | 4 => ⟨S1x128, .f32⟩
  | 5 => ⟨S32768x4112, .f32⟩
  | 6 => ⟨S2x16384x4112, .f32⟩
  | 7 => ⟨S2x16384x3072, .f32⟩
  | 8 => ⟨S2x16384x1024, .f32⟩
  | 9 => ⟨S2x16384x8, .f32⟩
  | 10 => ⟨S2x16384x8, .f32⟩
  | 11 => ⟨S4x3072, .f32⟩
  | 12 => ⟨S8, .f32⟩
  | 13 => ⟨S8, .f32⟩
  | 14 => ⟨S128, .f32⟩
  | 15 => ⟨S_, .i32⟩
  | 16 => ⟨S_, .f32⟩
  | 17 => ⟨S2x16387x3072, .f32⟩
  | 18 => ⟨S1x3072, .f32⟩
  | 19 => ⟨S3072, .f32⟩
  | 20 => ⟨S2x16384x3072, .f32⟩
  | 21 => ⟨S1x1x3072, .f32⟩
  | 22 => ⟨S2x16384x3072, .f32⟩
  | 23 => ⟨S2x16384x3072, .f32⟩
  | 24 => ⟨S_, .f32⟩
  | 25 => ⟨S2x16384x3072, .f32⟩
  | 26 => ⟨S2x16384x3072, .f32⟩
  | 27 => ⟨S1x3072, .f32⟩
  | 28 => ⟨S3072, .f32⟩
  | 29 => ⟨S2x16384x3072, .f32⟩
  | 30 => ⟨S1x1x3072, .f32⟩
  | 31 => ⟨S2x16384x3072, .f32⟩
  | 32 => ⟨S2x16384x3072, .f32⟩
  | 33 => ⟨S2x16384x3072, .f32⟩
  | 34 => ⟨S1x3072, .f32⟩
  | 35 => ⟨S3072, .f32⟩
  | 36 => ⟨S2x16384x3072, .f32⟩
  | 37 => ⟨S1x1x3072, .f32⟩
  | 38 => ⟨S2x16384x3072, .f32⟩
  | 39 => ⟨S2x16384x3072, .f32⟩
  | 40 => ⟨S2x16384x3072, .f32⟩
  | 41 => ⟨S1x3072, .f32⟩
  | 42 => ⟨S3072, .f32⟩
  | 43 => ⟨S2x16384x3072, .f32⟩
  | 44 => ⟨S1x1x3072, .f32⟩
  | 45 => ⟨S2x16384x3072, .f32⟩
  | 46 => ⟨S2x16384x3072, .f32⟩
  | 47 => ⟨S2x16384x3072, .f32⟩
  | 48 => ⟨S2x16384x3072, .f32⟩
  | 49 => ⟨S2x16384x3072, .f32⟩
  | 50 => ⟨S_, .f32⟩
  | 51 => ⟨S2x16384x3072, .f32⟩
  | 52 => ⟨S2x16384x3072, .f32⟩
  | 53 => ⟨S_, .f32⟩
  | 54 => ⟨S2x16384x3072, .f32⟩
  | 55 => ⟨S2x16384x3072, .f32⟩
  | 56 => ⟨S2x16384x3072, .f32⟩
  | 57 => ⟨S2x16384x1024, .f32⟩
  | 58 => ⟨S2x16384x1024, .f32⟩
  | 59 => ⟨S2x16384x1024, .f32⟩
  | 60 => ⟨S2x16384x8x128, .f32⟩
  | 61 => ⟨S2x16384x8x128, .f32⟩
  | 62 => ⟨S_, .f32⟩
  | 63 => ⟨S2x16384x8, .f32⟩
  | 64 => ⟨S2x16384x8x1, .f32⟩
  | 65 => ⟨S_, .f32⟩
  | 66 => ⟨S2x16384x8x1, .f32⟩
  | 67 => ⟨S2x16384x8x1, .f32⟩
  | 68 => ⟨S2x16384x8x1, .f32⟩
  | 69 => ⟨S2x16384x8x128, .f32⟩
  | 70 => ⟨S2x16384x8x128, .f32⟩
  | 71 => ⟨S_, .f32⟩
  | 72 => ⟨S2x16384x8x128, .f32⟩
  | 73 => ⟨S2x16384x8x128, .f32⟩
  | 74 => ⟨S2x16384x8x128, .f32⟩
  | 75 => ⟨S2x16384x8x128, .f32⟩
  | 76 => ⟨S_, .f32⟩
  | 77 => ⟨S2x16384x8, .f32⟩
  | 78 => ⟨S2x16384x8x1, .f32⟩
  | 79 => ⟨S_, .f32⟩
  | 80 => ⟨S2x16384x8x1, .f32⟩
  | 81 => ⟨S2x16384x8x1, .f32⟩
  | 82 => ⟨S2x16384x8x1, .f32⟩
  | 83 => ⟨S2x16384x8x128, .f32⟩
  | 84 => ⟨S2x16384x8x128, .f32⟩
  | 85 => ⟨S2x16384x8x128, .f32⟩
  | 86 => ⟨S2x16384x8, .f32⟩
  | 87 => ⟨S2x16384x8, .f32⟩
  | 88 => ⟨S_, .f32⟩
  | 89 => ⟨S2x16384x8, .f32⟩
  | 90 => ⟨S2x16384x8, .f32⟩
  | 91 => ⟨S_, .f32⟩
  | 92 => ⟨S2x16384x8, .f32⟩
  | 93 => ⟨S2x16384x8, .f32⟩
  | 94 => ⟨S8, .f32⟩
  | 95 => ⟨S8, .f32⟩
  | 96 => ⟨S1x1x8, .f32⟩
  | 97 => ⟨S2x16384x8, .f32⟩
  | 98 => ⟨S2x16384x8, .f32⟩
  | 99 => ⟨S_, .f32⟩
  | 100 => ⟨S2x16384x8, .f32⟩
  | 101 => ⟨S2x16384x8, .f32⟩
  | 102 => ⟨S2x16384x8, .f32⟩
  | 103 => ⟨S2x16384x8, .f32⟩
  | 104 => ⟨S2x16384x8, .i1⟩
  | 105 => ⟨S2x16384x8, .f32⟩
  | 106 => ⟨S2x16384x8, .f32⟩
  | 107 => ⟨S2x16384x8, .f32⟩
  | 108 => ⟨S2x16384x8, .f32⟩
  | 109 => ⟨S2x16384x8, .f32⟩
  | 110 => ⟨S2x16384x8, .f32⟩
  | 111 => ⟨S2x16384x8, .f32⟩
  | 112 => ⟨S2x16384x8, .f32⟩
  | 113 => ⟨S1x1x8, .f32⟩
  | 114 => ⟨S2x16384x8, .f32⟩
  | 115 => ⟨S2x16384x8, .f32⟩
  | 116 => ⟨S2x256x64x8x128, .f32⟩
  | 117 => ⟨S256x2x8x64x128, .f32⟩
  | 118 => ⟨S2x256x64x8x128, .f32⟩
  | 119 => ⟨S256x2x8x64x128, .f32⟩
  | 120 => ⟨S2x256x64x8x128, .f32⟩
  | 121 => ⟨S256x2x8x64x128, .f32⟩
  | 122 => ⟨S2x256x64x8, .f32⟩
  | 123 => ⟨S256x2x8x64, .f32⟩
  | 124 => ⟨S256x2x8x64x1, .f32⟩
  | 125 => ⟨S2x256x64x8, .f32⟩
  | 126 => ⟨S256x2x8x64, .f32⟩
  | 127 => ⟨S_, .f32⟩
  | _ => ⟨S32768x4224, .f32⟩

abbrev hbmTy0_1 (i : Nat) : BufTy := match i % 128 with
  | 0 => ⟨S_, .f32⟩
  | 1 => ⟨S256x2x8x64, .f32⟩
  | 2 => ⟨S_, .i1⟩
  | 3 => ⟨S64x64, .i1⟩
  | 4 => ⟨S64x64, .i32⟩
  | 5 => ⟨S_, .i32⟩
  | 6 => ⟨S64x64, .i32⟩
  | 7 => ⟨S64x64, .i32⟩
  | 8 => ⟨S64x64, .i32⟩
  | 9 => ⟨S64x64, .i1⟩
  | 10 => ⟨S_, .i1⟩
  | 11 => ⟨S64x64, .i1⟩
  | 12 => ⟨S64x64, .i1⟩
  | 13 => ⟨S_, .i1⟩
  | 14 => ⟨S64x64, .i1⟩
  | 15 => ⟨S64x64, .i32⟩
  | 16 => ⟨S_, .i32⟩
  | 17 => ⟨S64x64, .i32⟩
  | 18 => ⟨S64x64, .i32⟩
  | 19 => ⟨S64x64, .i32⟩
  | 20 => ⟨S64x64, .i1⟩
  | 21 => ⟨S_, .i1⟩
  | 22 => ⟨S64x64, .i1⟩
  | 23 => ⟨S64x64, .i1⟩
  | 24 => ⟨S256x2x8x64x1, .f32⟩
  | 25 => ⟨S256x2x8x1x64, .f32⟩
  | 26 => ⟨S256x2x8x64x64, .f32⟩
  | 27 => ⟨S256x2x8x64x64, .f32⟩
  | 28 => ⟨S256x2x8x64x64, .f32⟩
  | 29 => ⟨S_, .f32⟩
  | 30 => ⟨S_, .f32⟩
  | 31 => ⟨S256x2x8x64x64, .i1⟩
  | 32 => ⟨S256x2x8x64x64, .f32⟩
  | 33 => ⟨S256x2x8x64x64, .f32⟩
  | 34 => ⟨S256x2x8x64x64, .f32⟩
  | 35 => ⟨S_, .f32⟩
  | 36 => ⟨S_, .f32⟩
  | 37 => ⟨S256x2x8x64x64, .i1⟩
  | 38 => ⟨S256x2x8x64x64, .f32⟩
  | 39 => ⟨S256x2x8x64x64, .f32⟩
  | 40 => ⟨S256x2x8x64x128, .f32⟩
  | 41 => ⟨S256x2x8x64x128, .f32⟩
  | 42 => ⟨S256x2x8x64x64, .f32⟩
  | 43 => ⟨S256x2x8x64x64, .f32⟩
  | 44 => ⟨S_, .f32⟩
  | 45 => ⟨S_, .f32⟩
  | 46 => ⟨S256x2x8x64x64, .i1⟩
  | 47 => ⟨S256x2x8x64x64, .f32⟩
  | 48 => ⟨S256x2x8x64x64, .f32⟩
  | 49 => ⟨S64x64, .i32⟩
  | 50 => ⟨S64x64, .i32⟩
  | 51 => ⟨S_, .i32⟩
  | 52 => ⟨S64x64, .i32⟩
  | 53 => ⟨S64x64, .i32⟩
  | 54 => ⟨S64x64, .i1⟩
  | 55 => ⟨S64x64, .f32⟩
  | 56 => ⟨S_, .f32⟩
  | 57 => ⟨S256x2x8x64x64, .f32⟩
  | 58 => ⟨S256x2x8x64x64, .f32⟩
  | 59 => ⟨S1x1x1x64x64, .f32⟩
  | 60 => ⟨S256x2x8x64x64, .f32⟩
  | 61 => ⟨S256x2x8x64x64, .f32⟩
  | 62 => ⟨S256x2x8x64x64, .f32⟩
  | 63 => ⟨S1x1x1x64x64, .f32⟩
  | 64 => ⟨S256x2x8x64x64, .f32⟩
  | 65 => ⟨S256x2x8x64x64, .f32⟩
  | 66 => ⟨S256x2x8x64x64, .f32⟩
  | 67 => ⟨S1x1x1x64x64, .f32⟩
  | 68 => ⟨S256x2x8x64x64, .f32⟩
  | 69 => ⟨S256x2x8x64x64, .f32⟩
  | 70 => ⟨S256x2x8x64x64, .f32⟩
  | 71 => ⟨S1x1x1x64x64, .f32⟩
  | 72 => ⟨S256x2x8x64x64, .f32⟩
  | 73 => ⟨S256x2x8x64x64, .f32⟩
  | 74 => ⟨S256x2x8x64x64, .f32⟩
  | 75 => ⟨S1x1x1x64x64, .f32⟩
  | 76 => ⟨S256x2x8x64x64, .f32⟩
  | 77 => ⟨S256x2x8x64x64, .f32⟩
  | 78 => ⟨S256x2x8x64x64, .f32⟩
  | 79 => ⟨S1x1x1x64x64, .f32⟩
  | 80 => ⟨S256x2x8x64x64, .f32⟩
  | 81 => ⟨S256x2x8x64x64, .f32⟩
  | 82 => ⟨S256x2x8x64x64, .f32⟩
  | 83 => ⟨S1x1x1x64x64, .f32⟩
  | 84 => ⟨S256x2x8x64x64, .f32⟩
  | 85 => ⟨S256x2x8x64x64, .f32⟩
  | 86 => ⟨S256x2x8x64x64, .f32⟩
  | 87 => ⟨S1x1x1x64x64, .f32⟩
  | 88 => ⟨S256x2x8x64x64, .f32⟩
  | 89 => ⟨S256x2x8x64x64, .f32⟩
  | 90 => ⟨S256x2x8x64x64, .f32⟩
  | 91 => ⟨S1x1x1x64x64, .f32⟩
  | 92 => ⟨S256x2x8x64x64, .f32⟩
  | 93 => ⟨S256x2x8x64x64, .f32⟩
  | 94 => ⟨S256x2x8x64x64, .f32⟩
  | 95 => ⟨S1x1x1x64x64, .f32⟩
  | 96 => ⟨S256x2x8x64x64, .f32⟩
  | 97 => ⟨S256x2x8x64x64, .f32⟩
  | 98 => ⟨S256x2x8x64x64, .f32⟩
  | 99 => ⟨S1x1x1x64x64, .f32⟩
  | 100 => ⟨S256x2x8x64x64, .f32⟩
  | 101 => ⟨S256x2x8x64x64, .f32⟩
  | 102 => ⟨S256x2x8x64x64, .f32⟩
  | 103 => ⟨S1x1x1x64x64, .f32⟩
  | 104 => ⟨S256x2x8x64x64, .f32⟩
  | 105 => ⟨S256x2x8x64x64, .f32⟩
  | 106 => ⟨S256x2x8x64x64, .f32⟩
  | 107 => ⟨S1x1x1x64x64, .f32⟩
  | 108 => ⟨S256x2x8x64x64, .f32⟩
  | 109 => ⟨S256x2x8x64x64, .f32⟩
  | 110 => ⟨S256x2x8x64x64, .f32⟩
  | 111 => ⟨S1x1x1x64x64, .f32⟩
  | 112 => ⟨S256x2x8x64x64, .f32⟩
  | 113 => ⟨S256x2x8x64x64, .f32⟩
  | 114 => ⟨S256x2x8x64x64, .f32⟩
  | 115 => ⟨S1x1x1x64x64, .f32⟩
  | 116 => ⟨S256x2x8x64x64, .f32⟩
  | 117 => ⟨S256x2x8x64x64, .f32⟩
  | 118 => ⟨S256x2x8x64x64, .f32⟩
  | 119 => ⟨S1x1x1x64x64, .f32⟩
  | 120 => ⟨S256x2x8x64x64, .f32⟩
  | 121 => ⟨S256x2x8x64x64, .f32⟩
  | 122 => ⟨S256x2x8x64x64, .f32⟩
  | 123 => ⟨S1x1x1x64x64, .f32⟩
  | 124 => ⟨S256x2x8x64x64, .f32⟩
  | 125 => ⟨S256x2x8x64x64, .f32⟩
  | 126 => ⟨S256x2x8x64x64, .f32⟩
  | 127 => ⟨S1x1x1x64x64, .f32⟩
  | _ => ⟨S32768x4224, .f32⟩

abbrev hbmTy0_2 (i : Nat) : BufTy := match i % 128 with
  | 0 => ⟨S256x2x8x64x64, .f32⟩
  | 1 => ⟨S256x2x8x64x64, .f32⟩
  | 2 => ⟨S256x2x8x64x64, .f32⟩
  | 3 => ⟨S1x1x1x64x64, .f32⟩
  | 4 => ⟨S256x2x8x64x64, .f32⟩
  | 5 => ⟨S256x2x8x64x64, .f32⟩
  | 6 => ⟨S256x2x8x64x64, .f32⟩
  | 7 => ⟨S1x1x1x64x64, .f32⟩
  | 8 => ⟨S256x2x8x64x64, .f32⟩
  | 9 => ⟨S256x2x8x64x64, .f32⟩
  | 10 => ⟨S256x2x8x64x64, .f32⟩
  | 11 => ⟨S1x1x1x64x64, .f32⟩
  | 12 => ⟨S256x2x8x64x64, .f32⟩
  | 13 => ⟨S256x2x8x64x64, .f32⟩
  | 14 => ⟨S256x2x8x64x64, .f32⟩
  | 15 => ⟨S1x1x1x64x64, .f32⟩
  | 16 => ⟨S256x2x8x64x64, .f32⟩
  | 17 => ⟨S256x2x8x64x64, .f32⟩
  | 18 => ⟨S256x2x8x64x64, .f32⟩
  | 19 => ⟨S1x1x1x64x64, .f32⟩
  | 20 => ⟨S256x2x8x64x64, .f32⟩
  | 21 => ⟨S256x2x8x64x64, .f32⟩
  | 22 => ⟨S256x2x8x64x64, .f32⟩
  | 23 => ⟨S1x1x1x64x64, .f32⟩
  | 24 => ⟨S256x2x8x64x64, .f32⟩
  | 25 => ⟨S256x2x8x64x64, .f32⟩
  | 26 => ⟨S256x2x8x64x64, .f32⟩
  | 27 => ⟨S1x1x1x64x64, .f32⟩
  | 28 => ⟨S256x2x8x64x64, .f32⟩
  | 29 => ⟨S256x2x8x64x64, .f32⟩
  | 30 => ⟨S256x2x8x64x64, .f32⟩
  | 31 => ⟨S1x1x1x64x64, .f32⟩
  | 32 => ⟨S256x2x8x64x64, .f32⟩
  | 33 => ⟨S256x2x8x64x64, .f32⟩
  | 34 => ⟨S256x2x8x64x64, .f32⟩
  | 35 => ⟨S1x1x1x64x64, .f32⟩
  | 36 => ⟨S256x2x8x64x64, .f32⟩
  | 37 => ⟨S256x2x8x64x64, .f32⟩
  | 38 => ⟨S256x2x8x64x64, .f32⟩
  | 39 => ⟨S1x1x1x64x64, .f32⟩
  | 40 => ⟨S256x2x8x64x64, .f32⟩
  | 41 => ⟨S256x2x8x64x64, .f32⟩
  | 42 => ⟨S256x2x8x64x64, .f32⟩
  | 43 => ⟨S1x1x1x64x64, .f32⟩
  | 44 => ⟨S256x2x8x64x64, .f32⟩
  | 45 => ⟨S256x2x8x64x64, .f32⟩
  | 46 => ⟨S256x2x8x64x64, .f32⟩
  | 47 => ⟨S1x1x1x64x64, .f32⟩
  | 48 => ⟨S256x2x8x64x64, .f32⟩
  | 49 => ⟨S256x2x8x64x64, .f32⟩
  | 50 => ⟨S256x2x8x64x64, .f32⟩
  | 51 => ⟨S1x1x1x64x64, .f32⟩
  | 52 => ⟨S256x2x8x64x64, .f32⟩
  | 53 => ⟨S256x2x8x64x64, .f32⟩
  | 54 => ⟨S256x2x8x64x64, .f32⟩
  | 55 => ⟨S1x1x1x64x64, .f32⟩
  | 56 => ⟨S256x2x8x64x64, .f32⟩
  | 57 => ⟨S256x2x8x64x64, .f32⟩
  | 58 => ⟨S256x2x8x64x64, .f32⟩
  | 59 => ⟨S1x1x1x64x64, .f32⟩
  | 60 => ⟨S256x2x8x64x64, .f32⟩
  | 61 => ⟨S256x2x8x64x64, .f32⟩
  | 62 => ⟨S256x2x8x64x64, .f32⟩
  | 63 => ⟨S1x1x1x64x64, .f32⟩
  | 64 => ⟨S256x2x8x64x64, .f32⟩
  | 65 => ⟨S256x2x8x64x64, .f32⟩
  | 66 => ⟨S256x2x8x64x64, .f32⟩
  | 67 => ⟨S1x1x1x64x64, .f32⟩
  | 68 => ⟨S256x2x8x64x64, .f32⟩
  | 69 => ⟨S256x2x8x64x64, .f32⟩
  | 70 => ⟨S256x2x8x64x64, .f32⟩
  | 71 => ⟨S1x1x1x64x64, .f32⟩
  | 72 => ⟨S256x2x8x64x64, .f32⟩
  | 73 => ⟨S256x2x8x64x64, .f32⟩
  | 74 => ⟨S256x2x8x64x64, .f32⟩
  | 75 => ⟨S1x1x1x64x64, .f32⟩
  | 76 => ⟨S256x2x8x64x64, .f32⟩
  | 77 => ⟨S256x2x8x64x64, .f32⟩
  | 78 => ⟨S256x2x8x64x64, .f32⟩
  | 79 => ⟨S1x1x1x64x64, .f32⟩
  | 80 => ⟨S256x2x8x64x64, .f32⟩
  | 81 => ⟨S256x2x8x64x64, .f32⟩
  | 82 => ⟨S256x2x8x64x64, .f32⟩
  | 83 => ⟨S1x1x1x64x64, .f32⟩
  | 84 => ⟨S256x2x8x64x64, .f32⟩
  | 85 => ⟨S256x2x8x64x64, .f32⟩
  | 86 => ⟨S256x2x8x64x64, .f32⟩
  | 87 => ⟨S1x1x1x64x64, .f32⟩
  | 88 => ⟨S256x2x8x64x64, .f32⟩
  | 89 => ⟨S256x2x8x64x64, .f32⟩
  | 90 => ⟨S256x2x8x64x64, .f32⟩
  | 91 => ⟨S1x1x1x64x64, .f32⟩
  | 92 => ⟨S256x2x8x64x64, .f32⟩
  | 93 => ⟨S256x2x8x64x64, .f32⟩
  | 94 => ⟨S256x2x8x64x64, .f32⟩
  | 95 => ⟨S1x1x1x64x64, .f32⟩
  | 96 => ⟨S256x2x8x64x64, .f32⟩
  | 97 => ⟨S256x2x8x64x64, .f32⟩
  | 98 => ⟨S256x2x8x64x64, .f32⟩
  | 99 => ⟨S1x1x1x64x64, .f32⟩
  | 100 => ⟨S256x2x8x64x64, .f32⟩
  | 101 => ⟨S256x2x8x64x64, .f32⟩
  | 102 => ⟨S256x2x8x64x64, .f32⟩
  | 103 => ⟨S1x1x1x64x64, .f32⟩
  | 104 => ⟨S256x2x8x64x64, .f32⟩
  | 105 => ⟨S256x2x8x64x64, .f32⟩
  | 106 => ⟨S256x2x8x64x64, .f32⟩
  | 107 => ⟨S1x1x1x64x64, .f32⟩
  | 108 => ⟨S256x2x8x64x64, .f32⟩
  | 109 => ⟨S256x2x8x64x64, .f32⟩
  | 110 => ⟨S256x2x8x64x64, .f32⟩
  | 111 => ⟨S1x1x1x64x64, .f32⟩
  | 112 => ⟨S256x2x8x64x64, .f32⟩
  | 113 => ⟨S256x2x8x64x64, .f32⟩
  | 114 => ⟨S256x2x8x64x64, .f32⟩
  | 115 => ⟨S1x1x1x64x64, .f32⟩
  | 116 => ⟨S256x2x8x64x64, .f32⟩
  | 117 => ⟨S256x2x8x64x64, .f32⟩
  | 118 => ⟨S256x2x8x64x64, .f32⟩
  | 119 => ⟨S1x1x1x64x64, .f32⟩
  | 120 => ⟨S256x2x8x64x64, .f32⟩
  | 121 => ⟨S256x2x8x64x64, .f32⟩
  | 122 => ⟨S256x2x8x64x64, .f32⟩
  | 123 => ⟨S1x1x1x64x64, .f32⟩
  | 124 => ⟨S256x2x8x64x64, .f32⟩
  | 125 => ⟨S256x2x8x64x64, .f32⟩
  | 126 => ⟨S256x2x8x64x64, .f32⟩
  | 127 => ⟨S1x1x1x64x64, .f32⟩
  | _ => ⟨S32768x4224, .f32⟩

abbrev hbmTy0_3 (i : Nat) : BufTy := match i % 128 with
  | 0 => ⟨S256x2x8x64x64, .f32⟩
  | 1 => ⟨S256x2x8x64x64, .f32⟩
  | 2 => ⟨S256x2x8x64x64, .f32⟩
  | 3 => ⟨S1x1x1x64x64, .f32⟩
  | 4 => ⟨S256x2x8x64x64, .f32⟩
  | 5 => ⟨S256x2x8x64x64, .f32⟩
  | 6 => ⟨S256x2x8x64x64, .f32⟩
  | 7 => ⟨S1x1x1x64x64, .f32⟩
  | 8 => ⟨S256x2x8x64x64, .f32⟩
  | 9 => ⟨S256x2x8x64x64, .f32⟩
  | 10 => ⟨S256x2x8x64x64, .f32⟩
  | 11 => ⟨S1x1x1x64x64, .f32⟩
  | 12 => ⟨S256x2x8x64x64, .f32⟩
  | 13 => ⟨S256x2x8x64x64, .f32⟩
  | 14 => ⟨S256x2x8x64x64, .f32⟩
  | 15 => ⟨S1x1x1x64x64, .f32⟩
  | 16 => ⟨S256x2x8x64x64, .f32⟩
  | 17 => ⟨S256x2x8x64x64, .f32⟩
  | 18 => ⟨S256x2x8x64x64, .f32⟩
  | 19 => ⟨S1x1x1x64x64, .f32⟩
  | 20 => ⟨S256x2x8x64x64, .f32⟩
  | 21 => ⟨S256x2x8x64x64, .f32⟩
  | 22 => ⟨S256x2x8x64x64, .f32⟩
  | 23 => ⟨S1x1x1x64x64, .f32⟩
  | 24 => ⟨S256x2x8x64x64, .f32⟩
  | 25 => ⟨S256x2x8x64x64, .f32⟩
  | 26 => ⟨S256x2x8x64x64, .f32⟩
  | 27 => ⟨S1x1x1x64x64, .f32⟩
  | 28 => ⟨S256x2x8x64x64, .f32⟩
  | 29 => ⟨S256x2x8x64x64, .f32⟩
  | 30 => ⟨S256x2x8x64x64, .f32⟩
  | 31 => ⟨S1x1x1x64x64, .f32⟩
  | 32 => ⟨S256x2x8x64x64, .f32⟩
  | 33 => ⟨S256x2x8x64x64, .f32⟩
  | 34 => ⟨S256x2x8x64x64, .f32⟩
  | 35 => ⟨S1x1x1x64x64, .f32⟩
  | 36 => ⟨S256x2x8x64x64, .f32⟩
  | 37 => ⟨S256x2x8x64x64, .f32⟩
  | 38 => ⟨S256x2x8x64x64, .f32⟩
  | 39 => ⟨S1x1x1x64x64, .f32⟩
  | 40 => ⟨S256x2x8x64x64, .f32⟩
  | 41 => ⟨S256x2x8x64x64, .f32⟩
  | 42 => ⟨S256x2x8x64x64, .f32⟩
  | 43 => ⟨S1x1x1x64x64, .f32⟩
  | 44 => ⟨S256x2x8x64x64, .f32⟩
  | 45 => ⟨S256x2x8x64x64, .f32⟩
  | 46 => ⟨S256x2x8x64x64, .f32⟩
  | 47 => ⟨S1x1x1x64x64, .f32⟩
  | 48 => ⟨S256x2x8x64x64, .f32⟩
  | 49 => ⟨S256x2x8x64x64, .f32⟩
  | 50 => ⟨S256x2x8x64x64, .f32⟩
  | 51 => ⟨S1x1x1x64x64, .f32⟩
  | 52 => ⟨S256x2x8x64x64, .f32⟩
  | 53 => ⟨S256x2x8x64x64, .f32⟩
  | 54 => ⟨S256x2x8x64x64, .f32⟩
  | 55 => ⟨S1x1x1x64x64, .f32⟩
  | 56 => ⟨S256x2x8x64x64, .f32⟩
  | 57 => ⟨S256x2x8x64x64, .f32⟩
  | 58 => ⟨S256x2x8x64x128, .f32⟩
  | 59 => ⟨S256x2x8x64x128, .f32⟩
  | 60 => ⟨S256x2x8x64x128, .f32⟩
  | 61 => ⟨S256x2x8x64, .f32⟩
  | 62 => ⟨S256x2x8x64x1, .f32⟩
  | 63 => ⟨S256x2x8x64x128, .f32⟩
  | 64 => ⟨S256x2x8x64x128, .f32⟩
  | 65 => ⟨S256x2x8x64x128, .f32⟩
  | 66 => ⟨S256x2x8x64x64, .f32⟩
  | 67 => ⟨S256x2x8x64x64, .f32⟩
  | 68 => ⟨S256x2x8x64, .f32⟩
  | 69 => ⟨S256x2x8x64x1, .f32⟩
  | 70 => ⟨S256x2x8x64x128, .f32⟩
  | 71 => ⟨S256x2x8x64x128, .f32⟩
  | 72 => ⟨S256x2x8x1, .f32⟩
  | 73 => ⟨S256x2x8x64, .f32⟩
  | 74 => ⟨S256x2x8x64, .f32⟩
  | 75 => ⟨S256x2x8x64, .f32⟩
  | 76 => ⟨S256x2x8x64x1, .f32⟩
  | 77 => ⟨S256x2x8x64x128, .f32⟩
  | 78 => ⟨S256x2x8x64x128, .f32⟩
  | 79 => ⟨S256x2x8x1, .f32⟩
  | 80 => ⟨S256x2x8, .f32⟩
  | 81 => ⟨S256x2x8, .f32⟩
  | 82 => ⟨S_, .f32⟩
  | 83 => ⟨S2x8x128x128, .f32⟩
  | 84 => ⟨S_, .f32⟩
  | 85 => ⟨S256x2x8x64x128, .f32⟩
  | 86 => ⟨S_, .i32⟩
  | 87 => ⟨S256x2x8x64x128, .f32⟩
  | 88 => ⟨S256x2x8x64x128, .f32⟩
  | 89 => ⟨S256x2x8x64x64, .f32⟩
  | 90 => ⟨S256x2x8x64x128, .f32⟩
  | 91 => ⟨S256x2x8x64x128, .f32⟩
  | 92 => ⟨S256x2x8, .f32⟩
  | 93 => ⟨S_, .i32⟩
  | 94 => ⟨S2x8x128x128, .f32⟩
  | 95 => ⟨S256x2x8x64x128, .f32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S1x2x8x64x128, .f32⟩
  | 103 => ⟨S2x8x64x128, .f32⟩
  | 104 => ⟨S_, .i32⟩
  | 105 => ⟨S_, .i32⟩
  | 106 => ⟨S_, .i32⟩
  | 107 => ⟨S_, .i32⟩
  | 108 => ⟨S1x2x8x64x128, .f32⟩
  | 109 => ⟨S2x8x64x128, .f32⟩
  | 110 => ⟨S_, .i32⟩
  | 111 => ⟨S_, .i32⟩
  | 112 => ⟨S_, .i32⟩
  | 113 => ⟨S_, .i32⟩
  | 114 => ⟨S1x2x8x64x64, .f32⟩
  | 115 => ⟨S2x8x64x64, .f32⟩
  | 116 => ⟨S_, .i32⟩
  | 117 => ⟨S_, .i32⟩
  | 118 => ⟨S_, .i32⟩
  | 119 => ⟨S_, .i32⟩
  | 120 => ⟨S1x2x8x64x128, .f32⟩
  | 121 => ⟨S2x8x64x128, .f32⟩
  | 122 => ⟨S_, .i32⟩
  | 123 => ⟨S_, .i32⟩
  | 124 => ⟨S_, .i32⟩
  | 125 => ⟨S_, .i32⟩
  | 126 => ⟨S1x2x8x64x128, .f32⟩
  | 127 => ⟨S2x8x64x128, .f32⟩
  | _ => ⟨S32768x4224, .f32⟩

abbrev hbmTy0_4 (i : Nat) : BufTy := match i % 128 with
  | 0 => ⟨S_, .i32⟩
  | 1 => ⟨S_, .i32⟩
  | 2 => ⟨S1x2x8, .f32⟩
  | 3 => ⟨S2x8, .f32⟩
  | 4 => ⟨S2x8x64x128, .f32⟩
  | 5 => ⟨S2x8x64x128, .f32⟩
  | 6 => ⟨S2x8x64x128, .f32⟩
  | 7 => ⟨S2x8x64x128, .f32⟩
  | 8 => ⟨S2x8x64x128, .f32⟩
  | 9 => ⟨S2x8x1x1, .f32⟩
  | 10 => ⟨S2x8x128x128, .f32⟩
  | 11 => ⟨S2x8x128x128, .f32⟩
  | 12 => ⟨S2x8x128x128, .f32⟩
  | 13 => ⟨S2x8x128x128, .f32⟩
  | 14 => ⟨S1x2x8x64x128, .f32⟩
  | 15 => ⟨S_, .i32⟩
  | 16 => ⟨S_, .i32⟩
  | 17 => ⟨S_, .i32⟩
  | 18 => ⟨S_, .i32⟩
  | 19 => ⟨S256x2x8x64x128, .f32⟩
  | 20 => ⟨S_, .i32⟩
  | 21 => ⟨S_, .i32⟩
  | 22 => ⟨S2x256x64x8x128, .f32⟩
  | 23 => ⟨S2x16384x8x128, .f32⟩
  | 24 => ⟨S2x16384x8x128, .f32⟩
  | 25 => ⟨S_, .f32⟩
  | 26 => ⟨S2x16384x8, .f32⟩
  | 27 => ⟨S2x16384x8x1, .f32⟩
  | 28 => ⟨S_, .f32⟩
  | 29 => ⟨S2x16384x8x1, .f32⟩
  | 30 => ⟨S2x16384x8x1, .f32⟩
  | 31 => ⟨S_, .f32⟩
  | 32 => ⟨S2x16384x8x1, .f32⟩
  | 33 => ⟨S2x16384x8x1, .f32⟩
  | 34 => ⟨S2x16384x8x1, .f32⟩
  | 35 => ⟨S2x16384x8x128, .f32⟩
  | 36 => ⟨S2x16384x8x128, .f32⟩
  | 37 => ⟨S1x1x1x128, .f32⟩
  | 38 => ⟨S2x16384x8x128, .f32⟩
  | 39 => ⟨S2x16384x8x128, .f32⟩
  | 40 => ⟨S2x16384x8x128, .f32⟩
  | 41 => ⟨S2x16384x8x128, .f32⟩
  | 42 => ⟨S2x16384x8x128, .f32⟩
  | 43 => ⟨S_, .f32⟩
  | 44 => ⟨S2x16384x8x128, .f32⟩
  | 45 => ⟨S2x16384x8x128, .f32⟩
  | 46 => ⟨S_, .f32⟩
  | 47 => ⟨S2x16384x8x128, .f32⟩
  | 48 => ⟨S2x16384x8x128, .f32⟩
  | 49 => ⟨S2x16384x8x128, .f32⟩
  | 50 => ⟨S2x16384x8x128, .f32⟩
  | 51 => ⟨S2x16384x1024, .f32⟩
  | 52 => ⟨S32768x1024, .f32⟩
  | _ => ⟨S32768x4224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32768x4224, .f32⟩

abbrev bufTy : (tb : Table) → Fin (tcTables nBuf tb) → BufTy
  | .hbm, ⟨i, _⟩ => hbmTy i
  | _, _ => ⟨S32768x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_0 : Ref sig .tc := ⟨.hbm, 62, rfl⟩
abbrev main_v46 : Ref sig .tc := ⟨.hbm, 63, rfl⟩
abbrev main_v47 : Ref sig .tc := ⟨.hbm, 64, rfl⟩
abbrev main_cst_1 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_2 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_3 : Ref sig .tc := ⟨.hbm, 76, rfl⟩
abbrev main_v57 : Ref sig .tc := ⟨.hbm, 77, rfl⟩
abbrev main_v58 : Ref sig .tc := ⟨.hbm, 78, rfl⟩
abbrev main_cst_4 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_5 : Ref sig .tc := ⟨.hbm, 88, rfl⟩
abbrev main_v67 : Ref sig .tc := ⟨.hbm, 89, rfl⟩
abbrev main_v68 : Ref sig .tc := ⟨.hbm, 90, rfl⟩
abbrev main_cst_6 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_call2_cst : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_v6 : Ref sig .tc := ⟨.hbm, 106, rfl⟩
abbrev main_call2_v7 : Ref sig .tc := ⟨.hbm, 107, rfl⟩
abbrev main_call2_v8 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_call0_cst : Ref sig .tc := ⟨.hbm, 127, rfl⟩
abbrev main_call3_call0_v0 : Ref sig .tc := ⟨.hbm, 128, rfl⟩
abbrev main_v91 : Ref sig .tc := ⟨.hbm, 129, rfl⟩
abbrev main_c_7 : Ref sig .tc := ⟨.hbm, 130, rfl⟩
abbrev main_v92 : Ref sig .tc := ⟨.hbm, 131, rfl⟩
abbrev main_call4_v0 : Ref sig .tc := ⟨.hbm, 132, rfl⟩
abbrev main_call4_c : Ref sig .tc := ⟨.hbm, 133, rfl⟩
abbrev main_call4_v1 : Ref sig .tc := ⟨.hbm, 134, rfl⟩
abbrev main_call4_v2 : Ref sig .tc := ⟨.hbm, 135, rfl⟩
abbrev main_call4_v3 : Ref sig .tc := ⟨.hbm, 136, rfl⟩
abbrev main_call4_v4 : Ref sig .tc := ⟨.hbm, 137, rfl⟩
abbrev main_call4_c_0 : Ref sig .tc := ⟨.hbm, 138, rfl⟩
abbrev main_call4_v5 : Ref sig .tc := ⟨.hbm, 139, rfl⟩
abbrev main_v93 : Ref sig .tc := ⟨.hbm, 140, rfl⟩
abbrev main_c_8 : Ref sig .tc := ⟨.hbm, 141, rfl⟩
abbrev main_v94 : Ref sig .tc := ⟨.hbm, 142, rfl⟩
abbrev main_call5_v0 : Ref sig .tc := ⟨.hbm, 143, rfl⟩
abbrev main_call5_c : Ref sig .tc := ⟨.hbm, 144, rfl⟩
abbrev main_call5_v1 : Ref sig .tc := ⟨.hbm, 145, rfl⟩
abbrev main_call5_v2 : Ref sig .tc := ⟨.hbm, 146, rfl⟩
abbrev main_call5_v3 : Ref sig .tc := ⟨.hbm, 147, rfl⟩
abbrev main_call5_v4 : Ref sig .tc := ⟨.hbm, 148, rfl⟩
abbrev main_call5_c_0 : Ref sig .tc := ⟨.hbm, 149, rfl⟩
abbrev main_call5_v5 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_cst_9 : Ref sig .tc := ⟨.hbm, 157, rfl⟩
abbrev main_call6_v0 : Ref sig .tc := ⟨.hbm, 158, rfl⟩
abbrev main_call6_v1 : Ref sig .tc := ⟨.hbm, 159, rfl⟩
abbrev main_call6_v2 : Ref sig .tc := ⟨.hbm, 160, rfl⟩
abbrev main_v101 : Ref sig .tc := ⟨.hbm, 161, rfl⟩
abbrev main_v102 : Ref sig .tc := ⟨.hbm, 162, rfl⟩
abbrev main_cst_10 : Ref sig .tc := ⟨.hbm, 163, rfl⟩
abbrev main_call7_v0 : Ref sig .tc := ⟨.hbm, 164, rfl⟩
abbrev main_call7_v1 : Ref sig .tc := ⟨.hbm, 165, rfl⟩
abbrev main_call7_v2 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_cst_11 : Ref sig .tc := ⟨.hbm, 172, rfl⟩
abbrev main_call8_v0 : Ref sig .tc := ⟨.hbm, 173, rfl⟩
abbrev main_call8_v1 : Ref sig .tc := ⟨.hbm, 174, rfl⟩
abbrev main_call8_v2 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_c_12 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_cst_13 : Ref sig .tc := ⟨.hbm, 184, rfl⟩
abbrev main_v115 : Ref sig .tc := ⟨.hbm, 185, rfl⟩
abbrev main_call9_v0 : Ref sig .tc := ⟨.hbm, 186, rfl⟩
abbrev main_call9_v1 : Ref sig .tc := ⟨.hbm, 187, rfl⟩
abbrev main_call9_v2 : Ref sig .tc := ⟨.hbm, 188, rfl⟩
abbrev main_call9_v3 : Ref sig .tc := ⟨.hbm, 189, rfl⟩
abbrev main_call9_v4 : Ref sig .tc := ⟨.hbm, 190, rfl⟩
abbrev main_call9_v5 : Ref sig .tc := ⟨.hbm, 191, rfl⟩
abbrev main_call9_v6 : Ref sig .tc := ⟨.hbm, 192, rfl⟩
abbrev main_call9_v7 : Ref sig .tc := ⟨.hbm, 193, rfl⟩
abbrev main_call9_v8 : Ref sig .tc := ⟨.hbm, 194, rfl⟩
abbrev main_call9_v9 : Ref sig .tc := ⟨.hbm, 195, rfl⟩
abbrev main_call9_v10 : Ref sig .tc := ⟨.hbm, 196, rfl⟩
abbrev main_call9_v11 : Ref sig .tc := ⟨.hbm, 197, rfl⟩
abbrev main_call9_v12 : Ref sig .tc := ⟨.hbm, 198, rfl⟩
abbrev main_call9_v13 : Ref sig .tc := ⟨.hbm, 199, rfl⟩
abbrev main_call9_v14 : Ref sig .tc := ⟨.hbm, 200, rfl⟩
abbrev main_call9_v15 : Ref sig .tc := ⟨.hbm, 201, rfl⟩
abbrev main_call9_v16 : Ref sig .tc := ⟨.hbm, 202, rfl⟩
abbrev main_call9_v17 : Ref sig .tc := ⟨.hbm, 203, rfl⟩
abbrev main_call9_v18 : Ref sig .tc := ⟨.hbm, 204, rfl⟩
abbrev main_call9_v19 : Ref sig .tc := ⟨.hbm, 205, rfl⟩
abbrev main_call9_v20 : Ref sig .tc := ⟨.hbm, 206, rfl⟩
abbrev main_call9_v21 : Ref sig .tc := ⟨.hbm, 207, rfl⟩
abbrev main_call9_v22 : Ref sig .tc := ⟨.hbm, 208, rfl⟩
abbrev main_call9_v23 : Ref sig .tc := ⟨.hbm, 209, rfl⟩
abbrev main_call9_v24 : Ref sig .tc := ⟨.hbm, 210, rfl⟩
abbrev main_call9_v25 : Ref sig .tc := ⟨.hbm, 211, rfl⟩
abbrev main_call9_v26 : Ref sig .tc := ⟨.hbm, 212, rfl⟩
abbrev main_call9_v27 : Ref sig .tc := ⟨.hbm, 213, rfl⟩
abbrev main_call9_v28 : Ref sig .tc := ⟨.hbm, 214, rfl⟩
abbrev main_call9_v29 : Ref sig .tc := ⟨.hbm, 215, rfl⟩
abbrev main_call9_v30 : Ref sig .tc := ⟨.hbm, 216, rfl⟩
abbrev main_v116 : Ref sig .tc := ⟨.hbm, 217, rfl⟩
abbrev main_call10_v0 : Ref sig .tc := ⟨.hbm, 218, rfl⟩
abbrev main_call10_v1 : Ref sig .tc := ⟨.hbm, 219, rfl⟩
abbrev main_call10_v2 : Ref sig .tc := ⟨.hbm, 220, rfl⟩
abbrev main_call10_v3 : Ref sig .tc := ⟨.hbm, 221, rfl⟩
abbrev main_call10_v4 : Ref sig .tc := ⟨.hbm, 222, rfl⟩
abbrev main_call10_v5 : Ref sig .tc := ⟨.hbm, 223, rfl⟩
abbrev main_call10_v6 : Ref sig .tc := ⟨.hbm, 224, rfl⟩
abbrev main_call10_v7 : Ref sig .tc := ⟨.hbm, 225, rfl⟩
abbrev main_call10_v8 : Ref sig .tc := ⟨.hbm, 226, rfl⟩
abbrev main_call10_v9 : Ref sig .tc := ⟨.hbm, 227, rfl⟩
abbrev main_call10_v10 : Ref sig .tc := ⟨.hbm, 228, rfl⟩
abbrev main_call10_v11 : Ref sig .tc := ⟨.hbm, 229, rfl⟩
abbrev main_call10_v12 : Ref sig .tc := ⟨.hbm, 230, rfl⟩
abbrev main_call10_v13 : Ref sig .tc := ⟨.hbm, 231, rfl⟩
abbrev main_call10_v14 : Ref sig .tc := ⟨.hbm, 232, rfl⟩
abbrev main_call10_v15 : Ref sig .tc := ⟨.hbm, 233, rfl⟩
abbrev main_call10_v16 : Ref sig .tc := ⟨.hbm, 234, rfl⟩
abbrev main_call10_v17 : Ref sig .tc := ⟨.hbm, 235, rfl⟩
abbrev main_call10_v18 : Ref sig .tc := ⟨.hbm, 236, rfl⟩
abbrev main_call10_v19 : Ref sig .tc := ⟨.hbm, 237, rfl⟩
abbrev main_call10_v20 : Ref sig .tc := ⟨.hbm, 238, rfl⟩
abbrev main_call10_v21 : Ref sig .tc := ⟨.hbm, 239, rfl⟩
abbrev main_call10_v22 : Ref sig .tc := ⟨.hbm, 240, rfl⟩
abbrev main_call10_v23 : Ref sig .tc := ⟨.hbm, 241, rfl⟩
abbrev main_call10_v24 : Ref sig .tc := ⟨.hbm, 242, rfl⟩
abbrev main_call10_v25 : Ref sig .tc := ⟨.hbm, 243, rfl⟩
abbrev main_call10_v26 : Ref sig .tc := ⟨.hbm, 244, rfl⟩
abbrev main_call10_v27 : Ref sig .tc := ⟨.hbm, 245, rfl⟩
abbrev main_call10_v28 : Ref sig .tc := ⟨.hbm, 246, rfl⟩
abbrev main_call10_v29 : Ref sig .tc := ⟨.hbm, 247, rfl⟩
abbrev main_call10_v30 : Ref sig .tc := ⟨.hbm, 248, rfl⟩
abbrev main_v117 : Ref sig .tc := ⟨.hbm, 249, rfl⟩
abbrev main_call11_v0 : Ref sig .tc := ⟨.hbm, 250, rfl⟩
abbrev main_call11_v1 : Ref sig .tc := ⟨.hbm, 251, rfl⟩
abbrev main_call11_v2 : Ref sig .tc := ⟨.hbm, 252, rfl⟩
abbrev main_call11_v3 : Ref sig .tc := ⟨.hbm, 253, rfl⟩
abbrev main_call11_v4 : Ref sig .tc := ⟨.hbm, 254, rfl⟩
abbrev main_call11_v5 : Ref sig .tc := ⟨.hbm, 255, rfl⟩
abbrev main_call11_v6 : Ref sig .tc := ⟨.hbm, 256, rfl⟩
abbrev main_call11_v7 : Ref sig .tc := ⟨.hbm, 257, rfl⟩
abbrev main_call11_v8 : Ref sig .tc := ⟨.hbm, 258, rfl⟩
abbrev main_call11_v9 : Ref sig .tc := ⟨.hbm, 259, rfl⟩
abbrev main_call11_v10 : Ref sig .tc := ⟨.hbm, 260, rfl⟩
abbrev main_call11_v11 : Ref sig .tc := ⟨.hbm, 261, rfl⟩
abbrev main_call11_v12 : Ref sig .tc := ⟨.hbm, 262, rfl⟩
abbrev main_call11_v13 : Ref sig .tc := ⟨.hbm, 263, rfl⟩
abbrev main_call11_v14 : Ref sig .tc := ⟨.hbm, 264, rfl⟩
abbrev main_call11_v15 : Ref sig .tc := ⟨.hbm, 265, rfl⟩
abbrev main_call11_v16 : Ref sig .tc := ⟨.hbm, 266, rfl⟩
abbrev main_call11_v17 : Ref sig .tc := ⟨.hbm, 267, rfl⟩
abbrev main_call11_v18 : Ref sig .tc := ⟨.hbm, 268, rfl⟩
abbrev main_call11_v19 : Ref sig .tc := ⟨.hbm, 269, rfl⟩
abbrev main_call11_v20 : Ref sig .tc := ⟨.hbm, 270, rfl⟩
abbrev main_call11_v21 : Ref sig .tc := ⟨.hbm, 271, rfl⟩
abbrev main_call11_v22 : Ref sig .tc := ⟨.hbm, 272, rfl⟩
abbrev main_call11_v23 : Ref sig .tc := ⟨.hbm, 273, rfl⟩
abbrev main_call11_v24 : Ref sig .tc := ⟨.hbm, 274, rfl⟩
abbrev main_call11_v25 : Ref sig .tc := ⟨.hbm, 275, rfl⟩
abbrev main_call11_v26 : Ref sig .tc := ⟨.hbm, 276, rfl⟩
abbrev main_call11_v27 : Ref sig .tc := ⟨.hbm, 277, rfl⟩
abbrev main_call11_v28 : Ref sig .tc := ⟨.hbm, 278, rfl⟩
abbrev main_call11_v29 : Ref sig .tc := ⟨.hbm, 279, rfl⟩
abbrev main_call11_v30 : Ref sig .tc := ⟨.hbm, 280, rfl⟩
abbrev main_v118 : Ref sig .tc := ⟨.hbm, 281, rfl⟩
abbrev main_call12_v0 : Ref sig .tc := ⟨.hbm, 282, rfl⟩
abbrev main_call12_v1 : Ref sig .tc := ⟨.hbm, 283, rfl⟩
abbrev main_call12_v2 : Ref sig .tc := ⟨.hbm, 284, rfl⟩
abbrev main_call12_v3 : Ref sig .tc := ⟨.hbm, 285, rfl⟩
abbrev main_call12_v4 : Ref sig .tc := ⟨.hbm, 286, rfl⟩
abbrev main_call12_v5 : Ref sig .tc := ⟨.hbm, 287, rfl⟩
abbrev main_call12_v6 : Ref sig .tc := ⟨.hbm, 288, rfl⟩
abbrev main_call12_v7 : Ref sig .tc := ⟨.hbm, 289, rfl⟩
abbrev main_call12_v8 : Ref sig .tc := ⟨.hbm, 290, rfl⟩
abbrev main_call12_v9 : Ref sig .tc := ⟨.hbm, 291, rfl⟩
abbrev main_call12_v10 : Ref sig .tc := ⟨.hbm, 292, rfl⟩
abbrev main_call12_v11 : Ref sig .tc := ⟨.hbm, 293, rfl⟩
abbrev main_call12_v12 : Ref sig .tc := ⟨.hbm, 294, rfl⟩
abbrev main_call12_v13 : Ref sig .tc := ⟨.hbm, 295, rfl⟩
abbrev main_call12_v14 : Ref sig .tc := ⟨.hbm, 296, rfl⟩
abbrev main_call12_v15 : Ref sig .tc := ⟨.hbm, 297, rfl⟩
abbrev main_call12_v16 : Ref sig .tc := ⟨.hbm, 298, rfl⟩
abbrev main_call12_v17 : Ref sig .tc := ⟨.hbm, 299, rfl⟩
abbrev main_call12_v18 : Ref sig .tc := ⟨.hbm, 300, rfl⟩
abbrev main_call12_v19 : Ref sig .tc := ⟨.hbm, 301, rfl⟩
abbrev main_call12_v20 : Ref sig .tc := ⟨.hbm, 302, rfl⟩
abbrev main_call12_v21 : Ref sig .tc := ⟨.hbm, 303, rfl⟩
abbrev main_call12_v22 : Ref sig .tc := ⟨.hbm, 304, rfl⟩
abbrev main_call12_v23 : Ref sig .tc := ⟨.hbm, 305, rfl⟩
abbrev main_call12_v24 : Ref sig .tc := ⟨.hbm, 306, rfl⟩
abbrev main_call12_v25 : Ref sig .tc := ⟨.hbm, 307, rfl⟩
abbrev main_call12_v26 : Ref sig .tc := ⟨.hbm, 308, rfl⟩
abbrev main_call12_v27 : Ref sig .tc := ⟨.hbm, 309, rfl⟩
abbrev main_call12_v28 : Ref sig .tc := ⟨.hbm, 310, rfl⟩
abbrev main_call12_v29 : Ref sig .tc := ⟨.hbm, 311, rfl⟩
abbrev main_call12_v30 : Ref sig .tc := ⟨.hbm, 312, rfl⟩
abbrev main_v119 : Ref sig .tc := ⟨.hbm, 313, rfl⟩
abbrev main_call13_v0 : Ref sig .tc := ⟨.hbm, 314, rfl⟩
abbrev main_call13_v1 : Ref sig .tc := ⟨.hbm, 315, rfl⟩
abbrev main_call13_v2 : Ref sig .tc := ⟨.hbm, 316, rfl⟩
abbrev main_call13_v3 : Ref sig .tc := ⟨.hbm, 317, rfl⟩
abbrev main_call13_v4 : Ref sig .tc := ⟨.hbm, 318, rfl⟩
abbrev main_call13_v5 : Ref sig .tc := ⟨.hbm, 319, rfl⟩
abbrev main_call13_v6 : Ref sig .tc := ⟨.hbm, 320, rfl⟩
abbrev main_call13_v7 : Ref sig .tc := ⟨.hbm, 321, rfl⟩
abbrev main_call13_v8 : Ref sig .tc := ⟨.hbm, 322, rfl⟩
abbrev main_call13_v9 : Ref sig .tc := ⟨.hbm, 323, rfl⟩
abbrev main_call13_v10 : Ref sig .tc := ⟨.hbm, 324, rfl⟩
abbrev main_call13_v11 : Ref sig .tc := ⟨.hbm, 325, rfl⟩
abbrev main_call13_v12 : Ref sig .tc := ⟨.hbm, 326, rfl⟩
abbrev main_call13_v13 : Ref sig .tc := ⟨.hbm, 327, rfl⟩
abbrev main_call13_v14 : Ref sig .tc := ⟨.hbm, 328, rfl⟩
abbrev main_call13_v15 : Ref sig .tc := ⟨.hbm, 329, rfl⟩
abbrev main_call13_v16 : Ref sig .tc := ⟨.hbm, 330, rfl⟩
abbrev main_call13_v17 : Ref sig .tc := ⟨.hbm, 331, rfl⟩
abbrev main_call13_v18 : Ref sig .tc := ⟨.hbm, 332, rfl⟩
abbrev main_call13_v19 : Ref sig .tc := ⟨.hbm, 333, rfl⟩
abbrev main_call13_v20 : Ref sig .tc := ⟨.hbm, 334, rfl⟩
abbrev main_call13_v21 : Ref sig .tc := ⟨.hbm, 335, rfl⟩
abbrev main_call13_v22 : Ref sig .tc := ⟨.hbm, 336, rfl⟩
abbrev main_call13_v23 : Ref sig .tc := ⟨.hbm, 337, rfl⟩
abbrev main_call13_v24 : Ref sig .tc := ⟨.hbm, 338, rfl⟩
abbrev main_call13_v25 : Ref sig .tc := ⟨.hbm, 339, rfl⟩
abbrev main_call13_v26 : Ref sig .tc := ⟨.hbm, 340, rfl⟩
abbrev main_call13_v27 : Ref sig .tc := ⟨.hbm, 341, rfl⟩
abbrev main_call13_v28 : Ref sig .tc := ⟨.hbm, 342, rfl⟩
abbrev main_call13_v29 : Ref sig .tc := ⟨.hbm, 343, rfl⟩
abbrev main_call13_v30 : Ref sig .tc := ⟨.hbm, 344, rfl⟩
abbrev main_v120 : Ref sig .tc := ⟨.hbm, 345, rfl⟩
abbrev main_call14_v0 : Ref sig .tc := ⟨.hbm, 346, rfl⟩
abbrev main_call14_v1 : Ref sig .tc := ⟨.hbm, 347, rfl⟩
abbrev main_call14_v2 : Ref sig .tc := ⟨.hbm, 348, rfl⟩
abbrev main_call14_v3 : Ref sig .tc := ⟨.hbm, 349, rfl⟩
abbrev main_call14_v4 : Ref sig .tc := ⟨.hbm, 350, rfl⟩
abbrev main_call14_v5 : Ref sig .tc := ⟨.hbm, 351, rfl⟩
abbrev main_call14_v6 : Ref sig .tc := ⟨.hbm, 352, rfl⟩
abbrev main_call14_v7 : Ref sig .tc := ⟨.hbm, 353, rfl⟩
abbrev main_call14_v8 : Ref sig .tc := ⟨.hbm, 354, rfl⟩
abbrev main_call14_v9 : Ref sig .tc := ⟨.hbm, 355, rfl⟩
abbrev main_call14_v10 : Ref sig .tc := ⟨.hbm, 356, rfl⟩
abbrev main_call14_v11 : Ref sig .tc := ⟨.hbm, 357, rfl⟩
abbrev main_call14_v12 : Ref sig .tc := ⟨.hbm, 358, rfl⟩
abbrev main_call14_v13 : Ref sig .tc := ⟨.hbm, 359, rfl⟩
abbrev main_call14_v14 : Ref sig .tc := ⟨.hbm, 360, rfl⟩
abbrev main_call14_v15 : Ref sig .tc := ⟨.hbm, 361, rfl⟩
abbrev main_call14_v16 : Ref sig .tc := ⟨.hbm, 362, rfl⟩
abbrev main_call14_v17 : Ref sig .tc := ⟨.hbm, 363, rfl⟩
abbrev main_call14_v18 : Ref sig .tc := ⟨.hbm, 364, rfl⟩
abbrev main_call14_v19 : Ref sig .tc := ⟨.hbm, 365, rfl⟩
abbrev main_call14_v20 : Ref sig .tc := ⟨.hbm, 366, rfl⟩
abbrev main_call14_v21 : Ref sig .tc := ⟨.hbm, 367, rfl⟩
abbrev main_call14_v22 : Ref sig .tc := ⟨.hbm, 368, rfl⟩
abbrev main_call14_v23 : Ref sig .tc := ⟨.hbm, 369, rfl⟩
abbrev main_call14_v24 : Ref sig .tc := ⟨.hbm, 370, rfl⟩
abbrev main_call14_v25 : Ref sig .tc := ⟨.hbm, 371, rfl⟩
abbrev main_call14_v26 : Ref sig .tc := ⟨.hbm, 372, rfl⟩
abbrev main_call14_v27 : Ref sig .tc := ⟨.hbm, 373, rfl⟩
abbrev main_call14_v28 : Ref sig .tc := ⟨.hbm, 374, rfl⟩
abbrev main_call14_v29 : Ref sig .tc := ⟨.hbm, 375, rfl⟩
abbrev main_call14_v30 : Ref sig .tc := ⟨.hbm, 376, rfl⟩
abbrev main_v121 : Ref sig .tc := ⟨.hbm, 377, rfl⟩
abbrev main_call15_v0 : Ref sig .tc := ⟨.hbm, 378, rfl⟩
abbrev main_call15_v1 : Ref sig .tc := ⟨.hbm, 379, rfl⟩
abbrev main_call15_v2 : Ref sig .tc := ⟨.hbm, 380, rfl⟩
abbrev main_call15_v3 : Ref sig .tc := ⟨.hbm, 381, rfl⟩
abbrev main_call15_v4 : Ref sig .tc := ⟨.hbm, 382, rfl⟩
abbrev main_call15_v5 : Ref sig .tc := ⟨.hbm, 383, rfl⟩
abbrev main_call15_v6 : Ref sig .tc := ⟨.hbm, 384, rfl⟩
abbrev main_call15_v7 : Ref sig .tc := ⟨.hbm, 385, rfl⟩
abbrev main_call15_v8 : Ref sig .tc := ⟨.hbm, 386, rfl⟩
abbrev main_call15_v9 : Ref sig .tc := ⟨.hbm, 387, rfl⟩
abbrev main_call15_v10 : Ref sig .tc := ⟨.hbm, 388, rfl⟩
abbrev main_call15_v11 : Ref sig .tc := ⟨.hbm, 389, rfl⟩
abbrev main_call15_v12 : Ref sig .tc := ⟨.hbm, 390, rfl⟩
abbrev main_call15_v13 : Ref sig .tc := ⟨.hbm, 391, rfl⟩
abbrev main_call15_v14 : Ref sig .tc := ⟨.hbm, 392, rfl⟩
abbrev main_call15_v15 : Ref sig .tc := ⟨.hbm, 393, rfl⟩
abbrev main_call15_v16 : Ref sig .tc := ⟨.hbm, 394, rfl⟩
abbrev main_call15_v17 : Ref sig .tc := ⟨.hbm, 395, rfl⟩
abbrev main_call15_v18 : Ref sig .tc := ⟨.hbm, 396, rfl⟩
abbrev main_call15_v19 : Ref sig .tc := ⟨.hbm, 397, rfl⟩
abbrev main_call15_v20 : Ref sig .tc := ⟨.hbm, 398, rfl⟩
abbrev main_call15_v21 : Ref sig .tc := ⟨.hbm, 399, rfl⟩
abbrev main_call15_v22 : Ref sig .tc := ⟨.hbm, 400, rfl⟩
abbrev main_call15_v23 : Ref sig .tc := ⟨.hbm, 401, rfl⟩
abbrev main_call15_v24 : Ref sig .tc := ⟨.hbm, 402, rfl⟩
abbrev main_call15_v25 : Ref sig .tc := ⟨.hbm, 403, rfl⟩
abbrev main_call15_v26 : Ref sig .tc := ⟨.hbm, 404, rfl⟩
abbrev main_call15_v27 : Ref sig .tc := ⟨.hbm, 405, rfl⟩
abbrev main_call15_v28 : Ref sig .tc := ⟨.hbm, 406, rfl⟩
abbrev main_call15_v29 : Ref sig .tc := ⟨.hbm, 407, rfl⟩
abbrev main_call15_v30 : Ref sig .tc := ⟨.hbm, 408, rfl⟩
abbrev main_v122 : Ref sig .tc := ⟨.hbm, 409, rfl⟩
abbrev main_call16_v0 : Ref sig .tc := ⟨.hbm, 410, rfl⟩
abbrev main_call16_v1 : Ref sig .tc := ⟨.hbm, 411, rfl⟩
abbrev main_call16_v2 : Ref sig .tc := ⟨.hbm, 412, rfl⟩
abbrev main_call16_v3 : Ref sig .tc := ⟨.hbm, 413, rfl⟩
abbrev main_call16_v4 : Ref sig .tc := ⟨.hbm, 414, rfl⟩
abbrev main_call16_v5 : Ref sig .tc := ⟨.hbm, 415, rfl⟩
abbrev main_call16_v6 : Ref sig .tc := ⟨.hbm, 416, rfl⟩
abbrev main_call16_v7 : Ref sig .tc := ⟨.hbm, 417, rfl⟩
abbrev main_call16_v8 : Ref sig .tc := ⟨.hbm, 418, rfl⟩
abbrev main_call16_v9 : Ref sig .tc := ⟨.hbm, 419, rfl⟩
abbrev main_call16_v10 : Ref sig .tc := ⟨.hbm, 420, rfl⟩
abbrev main_call16_v11 : Ref sig .tc := ⟨.hbm, 421, rfl⟩
abbrev main_call16_v12 : Ref sig .tc := ⟨.hbm, 422, rfl⟩
abbrev main_call16_v13 : Ref sig .tc := ⟨.hbm, 423, rfl⟩
abbrev main_call16_v14 : Ref sig .tc := ⟨.hbm, 424, rfl⟩
abbrev main_call16_v15 : Ref sig .tc := ⟨.hbm, 425, rfl⟩
abbrev main_call16_v16 : Ref sig .tc := ⟨.hbm, 426, rfl⟩
abbrev main_call16_v17 : Ref sig .tc := ⟨.hbm, 427, rfl⟩
abbrev main_call16_v18 : Ref sig .tc := ⟨.hbm, 428, rfl⟩
abbrev main_call16_v19 : Ref sig .tc := ⟨.hbm, 429, rfl⟩
abbrev main_call16_v20 : Ref sig .tc := ⟨.hbm, 430, rfl⟩
abbrev main_call16_v21 : Ref sig .tc := ⟨.hbm, 431, rfl⟩
abbrev main_call16_v22 : Ref sig .tc := ⟨.hbm, 432, rfl⟩
abbrev main_call16_v23 : Ref sig .tc := ⟨.hbm, 433, rfl⟩
abbrev main_call16_v24 : Ref sig .tc := ⟨.hbm, 434, rfl⟩
abbrev main_call16_v25 : Ref sig .tc := ⟨.hbm, 435, rfl⟩
abbrev main_call16_v26 : Ref sig .tc := ⟨.hbm, 436, rfl⟩
abbrev main_call16_v27 : Ref sig .tc := ⟨.hbm, 437, rfl⟩
abbrev main_call16_v28 : Ref sig .tc := ⟨.hbm, 438, rfl⟩
abbrev main_call16_v29 : Ref sig .tc := ⟨.hbm, 439, rfl⟩
abbrev main_call16_v30 : Ref sig .tc := ⟨.hbm, 440, rfl⟩
abbrev main_v123 : Ref sig .tc := ⟨.hbm, 441, rfl⟩
abbrev main_v124 : Ref sig .tc := ⟨.hbm, 442, rfl⟩
abbrev main_v125 : Ref sig .tc := ⟨.hbm, 443, rfl⟩
abbrev main_v126 : Ref sig .tc := ⟨.hbm, 444, rfl⟩
abbrev main_v127 : Ref sig .tc := ⟨.hbm, 445, rfl⟩
abbrev main_v128 : Ref sig .tc := ⟨.hbm, 446, rfl⟩
abbrev main_v129 : Ref sig .tc := ⟨.hbm, 447, rfl⟩
abbrev main_v130 : Ref sig .tc := ⟨.hbm, 448, rfl⟩
abbrev main_v131 : Ref sig .tc := ⟨.hbm, 449, rfl⟩
abbrev main_v132 : Ref sig .tc := ⟨.hbm, 450, rfl⟩
abbrev main_v133 : Ref sig .tc := ⟨.hbm, 451, rfl⟩
abbrev main_v134 : Ref sig .tc := ⟨.hbm, 452, rfl⟩
abbrev main_v135 : Ref sig .tc := ⟨.hbm, 453, rfl⟩
abbrev main_v136 : Ref sig .tc := ⟨.hbm, 454, rfl⟩
abbrev main_v137 : Ref sig .tc := ⟨.hbm, 455, rfl⟩
abbrev main_v138 : Ref sig .tc := ⟨.hbm, 456, rfl⟩
abbrev main_v139 : Ref sig .tc := ⟨.hbm, 457, rfl⟩
abbrev main_v140 : Ref sig .tc := ⟨.hbm, 458, rfl⟩
abbrev main_v141 : Ref sig .tc := ⟨.hbm, 459, rfl⟩
abbrev main_v142 : Ref sig .tc := ⟨.hbm, 460, rfl⟩
abbrev main_v143 : Ref sig .tc := ⟨.hbm, 461, rfl⟩
abbrev main_v144 : Ref sig .tc := ⟨.hbm, 462, rfl⟩
abbrev main_v145 : Ref sig .tc := ⟨.hbm, 463, rfl⟩
abbrev main_v146 : Ref sig .tc := ⟨.hbm, 464, rfl⟩
abbrev main_v147 : Ref sig .tc := ⟨.hbm, 465, rfl⟩
abbrev main_cst_14 : Ref sig .tc := ⟨.hbm, 466, rfl⟩
abbrev main_v148 : Ref sig .tc := ⟨.hbm, 467, rfl⟩
abbrev main_cst_15 : Ref sig .tc := ⟨.hbm, 468, rfl⟩
abbrev main_v149 : Ref sig .tc := ⟨.hbm, 469, rfl⟩
abbrev main_c_16 : Ref sig .tc := ⟨.hbm, 470, rfl⟩
abbrev main_v150_0 : Ref sig .tc := ⟨.hbm, 471, rfl⟩
abbrev main_v150_1 : Ref sig .tc := ⟨.hbm, 472, rfl⟩
abbrev main_v150_2 : Ref sig .tc := ⟨.hbm, 473, rfl⟩
abbrev main_v150_3 : Ref sig .tc := ⟨.hbm, 474, rfl⟩
abbrev main_v150_4 : Ref sig .tc := ⟨.hbm, 475, rfl⟩
abbrev main_v150_5 : Ref sig .tc := ⟨.hbm, 476, rfl⟩
abbrev main_v150_6 : Ref sig .tc := ⟨.hbm, 477, rfl⟩
abbrev main_v150_7 : Ref sig .tc := ⟨.hbm, 478, rfl⟩
abbrev main_v150_8 : Ref sig .tc := ⟨.hbm, 479, rfl⟩
abbrev main_while0c_c_28 : Ref sig .tc := ⟨.hbm, 480, rfl⟩
abbrev main_while0c_v171 : Ref sig .tc := ⟨.hbm, 481, rfl⟩
abbrev main_while0b_call17_c : Ref sig .tc := ⟨.hbm, 482, rfl⟩
abbrev main_while0b_call17_c_0 : Ref sig .tc := ⟨.hbm, 483, rfl⟩
abbrev main_while0b_call17_c_1 : Ref sig .tc := ⟨.hbm, 484, rfl⟩
abbrev main_while0b_call17_c_2 : Ref sig .tc := ⟨.hbm, 485, rfl⟩
abbrev main_while0b_call17_v0 : Ref sig .tc := ⟨.hbm, 486, rfl⟩
abbrev main_while0b_v171 : Ref sig .tc := ⟨.hbm, 487, rfl⟩
abbrev main_while0b_call18_c : Ref sig .tc := ⟨.hbm, 488, rfl⟩
abbrev main_while0b_call18_c_0 : Ref sig .tc := ⟨.hbm, 489, rfl⟩
abbrev main_while0b_call18_c_1 : Ref sig .tc := ⟨.hbm, 490, rfl⟩
abbrev main_while0b_call18_c_2 : Ref sig .tc := ⟨.hbm, 491, rfl⟩
abbrev main_while0b_call18_v0 : Ref sig .tc := ⟨.hbm, 492, rfl⟩
abbrev main_while0b_v172 : Ref sig .tc := ⟨.hbm, 493, rfl⟩
abbrev main_while0b_call19_c : Ref sig .tc := ⟨.hbm, 494, rfl⟩
abbrev main_while0b_call19_c_0 : Ref sig .tc := ⟨.hbm, 495, rfl⟩
abbrev main_while0b_call19_c_1 : Ref sig .tc := ⟨.hbm, 496, rfl⟩
abbrev main_while0b_call19_c_2 : Ref sig .tc := ⟨.hbm, 497, rfl⟩
abbrev main_while0b_call19_v0 : Ref sig .tc := ⟨.hbm, 498, rfl⟩
abbrev main_while0b_v173 : Ref sig .tc := ⟨.hbm, 499, rfl⟩
abbrev main_while0b_call20_c : Ref sig .tc := ⟨.hbm, 500, rfl⟩
abbrev main_while0b_call20_c_0 : Ref sig .tc := ⟨.hbm, 501, rfl⟩
abbrev main_while0b_call20_c_1 : Ref sig .tc := ⟨.hbm, 502, rfl⟩
abbrev main_while0b_call20_c_2 : Ref sig .tc := ⟨.hbm, 503, rfl⟩
abbrev main_while0b_call20_v0 : Ref sig .tc := ⟨.hbm, 504, rfl⟩
abbrev main_while0b_v174 : Ref sig .tc := ⟨.hbm, 505, rfl⟩
abbrev main_while0b_call21_c : Ref sig .tc := ⟨.hbm, 506, rfl⟩
abbrev main_while0b_call21_c_0 : Ref sig .tc := ⟨.hbm, 507, rfl⟩
abbrev main_while0b_call21_c_1 : Ref sig .tc := ⟨.hbm, 508, rfl⟩
abbrev main_while0b_call21_c_2 : Ref sig .tc := ⟨.hbm, 509, rfl⟩
abbrev main_while0b_call21_v0 : Ref sig .tc := ⟨.hbm, 510, rfl⟩
abbrev main_while0b_v175 : Ref sig .tc := ⟨.hbm, 511, rfl⟩
abbrev main_while0b_call22_c : Ref sig .tc := ⟨.hbm, 512, rfl⟩
abbrev main_while0b_call22_c_0 : Ref sig .tc := ⟨.hbm, 513, rfl⟩
abbrev main_while0b_call22_v0 : Ref sig .tc := ⟨.hbm, 514, rfl⟩
abbrev main_while0b_v176 : Ref sig .tc := ⟨.hbm, 515, rfl⟩
abbrev main_while0b_v177 : Ref sig .tc := ⟨.hbm, 516, rfl⟩
abbrev main_while0b_v178 : Ref sig .tc := ⟨.hbm, 517, rfl⟩
abbrev main_while0b_v179 : Ref sig .tc := ⟨.hbm, 518, rfl⟩
abbrev main_while0b_v180 : Ref sig .tc := ⟨.hbm, 519, rfl⟩
abbrev main_while0b_v181 : Ref sig .tc := ⟨.hbm, 520, rfl⟩
abbrev main_while0b_v182 : Ref sig .tc := ⟨.hbm, 521, rfl⟩
abbrev main_while0b_v183 : Ref sig .tc := ⟨.hbm, 522, rfl⟩
abbrev main_while0b_v184 : Ref sig .tc := ⟨.hbm, 523, rfl⟩
abbrev main_while0b_v185 : Ref sig .tc := ⟨.hbm, 524, rfl⟩
abbrev main_while0b_v186 : Ref sig .tc := ⟨.hbm, 525, rfl⟩
abbrev main_while0b_call23_v0 : Ref sig .tc := ⟨.hbm, 526, rfl⟩
abbrev main_while0b_call23_c : Ref sig .tc := ⟨.hbm, 527, rfl⟩
abbrev main_while0b_call23_c_0 : Ref sig .tc := ⟨.hbm, 528, rfl⟩
abbrev main_while0b_call23_c_1 : Ref sig .tc := ⟨.hbm, 529, rfl⟩
abbrev main_while0b_call23_c_2 : Ref sig .tc := ⟨.hbm, 530, rfl⟩
abbrev main_while0b_v187 : Ref sig .tc := ⟨.hbm, 531, rfl⟩
abbrev main_while0b_c_28 : Ref sig .tc := ⟨.hbm, 532, rfl⟩
abbrev main_while0b_v188 : Ref sig .tc := ⟨.hbm, 533, rfl⟩
abbrev main_v151 : Ref sig .tc := ⟨.hbm, 534, rfl⟩
abbrev main_v152 : Ref sig .tc := ⟨.hbm, 535, rfl⟩
abbrev main_v153 : Ref sig .tc := ⟨.hbm, 536, rfl⟩
abbrev main_cst_17 : Ref sig .tc := ⟨.hbm, 537, rfl⟩
abbrev main_v154 : Ref sig .tc := ⟨.hbm, 538, rfl⟩
abbrev main_v155 : Ref sig .tc := ⟨.hbm, 539, rfl⟩
abbrev main_cst_18 : Ref sig .tc := ⟨.hbm, 540, rfl⟩
abbrev main_v156 : Ref sig .tc := ⟨.hbm, 541, rfl⟩
abbrev main_v157 : Ref sig .tc := ⟨.hbm, 542, rfl⟩
abbrev main_cst_19 : Ref sig .tc := ⟨.hbm, 543, rfl⟩
abbrev main_v158 : Ref sig .tc := ⟨.hbm, 544, rfl⟩
abbrev main_v159 : Ref sig .tc := ⟨.hbm, 545, rfl⟩
abbrev main_v160 : Ref sig .tc := ⟨.hbm, 546, rfl⟩
abbrev main_v161 : Ref sig .tc := ⟨.hbm, 547, rfl⟩
abbrev main_v162 : Ref sig .tc := ⟨.hbm, 548, rfl⟩
abbrev main_v163 : Ref sig .tc := ⟨.hbm, 549, rfl⟩
abbrev main_v164 : Ref sig .tc := ⟨.hbm, 550, rfl⟩
abbrev main_v165 : Ref sig .tc := ⟨.hbm, 551, rfl⟩
abbrev main_v166 : Ref sig .tc := ⟨.hbm, 552, rfl⟩
abbrev main_call24_v0 : Ref sig .tc := ⟨.hbm, 553, rfl⟩
abbrev main_call24_v1 : Ref sig .tc := ⟨.hbm, 554, rfl⟩
abbrev main_call24_cst : Ref sig .tc := ⟨.hbm, 555, rfl⟩
abbrev main_call24_v2 : Ref sig .tc := ⟨.hbm, 556, rfl⟩
abbrev main_call24_v3 : Ref sig .tc := ⟨.hbm, 557, rfl⟩
abbrev main_call24_cst_0 : Ref sig .tc := ⟨.hbm, 558, rfl⟩
abbrev main_call24_v4 : Ref sig .tc := ⟨.hbm, 559, rfl⟩
abbrev main_call24_v5 : Ref sig .tc := ⟨.hbm, 560, rfl⟩
abbrev main_v167 : Ref sig .tc := ⟨.hbm, 561, rfl⟩
abbrev main_v168 : Ref sig .tc := ⟨.hbm, 562, rfl⟩
abbrev main_v169 : Ref sig .tc := ⟨.hbm, 563, rfl⟩
abbrev main_v170 : Ref sig .tc := ⟨.hbm, 564, rfl⟩

abbrev nD : Nat := 1
abbrev τ : Topo := Topo.v7x

variable {F : FTy → Type} [FloatOps F]

abbrev main_while0_count : Scf.Loop 32 := ⟨0#32, 256#32, 1#32⟩
-- ==== Proof.Body.lean ====
/-
  The body of the recurrence kernel, written once for a head `h` and a chunk `n` of its block: the printed body
  unrolls four heads by eight chunks; each unrolled group is one of the formulas below at its `(h, n)`.
-/
module

public import proofs.«01_k».proof.Proof.Gen.KernelIdeal.Frame

@[expose] public section

set_option maxRecDepth 65536

noncomputable section

open Idealize.ShloMosaic Idealize.ShloMosaic.TcCoe Idealize.SL.Sem

namespace Cert.KernelIdeal.Body

open Cert.KernelIdeal Cert.KernelIdeal.Gen

variable {F : FTy → Type} [FloatOps F]

/-- The tile of chunk `n` and head `h` lies in the block. -/
theorem tile_ok : ∀ (h : Fin 4) (n : Fin 8), S256x512.Slices ![32 * n.val, 128 * h.val] S32x128 := by decide

/-- The 32 × 128 tile of chunk `n` and head `h`. -/
def tile (x : FVec F S256x512 .f32) (h : Fin 4) (n : Fin 8) : FVec F S32x128 .f32 :=
  extractStridedSlice S32x128 ![32 * n.val, 128 * h.val] x (tile_ok h n)

section
variable (q f i : Vec F S256x512 .f32) (lb : Vec F S1x512 .f32) (h : Fin 4) (n : Fin 8)

/-- The running sums of the log decays over the rows of a tile. -/
def cumV : FVec F S32x128 .f32 :=
  matmul dot_S32x32_S32x128_S32x128_1_0_0_1_n_n (some .fp32) (k0_pay7 (F := F)) (tile (k0_pay6 lb f) h n)
    (constant S32x128 .f32 0x00000000#32)

/-- Their last row. -/
def lastV : FVec F S1x128 .f32 := extractStridedSlice S1x128 ![31, 0] (cumV f lb h n) slices_S32x128_o31_0_S1x128

/-- The scaled queries times the decay from the start of the chunk. -/
def qeV : FVec F S32x128 .bf16 :=
  truncf .bf16 (mulf (tile (k0_pay3 q) h n) (exp (cumV f lb h n))) bitsLt_bf16_f32

/-- The keys divided by the decay from the start of the chunk. -/
def keV : FVec F S32x128 .bf16 :=
  truncf .bf16 (mulf (tile (k0_pay5 lb f) h n)
    (exp (subf (broadcast S32x128 (Scalar.ofBits .f32 0x00000000#32)) (cumV f lb h n)))) bitsLt_bf16_f32

/-- The keys times the decay up to the end of the chunk. -/
def kdV : FVec F S32x128 .bf16 :=
  truncf .bf16 (mulf (tile (k0_pay5 lb f) h n)
    (exp (subf (broadcastTo S32x128 (lastV f lb h n) broadcasts_S1x128_S32x128) (cumV f lb h n)))) bitsLt_bf16_f32

/-- The values. -/
def vbV : FVec F S32x128 .bf16 := truncf .bf16 (tile i h n) bitsLt_bf16_f32

/-- The scores within the chunk, zero above the diagonal. -/
def attV : FVec F S32x32 .bf16 :=
  truncf .bf16 (select k0_pay8 (matmul dot_S32x128_S32x128_S32x32_1_1_0_0_n_n none (qeV q f lb h n) (keV f lb h n)
    (constant S32x32 .f32 0x00000000#32)) (broadcast S32x32 (Scalar.ofBits .f32 0x00000000#32))) bitsLt_bf16_f32

/-- The scores times the values. -/
def intraV : FVec F S32x128 .f32 :=
  matmul dot_S32x32_S32x128_S32x128_1_0_0_1_n_n none (attV q f lb h n) (vbV i h n) (constant S32x128 .f32 0x00000000#32)

/-- What the chunk adds to the state. -/
def kvV : FVec F S128x128 .f32 :=
  matmul dot_S32x128_S32x128_S128x128_0_0_1_1_n_n none (vbV i h n) (kdV f lb h n) (constant S128x128 .f32 0x00000000#32)

/-- The state after a chunk, of the state before it. -/
def stepV (s : FVec F S128x128 .f32) : FVec F S128x128 .f32 :=
  addf (mulf (broadcastTo S128x128 (exp (lastV f lb h n)) broadcasts_S1x128_S128x128) s) (kvV f i lb h n)

/-- The output of a chunk, of the state before it. -/
def outV (s : FVec F S128x128 .f32) : FVec F S32x128 .f32 :=
  addf (intraV q f i lb h n) (matmul dot_S32x128_S128x128_S32x128_1_1_0_0_n_n none (qeV q f lb h n)
    (truncf .bf16 s bitsLt_bf16_f32) (constant S32x128 .f32 0x00000000#32))

/-- The state before chunk `k` of the block. -/
def stV (s : FVec F S128x128 .f32) : ℕ → FVec F S128x128 .f32
  | 0 => s
  | k + 1 => stepV f i lb h ⟨k % 8, Nat.mod_lt _ (by decide)⟩ (stV s k)

/-- The eight chunks' outputs, one under the other. -/
def catV (s : FVec F S128x128 .f32) : FVec F S256x128 .f32 :=
  concatenate S256x128 0 [⟨S32x128, outV q f i lb h 0 (stV f i lb h s 0)⟩, ⟨S32x128, outV q f i lb h 1 (stV f i lb h s 1)⟩,
    ⟨S32x128, outV q f i lb h 2 (stV f i lb h s 2)⟩, ⟨S32x128, outV q f i lb h 3 (stV f i lb h s 3)⟩,
    ⟨S32x128, outV q f i lb h 4 (stV f i lb h s 4)⟩, ⟨S32x128, outV q f i lb h 5 (stV f i lb h s 5)⟩,
    ⟨S32x128, outV q f i lb h 6 (stV f i lb h s 6)⟩, ⟨S32x128, outV q f i lb h 7 (stV f i lb h s 7)⟩]
    concatenates_S32x128_S32x128_S32x128_S32x128_S32x128_S32x128_S32x128_S32x128_S256x128_d0
end

/-- The outputs normed by their mean square, weighted, and gated. -/
def normV (o : FVec F S256x128 .f32) (gn : Vec F S1x128 .f32) (g : Vec F S256x128 .f32) : FVec F S256x128 .f32 :=
  mulf (mulf (mulf o (broadcastTo S256x128 (rsqrt (addf (divf (shapeCast S256x1
      (multiReduction .add [1] S256 (mulf o o) 0x00000000#32 reduces_S256x128_S256 (.inl rfl) rfl) shapeCasts_S256_S256x1)
      (broadcast S256x1 (Scalar.ofBits .f32 0x43000000#32))) (broadcast S256x1 (Scalar.ofBits .f32 0x358637BD#32))))
      broadcasts_S256x1_S256x128))
    (broadcastTo S256x128 (shapeCast S1x128 gn shapeCasts_S1x128_S1x128) broadcasts_S1x128_S256x128))
    (mulf g (logistic g))

section
variable (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S256x512 .f32) (harg8 : arg8.IsWhole) (arg9 : Memref sig .tc .vmem S4x128x128 .f32) (harg9 : arg9.IsWhole)
  (x0 : Vec F S256x512 .f32) (x1 : Vec F S256x512 .f32) (x2 : Vec F S256x512 .f32) (x3 : Vec F S256x512 .f32) (x4 : Vec F S1x512 .f32) (x5 : Vec F S1x128 .f32) (xs0 : Vec F S4x128x128 .f32)

/-- A staged block as the body reads it whole. -/
abbrev rd (a : Memref sig .tc .vmem S256x512 .f32) (ha : a.IsWhole) (x : Vec F S256x512 .f32) : Vec F S256x512 .f32 :=
  View.readAt (Elt F) a.view (Rect.unit ![0, 0] S256x512.size inb_S256x512_S256x512_0_0).toLoadRect (ha.unread x)

/-- The lower bounds as the body reads them. -/
abbrev rdL (a : Memref sig .tc .vmem S1x512 .f32) (ha : a.IsWhole) (x : Vec F S1x512 .f32) : Vec F S1x512 .f32 :=
  View.readAt (Elt F) a.view (Rect.unit ![0, 0] S1x512.size inb_S1x512_S1x512_0_0).toLoadRect (ha.unread x)

/-- The norm weights as the body reads them. -/
abbrev rdN (a : Memref sig .tc .vmem S1x128 .f32) (ha : a.IsWhole) (x : Vec F S1x128 .f32) : Vec F S1x128 .f32 :=
  View.readAt (Elt F) a.view (Rect.unit ![0, 0] S1x128.size inb_S1x128_S1x128_0_0).toLoadRect (ha.unread x)

/-- Case A: the pieces the body stores into its result block. -/
theorem out_A (hc0 : cond0_0 i) :
    (kernelRun0_A (F := F) c i arg2 harg2 arg3 harg3 arg4 harg4 arg5 harg5 arg6 harg6 arg7 harg7 arg8 harg8 arg9 harg9 hc0 x0 x1 x2 x3 x4 x5).1 =
      [⟨Rect.unit (s := S256x512) ![0, 384] S256x128.size inb_S256x512_S256x128_0_384, normV (catV (rd arg2 harg2 x0) (rd arg3 harg3 x1) (rd arg4 harg4 x2) (rdL arg6 harg6 x4) 3 (shapeCast S128x128 (arg9.view.readCov (Val := Elt F) [⟨Rect.unit ![0, 0, 0] S4x128x128.size inb_S4x128x128_S4x128x128_0_0_0, k0_pay2⟩] (Rect.unit (s := S4x128x128) ![3, 0, 0] S1x128x128.size inb_S4x128x128_S1x128x128_3_0_0).toLoadRect) shapeCasts_S1x128x128_S128x128)) (rdN arg7 harg7 x5) (View.readAt (Elt F) arg5.view (Rect.unit (s := S256x512) ![0, 384] S256x128.size inb_S256x512_S256x128_0_384).toLoadRect (harg5.unread x3))⟩,
        ⟨Rect.unit (s := S256x512) ![0, 256] S256x128.size inb_S256x512_S256x128_0_256, normV (catV (rd arg2 harg2 x0) (rd arg3 harg3 x1) (rd arg4 harg4 x2) (rdL arg6 harg6 x4) 2 (shapeCast S128x128 (arg9.view.readCov (Val := Elt F) [⟨Rect.unit ![0, 0, 0] S4x128x128.size inb_S4x128x128_S4x128x128_0_0_0, k0_pay2⟩] (Rect.unit (s := S4x128x128) ![2, 0, 0] S1x128x128.size inb_S4x128x128_S1x128x128_2_0_0).toLoadRect) shapeCasts_S1x128x128_S128x128)) (rdN arg7 harg7 x5) (View.readAt (Elt F) arg5.view (Rect.unit (s := S256x512) ![0, 256] S256x128.size inb_S256x512_S256x128_0_256).toLoadRect (harg5.unread x3))⟩,
        ⟨Rect.unit (s := S256x512) ![0, 128] S256x128.size inb_S256x512_S256x128_0_128, normV (catV (rd arg2 harg2 x0) (rd arg3 harg3 x1) (rd arg4 harg4 x2) (rdL arg6 harg6 x4) 1 (shapeCast S128x128 (arg9.view.readCov (Val := Elt F) [⟨Rect.unit ![0, 0, 0] S4x128x128.size inb_S4x128x128_S4x128x128_0_0_0, k0_pay2⟩] (Rect.unit (s := S4x128x128) ![1, 0, 0] S1x128x128.size inb_S4x128x128_S1x128x128_1_0_0).toLoadRect) shapeCasts_S1x128x128_S128x128)) (rdN arg7 harg7 x5) (View.readAt (Elt F) arg5.view (Rect.unit (s := S256x512) ![0, 128] S256x128.size inb_S256x512_S256x128_0_128).toLoadRect (harg5.unread x3))⟩,
        ⟨Rect.unit (s := S256x512) ![0, 0] S256x128.size inb_S256x512_S256x128_0_0, normV (catV (rd arg2 harg2 x0) (rd arg3 harg3 x1) (rd arg4 harg4 x2) (rdL arg6 harg6 x4) 0 (shapeCast S128x128 (arg9.view.readCov (Val := Elt F) [⟨Rect.unit ![0, 0, 0] S4x128x128.size inb_S4x128x128_S4x128x128_0_0_0, k0_pay2⟩] (Rect.unit (s := S4x128x128) ![0, 0, 0] S1x128x128.size inb_S4x128x128_S1x128x128_0_0_0).toLoadRect) shapeCasts_S1x128x128_S128x128)) (rdN arg7 harg7 x5) (View.readAt (Elt F) arg5.view (Rect.unit (s := S256x512) ![0, 0] S256x128.size inb_S256x512_S256x128_0_0).toLoadRect (harg5.unread x3))⟩] := rfl

/-- Case A: the pieces the body stores into the carried state. -/
theorem state_A (hc0 : cond0_0 i) :
    (kernelRun0_A (F := F) c i arg2 harg2 arg3 harg3 arg4 harg4 arg5 harg5 arg6 harg6 arg7 harg7 arg8 harg8 arg9 harg9 hc0 x0 x1 x2 x3 x4 x5).2.1 =
      [⟨Rect.unit (s := S4x128x128) ![3, 0, 0] S1x128x128.size inb_S4x128x128_S1x128x128_3_0_0, shapeCast S1x128x128 (stV (rd arg3 harg3 x1) (rd arg4 harg4 x2) (rdL arg6 harg6 x4) 3 (shapeCast S128x128 (arg9.view.readCov (Val := Elt F) [⟨Rect.unit ![0, 0, 0] S4x128x128.size inb_S4x128x128_S4x128x128_0_0_0, k0_pay2⟩] (Rect.unit (s := S4x128x128) ![3, 0, 0] S1x128x128.size inb_S4x128x128_S1x128x128_3_0_0).toLoadRect) shapeCasts_S1x128x128_S128x128) 8) shapeCasts_S128x128_S1x128x128⟩,
        ⟨Rect.unit (s := S4x128x128) ![2, 0, 0] S1x128x128.size inb_S4x128x128_S1x128x128_2_0_0, shapeCast S1x128x128 (stV (rd arg3 harg3 x1) (rd arg4 harg4 x2) (rdL arg6 harg6 x4) 2 (shapeCast S128x128 (arg9.view.readCov (Val := Elt F) [⟨Rect.unit ![0, 0, 0] S4x128x128.size inb_S4x128x128_S4x128x128_0_0_0, k0_pay2⟩] (Rect.unit (s := S4x128x128) ![2, 0, 0] S1x128x128.size inb_S4x128x128_S1x128x128_2_0_0).toLoadRect) shapeCasts_S1x128x128_S128x128) 8) shapeCasts_S128x128_S1x128x128⟩,
        ⟨Rect.unit (s := S4x128x128) ![1, 0, 0] S1x128x128.size inb_S4x128x128_S1x128x128_1_0_0, shapeCast S1x128x128 (stV (rd arg3 harg3 x1) (rd arg4 harg4 x2) (rdL arg6 harg6 x4) 1 (shapeCast S128x128 (arg9.view.readCov (Val := Elt F) [⟨Rect.unit ![0, 0, 0] S4x128x128.size inb_S4x128x128_S4x128x128_0_0_0, k0_pay2⟩] (Rect.unit (s := S4x128x128) ![1, 0, 0] S1x128x128.size inb_S4x128x128_S1x128x128_1_0_0).toLoadRect) shapeCasts_S1x128x128_S128x128) 8) shapeCasts_S128x128_S1x128x128⟩,
        ⟨Rect.unit (s := S4x128x128) ![0, 0, 0] S1x128x128.size inb_S4x128x128_S1x128x128_0_0_0, shapeCast S1x128x128 (stV (rd arg3 harg3 x1) (rd arg4 harg4 x2) (rdL arg6 harg6 x4) 0 (shapeCast S128x128 (arg9.view.readCov (Val := Elt F) [⟨Rect.unit ![0, 0, 0] S4x128x128.size inb_S4x128x128_S4x128x128_0_0_0, k0_pay2⟩] (Rect.unit (s := S4x128x128) ![0, 0, 0] S1x128x128.size inb_S4x128x128_S1x128x128_0_0_0).toLoadRect) shapeCasts_S1x128x128_S128x128) 8) shapeCasts_S128x128_S1x128x128⟩,
        ⟨Rect.unit ![0, 0, 0] S4x128x128.size inb_S4x128x128_S4x128x128_0_0_0, k0_pay2⟩] := rfl

/-- Case B: the pieces the body stores into its result block. -/
theorem out_B (hc0 : ¬ cond0_0 i) :
    (kernelRun0_B (F := F) c i arg2 harg2 arg3 harg3 arg4 harg4 arg5 harg5 arg6 harg6 arg7 harg7 arg8 harg8 arg9 harg9 hc0 x0 x1 x2 x3 x4 x5 xs0).1 =
      [⟨Rect.unit (s := S256x512) ![0, 384] S256x128.size inb_S256x512_S256x128_0_384, normV (catV (rd arg2 harg2 x0) (rd arg3 harg3 x1) (rd arg4 harg4 x2) (rdL arg6 harg6 x4) 3 (shapeCast S128x128 (View.readAt (Elt F) arg9.view (Rect.unit (s := S4x128x128) ![3, 0, 0] S1x128x128.size inb_S4x128x128_S1x128x128_3_0_0).toLoadRect (harg9.unread xs0)) shapeCasts_S1x128x128_S128x128)) (rdN arg7 harg7 x5) (View.readAt (Elt F) arg5.view (Rect.unit (s := S256x512) ![0, 384] S256x128.size inb_S256x512_S256x128_0_384).toLoadRect (harg5.unread x3))⟩,
        ⟨Rect.unit (s := S256x512) ![0, 256] S256x128.size inb_S256x512_S256x128_0_256, normV (catV (rd arg2 harg2 x0) (rd arg3 harg3 x1) (rd arg4 harg4 x2) (rdL arg6 harg6 x4) 2 (shapeCast S128x128 (View.readAt (Elt F) arg9.view (Rect.unit (s := S4x128x128) ![2, 0, 0] S1x128x128.size inb_S4x128x128_S1x128x128_2_0_0).toLoadRect (harg9.unread xs0)) shapeCasts_S1x128x128_S128x128)) (rdN arg7 harg7 x5) (View.readAt (Elt F) arg5.view (Rect.unit (s := S256x512) ![0, 256] S256x128.size inb_S256x512_S256x128_0_256).toLoadRect (harg5.unread x3))⟩,
        ⟨Rect.unit (s := S256x512) ![0, 128] S256x128.size inb_S256x512_S256x128_0_128, normV (catV (rd arg2 harg2 x0) (rd arg3 harg3 x1) (rd arg4 harg4 x2) (rdL arg6 harg6 x4) 1 (shapeCast S128x128 (View.readAt (Elt F) arg9.view (Rect.unit (s := S4x128x128) ![1, 0, 0] S1x128x128.size inb_S4x128x128_S1x128x128_1_0_0).toLoadRect (harg9.unread xs0)) shapeCasts_S1x128x128_S128x128)) (rdN arg7 harg7 x5) (View.readAt (Elt F) arg5.view (Rect.unit (s := S256x512) ![0, 128] S256x128.size inb_S256x512_S256x128_0_128).toLoadRect (harg5.unread x3))⟩,
        ⟨Rect.unit (s := S256x512) ![0, 0] S256x128.size inb_S256x512_S256x128_0_0, normV (catV (rd arg2 harg2 x0) (rd arg3 harg3 x1) (rd arg4 harg4 x2) (rdL arg6 harg6 x4) 0 (shapeCast S128x128 (View.readAt (Elt F) arg9.view (Rect.unit (s := S4x128x128) ![0, 0, 0] S1x128x128.size inb_S4x128x128_S1x128x128_0_0_0).toLoadRect (harg9.unread xs0)) shapeCasts_S1x128x128_S128x128)) (rdN arg7 harg7 x5) (View.readAt (Elt F) arg5.view (Rect.unit (s := S256x512) ![0, 0] S256x128.size inb_S256x512_S256x128_0_0).toLoadRect (harg5.unread x3))⟩] := rfl

/-- Case B: the pieces the body stores into the carried state. -/
theorem state_B (hc0 : ¬ cond0_0 i) :
    (kernelRun0_B (F := F) c i arg2 harg2 arg3 harg3 arg4 harg4 arg5 harg5 arg6 harg6 arg7 harg7 arg8 harg8 arg9 harg9 hc0 x0 x1 x2 x3 x4 x5 xs0).2.1 =
      [⟨Rect.unit (s := S4x128x128) ![3, 0, 0] S1x128x128.size inb_S4x128x128_S1x128x128_3_0_0, shapeCast S1x128x128 (stV (rd arg3 harg3 x1) (rd arg4 harg4 x2) (rdL arg6 harg6 x4) 3 (shapeCast S128x128 (View.readAt (Elt F) arg9.view (Rect.unit (s := S4x128x128) ![3, 0, 0] S1x128x128.size inb_S4x128x128_S1x128x128_3_0_0).toLoadRect (harg9.unread xs0)) shapeCasts_S1x128x128_S128x128) 8) shapeCasts_S128x128_S1x128x128⟩,
        ⟨Rect.unit (s := S4x128x128) ![2, 0, 0] S1x128x128.size inb_S4x128x128_S1x128x128_2_0_0, shapeCast S1x128x128 (stV (rd arg3 harg3 x1) (rd arg4 harg4 x2) (rdL arg6 harg6 x4) 2 (shapeCast S128x128 (View.readAt (Elt F) arg9.view (Rect.unit (s := S4x128x128) ![2, 0, 0] S1x128x128.size inb_S4x128x128_S1x128x128_2_0_0).toLoadRect (harg9.unread xs0)) shapeCasts_S1x128x128_S128x128) 8) shapeCasts_S128x128_S1x128x128⟩,
        ⟨Rect.unit (s := S4x128x128) ![1, 0, 0] S1x128x128.size inb_S4x128x128_S1x128x128_1_0_0, shapeCast S1x128x128 (stV (rd arg3 harg3 x1) (rd arg4 harg4 x2) (rdL arg6 harg6 x4) 1 (shapeCast S128x128 (View.readAt (Elt F) arg9.view (Rect.unit (s := S4x128x128) ![1, 0, 0] S1x128x128.size inb_S4x128x128_S1x128x128_1_0_0).toLoadRect (harg9.unread xs0)) shapeCasts_S1x128x128_S128x128) 8) shapeCasts_S128x128_S1x128x128⟩,
        ⟨Rect.unit (s := S4x128x128) ![0, 0, 0] S1x128x128.size inb_S4x128x128_S1x128x128_0_0_0, shapeCast S1x128x128 (stV (rd arg3 harg3 x1) (rd arg4 harg4 x2) (rdL arg6 harg6 x4) 0 (shapeCast S128x128 (View.readAt (Elt F) arg9.view (Rect.unit (s := S4x128x128) ![0, 0, 0] S1x128x128.size inb_S4x128x128_S1x128x128_0_0_0).toLoadRect (harg9.unread xs0)) shapeCasts_S1x128x128_S128x128) 8) shapeCasts_S128x128_S1x128x128⟩] := rfl
end

end Cert.KernelIdeal.Body
-- ==== Proof.Spec.lean ====
/-
  One chunk of the gated linear recurrence, in extended reals: a tile of 32 rows and 128 lanes holds the scaled
  queries `Q`, the keys `K`, the values `V` and the log decays `L` of one head.
-/
module

public import Idealize.ShloMosaic.Lib.Pointwise

@[expose] public section

noncomputable section

open Idealize.ShloMosaic

namespace Cert.Chunk

/-- A tile of a chunk: row, lane. -/
abbrev Tile := Fin 32 → Fin 128 → EReal

/-- A state: key lane, value lane. -/
abbrev State := Fin 128 → Fin 128 → EReal

variable (Q K V L : Tile) (S : State)

/-- The log decay from the start of the chunk through row `t`. -/
def cum (t : Fin 32) (d : Fin 128) : EReal := ∑ s : Fin 32, if s.val ≤ t.val then L s d else 0

/-- The queries times the decay from the start of the chunk. -/
def qe (t : Fin 32) (d : Fin 128) : EReal := Q t d * Ideal.exp (cum L t d)

/-- The keys divided by the decay from the start of the chunk. -/
def ke (t : Fin 32) (d : Fin 128) : EReal := K t d * Ideal.exp (-(cum L t d))

/-- The keys times the decay from row `t` to the end of the chunk. -/
def kd (t : Fin 32) (d : Fin 128) : EReal := K t d * Ideal.exp (cum L 31 d - cum L t d)

/-- The scores of a chunk, zero above the diagonal. -/
def att (t s : Fin 32) : EReal := if s.val ≤ t.val then ∑ d, qe Q L t d * ke K L s d else 0

/-- The output of row `t`: from the rows of its chunk, and from the state before the chunk. -/
def out (t : Fin 32) (e : Fin 128) : EReal := (∑ s, att Q K L t s * V s e) + ∑ d, qe Q L t d * S d e

/-- The state after the chunk. -/
def next (d e : Fin 128) : EReal := Ideal.exp (cum L 31 d) * S d e + ∑ t, kd K L t d * V t e

/-- The state before chunk `k`, from the state `S` before chunk 0. -/
def run (K V L : ℕ → Tile) (S : State) : ℕ → State
  | 0 => S
  | k + 1 => next (K k) (V k) (L k) (run K V L S k)

/-- The output of a row normed by its mean square, weighted and gated. -/
def normed (o : Fin 128 → EReal) (w g : EReal) (e : Fin 128) : EReal :=
  o e * Ideal.rsqrt (Ideal.div (∑ d, o d * o d) (Ideal.ofBits .f32 0x43000000#32) + Ideal.ofBits .f32 0x358637BD#32) * w
    * (g * Ideal.logistic g)

end Cert.Chunk

end
-- ==== Proof.BodyAt.lean ====
/-
  The formulas of the kernel's body read at an index, over extended reals: each tile operation is the corresponding
  operation of `Cert.Chunk` on the tile's entries.
-/
module

public import proofs.«01_k».proof.Proof.Body
public import proofs.«01_k».proof.Proof.Spec

@[expose] public section

set_option maxRecDepth 16384

noncomputable section

open Idealize.ShloMosaic Idealize.ShloMosaic.TcCoe Idealize.SL.Sem

namespace Cert.KernelIdeal.Body

open Cert.KernelIdeal Cert.KernelIdeal.Gen Cert.Chunk

variable (q f i : FVec Ideal S256x512 .f32) (lb : FVec Ideal S1x512 .f32) (h : Fin 4) (n : Fin 8)

/-- Row `t` of chunk `n` of a block. -/
def row (n : Fin 8) (t : Fin 32) : Fin 256 := ⟨32 * n.val + t.val, by omega⟩

/-- Lane `d` of head `h` of a block. -/
def lane (h : Fin 4) (d : Fin 128) : Fin 512 := ⟨128 * h.val + d.val, by omega⟩

/-- The forget gate of a block. -/
def gateK (r : Fin 256) (l : Fin 512) : EReal := lb (ix2 0 l) + (1 - lb (ix2 0 l)) * Ideal.logistic (f (ix2 r l))

/-- A tile's scaled queries. -/
def tQ : Tile := fun t d => q (ix2 (row n t) (lane h d)) * Ideal.logistic (q (ix2 (row n t) (lane h d))) * Ideal.ofBits .f32 0x3DB504F3#32
/-- A tile's keys. -/
def tK : Tile := fun t d => 1 - gateK f lb (row n t) (lane h d)
/-- A tile's log decays. -/
def tL : Tile := fun t d => Ideal.log (gateK f lb (row n t) (lane h d))
/-- A tile's values. -/
def tV : Tile := fun t d => i (ix2 (row n t) (lane h d))

/-- A tile of a block at an index: the block's entry at the tile's row and column offsets. -/
theorem tile_at (x : FVec Ideal S256x512 .f32) (t : Fin 32) (d : Fin 128) :
    tile x h n (ix2 t d) = x (ix2 (row n t) (lane h d)) := by
  unfold tile extractStridedSlice
  exact congrArg x (by funext a; match a with | ⟨0, _⟩ => rfl | ⟨1, _⟩ => rfl)

/-- The queries at an index: the gated raw entry, scaled. -/
theorem q_at (r : Fin 256) (l : Fin 512) : k0_pay3 (F := Ideal) q (ix2 r l) = q (ix2 r l) * Ideal.logistic (q (ix2 r l)) * Ideal.ofBits .f32 0x3DB504F3#32 := by
  pointwise [k0_pay3]
/-- The forget gate at an index. -/
theorem f_at (r : Fin 256) (l : Fin 512) : k0_pay4 (F := Ideal) lb f (ix2 r l) = gateK f lb r l := by
  pointwise [k0_pay4, gateK]
/-- The keys at an index: one minus the forget gate. -/
theorem k_at (r : Fin 256) (l : Fin 512) : k0_pay5 (F := Ideal) lb f (ix2 r l) = 1 - gateK f lb r l := by
  pointwise [k0_pay5, f_at]
/-- The logarithm of the forget gate at an index. -/
theorem l_at (r : Fin 256) (l : Fin 512) : k0_pay6 (F := Ideal) lb f (ix2 r l) = Ideal.log (gateK f lb r l) := by
  pointwise [k0_pay6, f_at]

/-- The causal mask as a truth value: set on and below the diagonal. -/
theorem mask_at (t s : Fin 32) : k0_pay8 (ix2 t s) = if s.val ≤ t.val then 1#1 else 0#1 := by
  revert t s; decide +kernel
/-- The integer one as a number. -/
theorem sitofp_one : (FloatOps.sitofp (F := Ideal) FTy.f32 (1#32) : EReal) = 1 := by
  show (((1#32 : BitVec 32).toInt : ℝ) : EReal) = 1
  rw [show (1#32 : BitVec 32).toInt = 1 from by decide]; norm_num
/-- The integer zero as a number. -/
theorem sitofp_zero : (FloatOps.sitofp (F := Ideal) FTy.f32 (0#32) : EReal) = 0 := by
  show (((0#32 : BitVec 32).toInt : ℝ) : EReal) = 0
  rw [show (0#32 : BitVec 32).toInt = 0 from by decide]; norm_num
/-- The lower triangle of ones at an index. -/
theorem tri_at (t s : Fin 32) : k0_pay7 (F := Ideal) (ix2 t s) = if s.val ≤ t.val then 1 else 0 := by
  have hw : ∀ t s : Fin 32, BitVec.setWidth 32 (IntOp.cmpi CmpIPredicate.sge (BitVec.ofNat 32 t.val) (BitVec.ofNat 32 s.val))
      = if s.val ≤ t.val then 1#32 else 0#32 := by decide +kernel
  pointwise [k0_pay7]
  rw [hw]
  by_cases hc : s.val ≤ t.val
  · rw [if_pos hc, if_pos hc]
    exact sitofp_one
  · rw [if_neg hc, if_neg hc]
    exact sitofp_zero

/-- The running sum of a chunk's log gates at an index. -/
theorem cum_at (t : Fin 32) (d : Fin 128) : cumV (F := Ideal) f lb h n (ix2 t d) = cum (tL f lb h n) t d := by
  pointwise [cumV, tri_at, tile_at, l_at]
  unfold cum tL
  refine Finset.sum_congr rfl fun s _ => ?_
  split
  · exact one_mul _
  · exact zero_mul _
/-- The chunk's whole sum of log gates at an index. -/
theorem last_at (d : Fin 128) : lastV (F := Ideal) f lb h n (ix2 0 d) = cum (tL f lb h n) 31 d := by
  pointwise [lastV]
  exact cum_at f lb h n 31 d
/-- The decayed queries of a chunk at an index. -/
theorem qe_at (t : Fin 32) (d : Fin 128) : qeV (F := Ideal) q f lb h n (ix2 t d) = qe (tQ q h n) (tL f lb h n) t d := by
  pointwise [qeV, tile_at, q_at, cum_at]
  rfl
/-- The keys of a chunk, relative to the chunk's start, at an index. -/
theorem ke_at (t : Fin 32) (d : Fin 128) : keV (F := Ideal) f lb h n (ix2 t d) = ke (tK f lb h n) (tL f lb h n) t d := by
  pointwise [keV, tile_at, k_at, cum_at]
  rw [zero_sub]
  rfl
/-- The keys of a chunk, decayed to its end, at an index. -/
theorem kd_at (t : Fin 32) (d : Fin 128) : kdV (F := Ideal) f lb h n (ix2 t d) = kd (tK f lb h n) (tL f lb h n) t d := by
  pointwise [kdV, tile_at, k_at, cum_at, last_at]
  rfl
/-- The values of a chunk at an index. -/
theorem v_at (t : Fin 32) (d : Fin 128) : vbV (F := Ideal) i h n (ix2 t d) = tV i h n t d := by
  pointwise [vbV, tile_at]
  rfl
/-- The masked products of queries and keys of a chunk at an index. -/
theorem att_at (t s : Fin 32) : attV (F := Ideal) q f lb h n (ix2 t s) = att (tQ q h n) (tK f lb h n) (tL f lb h n) t s := by
  pointwise [attV, mask_at, qe_at, ke_at]
  unfold att
  by_cases hc : s.val ≤ t.val
  · rw [if_pos hc, if_pos hc]; rfl
  · rw [if_neg hc, if_neg hc]; rfl
/-- The output of a chunk from the state it starts with, at an index. -/
theorem out_at (s : FVec Ideal S128x128 .f32) (t : Fin 32) (e : Fin 128) : outV (F := Ideal) q f i lb h n s (ix2 t e)
    = out (tQ q h n) (tK f lb h n) (tV i h n) (tL f lb h n) (fun d e => s (ix2 e d)) t e := by
  pointwise [outV, intraV, att_at, v_at, qe_at]
  rfl
/-- The state after a chunk at an index. -/
theorem step_at (s : FVec Ideal S128x128 .f32) (e d : Fin 128) : stepV (F := Ideal) f i lb h n s (ix2 e d)
    = next (tK f lb h n) (tV i h n) (tL f lb h n) (fun d e => s (ix2 e d)) d e := by
  pointwise [stepV, kvV, last_at, v_at, kd_at]
  unfold next
  refine congrArg _ (Finset.sum_congr rfl fun t _ => mul_comm _ _)

/-- Chunk `k` of a block. -/
abbrev ch (k : ℕ) : Fin 8 := ⟨k % 8, Nat.mod_lt _ (by decide)⟩

/-- The state after several chunks at an index, by induction on their number. -/
theorem st_at (s : FVec Ideal S128x128 .f32) (d e : Fin 128) : ∀ k : ℕ, stV (F := Ideal) f i lb h s k (ix2 e d)
    = run (fun k => tK f lb h (ch k)) (fun k => tV i h (ch k)) (fun k => tL f lb h (ch k)) (fun d e => s (ix2 e d)) k d e := by
  intro k
  induction k generalizing d e with
  | zero => rfl
  | succ k ih =>
    show stepV (F := Ideal) f i lb h (ch k) (stV f i lb h s k) (ix2 e d) = next _ _ _ _ d e
    rw [step_at]
    exact congrArg (fun S => next _ _ _ S d e) (funext fun d => funext fun e => ih d e)

/-- Eight chunks one below the other, read at a row. -/
theorem ladder (A : Fin 8 → Fin 32 → EReal) (r : ℕ) (n : Fin 8) (t : Fin 32) (hr : r = 32 * n.val + t.val) :
    (if h0 : r < 32 then A 0 ⟨r, h0⟩ else if h1 : r - 32 < 32 then A 1 ⟨r - 32, h1⟩ else if h2 : r - 32 - 32 < 32 then A 2 ⟨r - 32 - 32, h2⟩ else if h3 : r - 32 - 32 - 32 < 32 then A 3 ⟨r - 32 - 32 - 32, h3⟩ else if h4 : r - 32 - 32 - 32 - 32 < 32 then A 4 ⟨r - 32 - 32 - 32 - 32, h4⟩ else if h5 : r - 32 - 32 - 32 - 32 - 32 < 32 then A 5 ⟨r - 32 - 32 - 32 - 32 - 32, h5⟩ else if h6 : r - 32 - 32 - 32 - 32 - 32 - 32 < 32 then A 6 ⟨r - 32 - 32 - 32 - 32 - 32 - 32, h6⟩ else A 7 ⟨r - 32 - 32 - 32 - 32 - 32 - 32 - 32, by omega⟩) = A n t := by
  have key : ∀ (a : Fin 8) (x : Fin 32), a.val = n.val → x.val = t.val → A a x = A n t := fun a x ha hx => by
    rw [Fin.ext ha, Fin.ext hx]
  have := n.isLt
  have := t.isLt
  split_ifs <;> refine key _ _ ?_ ?_ <;> first | omega | (simp; omega)

/-- The outputs of the eight chunks, one below the other, at an index. -/
theorem cat_at (s : FVec Ideal S128x128 .f32) (t : Fin 32) (e : Fin 128) : catV (F := Ideal) q f i lb h s (ix2 (row n t) e)
    = outV (F := Ideal) q f i lb h n (stV f i lb h s n.val) (ix2 t e) := by
  pointwise [catV]
  exact ladder (fun n x => outV (F := Ideal) q f i lb h n (stV f i lb h s n.val) (ix2 x e)) _ n t rfl

/-- The normed and gated output at an index. -/
theorem norm_at (o : FVec Ideal S256x128 .f32) (gn : FVec Ideal S1x128 .f32) (g : FVec Ideal S256x128 .f32) (r : Fin 256) (e : Fin 128) :
    normV (F := Ideal) o gn g (ix2 r e) = normed (fun e => o (ix2 r e)) (gn (ix2 0 e)) (g (ix2 r e)) e := by
  pointwise [normV]
  rfl

end Cert.KernelIdeal.Body
-- ==== Proof.BlockAt.lean ====
/-
  What the body leaves at one grid point, read at an index: the result block and the carried state, in the case that
  starts a sequence (zero state) and in the case that continues one (the state the point before left).
-/
module

public import proofs.«01_k».proof.Proof.BodyAt
public import Idealize.ShloMosaic.Lib.Pipeline.ValueKit

@[expose] public section

set_option maxRecDepth 16384

noncomputable section

open Idealize.ShloMosaic Idealize.ShloMosaic.TcCoe Idealize.SL.Sem

namespace Cert.KernelIdeal.Body

open Cert.KernelIdeal Cert.KernelIdeal.Gen Cert.Chunk

section
variable (x0 x1 x2 x3 : FVec Ideal S256x512 .f32) (x4 : FVec Ideal S1x512 .f32) (x5 : FVec Ideal S1x128 .f32)

/-- The state before chunk `k` of a block, of the state `S` before the block. -/
def stateAt (S : Fin 4 → State) (h : Fin 4) (k : ℕ) : State :=
  run (fun k => tK x1 x4 h (ch k)) (fun k => tV x2 h (ch k)) (fun k => tL x1 x4 h (ch k)) (S h) k

/-- The result block at a row and lane, of the state `S` before the block. -/
def resAt (S : Fin 4 → State) (h : Fin 4) (n : Fin 8) (t : Fin 32) (e : Fin 128) : EReal :=
  normed (fun e => out (tQ x0 h n) (tK x1 x4 h n) (tV x2 h n) (tL x1 x4 h n) (stateAt x1 x2 x4 S h n.val) t e)
    (x5 (ix2 0 e)) (x3 (ix2 (row n t) (lane h e))) e
end

section
variable (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S256x512 .f32) (harg8 : arg8.IsWhole) (arg9 : Memref sig .tc .vmem S4x128x128 .f32) (harg9 : arg9.IsWhole)
  (x0 : FVec Ideal S256x512 .f32) (x1 : FVec Ideal S256x512 .f32) (x2 : FVec Ideal S256x512 .f32) (x3 : FVec Ideal S256x512 .f32) (x4 : FVec Ideal S1x512 .f32) (x5 : FVec Ideal S1x128 .f32) (xs0 : FVec Ideal S4x128x128 .f32)

/-- A block read whole is the block. -/
theorem rd_eq (a : Memref sig .tc .vmem S256x512 .f32) (ha : a.IsWhole) (x : FVec Ideal S256x512 .f32) : rd (F := Ideal) a ha x = x := by
  unfold rd
  rw [View.readAt_eq_ld, ha.read_unread]
  exact View.ld_unit_zero (Val := Elt Ideal) (e := .f32) (S := S256x512) (off := ![0, 0]) (by funext b; match b with | ⟨0, _⟩ => rfl | ⟨1, _⟩ => rfl) _ x

/-- The lower-bound row read whole is the row. -/
theorem rdL_eq (a : Memref sig .tc .vmem S1x512 .f32) (ha : a.IsWhole) (x : FVec Ideal S1x512 .f32) : rdL (F := Ideal) a ha x = x := by
  unfold rdL
  rw [View.readAt_eq_ld, ha.read_unread]
  exact View.ld_unit_zero (Val := Elt Ideal) (e := .f32) (S := S1x512) (off := ![0, 0]) (by funext b; match b with | ⟨0, _⟩ => rfl | ⟨1, _⟩ => rfl) _ x

/-- The norm's weights read whole are the weights. -/
theorem rdN_eq (a : Memref sig .tc .vmem S1x128 .f32) (ha : a.IsWhole) (x : FVec Ideal S1x128 .f32) : rdN (F := Ideal) a ha x = x := by
  unfold rdN
  rw [View.readAt_eq_ld, ha.read_unread]
  exact View.ld_unit_zero (Val := Elt Ideal) (e := .f32) (S := S1x128) (off := ![0, 0]) (by funext b; match b with | ⟨0, _⟩ => rfl | ⟨1, _⟩ => rfl) _ x

/-- A 128-lane column piece of the gate block, read at an index. -/
theorem gate_at (a : Memref sig .tc .vmem S256x512 .f32) (ha : a.IsWhole) (x : FVec Ideal S256x512 .f32) (h : Fin 4) (o : ℕ)
    (ho : o = 128 * h.val) (hin) (r : Fin 256) (e : Fin 128) :
    View.readAt (Elt Ideal) a.view (Rect.unit (s := S256x512) ![0, o] S256x128.size hin).toLoadRect (ha.unread x) (ix2 r e) = x (ix2 r (lane h e)) := by
  rw [View.readAt_eq_ld, ha.read_unread]
  exact congrArg x (by
    funext b
    match b with
    | ⟨0, _⟩ => exact Fin.ext (show 0 + 1 * r.val = r.val by omega)
    | ⟨1, _⟩ => exact Fin.ext (show o + 1 * e.val = 128 * h.val + e.val by omega))

/-- The one layer of a rank-3 block, read at an index. -/
theorem cast_at (v : FVec Ideal S1x128x128 .f32) (e d : Fin 128) :
    shapeCast S128x128 v shapeCasts_S1x128x128_S128x128 (ix2 e d) = v (ix3 0 e d) := by
  pointwise []

/-- One head's layer of the carried state, read at an index. -/
theorem layer_at (a : Memref sig .tc .vmem S4x128x128 .f32) (ha : a.IsWhole) (x : FVec Ideal S4x128x128 .f32) (h : Fin 4) (o : ℕ)
    (ho : o = h.val) (hin) (e d : Fin 128) :
    shapeCast S128x128 (View.readAt (Elt Ideal) a.view (Rect.unit (s := S4x128x128) ![o, 0, 0] S1x128x128.size hin).toLoadRect (ha.unread x)) shapeCasts_S1x128x128_S128x128 (ix2 e d) = x (ix3 h e d) := by
  rw [View.readAt_eq_ld, ha.read_unread, cast_at]
  exact congrArg x (by
    funext b
    match b with
    | ⟨0, _⟩ => exact Fin.ext (show o + 1 * 0 = h.val by omega)
    | ⟨1, _⟩ => exact Fin.ext (show 0 + 1 * e.val = e.val by omega)
    | ⟨2, _⟩ => exact Fin.ext (show 0 + 1 * d.val = d.val by omega))

/-- The column piece a result lane lies in, found last. -/
theorem col_hit (h : Fin 4) (o : ℕ) (ho : o = 128 * h.val) (hin) (v : FVec Ideal S256x128 .f32) (L : List (View.Piece (Elt Ideal) S256x512 .f32))
    (r : Fin 256) (e : Fin 128) :
    View.canon (⟨Rect.unit (s := S256x512) ![0, o] S256x128.size hin, v⟩ :: L) (ix2 r (lane h e)) = v (ix2 r e) := by
  refine Eq.trans (congrArg _ ?_) (View.canon_cons_emb (Rect.unit (s := S256x512) ![0, o] S256x128.size hin) v L (ix2 r e))
  funext b
  match b with
  | ⟨0, _⟩ => exact Fin.ext (show r.val = 0 + 1 * r.val by omega)
  | ⟨1, _⟩ => exact Fin.ext (show 128 * h.val + e.val = o + 1 * e.val by omega)

/-- A column piece of another head leaves a result lane alone. -/
theorem col_miss (h h' : Fin 4) (hne : h ≠ h') (o : ℕ) (ho : o = 128 * h'.val) (hin) (v : FVec Ideal S256x128 .f32) (L : List (View.Piece (Elt Ideal) S256x512 .f32))
    (r : Fin 256) (e : Fin 128) :
    View.canon (⟨Rect.unit (s := S256x512) ![0, o] S256x128.size hin, v⟩ :: L) (ix2 r (lane h e)) = View.canon L (ix2 r (lane h e)) := by
  refine View.canon_cons_of_not_mem _ L ?_
  intro hx
  have h1 := (Rect.mem_set_unit (inb := hin)).1 hx (1 : Fin 2)
  have hne' : h.val ≠ h'.val := fun hh => hne (Fin.ext hh)
  have h2 : o ≤ 128 * h.val + e.val ∧ 128 * h.val + e.val < o + 128 := h1
  omega

/-- The layer piece of a head's state, found last. -/
theorem lay_hit (h : Fin 4) (o : ℕ) (ho : o = h.val) (hin) (v : FVec Ideal S128x128 .f32) (L : List (View.Piece (Elt Ideal) S4x128x128 .f32))
    (e d : Fin 128) :
    View.canon (⟨Rect.unit (s := S4x128x128) ![o, 0, 0] S1x128x128.size hin, shapeCast S1x128x128 v shapeCasts_S128x128_S1x128x128⟩ :: L) (ix3 h e d) = v (ix2 e d) := by
  refine Eq.trans (congrArg _ ?_) (Eq.trans (View.canon_cons_emb (Rect.unit (s := S4x128x128) ![o, 0, 0] S1x128x128.size hin) (shapeCast S1x128x128 v shapeCasts_S128x128_S1x128x128) L (ix3 0 e d)) ?_)
  · funext b
    match b with
    | ⟨0, _⟩ => exact Fin.ext (show h.val = o + 1 * 0 by omega)
    | ⟨1, _⟩ => exact Fin.ext (show e.val = 0 + 1 * e.val by omega)
    | ⟨2, _⟩ => exact Fin.ext (show d.val = 0 + 1 * d.val by omega)
  · pointwise []

/-- A layer piece of another head leaves a head's state alone. -/
theorem lay_miss (h h' : Fin 4) (hne : h ≠ h') (o : ℕ) (ho : o = h'.val) (hin) (v : FVec Ideal S1x128x128 .f32) (L : List (View.Piece (Elt Ideal) S4x128x128 .f32))
    (e d : Fin 128) :
    View.canon (⟨Rect.unit (s := S4x128x128) ![o, 0, 0] S1x128x128.size hin, v⟩ :: L) (ix3 h e d) = View.canon L (ix3 h e d) := by
  refine View.canon_cons_of_not_mem _ L ?_
  intro hx
  have h1 := (Rect.mem_set_unit (inb := hin)).1 hx (0 : Fin 3)
  have hne' : h.val ≠ h'.val := fun hh => hne (Fin.ext hh)
  have h2 : o ≤ h.val ∧ h.val < o + 1 := h1
  omega

/-- The state a sequence starts from is zero. -/
theorem pay2_at (y : S4x128x128.Idx) : k0_pay2 (F := Ideal) y = 0 := by
  obtain ⟨y0, y1, y2, rfl⟩ : ∃ (y0 : Fin 4) (y1 y2 : Fin 128), y = ix3 y0 y1 y2 := ⟨y 0, y 1, y 2, by funext b; match b with | ⟨0, _⟩ => rfl | ⟨1, _⟩ => rfl | ⟨2, _⟩ => rfl⟩
  pointwise [k0_pay2]

/-- One head's layer of the state a sequence starts from is zero. -/
theorem zero_at (a : Memref sig .tc .vmem S4x128x128 .f32) (o : ℕ) (hin) (hin') (e d : Fin 128) :
    shapeCast S128x128 (a.view.readCov (Val := Elt Ideal) [⟨Rect.unit (s := S4x128x128) ![0, 0, 0] S4x128x128.size hin', k0_pay2 (F := Ideal)⟩] (Rect.unit (s := S4x128x128) ![o, 0, 0] S1x128x128.size hin).toLoadRect) shapeCasts_S1x128x128_S128x128 (ix2 e d) = 0 := by
  rw [cast_at, View.readCov_eq_canon', View.canon_unit_zero (by funext b; match b with | ⟨0, _⟩ => rfl | ⟨1, _⟩ => rfl | ⟨2, _⟩ => rfl)]
  exact pay2_at _

/-- One head's piece of the result, read at an index. -/
theorem piece_at (h : Fin 4) (sv : FVec Ideal S128x128 .f32) (S : Fin 4 → State) (g : FVec Ideal S256x128 .f32)
    (hs : ∀ e d, sv (ix2 e d) = S h d e) (hg : ∀ r e, g (ix2 r e) = x3 (ix2 r (lane h e))) (n : Fin 8) (t : Fin 32) (e : Fin 128) :
    normV (F := Ideal) (catV (F := Ideal) x0 x1 x2 x4 h sv) x5 g (ix2 (row n t) e) = resAt x0 x1 x2 x3 x4 x5 S h n t e := by
  have hS : (fun d e => sv (ix2 e d)) = S h := by funext d e; exact hs e d
  rw [norm_at, hg]
  unfold resAt stateAt
  refine congrArg (fun o => normed o _ _ _) ?_
  funext e'
  rw [cat_at, out_at]
  refine congrArg (fun s => out _ _ _ _ s t e') ?_
  funext d e''
  rw [st_at, hS]

/-- One head's layer of the state a block leaves, read at an index. -/
theorem left_at (h : Fin 4) (sv : FVec Ideal S128x128 .f32) (S : Fin 4 → State)
    (hs : ∀ e d, sv (ix2 e d) = S h d e) (e d : Fin 128) :
    stV (F := Ideal) x1 x2 x4 h sv 8 (ix2 e d) = stateAt x1 x2 x4 S h 8 d e := by
  have hS : (fun d e => sv (ix2 e d)) = S h := by funext d e; exact hs e d
  rw [st_at, hS]
  rfl

/-- The result block of a point that starts a sequence, read at an index. -/
theorem out_A_at (hc0 : cond0_0 i) (h : Fin 4) (n : Fin 8) (t : Fin 32) (e : Fin 128) :
    out0_A_6 (F := Ideal) c i arg2 harg2 arg3 harg3 arg4 harg4 arg5 harg5 arg6 harg6 arg7 harg7 arg8 harg8 arg9 harg9 hc0 x0 x1 x2 x3 x4 x5 (ix2 (row n t) (lane h e))
      = resAt x0 x1 x2 x3 x4 x5 (fun _ _ _ => 0) h n t e := by
  unfold out0_A_6
  rw [View.read_writes_eq_canon _ _ _ (cover0_A_6 (F := Ideal) c i arg2 harg2 arg3 harg3 arg4 harg4 arg5 harg5 arg6 harg6 arg7 harg7 arg8 harg8 arg9 harg9 hc0 x0 x1 x2 x3 x4 x5)]
  rw [out_A, rd_eq, rd_eq, rd_eq, rdL_eq, rdN_eq]
  obtain ⟨k, hk⟩ := h
  interval_cases k
  · refine (col_miss 0 3 (by decide) 384 rfl _ _ _ _ _).trans ?_
    refine (col_miss 0 2 (by decide) 256 rfl _ _ _ _ _).trans ?_
    refine (col_miss 0 1 (by decide) 128 rfl _ _ _ _ _).trans ?_
    refine (col_hit 0 0 rfl _ _ _ _ _).trans ?_
    exact piece_at x0 x1 x2 x3 x4 x5 0 _ _ _ (fun e d => zero_at arg9 0 _ _ e d) (fun r e => gate_at arg5 harg5 x3 0 0 rfl _ r e) n t e
  · refine (col_miss 1 3 (by decide) 384 rfl _ _ _ _ _).trans ?_
    refine (col_miss 1 2 (by decide) 256 rfl _ _ _ _ _).trans ?_
    refine (col_hit 1 128 rfl _ _ _ _ _).trans ?_
    exact piece_at x0 x1 x2 x3 x4 x5 1 _ _ _ (fun e d => zero_at arg9 1 _ _ e d) (fun r e => gate_at arg5 harg5 x3 1 128 rfl _ r e) n t e
  · refine (col_miss 2 3 (by decide) 384 rfl _ _ _ _ _).trans ?_
    refine (col_hit 2 256 rfl _ _ _ _ _).trans ?_
    exact piece_at x0 x1 x2 x3 x4 x5 2 _ _ _ (fun e d => zero_at arg9 2 _ _ e d) (fun r e => gate_at arg5 harg5 x3 2 256 rfl _ r e) n t e
  · refine (col_hit 3 384 rfl _ _ _ _ _).trans ?_
    exact piece_at x0 x1 x2 x3 x4 x5 3 _ _ _ (fun e d => zero_at arg9 3 _ _ e d) (fun r e => gate_at arg5 harg5 x3 3 384 rfl _ r e) n t e

/-- The state a point that starts a sequence leaves, read at an index. -/
theorem sout_A_at (hc0 : cond0_0 i) (h : Fin 4) (e d : Fin 128) :
    sout0_A_0 (F := Ideal) c i arg2 harg2 arg3 harg3 arg4 harg4 arg5 harg5 arg6 harg6 arg7 harg7 arg8 harg8 arg9 harg9 hc0 x0 x1 x2 x3 x4 x5 (ix3 h e d)
      = stateAt x1 x2 x4 (fun _ _ _ => 0) h 8 d e := by
  unfold sout0_A_0
  rw [View.read_writes_eq_canon _ _ _ (scover0_A_0 (F := Ideal) c i arg2 harg2 arg3 harg3 arg4 harg4 arg5 harg5 arg6 harg6 arg7 harg7 arg8 harg8 arg9 harg9 hc0 x0 x1 x2 x3 x4 x5)]
  rw [state_A, rd_eq, rd_eq, rdL_eq]
  obtain ⟨k, hk⟩ := h
  interval_cases k
  · refine (lay_miss 0 3 (by decide) 3 rfl _ _ _ _ _).trans ?_
    refine (lay_miss 0 2 (by decide) 2 rfl _ _ _ _ _).trans ?_
    refine (lay_miss 0 1 (by decide) 1 rfl _ _ _ _ _).trans ?_
    refine (lay_hit 0 0 rfl _ _ _ _ _).trans ?_
    exact left_at x1 x2 x4 0 _ _ (fun e d => zero_at arg9 0 _ _ e d) e d
  · refine (lay_miss 1 3 (by decide) 3 rfl _ _ _ _ _).trans ?_
    refine (lay_miss 1 2 (by decide) 2 rfl _ _ _ _ _).trans ?_
    refine (lay_hit 1 1 rfl _ _ _ _ _).trans ?_
    exact left_at x1 x2 x4 1 _ _ (fun e d => zero_at arg9 1 _ _ e d) e d
  · refine (lay_miss 2 3 (by decide) 3 rfl _ _ _ _ _).trans ?_
    refine (lay_hit 2 2 rfl _ _ _ _ _).trans ?_
    exact left_at x1 x2 x4 2 _ _ (fun e d => zero_at arg9 2 _ _ e d) e d
  · refine (lay_hit 3 3 rfl _ _ _ _ _).trans ?_
    exact left_at x1 x2 x4 3 _ _ (fun e d => zero_at arg9 3 _ _ e d) e d

/-- The result block of a point that continues a sequence, read at an index. -/
theorem out_B_at (hc0 : ¬ cond0_0 i) (h : Fin 4) (n : Fin 8) (t : Fin 32) (e : Fin 128) :
    out0_B_6 (F := Ideal) c i arg2 harg2 arg3 harg3 arg4 harg4 arg5 harg5 arg6 harg6 arg7 harg7 arg8 harg8 arg9 harg9 hc0 x0 x1 x2 x3 x4 x5 xs0 (ix2 (row n t) (lane h e))
      = resAt x0 x1 x2 x3 x4 x5 (fun h d e => xs0 (ix3 h e d)) h n t e := by
  unfold out0_B_6
  rw [View.read_writes_eq_canon _ _ _ (cover0_B_6 (F := Ideal) c i arg2 harg2 arg3 harg3 arg4 harg4 arg5 harg5 arg6 harg6 arg7 harg7 arg8 harg8 arg9 harg9 hc0 x0 x1 x2 x3 x4 x5 xs0)]
  rw [out_B, rd_eq, rd_eq, rd_eq, rdL_eq, rdN_eq]
  obtain ⟨k, hk⟩ := h
  interval_cases k
  · refine (col_miss 0 3 (by decide) 384 rfl _ _ _ _ _).trans ?_
    refine (col_miss 0 2 (by decide) 256 rfl _ _ _ _ _).trans ?_
    refine (col_miss 0 1 (by decide) 128 rfl _ _ _ _ _).trans ?_
    refine (col_hit 0 0 rfl _ _ _ _ _).trans ?_
    exact piece_at x0 x1 x2 x3 x4 x5 0 _ _ _ (fun e d => layer_at arg9 harg9 xs0 0 0 rfl _ e d) (fun r e => gate_at arg5 harg5 x3 0 0 rfl _ r e) n t e
  · refine (col_miss 1 3 (by decide) 384 rfl _ _ _ _ _).trans ?_
    refine (col_miss 1 2 (by decide) 256 rfl _ _ _ _ _).trans ?_
    refine (col_hit 1 128 rfl _ _ _ _ _).trans ?_
    exact piece_at x0 x1 x2 x3 x4 x5 1 _ _ _ (fun e d => layer_at arg9 harg9 xs0 1 1 rfl _ e d) (fun r e => gate_at arg5 harg5 x3 1 128 rfl _ r e) n t e
  · refine (col_miss 2 3 (by decide) 384 rfl _ _ _ _ _).trans ?_
    refine (col_hit 2 256 rfl _ _ _ _ _).trans ?_
    exact piece_at x0 x1 x2 x3 x4 x5 2 _ _ _ (fun e d => layer_at arg9 harg9 xs0 2 2 rfl _ e d) (fun r e => gate_at arg5 harg5 x3 2 256 rfl _ r e) n t e
  · refine (col_hit 3 384 rfl _ _ _ _ _).trans ?_
    exact piece_at x0 x1 x2 x3 x4 x5 3 _ _ _ (fun e d => layer_at arg9 harg9 xs0 3 3 rfl _ e d) (fun r e => gate_at arg5 harg5 x3 3 384 rfl _ r e) n t e

/-- The state a point that continues a sequence leaves, read at an index. -/
theorem sout_B_at (hc0 : ¬ cond0_0 i) (h : Fin 4) (e d : Fin 128) :
    sout0_B_0 (F := Ideal) c i arg2 harg2 arg3 harg3 arg4 harg4 arg5 harg5 arg6 harg6 arg7 harg7 arg8 harg8 arg9 harg9 hc0 x0 x1 x2 x3 x4 x5 xs0 (ix3 h e d)
      = stateAt x1 x2 x4 (fun h d e => xs0 (ix3 h e d)) h 8 d e := by
  unfold sout0_B_0
  rw [View.read_writes_eq_canon _ _ _ (scover0_B_0 (F := Ideal) c i arg2 harg2 arg3 harg3 arg4 harg4 arg5 harg5 arg6 harg6 arg7 harg7 arg8 harg8 arg9 harg9 hc0 x0 x1 x2 x3 x4 x5 xs0)]
  rw [state_B, rd_eq, rd_eq, rdL_eq]
  obtain ⟨k, hk⟩ := h
  interval_cases k
  · refine (lay_miss 0 3 (by decide) 3 rfl _ _ _ _ _).trans ?_
    refine (lay_miss 0 2 (by decide) 2 rfl _ _ _ _ _).trans ?_
    refine (lay_miss 0 1 (by decide) 1 rfl _ _ _ _ _).trans ?_
    refine (lay_hit 0 0 rfl _ _ _ _ _).trans ?_
    exact left_at x1 x2 x4 0 _ _ (fun e d => layer_at arg9 harg9 xs0 0 0 rfl _ e d) e d
  · refine (lay_miss 1 3 (by decide) 3 rfl _ _ _ _ _).trans ?_
    refine (lay_miss 1 2 (by decide) 2 rfl _ _ _ _ _).trans ?_
    refine (lay_hit 1 1 rfl _ _ _ _ _).trans ?_
    exact left_at x1 x2 x4 1 _ _ (fun e d => layer_at arg9 harg9 xs0 1 1 rfl _ e d) e d
  · refine (lay_miss 2 3 (by decide) 3 rfl _ _ _ _ _).trans ?_
    refine (lay_hit 2 2 rfl _ _ _ _ _).trans ?_
    exact left_at x1 x2 x4 2 _ _ (fun e d => layer_at arg9 harg9 xs0 2 2 rfl _ e d) e d
  · refine (lay_hit 3 3 rfl _ _ _ _ _).trans ?_
    exact left_at x1 x2 x4 3 _ _ (fun e d => layer_at arg9 harg9 xs0 3 3 rfl _ e d) e d

end

end Cert.KernelIdeal.Body
-- ==== Proof.Whole.lean ====
/-
  The gated linear recurrence over whole sequences: tiles read off the projections at any row and lane, chunk by chunk
  from the zero state, and how a run of chunks splits.
-/
module

public import proofs.«01_k».proof.Proof.Spec

@[expose] public section

set_option maxRecDepth 16384

noncomputable section

open Idealize.ShloMosaic

namespace Cert.Chunk

variable (X : ℕ → ℕ → EReal) (B : ℕ → EReal) (r0 : ℕ) (h : Fin 4)

/-- The forget gate of an activation `x` and its lower bound `b`. -/
def gate (x b : EReal) : EReal := b + (1 - b) * Ideal.logistic x

/-- The scaled query of an activation. -/
def query (x : EReal) : EReal := x * Ideal.logistic x * Ideal.ofBits .f32 0x3DB504F3#32

/-- The queries of chunk `k` of the sequence that starts at row `r0`. -/
def qT (k : ℕ) : Tile := fun t d => query (X (r0 + 32 * k + t.val) (128 * h.val + d.val))

/-- The keys of chunk `k`. -/
def kT (k : ℕ) : Tile := fun t d => 1 - gate (X (r0 + 32 * k + t.val) (512 + (128 * h.val + d.val))) (B (128 * h.val + d.val))

/-- The log decays of chunk `k`. -/
def lT (k : ℕ) : Tile := fun t d => Ideal.log (gate (X (r0 + 32 * k + t.val) (512 + (128 * h.val + d.val))) (B (128 * h.val + d.val)))

/-- The values of chunk `k`. -/
def vT (k : ℕ) : Tile := fun t d => X (r0 + 32 * k + t.val) (1024 + (128 * h.val + d.val))

/-- The state before chunk `k` of a sequence. -/
def state (k : ℕ) : State := run (kT X B r0 h) (vT X r0 h) (lT X B r0 h) (fun _ _ => 0) k

/-- The result at row `t` of chunk `k`, lane `e` of head `h`. -/
def result (w : Fin 128 → EReal) (k : ℕ) (t : Fin 32) (e : Fin 128) : EReal :=
  normed (fun e => out (qT X r0 h k) (kT X B r0 h k) (vT X r0 h k) (lT X B r0 h k) (state X B r0 h k) t e) (w e)
    (X (r0 + 32 * k + t.val) (1536 + (128 * h.val + e.val))) e

/-- Two runs whose tiles agree on the chunks run, from the same state, agree. -/
theorem run_congr {K K' V V' L L' : ℕ → Tile} (S : State) (n : ℕ) (hK : ∀ k < n, K k = K' k) (hV : ∀ k < n, V k = V' k)
    (hL : ∀ k < n, L k = L' k) : run K V L S n = run K' V' L' S n := by
  induction n with
  | zero => rfl
  | succ n ih =>
    show next _ _ _ _ = next _ _ _ _
    rw [ih (fun k hk => hK k (by omega)) (fun k hk => hV k (by omega)) (fun k hk => hL k (by omega)),
      hK n (by omega), hV n (by omega), hL n (by omega)]

/-- A run of `a + b` chunks is a run of `b` chunks from the state after `a`. -/
theorem run_add (K V L : ℕ → Tile) (S : State) (a b : ℕ) :
    run K V L S (a + b) = run (fun k => K (a + k)) (fun k => V (a + k)) (fun k => L (a + k)) (run K V L S a) b := by
  induction b with
  | zero => rfl
  | succ b ih =>
    show next _ _ _ (run K V L S (a + b)) = next _ _ _ _
    rw [ih]
    rfl

/-- An array of the projections' shape, read at any row and lane (zero outside). -/
def rd2 {a b : ℕ} (x : Fin a → Fin b → EReal) (r l : ℕ) : EReal := if h : r < a ∧ l < b then x ⟨r, h.1⟩ ⟨l, h.2⟩ else 0

/-- Inside the array it is the array. -/
theorem rd2_eq {a b : ℕ} (x : Fin a → Fin b → EReal) (i : Fin a) (j : Fin b) (r l : ℕ) (hr : r = i.val) (hl : l = j.val) :
    rd2 x r l = x i j := by
  subst hr hl
  unfold rd2
  rw [dif_pos ⟨i.isLt, j.isLt⟩]

end Cert.Chunk

end
-- ==== Proof.Fold.lean ====
/-
  The kernel's result at an index: the blocks a grid point reads, the state carried from point to point, and the result
  array those leave.
-/
module

public import proofs.«01_k».proof.Proof.BlockAt
public import proofs.«01_k».proof.Proof.Whole
public import proofs.«01_k».proof.Proof.Gen.KernelIdeal.Value
public import Idealize.ShloMosaic.Lib.Pointwise

@[expose] public section

set_option maxRecDepth 16384

noncomputable section

open Idealize.ShloMosaic Idealize.ShloMosaic.TcCoe Idealize.SL.Sem Cert.KernelIdeal Cert.KernelIdeal.Gen Cert.KernelIdeal.Value Cert.KernelIdeal.Body Cert.Chunk

namespace Cert.KernelIdeal.Fold

/-- The lower bounds of all layers: the running sum of the softmax over the layers. -/
def bounds (x : FVec Ideal S2x512 .f32) : FVec Ideal S2x512 .f32 :=
  let M := broadcastInDim S2x512 ![0, 1] bcast_S1x512_S2x512_0_1 (broadcastInDim S1x512 ![1] bcast_S512_S1x512_1
    (maximumf (broadcastInDim S512 ![] bcast_S_S512 (constant (F := Ideal) S_ .f32 0xFF800000#32))
      (Host.reduce (FloatOps.maximumf (F := Ideal) (φ := .f32)) x (constant (F := Ideal) S_ .f32 0xFF800000#32) reducesTo_S2x512_S512_d0 h_S_)))
  let E := Host.exp (F := Ideal) (subf x M)
  let Z := broadcastInDim S2x512 ![0, 1] bcast_S1x512_S2x512_0_1 (broadcastInDim S1x512 ![1] bcast_S512_S1x512_1
    (Host.reduceAdd (F := Ideal) E (constant (F := Ideal) S_ .f32 0x00000000#32) reducesTo_S2x512_S512_d0 h_S_))
  Host.reduceWindowAdd (F := Ideal) ![2, 1] ![1, 1] ![1, 0] ![0, 0] (Host.divf E Z) (broadcastInDim S_ ![] bcast_S_S_ (constant (F := Ideal) S_ .f32 0x00000000#32))
    reduceWindows_S2x512_S2x512_w2s1p1_0_w1s1p0_0 h_S_

variable (m : (ℓ : Loc nD τ sig) → Buf (Elt Ideal) ℓ) (c : Dev nD)

/-- The projections at any row and lane. -/
def XK : ℕ → ℕ → EReal := rd2 fun (r : Fin 32768) (l : Fin 2560) => m ((c : Thread nD τ).loc main_arg0) (ix2 r l)
/-- The lower bounds of layer 0 at any lane. -/
def BK (l : ℕ) : EReal := rd2 (fun (r : Fin 2) (l : Fin 512) => bounds (m ((c : Thread nD τ).loc main_arg1)) (ix2 r l)) 0 l
/-- The norm's weights. -/
def WK (e : Fin 128) : EReal := m ((c : Thread nD τ).loc main_arg2) (ix2 0 e)

/-- The blocks of a point: 256 rows of the projections' first four column blocks, and the two rows whole. -/
theorem idx : ∀ t : Fin cfg0.N, win0_0.index t = ![t.val, 0] ∧ win0_1.index t = ![t.val, 1] ∧ win0_2.index t = ![t.val, 2]
    ∧ win0_3.index t = ![t.val, 3] ∧ win0_4.index t = ![0, 0] ∧ win0_5.index t = ![0, 0] :=
  (by decide +kernel : ∀ t : Fin grid0.N, _)

/-- The query block at an index is the projections' entry it was taken from. -/
theorem x0_at (t : Fin cfg0.N) (r : Fin 256) (l : Fin 512) : iblk m c 0 t (ix2 r l) = XK m c (256 * t.val + r.val) l.val := by
  have ht : t.val < 128 := lt_of_lt_of_eq t.isLt N_0
  rw [XK, rd2_eq _ ⟨256 * t.val + r.val, by omega⟩ ⟨l.val, by omega⟩ _ _ rfl rfl]
  blk_ext [iblk, V, idx t]

/-- The gate block at an index is the projections' entry it was taken from. -/
theorem x1_at (t : Fin cfg0.N) (r : Fin 256) (l : Fin 512) : iblk m c 1 t (ix2 r l) = XK m c (256 * t.val + r.val) (512 + l.val) := by
  have ht : t.val < 128 := lt_of_lt_of_eq t.isLt N_0
  rw [XK, rd2_eq _ ⟨256 * t.val + r.val, by omega⟩ ⟨512 + l.val, by omega⟩ _ _ rfl rfl]
  blk_ext [iblk, V, idx t]

/-- The value block at an index is the projections' entry it was taken from. -/
theorem x2_at (t : Fin cfg0.N) (r : Fin 256) (l : Fin 512) : iblk m c 2 t (ix2 r l) = XK m c (256 * t.val + r.val) (1024 + l.val) := by
  have ht : t.val < 128 := lt_of_lt_of_eq t.isLt N_0
  rw [XK, rd2_eq _ ⟨256 * t.val + r.val, by omega⟩ ⟨1024 + l.val, by omega⟩ _ _ rfl rfl]
  blk_ext [iblk, V, idx t]

/-- The output gate's block at an index is the projections' entry it was taken from. -/
theorem x3_at (t : Fin cfg0.N) (r : Fin 256) (l : Fin 512) : iblk m c 3 t (ix2 r l) = XK m c (256 * t.val + r.val) (1536 + l.val) := by
  have ht : t.val < 128 := lt_of_lt_of_eq t.isLt N_0
  rw [XK, rd2_eq _ ⟨256 * t.val + r.val, by omega⟩ ⟨1536 + l.val, by omega⟩ _ _ rfl rfl]
  blk_ext [iblk, V, idx t]

set_option maxHeartbeats 1600000 in
/-- The lower-bound row the kernel is given. -/
theorem lb_entry : V m c main_v15 = shapeCast S1x512 (shapeCast S512 (extractStridedSlice S1x512 ![0, 0] (bounds (m ((c : Thread nD τ).loc main_arg1))) slices_S2x512_S1x512_0_0) shapeCasts_S1x512_S512) shapeCasts_S512_S1x512 := by
  entry_read
  rfl

/-- The norm's weights the kernel is given. -/
theorem gn_entry : V m c main_v16 = shapeCast S1x128 (shapeCast S128 (m ((c : Thread nD τ).loc main_arg2)) shapeCasts_S1x128_S128) shapeCasts_S128_S1x128 := by
  entry_read
  rfl

/-- The lower-bound row read through a rank-1 row. -/
theorem lbrow_at (x : FVec Ideal S2x512 .f32) (l : Fin 512) :
    shapeCast S1x512 (shapeCast S512 (extractStridedSlice S1x512 ![0, 0] x slices_S2x512_S1x512_0_0) shapeCasts_S1x512_S512) shapeCasts_S512_S1x512 (ix2 0 l) = x (ix2 0 l) := by
  pointwise []

/-- The weights read through a rank-1 row. -/
theorem gnrow_at (x : FVec Ideal S1x128 .f32) (e : Fin 128) :
    shapeCast S1x128 (shapeCast S128 x shapeCasts_S1x128_S128) shapeCasts_S128_S1x128 (ix2 0 e) = x (ix2 0 e) := by
  pointwise []

/-- The lower bounds' block at an index is the bound of that column. -/
theorem x4_at (t : Fin cfg0.N) (l : Fin 512) : iblk m c 4 t (ix2 0 l) = BK m c l.val := by
  rw [BK, rd2_eq _ (0 : Fin 2) l 0 l.val rfl rfl]
  refine Eq.trans ?_ ((congrFun (lb_entry m c) (ix2 0 l)).trans (lbrow_at _ l))
  blk_ext [iblk, idx t]

/-- The scale's block at an index is the norm's scale there. -/
theorem x5_at (t : Fin cfg0.N) (e : Fin 128) : iblk m c 5 t (ix2 0 e) = WK m c e := by
  rw [WK]
  refine Eq.trans ?_ ((congrFun (gn_entry m c) (ix2 0 e)).trans (gnrow_at _ e))
  blk_ext [iblk, idx t]

end Cert.KernelIdeal.Fold

end
-- ==== Proof.Carried.lean ====
/-
  The state carried from grid point to grid point and the result array it leaves, read at an index.
-/
module

public import proofs.«01_k».proof.Proof.Fold

@[expose] public section

set_option maxRecDepth 16384

noncomputable section

open Idealize.ShloMosaic Idealize.ShloMosaic.TcCoe Idealize.SL.Sem Cert.KernelIdeal Cert.KernelIdeal.Gen Cert.KernelIdeal.Value Cert.KernelIdeal.Body Cert.Chunk

namespace Cert.KernelIdeal.Fold

variable (m : (ℓ : Loc nD τ sig) → Buf (Elt Ideal) ℓ) (c : Dev nD)

/-- The first row of the sequence a grid point lies in. -/
abbrev first (n : ℕ) : ℕ := 16384 * (n / 64)

/-- The row of the array at row `j` of tile `k` of a point. -/
theorem row_eq (n : ℕ) (k : Fin 8) (j : Fin 32) : 256 * n + (row k j).val = first n + 32 * (8 * (n % 64) + k.val) + j.val := by
  have hr : (row k j).val = 32 * k.val + j.val := rfl
  rw [hr, first]
  omega

/-- A tile of queries of a point is the sequence's. -/
theorem tQ_blk (t : Fin cfg0.N) (h : Fin 4) (k : Fin 8) : tQ (iblk m c 0 t) h k = qT (XK m c) (first t.val) h (8 * (t.val % 64) + k.val) := by
  funext j d
  unfold tQ qT query
  rw [x0_at, row_eq]
  rfl

/-- A tile of keys of a point is the sequence's. -/
theorem tK_blk (t : Fin cfg0.N) (h : Fin 4) (k : Fin 8) :
    tK (iblk m c 1 t) (iblk m c 4 t) h k = kT (XK m c) (BK m c) (first t.val) h (8 * (t.val % 64) + k.val) := by
  funext j d
  unfold tK gateK kT gate
  rw [x1_at, x4_at, row_eq]
  rfl

/-- A tile of log decays of a point is the sequence's. -/
theorem tL_blk (t : Fin cfg0.N) (h : Fin 4) (k : Fin 8) :
    tL (iblk m c 1 t) (iblk m c 4 t) h k = lT (XK m c) (BK m c) (first t.val) h (8 * (t.val % 64) + k.val) := by
  funext j d
  unfold tL gateK lT gate
  rw [x1_at, x4_at, row_eq]
  rfl

/-- A tile of values of a point is the sequence's. -/
theorem tV_blk (t : Fin cfg0.N) (h : Fin 4) (k : Fin 8) :
    tV (iblk m c 2 t) h k = vT (XK m c) (first t.val) h (8 * (t.val % 64) + k.val) := by
  funext j d
  unfold tV vT
  rw [x2_at, row_eq]
  rfl

/-- Tile `k` of a block, by its number. -/
theorem ch_val (k : ℕ) (hk : k < 8) : (ch k).val = k := Nat.mod_eq_of_lt hk

/-- The state inside a point's block, from the sequence's state before the point, is the sequence's. -/
theorem stateAt_blk (t : Fin cfg0.N) (h : Fin 4) (S : Fin 4 → State)
    (hS : S h = state (XK m c) (BK m c) (first t.val) h (8 * (t.val % 64))) (k : ℕ) (hk : k ≤ 8) :
    stateAt (iblk m c 1 t) (iblk m c 2 t) (iblk m c 4 t) S h k = state (XK m c) (BK m c) (first t.val) h (8 * (t.val % 64) + k) := by
  unfold stateAt state
  rw [run_add, hS, state]
  refine run_congr _ k (fun j hj => ?_) (fun j hj => ?_) (fun j hj => ?_)
  · rw [tK_blk, ch_val j (by omega)]
  · rw [tV_blk, ch_val j (by omega)]
  · rw [tL_blk, ch_val j (by omega)]

/-- The result block of a point, from the sequence's state before the point, is the sequence's result. -/
theorem resAt_blk (t : Fin cfg0.N) (h : Fin 4) (S : Fin 4 → State)
    (hS : S h = state (XK m c) (BK m c) (first t.val) h (8 * (t.val % 64))) (k : Fin 8) (j : Fin 32) (e : Fin 128) :
    resAt (iblk m c 0 t) (iblk m c 1 t) (iblk m c 2 t) (iblk m c 3 t) (iblk m c 4 t) (iblk m c 5 t) S h k j e
      = result (XK m c) (BK m c) (first t.val) h (WK m c) (8 * (t.val % 64) + k.val) j e := by
  unfold resAt result
  rw [stateAt_blk m c t h S hS k.val (by omega), tQ_blk, tK_blk, tL_blk, tV_blk, x3_at, x5_at, row_eq]
  rfl

/-- The carried state after a point is the sequence's state after the point's chunks. -/
theorem carried (n : ℕ) (hn : n < cfg0.N) (h : Fin 4) (e d : Fin 128) :
    (outsAt0 m c n hn).2 (ix3 h e d) = state (XK m c) (BK m c) (first n) h (8 * (n % 64) + 8) d e := by
  induction n generalizing e d with
  | zero =>
    rw [outsAt0_zero, stAt0_A m c ⟨0, hn⟩ _ rfl]
    dsimp only
    rw [sout_A_at]
    exact congrFun (congrFun (stateAt_blk m c ⟨0, hn⟩ h _ rfl 8 le_rfl) d) e
  | succ n ih =>
    rw [outsAt0_succ]
    by_cases h0 : (n + 1) % 64 = 0
    · rw [stAt0_A m c ⟨n + 1, hn⟩ _ h0]
      dsimp only
      rw [sout_A_at]
      refine congrFun (congrFun (stateAt_blk m c ⟨n + 1, hn⟩ h _ ?_ 8 le_rfl) d) e
      show _ = state _ _ _ _ (8 * ((n + 1) % 64))
      rw [h0]
      rfl
    · rw [stAt0_B m c ⟨n + 1, hn⟩ _ h0]
      dsimp only
      rw [sout_B_at]
      refine congrFun (congrFun (stateAt_blk m c ⟨n + 1, hn⟩ h _ ?_ 8 le_rfl) d) e
      funext d' e'
      rw [ih (Nat.lt_of_succ_lt hn) e' d']
      show state _ _ (first n) _ _ _ _ = state _ _ (first (n + 1)) _ (8 * ((n + 1) % 64)) _ _
      have h1 : (n + 1) % 64 = n % 64 + 1 := by omega
      have h2 : (n + 1) / 64 = n / 64 := by omega
      rw [first, first, h1, h2]
      rfl

/-- What a point writes of the result. -/
theorem written (n : ℕ) (hn : n < cfg0.N) (h : Fin 4) (k : Fin 8) (j : Fin 32) (e : Fin 128) :
    (outsAt0 m c n hn).1 (ix2 (row k j) (lane h e)) = result (XK m c) (BK m c) (first n) h (WK m c) (8 * (n % 64) + k.val) j e := by
  cases n with
  | zero =>
    rw [outsAt0_zero, stAt0_A m c ⟨0, hn⟩ _ rfl]
    dsimp only
    rw [out_A_at]
    exact resAt_blk m c ⟨0, hn⟩ h _ rfl k j e
  | succ n =>
    rw [outsAt0_succ]
    by_cases h0 : (n + 1) % 64 = 0
    · rw [stAt0_A m c ⟨n + 1, hn⟩ _ h0]
      dsimp only
      rw [out_A_at]
      refine resAt_blk m c ⟨n + 1, hn⟩ h _ ?_ k j e
      show _ = state _ _ _ _ (8 * ((n + 1) % 64))
      rw [h0]
      rfl
    · rw [stAt0_B m c ⟨n + 1, hn⟩ _ h0]
      dsimp only
      rw [out_B_at]
      refine resAt_blk m c ⟨n + 1, hn⟩ h _ ?_ k j e
      funext d' e'
      rw [carried m c n (Nat.lt_of_succ_lt hn)]
      show state _ _ (first n) _ _ _ _ = state _ _ (first (n + 1)) _ (8 * ((n + 1) % 64)) _ _
      have h1 : (n + 1) % 64 = n % 64 + 1 := by omega
      have h2 : (n + 1) / 64 = n / 64 := by omega
      rw [first, first, h1, h2]
      rfl

/-- The result array at a row and lane. -/
theorem G6_at (b : Fin 2) (k : Fin 512) (j : Fin 32) (h : Fin 4) (e : Fin 128) (r : Fin 32768) (l : Fin 512)
    (hr : r.val = 16384 * b.val + 32 * k.val + j.val) (hl : l.val = 128 * h.val + e.val) :
    G6 m c (ix2 r l) = result (XK m c) (BK m c) (16384 * b.val) h (WK m c) k.val j e := by
  have hN : cfg0.N = 128 := N_0
  have hp : pt6Of (ix2 r l) = r.val / 256 := by
    show 1 * (r.val / 256 - 0) + 1 * (l.val / 512 - 0) = _
    omega
  have hlt : pt6Of (ix2 r l) < cfg0.N := by rw [hp, hN]; omega
  have hloc : loc6Of (ix2 r l) = ix2 (row ⟨k.val % 8, by omega⟩ j) (lane h e) := by
    funext a
    match a with
    | ⟨0, _⟩ => exact Fin.ext (show r.val % 256 = 32 * (k.val % 8) + j.val by omega)
    | ⟨1, _⟩ => exact Fin.ext (show l.val % 512 = 128 * h.val + e.val by omega)
  unfold G6
  rw [dif_pos hlt, ← outsAt0_sweep m c _ hlt, hloc, written, hp]
  have e1 : first (r.val / 256) = 16384 * b.val := by rw [first]; omega
  have e2 : 8 * (r.val / 256 % 64) + k.val % 8 = k.val := by omega
  rw [e1]
  show result _ _ _ _ _ (8 * (r.val / 256 % 64) + k.val % 8) _ _ = _
  rw [e2]

end Cert.KernelIdeal.Fold

end
-- ==== Proof.Running.lean ====
/-
  The reference's running sum along the rows of a chunk, read at an index: a window of 32 rows padded low by 31 sums the
  rows up to and including the one read.
-/
module

public import proofs.«01_k».proof.Proof.Gen.ReferenceIdeal
public import Idealize.ShloMosaic.Lib.Pointwise

@[expose] public section

set_option maxRecDepth 16384

noncomputable section

open Idealize.ShloMosaic

namespace Cert.ReferenceIdeal.Running

open Cert.ReferenceIdeal

/-- A fold of additions from zero is the sum. -/
theorem fold_sum (n : ℕ) (f : Fin n → EReal) : (List.finRange n).foldl (fun a i => a + f i) 0 = ∑ i, f i := by
  rw [Fin.sum_univ_def, List.sum_eq_foldl, List.foldl_map]

/-- The last 32 of the rows padded low by 31, row `t` the last, are the rows up to `t`. -/
theorem sum_shift (t : Fin 32) (g : Fin 32 → EReal) :
    (∑ n : Fin 32, if h : 31 ≤ t.val + n.val then g ⟨t.val + n.val - 31, by omega⟩ else 0)
      = ∑ s : Fin 32, if s.val ≤ t.val then g s else 0 := by
  refine Finset.sum_bij_ne_zero (fun n _ _ => (⟨(t.val + n.val + 1) % 32, Nat.mod_lt _ (by decide)⟩ : Fin 32)) ?_ ?_ ?_ ?_
  · intros; exact Finset.mem_univ _
  · intro a _ _ b _ _ hab
    have := congrArg Fin.val hab
    dsimp only at this
    exact Fin.ext (by omega)
  · intro s _ hs
    have hst : s.val ≤ t.val := by
      by_contra hn
      exact hs (if_neg hn)
    refine ⟨⟨s.val + 31 - t.val, by omega⟩, Finset.mem_univ _, ?_, ?_⟩
    · rw [if_pos hst] at hs
      rw [dif_pos (show 31 ≤ t.val + (s.val + 31 - t.val) by omega)]
      intro h0
      refine hs (Eq.trans (congrArg g (Fin.ext ?_)) h0)
      show s.val = t.val + (s.val + 31 - t.val) - 31
      omega
    · exact Fin.ext (show (t.val + (s.val + 31 - t.val) + 1) % 32 = s.val by omega)
  · intro n _ hn
    have h : 31 ≤ t.val + n.val := by
      by_contra h
      exact hn (dif_neg h)
    rw [dif_pos h, if_pos (show (t.val + n.val + 1) % 32 ≤ t.val by omega)]
    exact congrArg g (Fin.ext (show t.val + n.val - 31 = (t.val + n.val + 1) % 32 by omega))

/-- A sum over the indices of a window one row wide in every axis but the fourth is the sum over the fourth. -/
theorem sum_window (f : (⟨5, ![1, 1, 1, 32, 1]⟩ : Shape).Idx → EReal) : ∑ w, f w = ∑ n : Fin 32, f (ix5 0 0 0 n 0) := by
  refine Finset.sum_nbij' (fun w => (w 3 : Fin 32)) (fun n => ix5 0 0 0 n 0) ?_ ?_ ?_ ?_ ?_
  · intros; exact Finset.mem_univ _
  · intros; exact Finset.mem_univ _
  · intro w _
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _
  · intro n _
    rfl
  · intro w _
    refine congrArg f ?_
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _

/-- A window's float sum from zero is the sum over the window's indices, a position in the padding counting zero. -/
theorem window_sum {s t : Shape} (window strides lo hi : Fin s.rank → ℕ) (h : s.ReduceWindows window strides lo hi t)
    (x : s.Idx → EReal) (j : t.Idx) :
    Ideal.hostReduceWindowAdd window strides lo hi h x 0 j
      = ∑ w : (⟨s.rank, window⟩ : Shape).Idx,
        if hin : ∀ a, lo a ≤ (j (a.cast h.1.symm)).val * strides a + (w a).val ∧ (j (a.cast h.1.symm)).val * strides a + (w a).val - lo a < s.size a then
          x (fun a => ⟨(j (a.cast h.1.symm)).val * strides a + (w a).val - lo a, (hin a).2⟩) else 0 := by
  unfold Ideal.hostReduceWindowAdd Host.reduceWindow
  dsimp only
  refine (fold_sum _ _).trans (Eq.trans (Finset.sum_congr rfl fun n _ => ?_) (Equiv.sum_comp (⟨s.rank, window⟩ : Shape).rowMajor.symm (fun w =>
    if hin : ∀ a, lo a ≤ (j (a.cast h.1.symm)).val * strides a + (w a).val ∧ (j (a.cast h.1.symm)).val * strides a + (w a).val - lo a < s.size a then
      x (fun a => ⟨(j (a.cast h.1.symm)).val * strides a + (w a).val - lo a, (hin a).2⟩) else 0)))
  congr

/-- The running sum over the rows of a chunk at an index. -/
theorem running_at (x : FVec Ideal S512x2x4x32x128 .f32) (init : FVec Ideal S_ .f32) (hi : ∀ j, init j = 0)
    (hw) (hu) (k : Fin 512) (b : Fin 2) (h : Fin 4) (t : Fin 32) (d : Fin 128) :
    Host.reduceWindowAdd (F := Ideal) (s := S512x2x4x32x128) (t := S512x2x4x32x128) (u := S_) ![1, 1, 1, 32, 1] ![1, 1, 1, 1, 1] ![0, 0, 0, 31, 0] ![0, 0, 0, 0, 0] x init hw hu (ix5 k b h t d)
      = ∑ s : Fin 32, if s.val ≤ t.val then x (ix5 k b h s d) else 0 := by
  unfold Host.reduceWindowAdd
  rw [Ideal.hostReduceWindowAdd_def, hi, window_sum, sum_window, ← sum_shift t fun s => x (ix5 k b h s d)]
  refine Finset.sum_congr rfl fun n _ => ?_
  dsimp only
  by_cases hn : 31 ≤ t.val + n.val
  · rw [dif_pos hn, dif_pos]
    · refine congrArg x ?_
      funext a
      match a with
      | ⟨0, _⟩ => exact Fin.ext (show k.val * 1 + 0 - 0 = k.val by omega)
      | ⟨1, _⟩ => exact Fin.ext (show b.val * 1 + 0 - 0 = b.val by omega)
      | ⟨2, _⟩ => exact Fin.ext (show h.val * 1 + 0 - 0 = h.val by omega)
      | ⟨3, _⟩ => exact Fin.ext (show t.val * 1 + n.val - 31 = t.val + n.val - 31 by omega)
      | ⟨4, _⟩ => exact Fin.ext (show d.val * 1 + 0 - 0 = d.val by omega)
    · intro a
      match a with
      | ⟨0, _⟩ => show 0 ≤ k.val * 1 + 0 ∧ k.val * 1 + 0 - 0 < 512; omega
      | ⟨1, _⟩ => show 0 ≤ b.val * 1 + 0 ∧ b.val * 1 + 0 - 0 < 2; omega
      | ⟨2, _⟩ => show 0 ≤ h.val * 1 + 0 ∧ h.val * 1 + 0 - 0 < 4; omega
      | ⟨3, _⟩ => show 31 ≤ t.val * 1 + n.val ∧ t.val * 1 + n.val - 31 < 32; omega
      | ⟨4, _⟩ => show 0 ≤ d.val * 1 + 0 ∧ d.val * 1 + 0 - 0 < 128; omega
  · rw [dif_neg hn, dif_neg]
    intro hin
    have h3 : 31 ≤ t.val * 1 + n.val := (hin 3).1
    omega

end Cert.ReferenceIdeal.Running

end
-- ==== Proof.RefAt.lean ====
/-
  The reference's arrays before its loop, as functions of the projections and the lower bounds, and each read at an index:
  chunk, sequence, head, row of the chunk, lane.
-/
module

public import proofs.«01_k».proof.Proof.Running
public import proofs.«01_k».proof.Proof.Whole
public import Idealize.ShloMosaic.Lib.Pointwise

@[expose] public section

set_option maxRecDepth 16384

noncomputable section

open Idealize.ShloMosaic Cert.ReferenceIdeal Cert.ReferenceIdeal.Gen Cert.Chunk

namespace Cert.ReferenceIdeal.Arrays

/-- An array over batch, position, head and lane. -/
abbrev Long := FVec Ideal S2x16384x4x128 .f32
/-- An array over chunk, batch, head, row and lane. -/
abbrev Chunked := FVec Ideal S512x2x4x32x128 .f32

/-- One at every position. -/
def ones : Long := broadcastInDim S2x16384x4x128 ![] bcast_S_S2x16384x4x128 (constant (F := Ideal) S_ .f32 0x3F800000#32)

/-- The logistic function, as the host expands it. -/
def sigm (x : Long) : Long := Host.divf ones (addf ones (Host.exp (Host.negf x)))

/-- Into chunks of 32 rows. -/
def chunked (x : Long) : Chunked :=
  transpose S512x2x4x32x128 [1, 0, 3, 2, 4] (shapeCast S2x512x32x4x128 x shapeCasts_S2x16384x4x128_S2x512x32x4x128)
    transposes_S2x512x32x4x128_S512x2x4x32x128_1_0_3_2_4

/-- The projections by batch. -/
def proj (a : FVec Ideal S32768x2560 .f32) : FVec Ideal S2x16384x2560 .f32 :=
  shapeCast S2x16384x2560 a shapeCasts_S32768x2560_S2x16384x2560

variable (a : FVec Ideal S32768x2560 .f32) (lb : FVec Ideal S2x512 .f32)

/-- The raw queries. -/
def rawQ : Long := shapeCast S2x16384x4x128 (extractStridedSlice S2x16384x512 ![0, 0, 0] (proj a) slices_S2x16384x2560_S2x16384x512_0_0_0) shapeCasts_S2x16384x512_S2x16384x4x128
/-- The raw gates. -/
def rawF : Long := shapeCast S2x16384x4x128 (extractStridedSlice S2x16384x512 ![0, 0, 512] (proj a) slices_S2x16384x2560_S2x16384x512_0_0_512) shapeCasts_S2x16384x512_S2x16384x4x128
/-- The values. -/
def rawV : Long := shapeCast S2x16384x4x128 (extractStridedSlice S2x16384x512 ![0, 0, 1024] (proj a) slices_S2x16384x2560_S2x16384x512_0_0_1024) shapeCasts_S2x16384x512_S2x16384x4x128
/-- The output gates. -/
def rawG : Long := shapeCast S2x16384x4x128 (extractStridedSlice S2x16384x512 ![0, 0, 1536] (proj a) slices_S2x16384x2560_S2x16384x512_0_0_1536) shapeCasts_S2x16384x512_S2x16384x4x128

/-- The lower bounds of layer 0, by head. -/
def low : FVec Ideal S4x128 .f32 :=
  shapeCast S4x128 (shapeCast S512 (extractStridedSlice S1x512 ![0, 0] lb slices_S2x512_S1x512_0_0) shapeCasts_S1x512_S512) shapeCasts_S512_S4x128

/-- The same row of every head at every position. -/
def spread (x : FVec Ideal S4x128 .f32) : Long :=
  broadcastInDim S2x16384x4x128 ![0, 1, 2, 3] bcast_S1x1x4x128_S2x16384x4x128_0_1_2_3 (broadcastInDim S1x1x4x128 ![2, 3] bcast_S4x128_S1x1x4x128_2_3 x)

/-- The forget gates. -/
def gates : Long :=
  addf (spread (low lb)) (mulf (spread (subf (broadcastInDim S4x128 ![] bcast_S_S4x128 (constant (F := Ideal) S_ .f32 0x3F800000#32)) (low lb))) (sigm (rawF a)))

/-- The scaled queries, by chunk. -/
def qs : Chunked :=
  chunked (mulf (mulf (rawQ a) (sigm (rawQ a))) (broadcastInDim S2x16384x4x128 ![] bcast_S_S2x16384x4x128 (constant (F := Ideal) S_ .f32 0x3DB504F3#32)))
/-- The keys, by chunk. -/
def ks : Chunked := chunked (subf ones (gates a lb))
/-- The values, by chunk. -/
def vs : Chunked := chunked (rawV a)
/-- The log decays, by chunk. -/
def ls : Chunked := chunked (Host.log (gates a lb))

/-- The log decays summed along the rows of a chunk. -/
def cs : Chunked :=
  Host.reduceWindowAdd (F := Ideal) ![1, 1, 1, 32, 1] ![1, 1, 1, 1, 1] ![0, 0, 0, 31, 0] ![0, 0, 0, 0, 0] (ls a lb)
    (broadcastInDim S_ ![] bcast_S_S_ (constant (F := Ideal) S_ .f32 0x00000000#32))
    reduceWindows_S512x2x4x32x128_S512x2x4x32x128_w1s1p0_0_w1s1p0_0_w1s1p0_0_w32s1p31_0_w1s1p0_0 h_S_

/-- Their last row. -/
def lastc : FVec Ideal S512x2x4x1x128 .f32 := extractStridedSlice S512x2x4x1x128 ![0, 0, 0, 31, 0] (cs a lb) slices_S512x2x4x32x128_S512x2x4x1x128_0_0_0_31_0

/-- The decayed queries. -/
def qes : Chunked := mulf (qs a) (Host.exp (cs a lb))
/-- The keys with the decay divided out. -/
def kes : Chunked := mulf (ks a lb) (Host.exp (Host.negf (cs a lb)))
/-- The keys decayed to the end of the chunk. -/
def kds : Chunked := mulf (ks a lb) (Host.exp (subf (broadcastInDim S512x2x4x32x128 ![0, 1, 2, 3, 4] bcast_S512x2x4x1x128_S512x2x4x32x128_0_1_2_3_4 (lastc a lb)) (cs a lb)))
/-- The decay of a whole chunk. -/
def tots : FVec Ideal S512x2x4x128 .f32 := Host.exp (F := Ideal) (φ := .f32) (shapeCast S512x2x4x128 (lastc a lb) shapeCasts_S512x2x4x1x128_S512x2x4x128)

/-- The lower triangle. -/
def tri : IVec S32x32 1 :=
  select (cmpi .sge (addi (iotaInDim S32x32 32 0) (broadcastInDim S32x32 ![] bcast_S_S32x32 (constantI S_ 32 0#32))) (iotaInDim S32x32 32 1))
    (broadcastInDim S32x32 ![] bcast_S_S32x32 (constantI S_ 1 1#1)) (broadcastInDim S32x32 ![] bcast_S_S32x32 (constantI S_ 1 0#1))

/-- The scores of a chunk. -/
def atts : FVec Ideal S512x2x4x32x32 .f32 :=
  select (broadcastInDim S512x2x4x32x32 ![3, 4] bcast_S32x32_S512x2x4x32x32_3_4 tri)
    (Host.dotGeneral (F := Ideal) dot_S512x2x4x32x128_S512x2x4x32x128_S512x2x4x32x32_4_4_3_3_012_012 none (qes a lb) (kes a lb))
    (broadcastInDim S512x2x4x32x32 ![] bcast_S_S512x2x4x32x32 (constant (F := Ideal) S_ .f32 0x00000000#32))

/-- The outputs from the rows of the chunk. -/
def intra : Chunked :=
  Host.dotGeneral (F := Ideal) dot_S512x2x4x32x32_S512x2x4x32x128_S512x2x4x32x128_4_3_3_4_012_012 none (atts a lb) (vs a)

/-- The projections at any row and lane. -/
def XR : ℕ → ℕ → EReal := rd2 fun (r : Fin 32768) (l : Fin 2560) => a (ix2 r l)
/-- The lower bounds of layer 0 at any lane. -/
def BR (l : ℕ) : EReal := rd2 (fun (r : Fin 2) (l : Fin 512) => lb (ix2 r l)) 0 l

/-- The logistic function of an array at an index. -/
theorem sigm_at (x : Long) (b : Fin 2) (r : Fin 16384) (h : Fin 4) (d : Fin 128) :
    sigm x (ix4 b r h d) = Ideal.logistic (x (ix4 b r h d)) := by
  pointwise [sigm, ones]
  rfl

/-- An array cut into chunks, at an index. -/
theorem chunked_at (x : Long) (k : Fin 512) (b : Fin 2) (h : Fin 4) (t : Fin 32) (d : Fin 128) :
    chunked x (ix5 k b h t d) = x (ix4 b ⟨32 * k.val + t.val, by omega⟩ h d) := by
  pointwise [chunked]
  simp only [Nat.mul_comm]

/-- The projections by sequence and position, at an index. -/
theorem proj_at (b : Fin 2) (r : Fin 16384) (l : Fin 2560) : proj a (ix3 b r l) = XR a (16384 * b.val + r.val) l.val := by
  rw [XR, rd2_eq _ ⟨16384 * b.val + r.val, by omega⟩ l _ _ rfl rfl]
  pointwise [proj]
  simp only [Nat.mul_comm]

/-- The raw queries at an index. -/
theorem rawQ_at (b : Fin 2) (r : Fin 16384) (h : Fin 4) (d : Fin 128) :
    rawQ a (ix4 b r h d) = XR a (16384 * b.val + r.val) (128 * h.val + d.val) := by
  refine Eq.trans ?_ (proj_at a b r ⟨128 * h.val + d.val, by omega⟩)
  pointwise [rawQ]
  simp only [Nat.mul_comm]
/-- The raw gates at an index. -/
theorem rawF_at (b : Fin 2) (r : Fin 16384) (h : Fin 4) (d : Fin 128) :
    rawF a (ix4 b r h d) = XR a (16384 * b.val + r.val) (512 + (128 * h.val + d.val)) := by
  refine Eq.trans ?_ (proj_at a b r ⟨512 + (128 * h.val + d.val), by omega⟩)
  pointwise [rawF]
  simp only [Nat.mul_comm]
/-- The raw values at an index. -/
theorem rawV_at (b : Fin 2) (r : Fin 16384) (h : Fin 4) (d : Fin 128) :
    rawV a (ix4 b r h d) = XR a (16384 * b.val + r.val) (1024 + (128 * h.val + d.val)) := by
  refine Eq.trans ?_ (proj_at a b r ⟨1024 + (128 * h.val + d.val), by omega⟩)
  pointwise [rawV]
  simp only [Nat.mul_comm]
/-- The raw output gates at an index. -/
theorem rawG_at (b : Fin 2) (r : Fin 16384) (h : Fin 4) (d : Fin 128) :
    rawG a (ix4 b r h d) = XR a (16384 * b.val + r.val) (1536 + (128 * h.val + d.val)) := by
  refine Eq.trans ?_ (proj_at a b r ⟨1536 + (128 * h.val + d.val), by omega⟩)
  pointwise [rawG]
  simp only [Nat.mul_comm]

/-- The lower bounds by head, at an index. -/
theorem low_at (h : Fin 4) (d : Fin 128) : low lb (ix2 h d) = BR lb (128 * h.val + d.val) := by
  rw [BR, rd2_eq _ (0 : Fin 2) ⟨128 * h.val + d.val, by omega⟩ 0 _ rfl rfl]
  pointwise [low]
  simp only [Nat.mul_comm]

/-- The forget gates at an index. -/
theorem gates_at (b : Fin 2) (r : Fin 16384) (h : Fin 4) (d : Fin 128) :
    gates a lb (ix4 b r h d) = gate (XR a (16384 * b.val + r.val) (512 + (128 * h.val + d.val))) (BR lb (128 * h.val + d.val)) := by
  rw [← low_at lb h d, ← rawF_at a b r h d]
  pointwise [gates, spread, gate, sigm_at]

section
variable (k : Fin 512) (b : Fin 2) (h : Fin 4) (t : Fin 32) (d e : Fin 128)

/-- The queries by chunk, at an index. -/
theorem qs_at : qs a (ix5 k b h t d) = qT (XR a) (16384 * b.val) h k.val t d := by
  rw [qs, chunked_at, qT, Nat.add_assoc]
  refine Eq.trans ?_ (congrArg query (rawQ_at a b ⟨32 * k.val + t.val, by omega⟩ h d))
  pointwise [query, sigm_at]

/-- The keys by chunk, at an index. -/
theorem ks_at : ks a lb (ix5 k b h t d) = kT (XR a) (BR lb) (16384 * b.val) h k.val t d := by
  rw [ks, chunked_at, kT, Nat.add_assoc]
  refine Eq.trans ?_ (congrArg (fun x => 1 - x) (gates_at a lb b ⟨32 * k.val + t.val, by omega⟩ h d))
  pointwise [ones]

/-- The values by chunk, at an index. -/
theorem vs_at : vs a (ix5 k b h t d) = vT (XR a) (16384 * b.val) h k.val t d := by
  rw [vs, chunked_at, vT, Nat.add_assoc]
  exact rawV_at a b ⟨32 * k.val + t.val, by omega⟩ h d

/-- The log gates by chunk, at an index. -/
theorem ls_at : ls a lb (ix5 k b h t d) = lT (XR a) (BR lb) (16384 * b.val) h k.val t d := by
  rw [ls, chunked_at, lT, Nat.add_assoc]
  exact congrArg Ideal.log (gates_at a lb b ⟨32 * k.val + t.val, by omega⟩ h d)

/-- The running sums of the log gates by chunk, at an index. -/
theorem cs_at : cs a lb (ix5 k b h t d) = cum (lT (XR a) (BR lb) (16384 * b.val) h k.val) t d := by
  rw [cs, Running.running_at]
  · rw [cum]
    refine Finset.sum_congr rfl fun s _ => ?_
    rw [ls_at]
  · intro j
    pointwise []

/-- The chunks' whole sums of log gates, at an index. -/
theorem lastc_at : lastc a lb (ix5 k b h 0 d) = cum (lT (XR a) (BR lb) (16384 * b.val) h k.val) 31 d := by
  refine Eq.trans ?_ (cs_at a lb k b h 31 d)
  pointwise [lastc]

/-- The decayed queries by chunk, at an index. -/
theorem qes_at : qes a lb (ix5 k b h t d) = qe (qT (XR a) (16384 * b.val) h k.val) (lT (XR a) (BR lb) (16384 * b.val) h k.val) t d := by
  rw [qe, ← cs_at a lb k b h t d, ← qs_at a k b h t d]
  pointwise [qes]

/-- The keys relative to their chunk's start, at an index. -/
theorem kes_at : kes a lb (ix5 k b h t d) = ke (kT (XR a) (BR lb) (16384 * b.val) h k.val) (lT (XR a) (BR lb) (16384 * b.val) h k.val) t d := by
  rw [ke, ← cs_at a lb k b h t d, ← ks_at a lb k b h t d]
  pointwise [kes]

/-- The keys decayed to their chunk's end, at an index. -/
theorem kds_at : kds a lb (ix5 k b h t d) = kd (kT (XR a) (BR lb) (16384 * b.val) h k.val) (lT (XR a) (BR lb) (16384 * b.val) h k.val) t d := by
  rw [kd, ← cs_at a lb k b h t d, ← ks_at a lb k b h t d, ← lastc_at a lb k b h d]
  pointwise [kds]

/-- The decay of a whole chunk, at an index. -/
theorem tots_at : tots a lb (ix4 k b h d) = Ideal.exp (cum (lT (XR a) (BR lb) (16384 * b.val) h k.val) 31 d) := by
  rw [← lastc_at a lb k b h d]
  pointwise [tots]

/-- The causal mask at an index. -/
theorem tri_at (t s : Fin 32) : tri (ix2 t s) = if s.val ≤ t.val then 1#1 else 0#1 := by
  revert t s
  decide +kernel

/-- The masked products of queries and keys by chunk, at an index. -/
theorem atts_at (s : Fin 32) : atts a lb (ix5 k b h t s)
    = att (qT (XR a) (16384 * b.val) h k.val) (kT (XR a) (BR lb) (16384 * b.val) h k.val) (lT (XR a) (BR lb) (16384 * b.val) h k.val) t s := by
  have hs : atts a lb (ix5 k b h t s) = Scalar.select (tri (ix2 t s)) (∑ d : Fin 128, qes a lb (ix5 k b h t d) * kes a lb (ix5 k b h s d)) 0 := by
    pointwise [atts]
  rw [hs, tri_at, att]
  by_cases hst : s.val ≤ t.val
  · rw [if_pos hst, if_pos hst, Scalar.select, if_pos (by decide)]
    refine Finset.sum_congr rfl fun d _ => ?_
    rw [qes_at, kes_at]
  · rw [if_neg hst, if_neg hst, Scalar.select, if_neg (by decide)]

/-- The part of the output that stays within a chunk, at an index. -/
theorem intra_at : intra a lb (ix5 k b h t e) = ∑ s : Fin 32,
    att (qT (XR a) (16384 * b.val) h k.val) (kT (XR a) (BR lb) (16384 * b.val) h k.val) (lT (XR a) (BR lb) (16384 * b.val) h k.val) t s
      * vT (XR a) (16384 * b.val) h k.val s e := by
  have hd : intra a lb (ix5 k b h t e) = ∑ s : Fin 32, atts a lb (ix5 k b h t s) * vs a (ix5 k b h s e) := by
    pointwise [intra]
  rw [hd]
  refine Finset.sum_congr rfl fun s _ => ?_
  rw [atts_at, vs_at]

end

end Cert.ReferenceIdeal.Arrays

end
-- ==== Proof.RefStep.lean ====
/-
  One trip of the reference's loop as a function of the arrays it carries, read at an index, and the arrays its trips
  leave: the state before every chunk, and the outputs of the chunks done.
-/
module

public import proofs.«01_k».proof.Proof.RefAt
public import Idealize.ShloMosaic.Lib.Pointwise
public import Idealize.ShloMosaic.Lib.WordCmp

@[expose] public section

set_option maxRecDepth 16384

noncomputable section

open Idealize.ShloMosaic Cert.ReferenceIdeal Cert.ReferenceIdeal.Gen Cert.Chunk

namespace Cert.ReferenceIdeal.Arrays

/-- The states of all heads. -/
abbrev States := FVec Ideal S2x4x128x128 .f32
/-- One chunk of all heads. -/
abbrev Rows := FVec Ideal S2x4x32x128 .f32

/-- The start of chunk `i` in an array over chunks. -/
abbrev start5 (i : IVec S_ 32) : Fin 5 → Int := fun k => (((![i, constantI S_ 32 0#32, constantI S_ 32 0#32, constantI S_ 32 0#32, constantI S_ 32 0#32] : Fin 5 → IVec S_ 32)) k (Shape.Idx.first h_S_)).toInt
/-- The start of chunk `i` in the array of whole decays. -/
abbrev start4 (i : IVec S_ 32) : Fin 4 → Int := fun k => (((![i, constantI S_ 32 0#32, constantI S_ 32 0#32, constantI S_ 32 0#32] : Fin 4 → IVec S_ 32)) k (Shape.Idx.first h_S_)).toInt

/-- Chunk `i` of an array. -/
def pick (x : Chunked) (i : IVec S_ 32) : Rows :=
  shapeCast S2x4x32x128 (Host.dynamicSlice S1x2x4x32x128 x (start5 i) sliceFits_S512x2x4x32x128_S1x2x4x32x128) shapeCasts_S1x2x4x32x128_S2x4x32x128
/-- Chunk `i` of the whole decays. -/
def pickT (x : FVec Ideal S512x2x4x128 .f32) (i : IVec S_ 32) : FVec Ideal S2x4x128 .f32 :=
  shapeCast S2x4x128 (Host.dynamicSlice S1x2x4x128 x (start4 i) sliceFits_S512x2x4x128_S1x2x4x128) shapeCasts_S1x2x4x128_S2x4x128
/-- An array with chunk `i` replaced. -/
def put (x : Chunked) (y : Rows) (i : IVec S_ 32) : Chunked :=
  Host.dynamicUpdateSlice x (broadcastInDim S1x2x4x32x128 ![1, 2, 3, 4] bcast_S2x4x32x128_S1x2x4x32x128_1_2_3_4 y) (start5 i) updateFits_S512x2x4x32x128_S1x2x4x32x128

/-- The states after chunk `i`. -/
def stepS (tot : FVec Ideal S512x2x4x128 .f32) (kd v : Chunked) (i : IVec S_ 32) (S : States) : States :=
  addf (mulf (broadcastInDim S2x4x128x128 ![0, 1, 2, 3] bcast_S2x4x128x1_S2x4x128x128_0_1_2_3 (broadcastInDim S2x4x128x1 ![0, 1, 2] bcast_S2x4x128_S2x4x128x1_0_1_2 (pickT tot i))) S)
    (Host.dotGeneral (F := Ideal) dot_S2x4x32x128_S2x4x32x128_S2x4x128x128_2_2_3_3_01_01 none (pick kd i) (pick v i))
/-- The outputs from the states, with those of chunk `i`. -/
def stepO (q : Chunked) (i : IVec S_ 32) (S : States) (o : Chunked) : Chunked :=
  put o (Host.dotGeneral (F := Ideal) dot_S2x4x32x128_S2x4x128x128_S2x4x32x128_3_2_2_3_01_01 none (pick q i) S) i

/-- A word below 512 read as an integer. -/
theorem word_small (n : Fin 512) : (BitVec.ofNat 32 n.val).toInt = (n.val : Int) := by
  revert n
  decide +kernel

/-- The start of a chunk, as naturals. -/
theorem start5_at (n : Fin 512) (a : Fin 5) : start5 (fun _ => BitVec.ofNat 32 n.val) a = ((![n.val, 0, 0, 0, 0] : Fin 5 → ℕ) a : Int) :=
  match a with
  | ⟨0, _⟩ => word_small n
  | ⟨1, _⟩ => rfl
  | ⟨2, _⟩ => rfl
  | ⟨3, _⟩ => rfl
  | ⟨4, _⟩ => rfl

/-- The same for the whole decays. -/
theorem start4_at (n : Fin 512) (a : Fin 4) : start4 (fun _ => BitVec.ofNat 32 n.val) a = ((![n.val, 0, 0, 0] : Fin 4 → ℕ) a : Int) :=
  match a with
  | ⟨0, _⟩ => word_small n
  | ⟨1, _⟩ => rfl
  | ⟨2, _⟩ => rfl
  | ⟨3, _⟩ => rfl

/-- Every chunk lies inside. -/
theorem fits5 (n : Fin 512) : S512x2x4x32x128.Slices ![n.val, 0, 0, 0, 0] S1x2x4x32x128 := by
  revert n
  decide +kernel
/-- Every chunk of the whole decays lies inside. -/
theorem fits4 (n : Fin 512) : S512x2x4x128.Slices ![n.val, 0, 0, 0] S1x2x4x128 := by
  revert n
  decide +kernel

section
variable (n : Fin 512) (b : Fin 2) (h : Fin 4) (t : Fin 32) (d e : Fin 128)

/-- A chunk of an array at an index. -/
theorem pick_at (x : Chunked) : pick x (fun _ => BitVec.ofNat 32 n.val) (ix4 b h t d) = x (ix5 n b h t d) := by
  rw [pick, WordCmp.dynamicSlice_eq_extract _ _ _ _ ![n.val, 0, 0, 0, 0] (fits5 n) (start5_at n)]
  pointwise []

/-- A chunk of the whole decays at an index. -/
theorem pickT_at (x : FVec Ideal S512x2x4x128 .f32) : pickT x (fun _ => BitVec.ofNat 32 n.val) (ix3 b h d) = x (ix4 n b h d) := by
  rw [pickT, WordCmp.dynamicSlice_eq_extract _ _ _ _ ![n.val, 0, 0, 0] (fits4 n) (start4_at n)]
  pointwise []

/-- An array with a chunk replaced, at an index. -/
theorem put_at (x : Chunked) (y : Rows) (k : Fin 512) :
    put x y (fun _ => BitVec.ofNat 32 n.val) (ix5 k b h t d) = if k.val = n.val then y (ix4 b h t d) else x (ix5 k b h t d) := by
  rw [put, WordCmp.dynamicUpdateSlice_eq_update _ _ _ _ ![n.val, 0, 0, 0, 0] (fits5 n) (start5_at n)]
  by_cases hk : k.val = n.val
  · rw [if_pos hk]
    pointwise []
    rw [dif_pos (by omega)]
  · rw [if_neg hk]
    pointwise []
    rw [dif_neg (by omega)]

/-- The states after a chunk, at an index. -/
theorem stepS_at (tot : FVec Ideal S512x2x4x128 .f32) (kd v : Chunked) (S : States) :
    stepS tot kd v (fun _ => BitVec.ofNat 32 n.val) S (ix4 b h d e)
      = tot (ix4 n b h d) * S (ix4 b h d e) + ∑ t : Fin 32, kd (ix5 n b h t d) * v (ix5 n b h t e) := by
  have hp : stepS tot kd v (fun _ => BitVec.ofNat 32 n.val) S (ix4 b h d e)
      = pickT tot (fun _ => BitVec.ofNat 32 n.val) (ix3 b h d) * S (ix4 b h d e)
        + ∑ t : Fin 32, pick kd (fun _ => BitVec.ofNat 32 n.val) (ix4 b h t d) * pick v (fun _ => BitVec.ofNat 32 n.val) (ix4 b h t e) := by
    pointwise [stepS]
  rw [hp, pickT_at]
  refine congrArg _ (Finset.sum_congr rfl fun t _ => ?_)
  rw [pick_at, pick_at]

/-- The outputs after a chunk, at an index. -/
theorem stepO_at (q : Chunked) (S : States) (o : Chunked) (k : Fin 512) :
    stepO q (fun _ => BitVec.ofNat 32 n.val) S o (ix5 k b h t e)
      = if k.val = n.val then ∑ d : Fin 128, q (ix5 k b h t d) * S (ix4 b h d e) else o (ix5 k b h t e) := by
  rw [stepO, put_at]
  by_cases hk : k.val = n.val
  · have hp : Host.dotGeneral (F := Ideal) dot_S2x4x32x128_S2x4x128x128_S2x4x32x128_3_2_2_3_01_01 none (pick q (fun _ => BitVec.ofNat 32 n.val)) S (ix4 b h t e)
        = ∑ d : Fin 128, pick q (fun _ => BitVec.ofNat 32 n.val) (ix4 b h t d) * S (ix4 b h d e) := by
      pointwise []
    rw [if_pos hk, if_pos hk, hp]
    refine Finset.sum_congr rfl fun d _ => ?_
    rw [pick_at, Fin.ext hk]
  · rw [if_neg hk, if_neg hk]

end

variable (a : FVec Ideal S32768x2560 .f32) (lb : FVec Ideal S2x512 .f32)

/-- The states before chunk `k`. -/
def carryS : ℕ → States
  | 0 => broadcastInDim S2x4x128x128 ![] bcast_S_S2x4x128x128 (constant (F := Ideal) S_ .f32 0x00000000#32)
  | k + 1 => stepS (tots a lb) (kds a lb) (vs a) (fun _ => BitVec.ofNat 32 k) (carryS k)

/-- The outputs from the states, of the chunks below `k`. -/
def carryO : ℕ → Chunked
  | 0 => broadcastInDim S512x2x4x32x128 ![] bcast_S_S512x2x4x32x128 (constant (F := Ideal) S_ .f32 0x00000000#32)
  | k + 1 => stepO (qes a lb) (fun _ => BitVec.ofNat 32 k) (carryS a lb k) (carryO k)

/-- The states carried are the recurrence's. -/
theorem carryS_at (b : Fin 2) (h : Fin 4) : ∀ (k : ℕ) (hk : k ≤ 512) (d e : Fin 128),
    carryS a lb k (ix4 b h d e) = state (XR a) (BR lb) (16384 * b.val) h k d e
  | 0, _, d, e => by
    refine Eq.trans (b := 0) ?_ rfl
    pointwise [carryS]
  | k + 1, hk, d, e => by
    refine (stepS_at ⟨k, by omega⟩ b h d e _ _ _ _).trans ?_
    rw [carryS_at b h k (by omega), tots_at]
    refine Eq.trans (congrArg _ (Finset.sum_congr rfl fun t _ => ?_)) rfl
    rw [kds_at, vs_at]

/-- The outputs carried are the recurrence's, of the chunks done. -/
theorem carryO_at (b : Fin 2) (h : Fin 4) (j : Fin 512) (t : Fin 32) (e : Fin 128) : ∀ (k : ℕ) (hk : k ≤ 512), j.val < k →
    carryO a lb k (ix5 j b h t e) = ∑ d : Fin 128, qe (qT (XR a) (16384 * b.val) h j.val) (lT (XR a) (BR lb) (16384 * b.val) h j.val) t d
      * state (XR a) (BR lb) (16384 * b.val) h j.val d e
  | 0, _, hj => absurd hj (by omega)
  | k + 1, hk, hj => by
    refine (stepO_at ⟨k, by omega⟩ b h t e _ _ _ _).trans ?_
    by_cases hjk : j.val = k
    · rw [if_pos hjk]
      refine Finset.sum_congr rfl fun d _ => ?_
      rw [qes_at, carryS_at a lb b h k (by omega), hjk]
    · rw [if_neg hjk]
      exact carryO_at b h j t e k (by omega) (by omega)

/-- Out of chunks. -/
def long (x : Chunked) : Long :=
  shapeCast S2x16384x4x128 (transpose S2x512x32x4x128 [1, 0, 3, 2, 4] x transposes_S512x2x4x32x128_S2x512x32x4x128_1_0_3_2_4) shapeCasts_S2x512x32x4x128_S2x16384x4x128

/-- An array out of chunks at an index. -/
theorem long_at (x : Chunked) (k : Fin 512) (b : Fin 2) (h : Fin 4) (t : Fin 32) (d : Fin 128) (r : Fin 16384) (hr : r.val = 32 * k.val + t.val) :
    long x (ix4 b r h d) = x (ix5 k b h t d) := by
  have hp : long x (ix4 b r h d) = x (ix5 ⟨r.val / 32, by omega⟩ b h ⟨r.val % 32, by omega⟩ d) := by
    pointwise [long]
  rw [hp]
  have h1 : (⟨r.val / 32, by omega⟩ : Fin 512) = k := Fin.ext (show r.val / 32 = k.val by omega)
  have h2 : (⟨r.val % 32, by omega⟩ : Fin 32) = t := Fin.ext (show r.val % 32 = t.val by omega)
  rw [h1, h2]

/-- The outputs normed by their mean square and weighted. -/
def weighted (o : Chunked) (w : FVec Ideal S128 .f32) : Long :=
  let y := long o
  let s := Host.rsqrt (F := Ideal) (φ := .f32) (addf (Host.divf (broadcastInDim S2x16384x4x1 ![0, 1, 2] bcast_S2x16384x4_S2x16384x4x1_0_1_2
      (Host.reduceAdd (F := Ideal) (φ := .f32) (mulf y y) (constant (F := Ideal) S_ .f32 0x00000000#32) reducesTo_S2x16384x4x128_S2x16384x4_d3 h_S_))
    (broadcastInDim S2x16384x4x1 ![] bcast_S_S2x16384x4x1 (constant (F := Ideal) S_ .f32 0x43000000#32)))
    (broadcastInDim S2x16384x4x1 ![] bcast_S_S2x16384x4x1 (constant (F := Ideal) S_ .f32 0x358637BD#32)))
  mulf (mulf y (broadcastInDim S2x16384x4x128 ![0, 1, 2, 3] bcast_S2x16384x4x1_S2x16384x4x128_0_1_2_3 s))
    (broadcastInDim S2x16384x4x128 ![0, 1, 2, 3] bcast_S1x1x1x128_S2x16384x4x128_0_1_2_3 (broadcastInDim S1x1x1x128 ![3] bcast_S128_S1x1x1x128_3 w))

/-- The outputs normed, weighted and gated. -/
def tail (o : Chunked) (w : FVec Ideal S128 .f32) (g : Long) : FVec Ideal S32768x512 .f32 :=
  shapeCast S32768x512 (shapeCast S2x16384x512 (mulf (weighted o w) (mulf g (sigm g))) shapeCasts_S2x16384x4x128_S2x16384x512) shapeCasts_S2x16384x512_S32768x512

/-- The result at an index, of the outputs before the norm. -/
theorem tail_at (o : Chunked) (w : FVec Ideal S128 .f32) (g : Long) (k : Fin 512) (b : Fin 2) (h : Fin 4) (t : Fin 32) (e : Fin 128)
    (r : Fin 32768) (l : Fin 512) (hr : r.val = 16384 * b.val + 32 * k.val + t.val) (hl : l.val = 128 * h.val + e.val) :
    tail o w g (ix2 r l) = normed (fun d => o (ix5 k b h t d)) (w (ix1 e)) (g (ix4 b ⟨32 * k.val + t.val, by omega⟩ h e)) e := by
  have hp : tail o w g (ix2 r l) = normed (fun d => long o (ix4 ⟨r.val / 16384, by omega⟩ ⟨r.val % 16384, by omega⟩ ⟨l.val / 128, by omega⟩ d))
      (w (ix1 ⟨l.val % 128, by omega⟩)) (g (ix4 ⟨r.val / 16384, by omega⟩ ⟨r.val % 16384, by omega⟩ ⟨l.val / 128, by omega⟩ ⟨l.val % 128, by omega⟩)) ⟨l.val % 128, by omega⟩ := by
    pointwise [tail, weighted, normed, sigm_at]
  rw [hp]
  have h1 : (⟨r.val / 16384, by omega⟩ : Fin 2) = b := Fin.ext (show r.val / 16384 = b.val by omega)
  have h2 : (⟨r.val % 16384, by omega⟩ : Fin 16384) = ⟨32 * k.val + t.val, by omega⟩ := Fin.ext (show r.val % 16384 = 32 * k.val + t.val by omega)
  have h3 : (⟨l.val / 128, by omega⟩ : Fin 4) = h := Fin.ext (show l.val / 128 = h.val by omega)
  have h4 : (⟨l.val % 128, by omega⟩ : Fin 128) = e := Fin.ext (show l.val % 128 = e.val by omega)
  rw [h1, h2, h3, h4]
  exact congrArg (fun f => normed f _ _ e) (funext fun d => long_at o k b h t d _ rfl)

end Cert.ReferenceIdeal.Arrays

end
-- ==== Proof.RefEntry.lean ====
/-
  The reference's stretches of host operations before its loop, each read as a function of the buffers before it.
-/
module

public import proofs.«01_k».proof.Proof.RefStep
public import proofs.«01_k».proof.Proof.Gen.ReferenceIdeal.Run

@[expose] public section

set_option maxRecDepth 16384

noncomputable section

open Idealize.ShloMosaic Idealize.ShloMosaic.TcCoe Idealize.ShloMosaic.Tactic Idealize.ShloMosaic.StableHlo Idealize.SL.Sem
open Cert.ReferenceIdeal Cert.ReferenceIdeal.Gen Cert.ReferenceIdeal.Value Cert.ReferenceIdeal.Arrays

namespace Cert.ReferenceIdeal.Entry

/-- The softmax over the layers. -/
def soft (x : FVec Ideal S2x512 .f32) : FVec Ideal S2x512 .f32 :=
  let M := broadcastInDim S2x512 ![0, 1] bcast_S1x512_S2x512_0_1 (broadcastInDim S1x512 ![1] bcast_S512_S1x512_1
    (maximumf (broadcastInDim S512 ![] bcast_S_S512 (constant (F := Ideal) S_ .f32 0xFF800000#32))
      (Host.reduce (FloatOps.maximumf (F := Ideal) (φ := .f32)) x (constant (F := Ideal) S_ .f32 0xFF800000#32) reducesTo_S2x512_S512_d0 h_S_)))
  let E := Host.exp (F := Ideal) (subf x M)
  let Z := broadcastInDim S2x512 ![0, 1] bcast_S1x512_S2x512_0_1 (broadcastInDim S1x512 ![1] bcast_S512_S1x512_1
    (Host.reduceAdd (F := Ideal) E (constant (F := Ideal) S_ .f32 0x00000000#32) reducesTo_S2x512_S512_d0 h_S_))
  Host.divf E Z
/-- The running sum over the layers. -/
def runsum (x : FVec Ideal S2x512 .f32) : FVec Ideal S2x512 .f32 :=
  Host.reduceWindowAdd (F := Ideal) ![2, 1] ![1, 1] ![1, 0] ![0, 0] x (broadcastInDim S_ ![] bcast_S_S_ (constant (F := Ideal) S_ .f32 0x00000000#32))
    reduceWindows_S2x512_S2x512_w2s1p1_0_w1s1p0_0 h_S_
/-- The forget gates of the lower bounds by head and the raw gates. -/
def gateOf (b : FVec Ideal S4x128 .f32) (x : FVec Ideal S2x16384x512 .f32) : Long :=
  addf (spread b) (mulf (spread (subf (broadcastInDim S4x128 ![] bcast_S_S4x128 (constant (F := Ideal) S_ .f32 0x3F800000#32)) b))
    (sigm (shapeCast S2x16384x4x128 x shapeCasts_S2x16384x512_S2x16384x4x128)))
/-- The running sum along a chunk's rows. -/
def rowsum (x : Chunked) : Chunked :=
  Host.reduceWindowAdd (F := Ideal) ![1, 1, 1, 32, 1] ![1, 1, 1, 1, 1] ![0, 0, 0, 31, 0] ![0, 0, 0, 0, 0] x
    (broadcastInDim S_ ![] bcast_S_S_ (constant (F := Ideal) S_ .f32 0x00000000#32))
    reduceWindows_S512x2x4x32x128_S512x2x4x32x128_w1s1p0_0_w1s1p0_0_w1s1p0_0_w32s1p31_0_w1s1p0_0 h_S_
/-- The last row of each chunk. -/
def lastOf (x : Chunked) : FVec Ideal S512x2x4x1x128 .f32 := extractStridedSlice S512x2x4x1x128 ![0, 0, 0, 31, 0] x slices_S512x2x4x32x128_S512x2x4x1x128_0_0_0_31_0

variable (V : Valuation τ sig (Elt Ideal))

/-- The softmax over the layers. -/
theorem s0_soft : after hostOps0 V (Proc.devRef .tc main_v10) = soft (V (Proc.devRef .tc main_arg1)) := by
  after_reads_simp
  all_goals rfl

/-- The running sum over the layers. -/
theorem s1_v11 : after hostOps0_1 V (Proc.devRef .tc main_v11) = runsum (V (Proc.devRef .tc main_v10)) := by
  after_reads_simp
  all_goals rfl

/-- Columns 512 and on of the projections. -/
theorem s2_v14 : after hostOps0_2 V (Proc.devRef .tc main_v14) = extractStridedSlice S2x16384x512 ![0, 0, 512] (proj (V (Proc.devRef .tc main_arg0))) slices_S2x16384x2560_S2x16384x512_0_0_512 := by
  after_reads_simp
  all_goals rfl

/-- Columns 1024 and on of the projections. -/
theorem s2_v15 : after hostOps0_2 V (Proc.devRef .tc main_v15) = extractStridedSlice S2x16384x512 ![0, 0, 1024] (proj (V (Proc.devRef .tc main_arg0))) slices_S2x16384x2560_S2x16384x512_0_0_1024 := by
  after_reads_simp
  all_goals rfl

/-- Columns 1536 and on of the projections. -/
theorem s2_v16 : after hostOps0_2 V (Proc.devRef .tc main_v16) = extractStridedSlice S2x16384x512 ![0, 0, 1536] (proj (V (Proc.devRef .tc main_arg0))) slices_S2x16384x2560_S2x16384x512_0_0_1536 := by
  after_reads_simp
  all_goals rfl

/-- The norm's weights. -/
theorem s2_v20 : after hostOps0_2 V (Proc.devRef .tc main_v20) = shapeCast S128 (V (Proc.devRef .tc main_arg2)) shapeCasts_S1x128_S128 := by
  after_reads_simp
  all_goals rfl

/-- The lower bounds by head. -/
theorem s2_v21 : after hostOps0_2 V (Proc.devRef .tc main_v21) = low (V (Proc.devRef .tc main_v11)) := by
  after_reads_simp
  all_goals rfl

/-- The raw queries. -/
theorem s2_v22 : after hostOps0_2 V (Proc.devRef .tc main_v22) = rawQ (V (Proc.devRef .tc main_arg0)) := by
  after_reads_simp
  all_goals rfl

/-- The queries' activation. -/
theorem s3_v23 : after hostOps0_3 V (Proc.devRef .tc main_v23) = (mulf (V (Proc.devRef .tc main_v22)) (sigm (V (Proc.devRef .tc main_v22))) : Long) := by
  after_reads_simp
  all_goals rfl

/-- The scaled queries by chunk. -/
theorem s4_v42 : after hostOps0_4 V (Proc.devRef .tc main_v42) = chunked (mulf (φ := .f32) (F := Ideal) (V (Proc.devRef .tc main_v23)) (broadcastInDim S2x16384x4x128 ![] bcast_S_S2x16384x4x128 (constant (F := Ideal) S_ .f32 0x3DB504F3#32))) := by
  after_reads_simp
  all_goals rfl

/-- The keys by chunk. -/
theorem s4_v46 : after hostOps0_4 V (Proc.devRef .tc main_v46) = chunked (subf ones (gateOf (V (Proc.devRef .tc main_v21)) (V (Proc.devRef .tc main_v14)))) := by
  after_reads_simp
  all_goals rfl

/-- The values by chunk. -/
theorem s4_v49 : after hostOps0_4 V (Proc.devRef .tc main_v49) = chunked (shapeCast S2x16384x4x128 (V (Proc.devRef .tc main_v15)) shapeCasts_S2x16384x512_S2x16384x4x128) := by
  after_reads_simp
  all_goals rfl

/-- The log decays by chunk. -/
theorem s4_v52 : after hostOps0_4 V (Proc.devRef .tc main_v52) = chunked (Host.log (gateOf (V (Proc.devRef .tc main_v21)) (V (Proc.devRef .tc main_v14)))) := by
  after_reads_simp
  all_goals rfl

/-- The running sum along a chunk's rows. -/
theorem s5_v53 : after hostOps0_5 V (Proc.devRef .tc main_v53) = rowsum (V (Proc.devRef .tc main_v52)) := by
  after_reads_simp
  all_goals rfl

/-- The decayed queries. -/
theorem s6_v56 : after hostOps0_6 V (Proc.devRef .tc main_v56) = (mulf (V (Proc.devRef .tc main_v42)) (Host.exp (F := Ideal) (φ := .f32) (V (Proc.devRef .tc main_v53))) : Chunked) := by
  after_reads_simp
  all_goals rfl

/-- The keys with the decay divided out. -/
theorem s6_v59 : after hostOps0_6 V (Proc.devRef .tc main_v59) = (mulf (V (Proc.devRef .tc main_v46)) (Host.exp (Host.negf (F := Ideal) (φ := .f32) (V (Proc.devRef .tc main_v53)))) : Chunked) := by
  after_reads_simp
  all_goals rfl

/-- The keys decayed to the end. -/
theorem s6_v63 : after hostOps0_6 V (Proc.devRef .tc main_v63) = (mulf (V (Proc.devRef .tc main_v46)) (Host.exp (subf (broadcastInDim S512x2x4x32x128 ![0, 1, 2, 3, 4] bcast_S512x2x4x1x128_S512x2x4x32x128_0_1_2_3_4 (lastOf (V (Proc.devRef .tc main_v53)))) (V (Proc.devRef .tc main_v53)))) : Chunked) := by
  after_reads_simp
  all_goals rfl

/-- The whole decays. -/
theorem s6_v65 : after hostOps0_6 V (Proc.devRef .tc main_v65) = Host.exp (F := Ideal) (φ := .f32) (shapeCast S512x2x4x128 (lastOf (V (Proc.devRef .tc main_v53))) shapeCasts_S512x2x4x1x128_S512x2x4x128) := by
  after_reads_simp
  all_goals rfl

/-- All true. -/
theorem s6_v66 : after hostOps0_6 V (Proc.devRef .tc main_v66) = broadcastInDim S32x32 ![] bcast_S_S32x32 (constantI S_ 1 1#1) := by
  after_reads_simp
  all_goals rfl

/-- The lower triangle. -/
theorem s7_v67 : after hostOps0_7 V (Proc.devRef .tc main_v67) = select (cmpi .sge (addi (iotaInDim S32x32 32 0) (broadcastInDim S32x32 ![] bcast_S_S32x32 (constantI S_ 32 0#32))) (iotaInDim S32x32 32 1)) (V (Proc.devRef .tc main_v66)) (broadcastInDim S32x32 ![] bcast_S_S32x32 (constantI S_ 1 0#1)) := by
  after_reads_simp
  all_goals rfl

/-- The products of the queries and keys. -/
theorem s8_v68 : after hostOps0_8 V (Proc.devRef .tc main_v68) = Host.dotGeneral (F := Ideal) (φ₁ := .f32) (φ₂ := .f32) dot_S512x2x4x32x128_S512x2x4x32x128_S512x2x4x32x32_4_4_3_3_012_012 none (V (Proc.devRef .tc main_v56)) (V (Proc.devRef .tc main_v59)) := by
  after_reads_simp
  all_goals rfl

/-- Zero. -/
theorem s8_cst : after hostOps0_8 V (Proc.devRef .tc main_cst_7) = constant (F := Ideal) S_ .f32 0x00000000#32 := by
  after_reads_simp
  all_goals rfl

/-- The scores, masked. -/
theorem s9_v69 : after hostOps0_9 V (Proc.devRef .tc main_v69) = select (broadcastInDim S512x2x4x32x32 ![3, 4] bcast_S32x32_S512x2x4x32x32_3_4 (V (Proc.devRef .tc main_v67))) (V (Proc.devRef .tc main_v68)) (broadcastInDim S512x2x4x32x32 ![] bcast_S_S512x2x4x32x32 (V (Proc.devRef .tc main_cst_7))) := by
  after_reads_simp
  all_goals rfl

/-- The outputs from the rows of the chunk. -/
theorem s10_v70 : after hostOps0_10 V (Proc.devRef .tc main_v70) = Host.dotGeneral (F := Ideal) (φ₁ := .f32) (φ₂ := .f32) dot_S512x2x4x32x32_S512x2x4x32x128_S512x2x4x32x128_4_3_3_4_012_012 none (V (Proc.devRef .tc main_v69)) (V (Proc.devRef .tc main_v49)) := by
  after_reads_simp
  all_goals rfl

/-- The carried decayed queries. -/
theorem s10_v73_0 : after hostOps0_10 V (Proc.devRef .tc main_v73_0) = V (Proc.devRef .tc main_v56) := by
  after_reads_simp
  all_goals rfl

/-- The carried decayed keys. -/
theorem s10_v73_1 : after hostOps0_10 V (Proc.devRef .tc main_v73_1) = V (Proc.devRef .tc main_v63) := by
  after_reads_simp
  all_goals rfl

/-- The carried values. -/
theorem s10_v73_2 : after hostOps0_10 V (Proc.devRef .tc main_v73_2) = V (Proc.devRef .tc main_v49) := by
  after_reads_simp
  all_goals rfl

/-- The carried whole decays. -/
theorem s10_v73_3 : after hostOps0_10 V (Proc.devRef .tc main_v73_3) = V (Proc.devRef .tc main_v65) := by
  after_reads_simp
  all_goals rfl

/-- The zero states. -/
theorem s10_v73_5 : after hostOps0_10 V (Proc.devRef .tc main_v73_5) = broadcastInDim S2x4x128x128 ![] bcast_S_S2x4x128x128 (constant (F := Ideal) S_ .f32 0x00000000#32) := by
  after_reads_simp
  all_goals rfl

/-- The zero outputs. -/
theorem s10_v73_6 : after hostOps0_10 V (Proc.devRef .tc main_v73_6) = broadcastInDim S512x2x4x32x128 ![] bcast_S_S512x2x4x32x128 (constant (F := Ideal) S_ .f32 0x00000000#32) := by
  after_reads_simp
  all_goals rfl

end Cert.ReferenceIdeal.Entry

end
-- ==== Proof.RefLoop.lean ====
/-
  The reference's run: its buffers when the loop starts, after every trip, and its result, as the recurrence over whole
  sequences.
-/
module

public import proofs.«01_k».proof.Proof.RefEntry

@[expose] public section

set_option maxRecDepth 16384

noncomputable section

open Idealize.ShloMosaic Idealize.ShloMosaic.TcCoe Idealize.ShloMosaic.Tactic Idealize.ShloMosaic.StableHlo Idealize.SL.Sem
open Cert.ReferenceIdeal Cert.ReferenceIdeal.Gen Cert.ReferenceIdeal.Value Cert.ReferenceIdeal.Arrays

namespace Cert.ReferenceIdeal.Entry

variable (m : (ℓ : Loc nD τ sig) → Buf (Elt Ideal) ℓ) (c : Dev nD)

/-- The projections. -/
abbrev A : FVec Ideal S32768x2560 .f32 := m ((c : Thread nD τ).loc main_arg0)
/-- The lower bounds of all layers. -/
def LB : FVec Ideal S2x512 .f32 := runsum (soft (m ((c : Thread nD τ).loc main_arg1)))

/-- The buffers at launch. -/
def V0 : Valuation τ sig (Elt Ideal) := entryContents [] m c
/-- The buffers after each stretch before the loop, in order. -/
def V1 : Valuation τ sig (Elt Ideal) := after hostOps0 (V0 m c)
/-- After the second stretch. -/
def V2 : Valuation τ sig (Elt Ideal) := after hostOps0_1 (V1 m c)
/-- After the third stretch. -/
def V3 : Valuation τ sig (Elt Ideal) := after hostOps0_2 (V2 m c)
/-- After the fourth stretch. -/
def V4 : Valuation τ sig (Elt Ideal) := after hostOps0_3 (V3 m c)
/-- After the fifth stretch. -/
def V5 : Valuation τ sig (Elt Ideal) := after hostOps0_4 (V4 m c)
/-- After the sixth stretch. -/
def V6 : Valuation τ sig (Elt Ideal) := after hostOps0_5 (V5 m c)
/-- After the seventh stretch. -/
def V7 : Valuation τ sig (Elt Ideal) := after hostOps0_6 (V6 m c)
/-- After the eighth stretch. -/
def V8 : Valuation τ sig (Elt Ideal) := after hostOps0_7 (V7 m c)
/-- After the ninth stretch. -/
def V9 : Valuation τ sig (Elt Ideal) := after hostOps0_8 (V8 m c)
/-- After the tenth stretch. -/
def V10 : Valuation τ sig (Elt Ideal) := after hostOps0_9 (V9 m c)
/-- The buffers when the loop starts. -/
def Z : Valuation τ sig (Elt Ideal) := after hostOps0_10 (V10 m c)

/-- They are the loop's entry contents. -/
theorem Z_eq : entryContents preI m c = Z m c := rfl

/-- A stretch that does not write a buffer keeps it. -/
theorem keep0 {r : Ref sig .tc} (h : r ∉ hostOps0_W) : V1 m c (Proc.devRef .tc r) = V0 m c (Proc.devRef .tc r) := after_of_writes_sub hostOps0 _ hostOps0_writes h
/-- The second stretch keeps what it does not write. -/
theorem keep1 {r : Ref sig .tc} (h : r ∉ hostOps0_1_W) : V2 m c (Proc.devRef .tc r) = V1 m c (Proc.devRef .tc r) := after_of_writes_sub hostOps0_1 _ hostOps0_1_writes h
/-- The third stretch keeps what it does not write. -/
theorem keep2 {r : Ref sig .tc} (h : r ∉ hostOps0_2_W) : V3 m c (Proc.devRef .tc r) = V2 m c (Proc.devRef .tc r) := after_of_writes_sub hostOps0_2 _ hostOps0_2_writes h
/-- The fourth stretch keeps what it does not write. -/
theorem keep3 {r : Ref sig .tc} (h : r ∉ hostOps0_3_W) : V4 m c (Proc.devRef .tc r) = V3 m c (Proc.devRef .tc r) := after_of_writes_sub hostOps0_3 _ hostOps0_3_writes h
/-- The fifth stretch keeps what it does not write. -/
theorem keep4 {r : Ref sig .tc} (h : r ∉ hostOps0_4_W) : V5 m c (Proc.devRef .tc r) = V4 m c (Proc.devRef .tc r) := after_of_writes_sub hostOps0_4 _ hostOps0_4_writes h
/-- The sixth stretch keeps what it does not write. -/
theorem keep5 {r : Ref sig .tc} (h : r ∉ hostOps0_5_W) : V6 m c (Proc.devRef .tc r) = V5 m c (Proc.devRef .tc r) := after_of_writes_sub hostOps0_5 _ hostOps0_5_writes h
/-- The seventh stretch keeps what it does not write. -/
theorem keep6 {r : Ref sig .tc} (h : r ∉ hostOps0_6_W) : V7 m c (Proc.devRef .tc r) = V6 m c (Proc.devRef .tc r) := after_of_writes_sub hostOps0_6 _ hostOps0_6_writes h
/-- The eighth stretch keeps what it does not write. -/
theorem keep7 {r : Ref sig .tc} (h : r ∉ hostOps0_7_W) : V8 m c (Proc.devRef .tc r) = V7 m c (Proc.devRef .tc r) := after_of_writes_sub hostOps0_7 _ hostOps0_7_writes h
/-- The ninth stretch keeps what it does not write. -/
theorem keep8 {r : Ref sig .tc} (h : r ∉ hostOps0_8_W) : V9 m c (Proc.devRef .tc r) = V8 m c (Proc.devRef .tc r) := after_of_writes_sub hostOps0_8 _ hostOps0_8_writes h
/-- The tenth stretch keeps what it does not write. -/
theorem keep9 {r : Ref sig .tc} (h : r ∉ hostOps0_9_W) : V10 m c (Proc.devRef .tc r) = V9 m c (Proc.devRef .tc r) := after_of_writes_sub hostOps0_9 _ hostOps0_9_writes h
/-- The last stretch keeps what it does not write. -/
theorem keep10 {r : Ref sig .tc} (h : r ∉ hostOps0_10_W) : Z m c (Proc.devRef .tc r) = V10 m c (Proc.devRef .tc r) := after_of_writes_sub hostOps0_10 _ hostOps0_10_writes h

/-- A buffer at launch is the memory's. -/
theorem V0_at (r : Ref sig .tc) : V0 m c (Proc.devRef .tc r) = m ((c : Thread nD τ).loc r) := rfl

/-- The lower bounds after the second stretch. -/
theorem v11_at : V2 m c (Proc.devRef .tc main_v11) = LB m c := by
  refine (s1_v11 (V1 m c)).trans (congrArg runsum ?_)
  exact s0_soft (V0 m c)
/-- The projections are kept up to the third stretch. -/
theorem arg0_at : V2 m c (Proc.devRef .tc main_arg0) = A m c := by
  rw [keep1 m c (by decide), keep0 m c (by decide), V0_at]
/-- The weights are kept up to the third stretch. -/
theorem arg2_at : V2 m c (Proc.devRef .tc main_arg2) = m ((c : Thread nD τ).loc main_arg2) := by
  rw [keep1 m c (by decide), keep0 m c (by decide), V0_at]
/-- The raw queries after the third stretch. -/
theorem v22_at : V3 m c (Proc.devRef .tc main_v22) = rawQ (A m c) := by
  refine (s2_v22 (V2 m c)).trans ?_
  rw [arg0_at]
/-- The lower bounds by head after the third stretch. -/
theorem v21_at : V3 m c (Proc.devRef .tc main_v21) = low (LB m c) := by
  refine (s2_v21 (V2 m c)).trans ?_
  rw [v11_at]
/-- The raw gates after the third stretch. -/
theorem v14_at : V3 m c (Proc.devRef .tc main_v14) = extractStridedSlice S2x16384x512 ![0, 0, 512] (proj (A m c)) slices_S2x16384x2560_S2x16384x512_0_0_512 := by
  refine (s2_v14 (V2 m c)).trans ?_
  rw [arg0_at]
/-- The values after the third stretch. -/
theorem v15_at : V3 m c (Proc.devRef .tc main_v15) = extractStridedSlice S2x16384x512 ![0, 0, 1024] (proj (A m c)) slices_S2x16384x2560_S2x16384x512_0_0_1024 := by
  refine (s2_v15 (V2 m c)).trans ?_
  rw [arg0_at]
/-- The forget gates, as the fifth stretch reads its operands. -/
theorem gate_at : gateOf (V4 m c (Proc.devRef .tc main_v21)) (V4 m c (Proc.devRef .tc main_v14)) = gates (A m c) (LB m c) := by
  rw [keep3 m c (by decide), keep3 m c (by decide), v21_at, v14_at]
  rfl
/-- The scaled queries after the fifth stretch. -/
theorem v42_at : V5 m c (Proc.devRef .tc main_v42) = qs (A m c) := by
  refine (s4_v42 (V4 m c)).trans ?_
  rw [show V4 m c (Proc.devRef .tc main_v23) = _ from s3_v23 (V3 m c), v22_at]
  rfl
/-- The keys after the fifth stretch. -/
theorem v46_at : V5 m c (Proc.devRef .tc main_v46) = ks (A m c) (LB m c) := by
  refine (s4_v46 (V4 m c)).trans ?_
  rw [gate_at]
  rfl
/-- The values by chunk after the fifth stretch. -/
theorem v49_at : V5 m c (Proc.devRef .tc main_v49) = vs (A m c) := by
  refine (s4_v49 (V4 m c)).trans ?_
  rw [keep3 m c (by decide), v15_at]
  rfl
/-- The log decays summed, after the sixth stretch. -/
theorem v53_at : V6 m c (Proc.devRef .tc main_v53) = cs (A m c) (LB m c) := by
  refine (s5_v53 (V5 m c)).trans ?_
  rw [show V5 m c (Proc.devRef .tc main_v52) = _ from s4_v52 (V4 m c), gate_at]
  rfl
/-- The decayed queries. -/
theorem v56_at : V7 m c (Proc.devRef .tc main_v56) = qes (A m c) (LB m c) := by
  refine (s6_v56 (V6 m c)).trans ?_
  rw [keep5 m c (by decide), v42_at, v53_at]
  rfl
/-- The keys with the decay divided out. -/
theorem v59_at : V7 m c (Proc.devRef .tc main_v59) = kes (A m c) (LB m c) := by
  refine (s6_v59 (V6 m c)).trans ?_
  rw [keep5 m c (by decide), v46_at, v53_at]
  rfl
/-- The keys decayed to the end of the chunk. -/
theorem v63_at : V7 m c (Proc.devRef .tc main_v63) = kds (A m c) (LB m c) := by
  refine (s6_v63 (V6 m c)).trans ?_
  rw [keep5 m c (by decide), v46_at, v53_at]
  rfl
/-- The whole decays. -/
theorem v65_at : V7 m c (Proc.devRef .tc main_v65) = tots (A m c) (LB m c) := by
  refine (s6_v65 (V6 m c)).trans ?_
  rw [v53_at]
  rfl
/-- The lower triangle. -/
theorem v67_at : V8 m c (Proc.devRef .tc main_v67) = tri := by
  refine (s7_v67 (V7 m c)).trans ?_
  rw [show V7 m c (Proc.devRef .tc main_v66) = _ from s6_v66 (V6 m c)]
  rfl
/-- The scores. -/
theorem v69_at : V10 m c (Proc.devRef .tc main_v69) = atts (A m c) (LB m c) := by
  refine (s9_v69 (V9 m c)).trans ?_
  rw [show V9 m c (Proc.devRef .tc main_v68) = _ from s8_v68 (V8 m c), show V9 m c (Proc.devRef .tc main_cst_7) = _ from s8_cst (V8 m c),
    keep8 m c (by decide), v67_at, keep7 m c (by decide), v56_at, keep7 m c (by decide), v59_at]
  rfl
/-- The values, when the last stretch reads them. -/
theorem v49_late : V10 m c (Proc.devRef .tc main_v49) = vs (A m c) := by
  rw [keep9 m c (by decide), keep8 m c (by decide), keep7 m c (by decide), keep6 m c (by decide), keep5 m c (by decide), v49_at]

/-- The loop starts from the decayed queries. -/
theorem q_entry : Z m c (Proc.devRef .tc main_v73_0) = qes (A m c) (LB m c) := by
  refine (s10_v73_0 (V10 m c)).trans ?_
  rw [keep9 m c (by decide), keep8 m c (by decide), keep7 m c (by decide), v56_at]
/-- The loop starts from the decayed keys. -/
theorem kd_entry : Z m c (Proc.devRef .tc main_v73_1) = kds (A m c) (LB m c) := by
  refine (s10_v73_1 (V10 m c)).trans ?_
  rw [keep9 m c (by decide), keep8 m c (by decide), keep7 m c (by decide), v63_at]
/-- The loop starts from the values. -/
theorem v_entry : Z m c (Proc.devRef .tc main_v73_2) = vs (A m c) := (s10_v73_2 (V10 m c)).trans (v49_late m c)
/-- The loop starts from the whole decays. -/
theorem tot_entry : Z m c (Proc.devRef .tc main_v73_3) = tots (A m c) (LB m c) := by
  refine (s10_v73_3 (V10 m c)).trans ?_
  rw [keep9 m c (by decide), keep8 m c (by decide), keep7 m c (by decide), v65_at]
/-- The loop starts from zero states. -/
theorem s_entry : Z m c (Proc.devRef .tc main_v73_5) = carryS (A m c) (LB m c) 0 := s10_v73_5 (V10 m c)
/-- The loop starts from zero outputs. -/
theorem o_entry : Z m c (Proc.devRef .tc main_v73_6) = carryO (A m c) (LB m c) 0 := s10_v73_6 (V10 m c)
/-- The outputs from the rows of the chunk, when the loop starts. -/
theorem intra_entry : Z m c (Proc.devRef .tc main_v70) = intra (A m c) (LB m c) := by
  refine (s10_v70 (V10 m c)).trans ?_
  rw [v69_at, v49_late]
  rfl
/-- A buffer no stretch after the third writes is, when the loop starts, what the third left. -/
theorem late {r : Ref sig .tc} (h3 : r ∉ hostOps0_3_W) (h4 : r ∉ hostOps0_4_W) (h5 : r ∉ hostOps0_5_W) (h6 : r ∉ hostOps0_6_W)
    (h7 : r ∉ hostOps0_7_W) (h8 : r ∉ hostOps0_8_W) (h9 : r ∉ hostOps0_9_W) (h10 : r ∉ hostOps0_10_W) :
    Z m c (Proc.devRef .tc r) = V3 m c (Proc.devRef .tc r) := by
  rw [keep10 m c h10, keep9 m c h9, keep8 m c h8, keep7 m c h7, keep6 m c h6, keep5 m c h5, keep4 m c h4, keep3 m c h3]
/-- The output gates, when the loop starts. -/
theorem g_entry : Z m c (Proc.devRef .tc main_v16) = extractStridedSlice S2x16384x512 ![0, 0, 1536] (proj (A m c)) slices_S2x16384x2560_S2x16384x512_0_0_1536 := by
  rw [late m c (by decide) (by decide) (by decide) (by decide) (by decide) (by decide) (by decide) (by decide)]
  refine (s2_v16 (V2 m c)).trans ?_
  rw [arg0_at]
/-- The norm's weights, when the loop starts. -/
theorem w_entry : Z m c (Proc.devRef .tc main_v20) = shapeCast S128 (m ((c : Thread nD τ).loc main_arg2)) shapeCasts_S1x128_S128 := by
  rw [late m c (by decide) (by decide) (by decide) (by decide) (by decide) (by decide) (by decide) (by decide)]
  refine (s2_v20 (V2 m c)).trans ?_
  rw [arg2_at]
/-- An argument, when the loop starts. -/
theorem arg_entry {r : Ref sig .tc} (h0 : r ∉ hostOps0_W) (h1 : r ∉ hostOps0_1_W) (h2 : r ∉ hostOps0_2_W) (h3 : r ∉ hostOps0_3_W) (h4 : r ∉ hostOps0_4_W)
    (h5 : r ∉ hostOps0_5_W) (h6 : r ∉ hostOps0_6_W) (h7 : r ∉ hostOps0_7_W) (h8 : r ∉ hostOps0_8_W) (h9 : r ∉ hostOps0_9_W) (h10 : r ∉ hostOps0_10_W) :
    Z m c (Proc.devRef .tc r) = m ((c : Thread nD τ).loc r) := by
  rw [late m c h3 h4 h5 h6 h7 h8 h9 h10, keep2 m c h2, keep1 m c h1, keep0 m c h0, V0_at]

end Cert.ReferenceIdeal.Entry

end
-- ==== Proof.RefRun.lean ====
/-
  The reference's run: after every trip of its loop, and its result at an index, as the recurrence over whole sequences.
-/
module

public import proofs.«01_k».proof.Proof.RefLoop
public import Idealize.ShloMosaic.Lib.Quiescent

@[expose] public section

set_option maxRecDepth 16384

noncomputable section

open Idealize.ShloMosaic Idealize.ShloMosaic.TcCoe Idealize.ShloMosaic.Tactic Idealize.ShloMosaic.StableHlo Idealize.SL.Sem
open Cert.ReferenceIdeal Cert.ReferenceIdeal.Gen Cert.ReferenceIdeal.Value Cert.ReferenceIdeal.Arrays Cert.Chunk

namespace Cert.ReferenceIdeal.Entry

/-! The buffers the stretches after the loop write. -/

/-- The buffers the first stretch after the loop writes, in order. -/
abbrev hostOps0_11_W : List (Ref sig .tc) := [main_v74, main_v75, main_v76, main_v77, main_cst_11, main_v78, main_v79, main_cst_12, main_v80, main_v81, main_cst_13, main_v82, main_v83, main_v84, main_v85, main_v86, main_v87, main_v88, main_v89, main_v90]
/-- It writes no others. -/
theorem hostOps0_11_writes : (hostOps0_11 : List (HloOp τ sig (Elt Ideal))).Forall fun op => op.writes ⊆ (hostOps0_11_W.map (Proc.devRef (τ := τ) .tc)).toFinset :=
  StableHlo.forall_writes_sub_of_map rfl
/-- The buffers the second stretch after the loop writes, in order. -/
abbrev hostOps0_12_W : List (Ref sig .tc) := [main_call10_v0, main_call10_v1, main_call10_cst, main_call10_v2, main_call10_v3, main_call10_cst_0, main_call10_v4, main_call10_v5, main_v91]
/-- It writes no others. -/
theorem hostOps0_12_writes : (hostOps0_12 : List (HloOp τ sig (Elt Ideal))).Forall fun op => op.writes ⊆ (hostOps0_12_W.map (Proc.devRef (τ := τ) .tc)).toFinset :=
  StableHlo.forall_writes_sub_of_map rfl
/-- The buffers the last stretch after the loop writes, in order. -/
abbrev hostOps0_13_W : List (Ref sig .tc) := [main_v92, main_v93, main_v94]
/-- It writes no others. -/
theorem hostOps0_13_writes : (hostOps0_13 : List (HloOp τ sig (Elt Ideal))).Forall fun op => op.writes ⊆ (hostOps0_13_W.map (Proc.devRef (τ := τ) .tc)).toFinset :=
  StableHlo.forall_writes_sub_of_map rfl

section
variable (V : Valuation τ sig (Elt Ideal))

/-- The outputs normed and weighted, after the loop. -/
theorem p11_v89 : after hostOps0_11 V (Proc.devRef .tc main_v89)
    = weighted (addf (F := Ideal) (φ := .f32) (V (Proc.devRef .tc main_v70)) (V (Proc.devRef .tc main_v73_6))) (V (Proc.devRef .tc main_v20)) := by
  after_reads_simp
  all_goals rfl
/-- The output gates by head. -/
theorem p11_v90 : after hostOps0_11 V (Proc.devRef .tc main_v90) = shapeCast S2x16384x4x128 (V (Proc.devRef .tc main_v16)) shapeCasts_S2x16384x512_S2x16384x4x128 := by
  after_reads_simp
  all_goals rfl
/-- The output gates' activation. -/
theorem p12_v91 : after hostOps0_12 V (Proc.devRef .tc main_v91) = (mulf (V (Proc.devRef .tc main_v90)) (sigm (V (Proc.devRef .tc main_v90))) : Long) := by
  after_reads_simp
  all_goals rfl
/-- The result. -/
theorem p13_v94 : after hostOps0_13 V (Proc.devRef .tc main_v94)
    = shapeCast S32768x512 (shapeCast S2x16384x512 (mulf (F := Ideal) (φ := .f32) (V (Proc.devRef .tc main_v89)) (V (Proc.devRef .tc main_v91))) shapeCasts_S2x16384x4x128_S2x16384x512) shapeCasts_S2x16384x512_S32768x512 := by
  after_reads_simp
  all_goals rfl
/-- The three stretches after the loop, as one function of the buffers it leaves. -/
theorem post_result : afterL postI V (Proc.devRef .tc main_v94)
    = tail (addf (F := Ideal) (φ := .f32) (V (Proc.devRef .tc main_v70)) (V (Proc.devRef .tc main_v73_6))) (V (Proc.devRef .tc main_v20))
        (shapeCast S2x16384x4x128 (V (Proc.devRef .tc main_v16)) shapeCasts_S2x16384x512_S2x16384x4x128) := by
  simp only [afterL_cons, afterL_nil]
  rw [p13_v94, p12_v91, p11_v90, after_of_writes_sub hostOps0_12 _ hostOps0_12_writes (by decide), p11_v89]
  rfl
/-- The stretches after the loop keep what they do not write. -/
theorem post_keep {r : Ref sig .tc} (h1 : r ∉ hostOps0_11_W) (h2 : r ∉ hostOps0_12_W) (h3 : r ∉ hostOps0_13_W) :
    afterL postI V (Proc.devRef .tc r) = V (Proc.devRef .tc r) := by
  simp only [afterL_cons, afterL_nil]
  rw [after_of_writes_sub hostOps0_13 _ hostOps0_13_writes h3, after_of_writes_sub hostOps0_12 _ hostOps0_12_writes h2,
    after_of_writes_sub hostOps0_11 _ hostOps0_11_writes h1]
/-- One trip keeps what it does not write. -/
theorem trip_keep {r : Ref sig .tc} (hc : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) (h6 : r ∉ while0Ops0_6_W) :
    afterL bodyI (after condOps V) (Proc.devRef .tc r) = V (Proc.devRef .tc r) := by
  simp only [afterL_cons, afterL_nil]
  rw [after_of_writes_sub while0Ops0_6 _ while0Ops0_6_writes h6, after_of_writes_sub while0Ops0_5 _ while0Ops0_5_writes h5,
    after_of_writes_sub while0Ops0_4 _ while0Ops0_4_writes h4, after_of_writes_sub while0Ops0_3 _ while0Ops0_3_writes h3,
    after_of_writes_sub while0Ops0_2 _ while0Ops0_2_writes h2, after_of_writes_sub while0Ops0_1 _ while0Ops0_1_writes h1,
    after_of_writes_sub while0Ops0 _ while0Ops0_writes h0, after_of_writes_sub condOps _ condOps_writes hc]

end

variable (m : (ℓ : Loc nD τ sig) → Buf (Elt Ideal) ℓ) (c : Dev nD)

/-- The loop keeps what no trip writes. -/
theorem loop_keep {r : Ref sig .tc} (hc : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) (h6 : r ∉ while0Ops0_6_W) (k : ℕ) :
    after condOps (atK m k c) (Proc.devRef .tc r) = Z m c (Proc.devRef .tc r) := by
  rw [after_of_writes_sub condOps _ condOps_writes hc]
  induction k with
  | zero => rfl
  | succ k ih => exact (trip_keep (atK m k c) hc h0 h1 h2 h3 h4 h5 h6).trans ih

/-- The carried buffers after `k` trips. -/
abbrev W (k : ℕ) : Valuation τ sig (Elt Ideal) := STEP^[k] (entryContents preI m c)

/-- One more trip. -/
theorem W_succ (k : ℕ) : W m c (k + 1) = STEP (W m c k) := Function.iterate_succ_apply' ..

/-- The trip counter. -/
theorem W_ctr (k : ℕ) : W m c k (Proc.devRef .tc main_v73_4) = fun _ => BitVec.ofNat 32 k := by
  refine (atK_agree m c k main_v73_4 (by decide)).symm.trans ((atK_ctr m c k).trans (funext fun _ => ?_))
  rw [Scf.iv, BitVec.mul_one, BitVec.zero_add]

/-- The decayed queries stay. -/
theorem W_q (k : ℕ) : W m c k (Proc.devRef .tc main_v73_0) = qes (A m c) (LB m c) := by
  induction k with
  | zero => exact q_entry m c
  | succ k ih => rw [W_succ, STEP_main_v73_0, ih]
/-- The decayed keys stay. -/
theorem W_kd (k : ℕ) : W m c k (Proc.devRef .tc main_v73_1) = kds (A m c) (LB m c) := by
  induction k with
  | zero => exact kd_entry m c
  | succ k ih => rw [W_succ, STEP_main_v73_1, ih]
/-- The values stay. -/
theorem W_v (k : ℕ) : W m c k (Proc.devRef .tc main_v73_2) = vs (A m c) := by
  induction k with
  | zero => exact v_entry m c
  | succ k ih => rw [W_succ, STEP_main_v73_2, ih]
/-- The whole decays stay. -/
theorem W_tot (k : ℕ) : W m c k (Proc.devRef .tc main_v73_3) = tots (A m c) (LB m c) := by
  induction k with
  | zero => exact tot_entry m c
  | succ k ih => rw [W_succ, STEP_main_v73_3, ih]

/-- A trip's states, of the buffers before it. -/
theorem trip_s (V : Valuation τ sig (Elt Ideal)) : step_main_v73_5 V = stepS (V (Proc.devRef .tc main_v73_3)) (V (Proc.devRef .tc main_v73_1))
    (V (Proc.devRef .tc main_v73_2)) (V (Proc.devRef .tc main_v73_4)) (V (Proc.devRef .tc main_v73_5)) := rfl
/-- A trip's outputs, of the buffers before it. -/
theorem trip_o (V : Valuation τ sig (Elt Ideal)) : step_main_v73_6 V = stepO (V (Proc.devRef .tc main_v73_0)) (V (Proc.devRef .tc main_v73_4))
    (V (Proc.devRef .tc main_v73_5)) (V (Proc.devRef .tc main_v73_6)) := by
  unfold step_main_v73_6 stepO put pick
  rfl

/-- The states after `k` trips. -/
theorem W_s (k : ℕ) : W m c k (Proc.devRef .tc main_v73_5) = carryS (A m c) (LB m c) k := by
  induction k with
  | zero => exact s_entry m c
  | succ k ih =>
    rw [W_succ, STEP_main_v73_5, trip_s, W_tot, W_kd, W_v, W_ctr, ih]
    rfl
/-- The outputs after `k` trips. -/
theorem W_o (k : ℕ) : W m c k (Proc.devRef .tc main_v73_6) = carryO (A m c) (LB m c) k := by
  induction k with
  | zero => exact o_entry m c
  | succ k ih =>
    rw [W_succ, STEP_main_v73_6, trip_o, W_q, W_ctr, W_s, ih]
    rfl

/-- The outputs the loop leaves. -/
theorem loop_o : after condOps (atK m 512 c) (Proc.devRef .tc main_v73_6) = carryO (A m c) (LB m c) 512 := by
  rw [after_of_writes_sub condOps _ condOps_writes (by decide), atK_agree m c 512 main_v73_6 (by decide)]
  exact W_o m c 512

/-- The reference's result, as one array of its arguments. -/
theorem result_eq : finalContents condOps preI bodyI postI 512 m c (Proc.devRef .tc main_v94)
    = tail (addf (intra (A m c) (LB m c)) (carryO (A m c) (LB m c) 512)) (shapeCast S128 (m ((c : Thread nD τ).loc main_arg2)) shapeCasts_S1x128_S128) (rawG (A m c)) := by
  refine (post_result (after condOps (atK m 512 c))).trans ?_
  rw [loop_o, loop_keep m c (by decide) (by decide) (by decide) (by decide) (by decide) (by decide) (by decide) (by decide) 512, intra_entry,
    loop_keep m c (by decide) (by decide) (by decide) (by decide) (by decide) (by decide) (by decide) (by decide) 512, w_entry,
    loop_keep m c (by decide) (by decide) (by decide) (by decide) (by decide) (by decide) (by decide) (by decide) 512, g_entry]
  rfl

/-- The reference's result at an index. -/
theorem result_at (b : Fin 2) (k : Fin 512) (j : Fin 32) (h : Fin 4) (e : Fin 128) (r : Fin 32768) (l : Fin 512)
    (hr : r.val = 16384 * b.val + 32 * k.val + j.val) (hl : l.val = 128 * h.val + e.val) :
    (finalContents condOps preI bodyI postI 512 m c (Proc.devRef .tc main_v94) : FVec Ideal S32768x512 .f32) (ix2 r l)
      = result (XR (A m c)) (BR (LB m c)) (16384 * b.val) h (fun e => m ((c : Thread nD τ).loc main_arg2) (ix2 0 e)) k.val j e := by
  rw [result_eq, tail_at _ _ _ k b h j e r l hr hl, result, rawG_at]
  have hw : shapeCast S128 (m ((c : Thread nD τ).loc main_arg2) : FVec Ideal S1x128 .f32) shapeCasts_S1x128_S128 (ix1 e)
      = (m ((c : Thread nD τ).loc main_arg2) : FVec Ideal S1x128 .f32) (ix2 0 e) := by
    pointwise []
  have ho : (fun d => addf (intra (A m c) (LB m c)) (carryO (A m c) (LB m c) 512) (ix5 k b h j d))
      = fun d => out (qT (XR (A m c)) (16384 * b.val) h k.val) (kT (XR (A m c)) (BR (LB m c)) (16384 * b.val) h k.val) (vT (XR (A m c)) (16384 * b.val) h k.val)
          (lT (XR (A m c)) (BR (LB m c)) (16384 * b.val) h k.val) (state (XR (A m c)) (BR (LB m c)) (16384 * b.val) h k.val) j d := by
    funext d
    rw [out, ← intra_at, ← carryO_at (A m c) (LB m c) b h k j d 512 le_rfl k.isLt]
    rfl
  rw [hw, ho, Nat.add_assoc]

/-- An argument is kept. -/
theorem kept0 : finalContents condOps preI bodyI postI 512 m c (Proc.devRef .tc main_arg0) = m ((c : Thread nD τ).loc main_arg0) := by
  refine (post_keep _ (by decide) (by decide) (by decide)).trans ?_
  rw [loop_keep m c (by decide) (by decide) (by decide) (by decide) (by decide) (by decide) (by decide) (by decide) 512]
  exact arg_entry m c (by decide) (by decide) (by decide) (by decide) (by decide) (by decide) (by decide) (by decide) (by decide) (by decide) (by decide)
/-- An argument is kept. -/
theorem kept1 : finalContents condOps preI bodyI postI 512 m c (Proc.devRef .tc main_arg1) = m ((c : Thread nD τ).loc main_arg1) := by
  refine (post_keep _ (by decide) (by decide) (by decide)).trans ?_
  rw [loop_keep m c (by decide) (by decide) (by decide) (by decide) (by decide) (by decide) (by decide) (by decide) 512]
  exact arg_entry m c (by decide) (by decide) (by decide) (by decide) (by decide) (by decide) (by decide) (by decide) (by decide) (by decide) (by decide)
/-- An argument is kept. -/
theorem kept2 : finalContents condOps preI bodyI postI 512 m c (Proc.devRef .tc main_arg2) = m ((c : Thread nD τ).loc main_arg2) := by
  refine (post_keep _ (by decide) (by decide) (by decide)).trans ?_
  rw [loop_keep m c (by decide) (by decide) (by decide) (by decide) (by decide) (by decide) (by decide) (by decide) 512]
  exact arg_entry m c (by decide) (by decide) (by decide) (by decide) (by decide) (by decide) (by decide) (by decide) (by decide) (by decide) (by decide)

/-- The reference's run: its result and its arguments. -/
theorem run (ρ : Dev nD → PrngReg) : θ_run defs (onTc (τ := τ) (main (F := Ideal))) ⟨m, fun _ => 0, ρ⟩ fun r => ∀ c : Dev nD,
    r.2.mem ((c : Thread nD τ).loc main_v94) = finalContents condOps preI bodyI postI 512 m c (Proc.devRef .tc main_v94)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨h c main_v94 rfl, (h c main_arg0 rfl).trans (kept0 m c), (h c main_arg1 rfl).trans (kept1 m c),
    (h c main_arg2 rfl).trans (kept2 m c)⟩) (run_fold (F := Ideal) m ρ)

end Cert.ReferenceIdeal.Entry

end
-- ==== Proof.Equal.lean ====
/-
  The two programs' results are one array: both are the recurrence over whole sequences, at every index.
-/
module

public import proofs.«01_k».proof.Proof.Carried
public import proofs.«01_k».proof.Proof.RefRun

@[expose] public section

set_option maxRecDepth 16384

noncomputable section

open Idealize.ShloMosaic Idealize.ShloMosaic.TcCoe Idealize.SL.Sem Cert.Chunk

namespace Cert.Equal

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The lower bounds the two programs compute are the same function of their argument. -/
theorem bounds_eq (x : FVec Ideal Cert.KernelIdeal.S2x512 .f32) :
    Cert.KernelIdeal.Fold.bounds x = Cert.ReferenceIdeal.Entry.runsum (Cert.ReferenceIdeal.Entry.soft x) := rfl

/-- The results at an index, from memories that agree on the arguments. -/
theorem result_at
    (h0 : m' ((c : Thread Cert.ReferenceIdeal.nD Cert.ReferenceIdeal.τ).loc Cert.ReferenceIdeal.main_arg0) = m ((c : Thread Cert.KernelIdeal.nD Cert.KernelIdeal.τ).loc Cert.KernelIdeal.main_arg0))
    (h1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
    (h2 : m' ((c : Thread Cert.ReferenceIdeal.nD Cert.ReferenceIdeal.τ).loc Cert.ReferenceIdeal.main_arg2) = m ((c : Thread Cert.KernelIdeal.nD Cert.KernelIdeal.τ).loc Cert.KernelIdeal.main_arg2))
    (r : Fin 32768) (l : Fin 512) :
    (StableHlo.finalContents Cert.ReferenceIdeal.Value.condOps Cert.ReferenceIdeal.Value.preI Cert.ReferenceIdeal.Value.bodyI Cert.ReferenceIdeal.Value.postI 512 m' c
      (Proc.devRef .tc Cert.ReferenceIdeal.main_v94) : FVec Ideal Cert.ReferenceIdeal.S32768x512 .f32) (ix2 r l) = Cert.KernelIdeal.Value.G6 m c (ix2 r l) := by
  have hr : r.val = 16384 * (r.val / 16384) + 32 * (r.val % 16384 / 32) + r.val % 32 := by omega
  have hl : l.val = 128 * (l.val / 128) + l.val % 128 := by omega
  refine (Cert.ReferenceIdeal.Entry.result_at m' c ⟨r.val / 16384, by omega⟩ ⟨r.val % 16384 / 32, by omega⟩ ⟨r.val % 32, by omega⟩
    ⟨l.val / 128, by omega⟩ ⟨l.val % 128, by omega⟩ r l hr hl).trans ?_
  refine Eq.trans ?_ (Cert.KernelIdeal.Fold.G6_at m c ⟨r.val / 16384, by omega⟩ ⟨r.val % 16384 / 32, by omega⟩ ⟨r.val % 32, by omega⟩
    ⟨l.val / 128, by omega⟩ ⟨l.val % 128, by omega⟩ r l hr hl).symm
  rw [Cert.ReferenceIdeal.Entry.LB, Cert.ReferenceIdeal.Entry.A, h0, h1, h2]
  rfl

/-- The results, from memories that agree on the arguments. -/
theorem result_eq
    (h0 : m' ((c : Thread Cert.ReferenceIdeal.nD Cert.ReferenceIdeal.τ).loc Cert.ReferenceIdeal.main_arg0) = m ((c : Thread Cert.KernelIdeal.nD Cert.KernelIdeal.τ).loc Cert.KernelIdeal.main_arg0))
    (h1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
    (h2 : m' ((c : Thread Cert.ReferenceIdeal.nD Cert.ReferenceIdeal.τ).loc Cert.ReferenceIdeal.main_arg2) = m ((c : Thread Cert.KernelIdeal.nD Cert.KernelIdeal.τ).loc Cert.KernelIdeal.main_arg2)) :
    (StableHlo.finalContents Cert.ReferenceIdeal.Value.condOps Cert.ReferenceIdeal.Value.preI Cert.ReferenceIdeal.Value.bodyI Cert.ReferenceIdeal.Value.postI 512 m' c
      (Proc.devRef .tc Cert.ReferenceIdeal.main_v94) : FVec Ideal Cert.ReferenceIdeal.S32768x512 .f32) = Cert.KernelIdeal.Value.G6 m c := by
  funext j
  rw [show j = ix2 (j 0) (j 1) from by funext a; match a with | ⟨0, _⟩ => rfl | ⟨1, _⟩ => rfl]
  exact result_at m m' c h0 h1 h2 (j 0) (j 1)

end Cert.Equal

end
-- ==== Proof.NormRow.lean ====
/-
  The entries of a normed row.
-/
module

public import Idealize.ShloMosaic.Lib.Pointwise

@[expose] public section

noncomputable section

open Idealize.ShloMosaic

namespace Cert.NormRow

/-- One entry of a normed row: the row's entry, divided by the root of the row's mean square, times the entry's scale. -/
def nrow (v w : Fin 1024 → EReal) (x : Fin 1024) : EReal :=
  v x * Ideal.rsqrt (Ideal.div (∑ k, v k * v k) (Ideal.ofBits .f32 0x44800000#32) + Ideal.ofBits .f32 0x358637BD#32) * w x

end Cert.NormRow

end
-- ==== Proof.Project.lean ====
/-
  The norm and the input projection of layer 0: every entry of the kernel's result is the reference's.
-/
module

public import proofs.«01_k».proof.Proof.Gen.Kernel2Ideal.Value
public import proofs.«01_k».proof.Proof.Gen.Reference2Ideal.Run
public import proofs.«01_k».proof.Proof.NormRow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.NormRow (nrow)

namespace Cert.Project

section
open Cert.Reference2Ideal Cert.Reference2Ideal.Gen

/-- The reference's result as a function of its arguments. -/
abbrev REF (A0 : FVec Ideal S2x16384x1024 .f32) (A1 : FVec Ideal S2x1024 .f32) (A2 : FVec Ideal S1x1024x2560 .f32) : FVec Ideal S32768x2560 .f32 :=
  shapeCast _ (Host.dotGeneral dot_S2x16384x1024_S1024x2560_S2x16384x2560_2_0_01_1_n_n none (mulf (mulf A0 (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf A0 A0) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 (shapeCast _ (extractStridedSlice S1x1024 ![0, 0] A1 slices_S2x1024_S1x1024_0_0) shapeCasts_S1x1024_S1024)))) (shapeCast _ A2 shapeCasts_S1x1024x2560_S1024x2560)) shapeCasts_S2x16384x2560_S32768x2560

end

open Cert.Kernel2Ideal Cert.Kernel2Ideal.Gen

variable (m : (ℓ : Loc nD τ sig) → Buf (Elt Ideal) ℓ)

/-- The block of each window at a point of the grid. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- Two leading axes taken as one, at an index. -/
theorem rows_at (A : FVec Ideal S2x16384x1024 .f32) (r : Fin 32768) (n : Fin 1024) :
    shapeCast S32768x1024 A shapeCasts_S2x16384x1024_S32768x1024 (ix2 r n) = A (ix3 ⟨r.val / 16384, by omega⟩ ⟨r.val % 16384, by omega⟩ n) := by
  pointwise []

/-- The norm's scale as the kernel takes it, at an index. -/
theorem scale_at (A : FVec Ideal S2x1024 .f32) (n : Fin 1024) :
    (shapeCast S1x1024 (shapeCast S1024 (extractStridedSlice S1x1024 ![0, 0] A slices_S2x1024_S1x1024_0_0) shapeCasts_S1x1024_S1024) shapeCasts_S1024_S1x1024 : FVec Ideal S1x1024 .f32) (ix2 0 n) = A (ix2 0 n) := by
  pointwise []

/-- The weights as the kernel takes them, at an index. -/
theorem weights_at (A : FVec Ideal S1x1024x2560 .f32) (k : Fin 1024) (n : Fin 2560) :
    (truncf .bf16 (shapeCast S1024x2560 A shapeCasts_S1x1024x2560_S1024x2560 : FVec Ideal S1024x2560 .f32) bitsLt_bf16_f32 : FVec Ideal S1024x2560 .bf16) (ix2 k n) = A (ix3 0 k n) := by
  pointwise []

/-- The rows the kernel takes are the argument's, its two leading axes taken as one. -/
theorem entry0 (c : Dev nD) : (V m c main_v0 : FVec Ideal S32768x1024 .f32) = shapeCast S32768x1024 (m ((c : Thread nD τ).loc main_arg0)) shapeCasts_S2x16384x1024_S32768x1024 := by
  entry_read
  rfl

/-- The scale the kernel takes. -/
theorem entry1 (c : Dev nD) : (V m c main_v5 : FVec Ideal S1x1024 .f32) = shapeCast S1x1024 (shapeCast S1024 (extractStridedSlice S1x1024 ![0, 0] (m ((c : Thread nD τ).loc main_arg1) : FVec Ideal S2x1024 .f32) slices_S2x1024_S1x1024_0_0) shapeCasts_S1x1024_S1024) shapeCasts_S1024_S1x1024 := by
  entry_read
  rfl

/-- The weights the kernel takes. -/
theorem entry2 (c : Dev nD) : (V m c main_v4 : FVec Ideal S1024x2560 .bf16) = truncf .bf16 (shapeCast S1024x2560 (m ((c : Thread nD τ).loc main_arg2) : FVec Ideal S1x1024x2560 .f32) shapeCasts_S1x1024x2560_S1024x2560 : FVec Ideal S1024x2560 .f32) bitsLt_bf16_f32 := by
  entry_read
  rfl

/-- Where an index of the rows' block sits in its array. -/
theorem emb0 (t : Fin cfg0.N) (p : Fin 512) (n : Fin 1024) : ((cfg0.win 0).blk t).view.emb (ix2 p n) = (ix2 (⟨512 * t.val + p.val, by have h : t.val < 64 := t.isLt; omega⟩ : Fin 32768) n : S32768x1024.Idx) := by
  blk_ext [idx t]

/-- The scale's block is the whole array. -/
theorem emb1 (t : Fin cfg0.N) (n : Fin 1024) : ((cfg0.win 1).blk t).view.emb (ix2 (0 : Fin 1) n) = (ix2 0 n : S1x1024.Idx) := by
  blk_ext [idx t]

/-- The weights' block is the whole array. -/
theorem emb2 (t : Fin cfg0.N) (k : Fin 1024) (n : Fin 2560) : ((cfg0.win 2).blk t).view.emb (ix2 k n) = (ix2 k n : S1024x2560.Idx) := by
  blk_ext [idx t]

/-- Where an index of the result's block sits in the result. -/
theorem emb3 (t : Fin cfg0.N) (p : Fin 512) (n : Fin 2560) : ((cfg0.win 3).blk t).view.emb (ix2 p n) = (ix2 (⟨512 * t.val + p.val, by have h : t.val < 64 := t.isLt; omega⟩ : Fin 32768) n : S32768x2560.Idx) := by
  blk_ext [idx t]

/-- The rows' block at an index. -/
theorem blk0 (c : Dev nD) (t : Fin cfg0.N) (p : Fin 512) (n : Fin 1024) (r : Fin 32768) (hr : r.val = 512 * t.val + p.val) :
    (iblk m c 0 t : FVec Ideal S512x1024 .f32) (ix2 p n) = (m ((c : Thread nD τ).loc main_arg0) : FVec Ideal S2x16384x1024 .f32) (ix3 ⟨r.val / 16384, by omega⟩ ⟨r.val % 16384, by omega⟩ n) := by
  show (V m c main_v0 : FVec Ideal S32768x1024 .f32) (((cfg0.win 0).blk t).view.emb (ix2 p n)) = _
  rw [emb0, entry0, show (⟨512 * t.val + p.val, by omega⟩ : Fin 32768) = r from Fin.ext hr.symm]
  exact rows_at _ r n

/-- The scale's block at an index. -/
theorem blk1 (c : Dev nD) (t : Fin cfg0.N) (n : Fin 1024) :
    (iblk m c 1 t : FVec Ideal S1x1024 .f32) (ix2 0 n) = (m ((c : Thread nD τ).loc main_arg1) : FVec Ideal S2x1024 .f32) (ix2 0 n) := by
  show (V m c main_v5 : FVec Ideal S1x1024 .f32) (((cfg0.win 1).blk t).view.emb (ix2 (0 : Fin 1) n)) = _
  rw [emb1, entry1]
  exact scale_at _ n

/-- The weights' block at an index. -/
theorem blk2 (c : Dev nD) (t : Fin cfg0.N) (k : Fin 1024) (n : Fin 2560) :
    (iblk m c 2 t : FVec Ideal S1024x2560 .bf16) (ix2 k n) = (m ((c : Thread nD τ).loc main_arg2) : FVec Ideal S1x1024x2560 .f32) (ix3 0 k n) := by
  show (V m c main_v4 : FVec Ideal S1024x2560 .bf16) (((cfg0.win 2).blk t).view.emb (ix2 k n)) = _
  rw [emb2, entry2]
  exact weights_at _ k n

/-- The reference at an index: the normed row's product with a column of the weights. -/
theorem ref_at (A0 : FVec Ideal S2x16384x1024 .f32) (A1 : FVec Ideal S2x1024 .f32) (A2 : FVec Ideal S1x1024x2560 .f32) (r : Fin 32768) (n : Fin 2560) :
    REF A0 A1 A2 (ix2 r n) = ∑ k, nrow (fun x => A0 (ix3 ⟨r.val / 16384, by omega⟩ ⟨r.val % 16384, by omega⟩ x)) (fun n => A1 (ix2 0 n)) k * A2 (ix3 0 k n) := by
  simp only [nrow]
  pointwise [REF]

/-- What the body stores at an index of its block. -/
theorem pay_at (X0 : FVec Ideal S512x1024 .f32) (X1 : FVec Ideal S1x1024 .f32) (X2 : FVec Ideal S1024x2560 .bf16) (p : Fin 512) (n : Fin 2560) :
    k0_pay1 (F := Ideal) X0 X1 X2 (ix2 p n) = ∑ k, nrow (fun x => X0 (ix2 p x)) (fun x => X1 (ix2 0 x)) k * X2 (ix2 k n) := by
  simp only [nrow]
  pointwise [k0_pay1]

/-- The normed entries of the block's rows. -/
theorem nrow_blk (c : Dev nD) (t : Fin cfg0.N) (p : Fin 512) (r : Fin 32768) (hr : r.val = 512 * t.val + p.val) (k : Fin 1024) :
    nrow (fun x => (iblk m c 0 t : FVec Ideal S512x1024 .f32) (ix2 p x)) (fun x => (iblk m c 1 t : FVec Ideal S1x1024 .f32) (ix2 0 x)) k
      = nrow (fun x => (m ((c : Thread nD τ).loc main_arg0) : FVec Ideal S2x16384x1024 .f32) (ix3 ⟨r.val / 16384, by omega⟩ ⟨r.val % 16384, by omega⟩ x)) (fun n => (m ((c : Thread nD τ).loc main_arg1) : FVec Ideal S2x1024 .f32) (ix2 0 n)) k := by
  congr 1
  · funext x
    exact blk0 m c t p x r hr
  · funext x
    exact blk1 m c t x

/-- What a point of the grid stores at an index of its block is the reference's entry at the index's place. -/
theorem point (c : Dev nD) (t : Fin cfg0.N) (p : Fin 512) (n : Fin 2560) :
    k0_pay1 (F := Ideal) (iblk m c 0 t) (iblk m c 1 t) (iblk m c 2 t) (ix2 p n)
      = REF (m ((c : Thread nD τ).loc main_arg0)) (m ((c : Thread nD τ).loc main_arg1)) (m ((c : Thread nD τ).loc main_arg2)) (((cfg0.win 3).blk t).view.emb (ix2 p n)) := by
  have h : t.val < 64 := t.isLt
  rw [emb3, ref_at]
  refine (pay_at _ _ _ p n).trans ?_
  refine Finset.sum_congr rfl fun k _ => ?_
  rw [nrow_blk m c t p ⟨512 * t.val + p.val, by omega⟩ rfl k, blk2 m c t k n]

/-- The kernel's result is the reference's. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  rw [show y = ix2 (y 0) (y 1) from by funext a; match a with | ⟨0, _⟩ => rfl | ⟨1, _⟩ => rfl]
  exact point m c t (y 0) (y 1)

end Cert.Project

end
-- ==== Proof.ProjectPadded.lean ====
/-
  The norm and the input projection of layer 1: every entry of the kernel's result is the reference's.
-/
module

public import proofs.«01_k».proof.Proof.Gen.Kernel3Ideal.Value
public import proofs.«01_k».proof.Proof.Gen.Reference3Ideal.Run
public import proofs.«01_k».proof.Proof.NormRow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.NormRow (nrow)

namespace Cert.ProjectPadded

section
open Cert.Reference3Ideal Cert.Reference3Ideal.Gen

/-- The reference's result as a function of its arguments. -/
abbrev REF (A0 : FVec Ideal S2x16384x1024 .f32) (A1 : FVec Ideal S2x1024 .f32) (A2 : FVec Ideal S1x1024x4112 .f32) : FVec Ideal S32768x4224 .f32 :=
  pad S32768x4224 ![0, 0] ![0, 112] ![0, 0] (shapeCast _ (Host.dotGeneral dot_S2x16384x1024_S1024x4112_S2x16384x4112_2_0_01_1_n_n none (mulf (mulf A0 (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf A0 A0) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 (shapeCast _ (extractStridedSlice S1x1024 ![1, 0] A1 slices_S2x1024_S1x1024_1_0) shapeCasts_S1x1024_S1024)))) (shapeCast _ A2 shapeCasts_S1x1024x4112_S1024x4112)) shapeCasts_S2x16384x4112_S32768x4112) (sitofp .f32 (constantI S_ 32 0#32)) pads_S32768x4112_S32768x4224_000_01120 h_S_

end

open Cert.Kernel3Ideal Cert.Kernel3Ideal.Gen

variable (m : (ℓ : Loc nD τ sig) → Buf (Elt Ideal) ℓ)

/-- The block of each window at a point of the grid. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- Two leading axes taken as one, at an index. -/
theorem rows_at (A : FVec Ideal S2x16384x1024 .f32) (r : Fin 32768) (n : Fin 1024) :
    shapeCast S32768x1024 A shapeCasts_S2x16384x1024_S32768x1024 (ix2 r n) = A (ix3 ⟨r.val / 16384, by omega⟩ ⟨r.val % 16384, by omega⟩ n) := by
  pointwise []

/-- The norm's scale as the kernel takes it, at an index. -/
theorem scale_at (A : FVec Ideal S2x1024 .f32) (n : Fin 1024) :
    (shapeCast S1x1024 (shapeCast S1024 (extractStridedSlice S1x1024 ![1, 0] A slices_S2x1024_S1x1024_1_0) shapeCasts_S1x1024_S1024) shapeCasts_S1024_S1x1024 : FVec Ideal S1x1024 .f32) (ix2 0 n) = A (ix2 1 n) := by
  pointwise []

/-- The weights as the kernel takes them, at an index. -/
theorem weights_at (A : FVec Ideal S1x1024x4112 .f32) (k : Fin 1024) (n : Fin 4224) :
    (truncf .bf16 (pad S1024x4224 ![0, 0] ![0, 112] ![0, 0] (shapeCast S1024x4112 A shapeCasts_S1x1024x4112_S1024x4112 : FVec Ideal S1024x4112 .f32) (sitofp .f32 (constantI S_ 32 0#32) : FVec Ideal S_ .f32) pads_S1024x4112_S1024x4224_000_01120 h_S_ : FVec Ideal S1024x4224 .f32) bitsLt_bf16_f32 : FVec Ideal S1024x4224 .bf16) (ix2 k n) = (if h : n.val < 4112 then A (ix3 0 k ⟨n.val, h⟩) else FloatOps.sitofp (F := Ideal) .f32 (0#32)) := by
  pointwise []

/-- The rows the kernel takes are the argument's, its two leading axes taken as one. -/
theorem entry0 (c : Dev nD) : (V m c main_v3 : FVec Ideal S32768x1024 .f32) = shapeCast S32768x1024 (m ((c : Thread nD τ).loc main_arg0)) shapeCasts_S2x16384x1024_S32768x1024 := by
  entry_read
  rfl

/-- The scale the kernel takes. -/
theorem entry1 (c : Dev nD) : (V m c main_v6 : FVec Ideal S1x1024 .f32) = shapeCast S1x1024 (shapeCast S1024 (extractStridedSlice S1x1024 ![1, 0] (m ((c : Thread nD τ).loc main_arg1) : FVec Ideal S2x1024 .f32) slices_S2x1024_S1x1024_1_0) shapeCasts_S1x1024_S1024) shapeCasts_S1024_S1x1024 := by
  entry_read
  rfl

/-- The weights the kernel takes. -/
theorem entry2 (c : Dev nD) : (V m c main_v2 : FVec Ideal S1024x4224 .bf16) = (truncf .bf16 (pad S1024x4224 ![0, 0] ![0, 112] ![0, 0] (shapeCast S1024x4112 (m ((c : Thread nD τ).loc main_arg2) : FVec Ideal S1x1024x4112 .f32) shapeCasts_S1x1024x4112_S1024x4112 : FVec Ideal S1024x4112 .f32) (sitofp .f32 (constantI S_ 32 0#32) : FVec Ideal S_ .f32) pads_S1024x4112_S1024x4224_000_01120 h_S_ : FVec Ideal S1024x4224 .f32) bitsLt_bf16_f32 : FVec Ideal S1024x4224 .bf16) := by
  entry_read
  rfl

/-- Where an index of the rows' block sits in its array. -/
theorem emb0 (t : Fin cfg0.N) (p : Fin 512) (n : Fin 1024) : ((cfg0.win 0).blk t).view.emb (ix2 p n) = (ix2 (⟨512 * t.val + p.val, by have h : t.val < 64 := t.isLt; omega⟩ : Fin 32768) n : S32768x1024.Idx) := by
  blk_ext [idx t]

/-- The scale's block is the whole array. -/
theorem emb1 (t : Fin cfg0.N) (n : Fin 1024) : ((cfg0.win 1).blk t).view.emb (ix2 (0 : Fin 1) n) = (ix2 0 n : S1x1024.Idx) := by
  blk_ext [idx t]

/-- The weights' block is the whole array. -/
theorem emb2 (t : Fin cfg0.N) (k : Fin 1024) (n : Fin 4224) : ((cfg0.win 2).blk t).view.emb (ix2 k n) = (ix2 k n : S1024x4224.Idx) := by
  blk_ext [idx t]

/-- Where an index of the result's block sits in the result. -/
theorem emb3 (t : Fin cfg0.N) (p : Fin 512) (n : Fin 4224) : ((cfg0.win 3).blk t).view.emb (ix2 p n) = (ix2 (⟨512 * t.val + p.val, by have h : t.val < 64 := t.isLt; omega⟩ : Fin 32768) n : S32768x4224.Idx) := by
  blk_ext [idx t]

/-- The rows' block at an index. -/
theorem blk0 (c : Dev nD) (t : Fin cfg0.N) (p : Fin 512) (n : Fin 1024) (r : Fin 32768) (hr : r.val = 512 * t.val + p.val) :
    (iblk m c 0 t : FVec Ideal S512x1024 .f32) (ix2 p n) = (m ((c : Thread nD τ).loc main_arg0) : FVec Ideal S2x16384x1024 .f32) (ix3 ⟨r.val / 16384, by omega⟩ ⟨r.val % 16384, by omega⟩ n) := by
  show (V m c main_v3 : FVec Ideal S32768x1024 .f32) (((cfg0.win 0).blk t).view.emb (ix2 p n)) = _
  rw [emb0, entry0, show (⟨512 * t.val + p.val, by omega⟩ : Fin 32768) = r from Fin.ext hr.symm]
  exact rows_at _ r n

/-- The scale's block at an index. -/
theorem blk1 (c : Dev nD) (t : Fin cfg0.N) (n : Fin 1024) :
    (iblk m c 1 t : FVec Ideal S1x1024 .f32) (ix2 0 n) = (m ((c : Thread nD τ).loc main_arg1) : FVec Ideal S2x1024 .f32) (ix2 1 n) := by
  show (V m c main_v6 : FVec Ideal S1x1024 .f32) (((cfg0.win 1).blk t).view.emb (ix2 (0 : Fin 1) n)) = _
  rw [emb1, entry1]
  exact scale_at _ n

/-- The weights' block at an index. -/
theorem blk2 (c : Dev nD) (t : Fin cfg0.N) (k : Fin 1024) (n : Fin 4224) :
    (iblk m c 2 t : FVec Ideal S1024x4224 .bf16) (ix2 k n) = (if h : n.val < 4112 then (m ((c : Thread nD τ).loc main_arg2) : FVec Ideal S1x1024x4112 .f32) (ix3 0 k ⟨n.val, h⟩) else FloatOps.sitofp (F := Ideal) .f32 (0#32)) := by
  show (V m c main_v2 : FVec Ideal S1024x4224 .bf16) (((cfg0.win 2).blk t).view.emb (ix2 k n)) = _
  rw [emb2, entry2]
  exact weights_at _ k n

/-- The reference at an index: the normed row's product with a column of the weights, and zero in the added columns. -/
theorem ref_at (A0 : FVec Ideal S2x16384x1024 .f32) (A1 : FVec Ideal S2x1024 .f32) (A2 : FVec Ideal S1x1024x4112 .f32) (r : Fin 32768) (n : Fin 4224) :
    REF A0 A1 A2 (ix2 r n) = if h : n.val < 4112 then ∑ k, nrow (fun x => A0 (ix3 ⟨r.val / 16384, by omega⟩ ⟨r.val % 16384, by omega⟩ x)) (fun n => A1 (ix2 1 n)) k * A2 (ix3 0 k ⟨n.val, h⟩)
      else FloatOps.sitofp (F := Ideal) .f32 (0#32) := by
  simp only [nrow]
  pointwise [REF]

/-- The filling value is zero. -/
theorem fill_zero : (FloatOps.sitofp (F := Ideal) .f32 (0#32) : EReal) = 0 := by
  simp [FloatOps.sitofp]

/-- What the body stores at an index of its block. -/
theorem pay_at (X0 : FVec Ideal S512x1024 .f32) (X1 : FVec Ideal S1x1024 .f32) (X2 : FVec Ideal S1024x4224 .bf16) (p : Fin 512) (n : Fin 4224) :
    k0_pay1 (F := Ideal) X0 X1 X2 (ix2 p n) = ∑ k, nrow (fun x => X0 (ix2 p x)) (fun x => X1 (ix2 0 x)) k * X2 (ix2 k n) := by
  simp only [nrow]
  pointwise [k0_pay1]

/-- The normed entries of the block's rows. -/
theorem nrow_blk (c : Dev nD) (t : Fin cfg0.N) (p : Fin 512) (r : Fin 32768) (hr : r.val = 512 * t.val + p.val) (k : Fin 1024) :
    nrow (fun x => (iblk m c 0 t : FVec Ideal S512x1024 .f32) (ix2 p x)) (fun x => (iblk m c 1 t : FVec Ideal S1x1024 .f32) (ix2 0 x)) k
      = nrow (fun x => (m ((c : Thread nD τ).loc main_arg0) : FVec Ideal S2x16384x1024 .f32) (ix3 ⟨r.val / 16384, by omega⟩ ⟨r.val % 16384, by omega⟩ x)) (fun n => (m ((c : Thread nD τ).loc main_arg1) : FVec Ideal S2x1024 .f32) (ix2 1 n)) k := by
  congr 1
  · funext x
    exact blk0 m c t p x r hr
  · funext x
    exact blk1 m c t x

/-- What a point of the grid stores at an index of its block is the reference's entry at the index's place. -/
theorem point (c : Dev nD) (t : Fin cfg0.N) (p : Fin 512) (n : Fin 4224) :
    k0_pay1 (F := Ideal) (iblk m c 0 t) (iblk m c 1 t) (iblk m c 2 t) (ix2 p n)
      = REF (m ((c : Thread nD τ).loc main_arg0)) (m ((c : Thread nD τ).loc main_arg1)) (m ((c : Thread nD τ).loc main_arg2)) (((cfg0.win 3).blk t).view.emb (ix2 p n)) := by
  have h : t.val < 64 := t.isLt
  rw [emb3, ref_at]
  refine (pay_at _ _ _ p n).trans ?_
  by_cases hn : n.val < 4112
  · rw [dif_pos hn]
    refine Finset.sum_congr rfl fun k _ => ?_
    rw [nrow_blk m c t p ⟨512 * t.val + p.val, by omega⟩ rfl k, blk2 m c t k n, dif_pos hn]
  · rw [dif_neg hn]
    refine Eq.trans ?_ fill_zero.symm
    refine Finset.sum_eq_zero fun k _ => ?_
    rw [blk2 m c t k n, dif_neg hn]
    exact (congrArg _ fill_zero).trans (mul_zero _)

/-- The kernel's result is the reference's. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  rw [show y = ix2 (y 0) (y 1) from by funext a; match a with | ⟨0, _⟩ => rfl | ⟨1, _⟩ => rfl]
  exact point m c t (y 0) (y 1)

end Cert.ProjectPadded

end
-- ==== Proof.Query.lean ====
/-
  The norm and the query projection of a feed-forward layer: every entry of the kernel's result is the reference's.
-/
module

public import proofs.«01_k».proof.Proof.Gen.Kernel4Ideal.Value
public import proofs.«01_k».proof.Proof.Gen.Reference4Ideal.Run
public import proofs.«01_k».proof.Proof.NormRow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.NormRow (nrow)

namespace Cert.Query

section
open Cert.Reference4Ideal Cert.Reference4Ideal.Gen

/-- The reference's result as a function of its arguments. -/
abbrev REF0 (A0 : FVec Ideal S2x16384x1024 .f32) (A1 : FVec Ideal S1024 .f32) (A2 : FVec Ideal S1024x2048 .f32) : FVec Ideal S32768x2048 .f32 :=
  Host.dotGeneral dot_S32768x1024_S1024x2048_S32768x2048_1_0_0_1_n_n none (shapeCast _ (mulf (mulf A0 (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf A0 A0) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 A1))) shapeCasts_S2x16384x1024_S32768x1024) A2

/-- The reference's result as a function of its arguments. -/
abbrev REF1 (A0 : FVec Ideal S2x16384x1024 .f32) (A1 : FVec Ideal S1024 .f32) (A2 : FVec Ideal S1024x2048 .f32) : FVec Ideal S32768x1024 .bf16 :=
  truncf .bf16 (shapeCast _ (mulf (mulf A0 (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf A0 A0) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 A1))) shapeCasts_S2x16384x1024_S32768x1024) bitsLt_bf16_f32

end

open Cert.Kernel4Ideal Cert.Kernel4Ideal.Gen

variable (m : (ℓ : Loc nD τ sig) → Buf (Elt Ideal) ℓ)

/-- The block of each window at a point of the grid. -/
theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

/-- Two leading axes taken as one, at an index. -/
theorem rows_at (A : FVec Ideal S2x16384x1024 .f32) (r : Fin 32768) (n : Fin 1024) :
    shapeCast S32768x1024 A shapeCasts_S2x16384x1024_S32768x1024 (ix2 r n) = A (ix3 ⟨r.val / 16384, by omega⟩ ⟨r.val % 16384, by omega⟩ n) := by
  pointwise []

/-- The norm's scale as the kernel takes it, at an index. -/
theorem scale_at (A : FVec Ideal S1024 .f32) (n : Fin 1024) :
    (shapeCast S1x1024 A shapeCasts_S1024_S1x1024 : FVec Ideal S1x1024 .f32) (ix2 0 n) = A (ix1 n) := by
  pointwise []

/-- The weights as the kernel takes them, at an index. -/
theorem weights_at (A : FVec Ideal S1024x2048 .f32) (k : Fin 1024) (n : Fin 2048) :
    (truncf .bf16 A bitsLt_bf16_f32 : FVec Ideal S1024x2048 .bf16) (ix2 k n) = A (ix2 k n) := by
  pointwise []

/-- The rows the kernel takes are the argument's, its two leading axes taken as one. -/
theorem entry0 (c : Dev nD) : (V m c main_v0 : FVec Ideal S32768x1024 .f32) = shapeCast S32768x1024 (m ((c : Thread nD τ).loc main_arg0)) shapeCasts_S2x16384x1024_S32768x1024 := by
  entry_read
  rfl

/-- The scale the kernel takes. -/
theorem entry1 (c : Dev nD) : (V m c main_v2 : FVec Ideal S1x1024 .f32) = shapeCast S1x1024 (m ((c : Thread nD τ).loc main_arg1) : FVec Ideal S1024 .f32) shapeCasts_S1024_S1x1024 := by
  entry_read
  rfl

/-- The weights the kernel takes. -/
theorem entry2 (c : Dev nD) : (V m c main_v1 : FVec Ideal S1024x2048 .bf16) = (truncf .bf16 (m ((c : Thread nD τ).loc main_arg2) : FVec Ideal S1024x2048 .f32) bitsLt_bf16_f32 : FVec Ideal S1024x2048 .bf16) := by
  entry_read
  rfl

/-- Where an index of the rows' block sits in its array. -/
theorem emb0 (t : Fin cfg0.N) (p : Fin 512) (n : Fin 1024) : ((cfg0.win 0).blk t).view.emb (ix2 p n) = (ix2 (⟨512 * t.val + p.val, by have h : t.val < 64 := t.isLt; omega⟩ : Fin 32768) n : S32768x1024.Idx) := by
  blk_ext [idx t]

/-- The scale's block is the whole array. -/
theorem emb1 (t : Fin cfg0.N) (n : Fin 1024) : ((cfg0.win 1).blk t).view.emb (ix2 (0 : Fin 1) n) = (ix2 0 n : S1x1024.Idx) := by
  blk_ext [idx t]

/-- The weights' block is the whole array. -/
theorem emb2 (t : Fin cfg0.N) (k : Fin 1024) (n : Fin 2048) : ((cfg0.win 2).blk t).view.emb (ix2 k n) = (ix2 k n : S1024x2048.Idx) := by
  blk_ext [idx t]

/-- Where an index of the result's block sits in the result. -/
theorem emb3 (t : Fin cfg0.N) (p : Fin 512) (n : Fin 2048) : ((cfg0.win 3).blk t).view.emb (ix2 p n) = (ix2 (⟨512 * t.val + p.val, by have h : t.val < 64 := t.isLt; omega⟩ : Fin 32768) n : S32768x2048.Idx) := by
  blk_ext [idx t]

/-- Where an index of the second result's block sits in the result. -/
theorem emb4 (t : Fin cfg0.N) (p : Fin 512) (n : Fin 1024) : ((cfg0.win 4).blk t).view.emb (ix2 p n) = (ix2 (⟨512 * t.val + p.val, by have h : t.val < 64 := t.isLt; omega⟩ : Fin 32768) n : S32768x1024.Idx) := by
  blk_ext [idx t]

/-- The rows' block at an index. -/
theorem blk0 (c : Dev nD) (t : Fin cfg0.N) (p : Fin 512) (n : Fin 1024) (r : Fin 32768) (hr : r.val = 512 * t.val + p.val) :
    (iblk m c 0 t : FVec Ideal S512x1024 .f32) (ix2 p n) = (m ((c : Thread nD τ).loc main_arg0) : FVec Ideal S2x16384x1024 .f32) (ix3 ⟨r.val / 16384, by omega⟩ ⟨r.val % 16384, by omega⟩ n) := by
  show (V m c main_v0 : FVec Ideal S32768x1024 .f32) (((cfg0.win 0).blk t).view.emb (ix2 p n)) = _
  rw [emb0, entry0, show (⟨512 * t.val + p.val, by omega⟩ : Fin 32768) = r from Fin.ext hr.symm]
  exact rows_at _ r n

/-- The scale's block at an index. -/
theorem blk1 (c : Dev nD) (t : Fin cfg0.N) (n : Fin 1024) :
    (iblk m c 1 t : FVec Ideal S1x1024 .f32) (ix2 0 n) = (m ((c : Thread nD τ).loc main_arg1) : FVec Ideal S1024 .f32) (ix1 n) := by
  show (V m c main_v2 : FVec Ideal S1x1024 .f32) (((cfg0.win 1).blk t).view.emb (ix2 (0 : Fin 1) n)) = _
  rw [emb1, entry1]
  exact scale_at _ n

/-- The weights' block at an index. -/
theorem blk2 (c : Dev nD) (t : Fin cfg0.N) (k : Fin 1024) (n : Fin 2048) :
    (iblk m c 2 t : FVec Ideal S1024x2048 .bf16) (ix2 k n) = (m ((c : Thread nD τ).loc main_arg2) : FVec Ideal S1024x2048 .f32) (ix2 k n) := by
  show (V m c main_v1 : FVec Ideal S1024x2048 .bf16) (((cfg0.win 2).blk t).view.emb (ix2 k n)) = _
  rw [emb2, entry2]
  exact weights_at _ k n

/-- The reference at an index: the normed row's product with a column of the weights. -/
theorem ref_at (A0 : FVec Ideal S2x16384x1024 .f32) (A1 : FVec Ideal S1024 .f32) (A2 : FVec Ideal S1024x2048 .f32) (r : Fin 32768) (n : Fin 2048) :
    REF0 A0 A1 A2 (ix2 r n) = ∑ k, nrow (fun x => A0 (ix3 ⟨r.val / 16384, by omega⟩ ⟨r.val % 16384, by omega⟩ x)) (fun n => A1 (ix1 n)) k * A2 (ix2 k n) := by
  simp only [nrow]
  pointwise [REF0]

/-- The reference's normed rows at an index. -/
theorem ref1_at (A0 : FVec Ideal S2x16384x1024 .f32) (A1 : FVec Ideal S1024 .f32) (A2 : FVec Ideal S1024x2048 .f32) (r : Fin 32768) (n : Fin 1024) :
    REF1 A0 A1 A2 (ix2 r n) = nrow (fun x => A0 (ix3 ⟨r.val / 16384, by omega⟩ ⟨r.val % 16384, by omega⟩ x)) (fun n => A1 (ix1 n)) n := by
  simp only [nrow]
  pointwise [REF1]

/-- The normed rows the body stores, at an index of their block. -/
theorem pay1_at (X0 : FVec Ideal S512x1024 .f32) (X1 : FVec Ideal S1x1024 .f32) (p : Fin 512) (n : Fin 1024) :
    k0_pay1 (F := Ideal) X0 X1 (ix2 p n) = nrow (fun x => X0 (ix2 p x)) (fun x => X1 (ix2 0 x)) n := by
  simp only [nrow]
  pointwise [k0_pay1]

/-- What the body stores at an index of its block. -/
theorem pay_at (X0 : FVec Ideal S512x1024 .f32) (X1 : FVec Ideal S1x1024 .f32) (X2 : FVec Ideal S1024x2048 .bf16) (p : Fin 512) (n : Fin 2048) :
    k0_pay2 (F := Ideal) X0 X1 X2 (ix2 p n) = ∑ k, nrow (fun x => X0 (ix2 p x)) (fun x => X1 (ix2 0 x)) k * X2 (ix2 k n) := by
  simp only [nrow]
  pointwise [k0_pay2, k0_pay1]

/-- The normed entries of the block's rows. -/
theorem nrow_blk (c : Dev nD) (t : Fin cfg0.N) (p : Fin 512) (r : Fin 32768) (hr : r.val = 512 * t.val + p.val) (k : Fin 1024) :
    nrow (fun x => (iblk m c 0 t : FVec Ideal S512x1024 .f32) (ix2 p x)) (fun x => (iblk m c 1 t : FVec Ideal S1x1024 .f32) (ix2 0 x)) k
      = nrow (fun x => (m ((c : Thread nD τ).loc main_arg0) : FVec Ideal S2x16384x1024 .f32) (ix3 ⟨r.val / 16384, by omega⟩ ⟨r.val % 16384, by omega⟩ x)) (fun n => (m ((c : Thread nD τ).loc main_arg1) : FVec Ideal S1024 .f32) (ix1 n)) k := by
  congr 1
  · funext x
    exact blk0 m c t p x r hr
  · funext x
    exact blk1 m c t x

/-- What a point of the grid stores at an index of its block is the reference's entry at the index's place. -/
theorem point (c : Dev nD) (t : Fin cfg0.N) (p : Fin 512) (n : Fin 2048) :
    k0_pay2 (F := Ideal) (iblk m c 0 t) (iblk m c 1 t) (iblk m c 2 t) (ix2 p n)
      = REF0 (m ((c : Thread nD τ).loc main_arg0)) (m ((c : Thread nD τ).loc main_arg1)) (m ((c : Thread nD τ).loc main_arg2)) (((cfg0.win 3).blk t).view.emb (ix2 p n)) := by
  have h : t.val < 64 := t.isLt
  rw [emb3, ref_at]
  refine (pay_at _ _ _ p n).trans ?_
  refine Finset.sum_congr rfl fun k _ => ?_
  rw [nrow_blk m c t p ⟨512 * t.val + p.val, by omega⟩ rfl k, blk2 m c t k n]

/-- The normed rows a point of the grid stores are the reference's. -/
theorem point1 (c : Dev nD) (t : Fin cfg0.N) (p : Fin 512) (n : Fin 1024) :
    k0_pay1 (F := Ideal) (iblk m c 0 t) (iblk m c 1 t) (ix2 p n)
      = REF1 (m ((c : Thread nD τ).loc main_arg0)) (m ((c : Thread nD τ).loc main_arg1)) (m ((c : Thread nD τ).loc main_arg2)) (((cfg0.win 4).blk t).view.emb (ix2 p n)) := by
  have h : t.val < 64 := t.isLt
  rw [emb4, ref1_at]
  exact (pay1_at _ _ p n).trans (nrow_blk m c t p ⟨512 * t.val + p.val, by omega⟩ rfl n)

/-- The kernel's result is the reference's. -/
theorem final0 (c : Dev nD) : (dats m 0 c).arrAt 3 (cfgs 0).N = REF0 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  rw [show y = ix2 (y 0) (y 1) from by funext a; match a with | ⟨0, _⟩ => rfl | ⟨1, _⟩ => rfl]
  exact point m c t (y 0) (y 1)

/-- The kernel's result is the reference's. -/
theorem final1 (c : Dev nD) : (dats m 0 c).arrAt 4 (cfgs 0).N = REF1 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  rw [show y = ix2 (y 0) (y 1) from by funext a; match a with | ⟨0, _⟩ => rfl | ⟨1, _⟩ => rfl]
  exact point1 m c t (y 0) (y 1)

end Cert.Query

end
-- ==== Proof.GateOut.lean ====
/-
  The gate and the output projection of layer 0: every entry of the kernel's result is the reference's.
-/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GateOut

section
open Cert.Reference5Ideal Cert.Reference5Ideal.Gen

/-- The reference's result as a function of its arguments. -/
abbrev REF (A0 : FVec Ideal S2x16384x1024 .f32) (A1 : FVec Ideal S32768x512 .f32) (A2 : FVec Ideal S4x32768x128 .f32) (A3 : FVec Ideal S1x512x512 .f32) (A4 : FVec Ideal S1x1024x1024 .f32) : FVec Ideal S32768x1024 .f32 :=
  shapeCast _ (addf A0 (Host.dotGeneral dot_S2x16384x1024_S1024x1024_S2x16384x1024_2_0_01_1_n_n none (concatenate S2x16384x1024 2 [⟨S2x16384x512, (shapeCast _ A1 shapeCasts_S32768x512_S2x16384x512)⟩, ⟨S2x16384x512, (mulf (shapeCast _ (transpose S32768x4x128 [1, 0, 2] A2 transposes_S4x32768x128_S32768x4x128_1_0_2) shapeCasts_S32768x4x128_S2x16384x512) (Host.divf (broadcastInDim S2x16384x512 ![] bcast_S_S2x16384x512 (constant S_ .f32 0x3F800000#32)) (addf (broadcastInDim S2x16384x512 ![] bcast_S_S2x16384x512 (constant S_ .f32 0x3F800000#32)) (Host.exp (Host.negf (Host.dotGeneral dot_S2x16384x512_S512x512_S2x16384x512_2_0_01_1_n_n none (shapeCast _ (transpose S32768x4x128 [1, 0, 2] A2 transposes_S4x32768x128_S32768x4x128_1_0_2) shapeCasts_S32768x4x128_S2x16384x512) (shapeCast _ A3 shapeCasts_S1x512x512_S512x512)))))))⟩] concatenates_S2x16384x512_S2x16384x512_S2x16384x1024_d2) (shapeCast _ A4 shapeCasts_S1x1024x1024_S1024x1024))) shapeCasts_S2x16384x1024_S32768x1024

end

open Cert.Kernel5Ideal Cert.Kernel5Ideal.Gen

variable (m : (ℓ : Loc nD τ sig) → Buf (Elt Ideal) ℓ)

/-- The block of each window at a point of the grid. -/
theorem idx : ∀ t : Fin cfg0.N, win0_0.index t = ![t.val, 0] ∧ win0_1.index t = ![t.val, 0] ∧ win0_2.index t = ![0, t.val, 0] ∧ win0_3.index t = ![0, 0] ∧ win0_4.index t = ![0, 0] ∧ win0_5.index t = ![0, 0] ∧ win0_6.index t = ![t.val, 0] :=
  (by decide +kernel : ∀ t : Fin grid0.N, _)

/-- Two leading axes taken as one, at an index. -/
theorem rows_at (A : FVec Ideal S2x16384x1024 .f32) (r : Fin 32768) (n : Fin 1024) :
    shapeCast S32768x1024 A shapeCasts_S2x16384x1024_S32768x1024 (ix2 r n) = A (ix3 ⟨r.val / 16384, by omega⟩ ⟨r.val % 16384, by omega⟩ n) := by
  pointwise []

/-- The gate's weights as the kernel takes them. -/
abbrev gateW (A : FVec Ideal S1x512x512 .f32) : FVec Ideal S512x512 .bf16 :=
  truncf .bf16 (shapeCast S512x512 A shapeCasts_S1x512x512_S512x512 : FVec Ideal S512x512 .f32) bitsLt_bf16_f32

/-- The first 512 rows of the output weights. -/
abbrev topW (A : FVec Ideal S1x1024x1024 .f32) : FVec Ideal S512x1024 .bf16 :=
  extractStridedSlice S512x1024 ![0, 0] (truncf .bf16 (shapeCast S1024x1024 A shapeCasts_S1x1024x1024_S1024x1024 : FVec Ideal S1024x1024 .f32) bitsLt_bf16_f32) slices_S1024x1024_S512x1024_0_0

/-- The last 512 rows of the output weights. -/
abbrev lowW (A : FVec Ideal S1x1024x1024 .f32) : FVec Ideal S512x1024 .bf16 :=
  extractStridedSlice S512x1024 ![512, 0] (truncf .bf16 (shapeCast S1024x1024 A shapeCasts_S1x1024x1024_S1024x1024 : FVec Ideal S1024x1024 .f32) bitsLt_bf16_f32) slices_S1024x1024_S512x1024_512_0

/-- The gate's weights at an index. -/
theorem gateW_at (A : FVec Ideal S1x512x512 .f32) (k n : Fin 512) : gateW A (ix2 k n) = A (ix3 0 k n) := by
  pointwise [gateW]

/-- The first rows of the output weights at an index. -/
theorem topW_at (A : FVec Ideal S1x1024x1024 .f32) (k : Fin 512) (n : Fin 1024) : topW A (ix2 k n) = A (ix3 0 ⟨k.val, by omega⟩ n) := by
  pointwise [topW]

/-- The last rows of the output weights at an index. -/
theorem lowW_at (A : FVec Ideal S1x1024x1024 .f32) (k : Fin 512) (n : Fin 1024) : lowW A (ix2 k n) = A (ix3 0 ⟨512 + k.val, by omega⟩ n) := by
  pointwise [lowW]

/-- The rows the kernel takes are the argument's, its two leading axes taken as one. -/
theorem entry0 (c : Dev nD) : (V m c main_v2 : FVec Ideal S32768x1024 .f32) = shapeCast S32768x1024 (m ((c : Thread nD τ).loc main_arg0)) shapeCasts_S2x16384x1024_S32768x1024 := by
  entry_read
  rfl

/-- The gate's weights the kernel takes. -/
theorem entry3 (c : Dev nD) : (V m c main_v4 : FVec Ideal S512x512 .bf16) = gateW (m ((c : Thread nD τ).loc main_arg3)) := by
  entry_read
  rfl

/-- The first rows of the output weights the kernel takes. -/
theorem entry4 (c : Dev nD) : (V m c main_v5 : FVec Ideal S512x1024 .bf16) = topW (m ((c : Thread nD τ).loc main_arg4)) := by
  entry_read
  rfl

/-- The last rows of the output weights the kernel takes. -/
theorem entry5 (c : Dev nD) : (V m c main_v6 : FVec Ideal S512x1024 .bf16) = lowW (m ((c : Thread nD τ).loc main_arg4)) := by
  entry_read
  rfl

/-- Where an index of the rows' block sits in its array. -/
theorem emb0 (t : Fin cfg0.N) (p : Fin 512) (n : Fin 1024) : ((cfg0.win 0).blk t).view.emb (ix2 p n) = (ix2 (⟨512 * t.val + p.val, by have h : t.val < 64 := t.isLt; omega⟩ : Fin 32768) n : S32768x1024.Idx) := by
  blk_ext [idx t]

/-- Where an index of the first mixer's block sits in its array. -/
theorem emb1 (t : Fin cfg0.N) (p : Fin 512) (n : Fin 512) : ((cfg0.win 1).blk t).view.emb (ix2 p n) = (ix2 (⟨512 * t.val + p.val, by have h : t.val < 64 := t.isLt; omega⟩ : Fin 32768) n : S32768x512.Idx) := by
  blk_ext [idx t]

/-- Where an index of the activations' block sits in its array. -/
theorem emb2 (t : Fin cfg0.N) (a : Fin 4) (p : Fin 512) (l : Fin 128) : ((cfg0.win 2).blk t).view.emb (ix3 a p l) = (ix3 a (⟨512 * t.val + p.val, by have h : t.val < 64 := t.isLt; omega⟩ : Fin 32768) l : S4x32768x128.Idx) := by
  blk_ext [idx t]

/-- The gate's weights are one block. -/
theorem emb3 (t : Fin cfg0.N) (k : Fin 512) (n : Fin 512) : ((cfg0.win 3).blk t).view.emb (ix2 k n) = (ix2 k n : S512x512.Idx) := by
  blk_ext [idx t]

/-- The first rows of the output weights are one block. -/
theorem emb4 (t : Fin cfg0.N) (k : Fin 512) (n : Fin 1024) : ((cfg0.win 4).blk t).view.emb (ix2 k n) = (ix2 k n : S512x1024.Idx) := by
  blk_ext [idx t]

/-- The last rows of the output weights are one block. -/
theorem emb5 (t : Fin cfg0.N) (k : Fin 512) (n : Fin 1024) : ((cfg0.win 5).blk t).view.emb (ix2 k n) = (ix2 k n : S512x1024.Idx) := by
  blk_ext [idx t]

/-- Where an index of the result's block sits in the result. -/
theorem emb6 (t : Fin cfg0.N) (p : Fin 512) (n : Fin 1024) : ((cfg0.win 6).blk t).view.emb (ix2 p n) = (ix2 (⟨512 * t.val + p.val, by have h : t.val < 64 := t.isLt; omega⟩ : Fin 32768) n : S32768x1024.Idx) := by
  blk_ext [idx t]

/-- The rows' block at an index. -/
theorem blk0 (c : Dev nD) (t : Fin cfg0.N) (p : Fin 512) (n : Fin 1024) (r : Fin 32768) (hr : r.val = 512 * t.val + p.val) :
    (iblk m c 0 t : FVec Ideal S512x1024 .f32) (ix2 p n) = (m ((c : Thread nD τ).loc main_arg0) : FVec Ideal S2x16384x1024 .f32) (ix3 ⟨r.val / 16384, by omega⟩ ⟨r.val % 16384, by omega⟩ n) := by
  show (V m c main_v2 : FVec Ideal S32768x1024 .f32) (((cfg0.win 0).blk t).view.emb (ix2 p n)) = _
  rw [emb0, entry0, show (⟨512 * t.val + p.val, by omega⟩ : Fin 32768) = r from Fin.ext hr.symm]
  exact rows_at _ r n

/-- The first mixer's block at an index. -/
theorem blk1 (c : Dev nD) (t : Fin cfg0.N) (p : Fin 512) (n : Fin 512) (r : Fin 32768) (hr : r.val = 512 * t.val + p.val) :
    (iblk m c 1 t : FVec Ideal S512x512 .f32) (ix2 p n) = (m ((c : Thread nD τ).loc main_arg1) : FVec Ideal S32768x512 .f32) (ix2 r n) := by
  show (V m c main_arg1 : FVec Ideal S32768x512 .f32) (((cfg0.win 1).blk t).view.emb (ix2 p n)) = _
  rw [emb1, V_main_arg1, show (⟨512 * t.val + p.val, by omega⟩ : Fin 32768) = r from Fin.ext hr.symm]

/-- The activations' block at an index. -/
theorem blk2 (c : Dev nD) (t : Fin cfg0.N) (a : Fin 4) (p : Fin 512) (l : Fin 128) (r : Fin 32768) (hr : r.val = 512 * t.val + p.val) :
    (iblk m c 2 t : FVec Ideal S4x512x128 .f32) (ix3 a p l) = (m ((c : Thread nD τ).loc main_arg2) : FVec Ideal S4x32768x128 .f32) (ix3 a r l) := by
  show (V m c main_arg2 : FVec Ideal S4x32768x128 .f32) (((cfg0.win 2).blk t).view.emb (ix3 a p l)) = _
  rw [emb2, V_main_arg2, show (⟨512 * t.val + p.val, by omega⟩ : Fin 32768) = r from Fin.ext hr.symm]

/-- The gate's weights at an index. -/
theorem blk3 (c : Dev nD) (t : Fin cfg0.N) (p : Fin 512) (n : Fin 512) :
    (iblk m c 3 t : FVec Ideal S512x512 .bf16) (ix2 p n) = (m ((c : Thread nD τ).loc main_arg3) : FVec Ideal S1x512x512 .f32) (ix3 0 p n) := by
  show (V m c main_v4 : FVec Ideal S512x512 .bf16) (((cfg0.win 3).blk t).view.emb (ix2 p n)) = _
  rw [emb3, entry3]
  exact gateW_at _ p n

/-- The first rows of the output weights at an index. -/
theorem blk4 (c : Dev nD) (t : Fin cfg0.N) (p : Fin 512) (n : Fin 1024) :
    (iblk m c 4 t : FVec Ideal S512x1024 .bf16) (ix2 p n) = (m ((c : Thread nD τ).loc main_arg4) : FVec Ideal S1x1024x1024 .f32) (ix3 0 ⟨p.val, by omega⟩ n) := by
  show (V m c main_v5 : FVec Ideal S512x1024 .bf16) (((cfg0.win 4).blk t).view.emb (ix2 p n)) = _
  rw [emb4, entry4]
  exact topW_at _ p n

/-- The last rows of the output weights at an index. -/
theorem blk5 (c : Dev nD) (t : Fin cfg0.N) (p : Fin 512) (n : Fin 1024) :
    (iblk m c 5 t : FVec Ideal S512x1024 .bf16) (ix2 p n) = (m ((c : Thread nD τ).loc main_arg4) : FVec Ideal S1x1024x1024 .f32) (ix3 0 ⟨512 + p.val, by omega⟩ n) := by
  show (V m c main_v6 : FVec Ideal S512x1024 .bf16) (((cfg0.win 5).blk t).view.emb (ix2 p n)) = _
  rw [emb5, entry5]
  exact lowW_at _ p n

/-- The gated entry of a row: the entry times the logistic function of the row's product with a column of the gate's weights. -/
def gated (y : Fin 512 → EReal) (w : Fin 512 → Fin 512 → EReal) (x : Fin 512) : EReal :=
  y x * Ideal.div 1 (1 + Ideal.exp (-∑ k, y k * w k x))

/-- The reference at an index: the residual, the first mixer's product and the gated activations' product. -/
theorem ref_at (A0 : FVec Ideal S2x16384x1024 .f32) (A1 : FVec Ideal S32768x512 .f32) (A2 : FVec Ideal S4x32768x128 .f32) (A3 : FVec Ideal S1x512x512 .f32) (A4 : FVec Ideal S1x1024x1024 .f32) (r : Fin 32768) (n : Fin 1024) :
    REF A0 A1 A2 A3 A4 (ix2 r n) = A0 (ix3 ⟨r.val / 16384, by omega⟩ ⟨r.val % 16384, by omega⟩ n)
      + (∑ x : Fin 512, A1 (ix2 r x) * A4 (ix3 0 ⟨x.val, by omega⟩ n)
        + ∑ x : Fin 512, gated (fun x => A2 (ix3 ⟨x.val / 128, by omega⟩ r ⟨x.val % 128, by omega⟩)) (fun k x => A3 (ix3 0 k x)) x * A4 (ix3 0 ⟨512 + x.val, by omega⟩ n)) := by
  simp only [gated]
  pointwise [REF]

/-- Four blocks of 128 lanes side by side. -/
def beside (X0 X1 X2 X3 : FVec Ideal S1x512x128 .f32) (p : Fin 512) (x : Fin 512) : EReal :=
  if h : x.val < 128 then X0 (ix3 0 p ⟨x.val, h⟩)
  else if h : x.val - 128 < 128 then X1 (ix3 0 p ⟨x.val - 128, h⟩)
  else if h : x.val - 128 - 128 < 128 then X2 (ix3 0 p ⟨x.val - 128 - 128, h⟩)
  else X3 (ix3 0 p ⟨x.val - 128 - 128 - 128, by omega⟩)

/-- What the body stores at an index of its block. -/
theorem pay_at (X0 X1 X2 X3 : FVec Ideal S1x512x128 .f32) (X4 : FVec Ideal S512x512 .bf16) (X5 : FVec Ideal S512x1024 .f32) (X6 : FVec Ideal S512x512 .f32) (X7 X8 : FVec Ideal S512x1024 .bf16) (p : Fin 512) (n : Fin 1024) :
    k0_pay1 (F := Ideal) X0 X1 X2 X3 X4 X5 X6 X7 X8 (ix2 p n) = X5 (ix2 p n) + ∑ x, X6 (ix2 p x) * X7 (ix2 x n)
      + ∑ x, gated (beside X0 X1 X2 X3 p) (fun k x => X4 (ix2 k x)) x * X8 (ix2 x n) := by
  simp only [gated, beside]
  pointwise [k0_pay1]
  rfl

/-- The four blocks side by side, entry by entry, when block `a` is the family's member `a`. -/
theorem beside_eq (X0 X1 X2 X3 : FVec Ideal S1x512x128 .f32) (p : Fin 512) (Y : Fin 4 → Fin 128 → EReal)
    (h0 : ∀ l, X0 (ix3 0 p l) = Y 0 l) (h1 : ∀ l, X1 (ix3 0 p l) = Y 1 l) (h2 : ∀ l, X2 (ix3 0 p l) = Y 2 l) (h3 : ∀ l, X3 (ix3 0 p l) = Y 3 l) (x : Fin 512) :
    beside X0 X1 X2 X3 p x = Y ⟨x.val / 128, by omega⟩ ⟨x.val % 128, by omega⟩ := by
  unfold beside
  split_ifs with a b d
  · rw [h0]; congr 1 <;> (apply Fin.ext; show _ = _; simp only [] <;> omega)
  · rw [h1]; congr 1 <;> (apply Fin.ext; show _ = _; simp only [] <;> omega)
  · rw [h2]; congr 1 <;> (apply Fin.ext; show _ = _; simp only [] <;> omega)
  · rw [h3]; congr 1 <;> (apply Fin.ext; show _ = _; simp only [] <;> omega)

/-- Group 0 of the activations' block, as the body loads it. -/
theorem load0 (X : Vec Ideal S4x512x128 .f32) (p : Fin 512) (l : Fin 128) : View.ld X r0_0 (ix3 0 p l : S1x512x128.Idx) = X (ix3 0 p l) := by
  show X _ = _
  congr 1
  blk_ext [r0_0]
  all_goals (rw [Rect.idx_unit_val]; simp)

/-- Group 1 of the activations' block, as the body loads it. -/
theorem load1 (X : Vec Ideal S4x512x128 .f32) (p : Fin 512) (l : Fin 128) : View.ld X r0_1 (ix3 0 p l : S1x512x128.Idx) = X (ix3 1 p l) := by
  show X _ = _
  congr 1
  blk_ext [r0_1]
  all_goals (rw [Rect.idx_unit_val]; simp)

/-- Group 2 of the activations' block, as the body loads it. -/
theorem load2 (X : Vec Ideal S4x512x128 .f32) (p : Fin 512) (l : Fin 128) : View.ld X r0_2 (ix3 0 p l : S1x512x128.Idx) = X (ix3 2 p l) := by
  show X _ = _
  congr 1
  blk_ext [r0_2]
  all_goals (rw [Rect.idx_unit_val]; simp)

/-- Group 3 of the activations' block, as the body loads it. -/
theorem load3 (X : Vec Ideal S4x512x128 .f32) (p : Fin 512) (l : Fin 128) : View.ld X r0_3 (ix3 0 p l : S1x512x128.Idx) = X (ix3 3 p l) := by
  show X _ = _
  congr 1
  blk_ext [r0_3]
  all_goals (rw [Rect.idx_unit_val]; simp)

/-- What a point of the grid stores at an index of its block is the reference's entry at the index's place. -/
theorem point (c : Dev nD) (t : Fin cfg0.N) (p : Fin 512) (n : Fin 1024) :
    k0_pay1 (F := Ideal) (View.ld (iblk m c 2 t) r0_0) (View.ld (iblk m c 2 t) r0_1) (View.ld (iblk m c 2 t) r0_2) (View.ld (iblk m c 2 t) r0_3)
        (iblk m c 3 t) (iblk m c 0 t) (iblk m c 1 t) (iblk m c 4 t) (iblk m c 5 t) (ix2 p n)
      = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb (ix2 p n)) := by
  have h : t.val < 64 := t.isLt
  rw [emb6, ref_at]
  refine (pay_at _ _ _ _ _ _ _ _ _ p n).trans ?_
  rw [add_assoc, blk0 m c t p n ⟨512 * t.val + p.val, by omega⟩ rfl]
  congr 1
  congr 1
  · refine Finset.sum_congr rfl fun k _ => ?_
    rw [blk1 m c t p k ⟨512 * t.val + p.val, by omega⟩ rfl, blk4 m c t k n]
  · refine Finset.sum_congr rfl fun k _ => ?_
    rw [blk5 m c t k n]
    congr 2
    · funext x
      exact beside_eq _ _ _ _ p (fun a l => (m ((c : Thread nD τ).loc main_arg2) : FVec Ideal S4x32768x128 .f32) (ix3 a ⟨512 * t.val + p.val, by omega⟩ l))
        (fun l => (load0 _ p l).trans (blk2 m c t 0 p l _ rfl)) (fun l => (load1 _ p l).trans (blk2 m c t 1 p l _ rfl))
        (fun l => (load2 _ p l).trans (blk2 m c t 2 p l _ rfl)) (fun l => (load3 _ p l).trans (blk2 m c t 3 p l _ rfl)) x
    · funext k x
      exact blk3 m c t k x

/-- The kernel's result is the reference's. -/
theorem final (c : Dev nD) : (dats m 0 c).arrAt 6 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  rw [show y = ix2 (y 0) (y 1) from by funext a; match a with | ⟨0, _⟩ => rfl | ⟨1, _⟩ => rfl]
  exact point m c t (y 0) (y 1)

end Cert.GateOut

end
-- ==== Proof.Residual.lean ====
/-
  The output projection of layer 1: every entry of the kernel's result is the reference's.
-/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Residual

section
open Cert.Reference6Ideal Cert.Reference6Ideal.Gen

/-- The reference's result as a function of its arguments. -/
abbrev REF (A0 : FVec Ideal S2x16384x1024 .f32) (A1 : FVec Ideal S32768x1024 .f32) (A2 : FVec Ideal S1x1024x1024 .f32) : FVec Ideal S32768x1024 .f32 :=
  shapeCast _ (addf A0 (Host.dotGeneral dot_S2x16384x1024_S1024x1024_S2x16384x1024_2_0_01_1_n_n none (shapeCast _ A1 shapeCasts_S32768x1024_S2x16384x1024) (shapeCast _ A2 shapeCasts_S1x1024x1024_S1024x1024))) shapeCasts_S2x16384x1024_S32768x1024

end

open Cert.Kernel6Ideal Cert.Kernel6Ideal.Gen

variable (m : (ℓ : Loc nD τ sig) → Buf (Elt Ideal) ℓ)

/-- The block of each window at a point of the grid. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- Two leading axes taken as one, at an index. -/
theorem rows_at (A : FVec Ideal S2x16384x1024 .f32) (r : Fin 32768) (n : Fin 1024) :
    shapeCast S32768x1024 A shapeCasts_S2x16384x1024_S32768x1024 (ix2 r n) = A (ix3 ⟨r.val / 16384, by omega⟩ ⟨r.val % 16384, by omega⟩ n) := by
  pointwise []

/-- The weights without their leading axis, at an index. -/
theorem weights_at (A : FVec Ideal S1x1024x1024 .f32) (k n : Fin 1024) :
    truncf .bf16 (shapeCast S1024x1024 A shapeCasts_S1x1024x1024_S1024x1024 : FVec Ideal S1024x1024 .f32) bitsLt_bf16_f32 (ix2 k n) = A (ix3 0 k n) := by
  pointwise []

/-- The rows the kernel takes as its first operand are the argument's, its two leading axes taken as one. -/
theorem entry0 (c : Dev nD) : (V m c main_v0 : FVec Ideal S32768x1024 .f32) = shapeCast S32768x1024 (m ((c : Thread nD τ).loc main_arg0)) shapeCasts_S2x16384x1024_S32768x1024 := by
  entry_read
  rfl

/-- The weights the kernel takes are the argument's. -/
theorem entry2 (c : Dev nD) : (V m c main_v2 : FVec Ideal S1024x1024 .bf16) = truncf .bf16 (shapeCast S1024x1024 (m ((c : Thread nD τ).loc main_arg2)) shapeCasts_S1x1024x1024_S1024x1024 : FVec Ideal S1024x1024 .f32) bitsLt_bf16_f32 := by
  entry_read
  rfl

/-- Where an index of the first operand's block sits in its array. -/
theorem emb0 (t : Fin cfg0.N) (p : Fin 512) (n : Fin 1024) : ((cfg0.win 0).blk t).view.emb (ix2 p n) = (ix2 (⟨512 * t.val + p.val, by have h : t.val < 64 := t.isLt; omega⟩ : Fin 32768) n : S32768x1024.Idx) := by
  blk_ext [idx t]

/-- Where an index of the second operand's block sits in its array. -/
theorem emb1 (t : Fin cfg0.N) (p : Fin 512) (n : Fin 1024) : ((cfg0.win 1).blk t).view.emb (ix2 p n) = (ix2 (⟨512 * t.val + p.val, by have h : t.val < 64 := t.isLt; omega⟩ : Fin 32768) n : S32768x1024.Idx) := by
  blk_ext [idx t]

/-- The weights' block is the whole array. -/
theorem emb2 (t : Fin cfg0.N) (k n : Fin 1024) : ((cfg0.win 2).blk t).view.emb (ix2 k n) = (ix2 k n : S1024x1024.Idx) := by
  blk_ext [idx t]

/-- Where an index of the result's block sits in the result. -/
theorem emb3 (t : Fin cfg0.N) (p : Fin 512) (n : Fin 1024) : ((cfg0.win 3).blk t).view.emb (ix2 p n) = (ix2 (⟨512 * t.val + p.val, by have h : t.val < 64 := t.isLt; omega⟩ : Fin 32768) n : S32768x1024.Idx) := by
  blk_ext [idx t]

/-- The first operand's block at an index. -/
theorem blk0 (c : Dev nD) (t : Fin cfg0.N) (p : Fin 512) (n : Fin 1024) (r : Fin 32768) (hr : r.val = 512 * t.val + p.val) :
    (iblk m c 0 t : FVec Ideal S512x1024 .f32) (ix2 p n) = (m ((c : Thread nD τ).loc main_arg0) : FVec Ideal S2x16384x1024 .f32) (ix3 ⟨r.val / 16384, by omega⟩ ⟨r.val % 16384, by omega⟩ n) := by
  show (V m c main_v0 : FVec Ideal S32768x1024 .f32) (((cfg0.win 0).blk t).view.emb (ix2 p n)) = _
  rw [emb0, entry0, show (⟨512 * t.val + p.val, by omega⟩ : Fin 32768) = r from Fin.ext hr.symm]
  exact rows_at _ r n

/-- The second operand's block at an index. -/
theorem blk1 (c : Dev nD) (t : Fin cfg0.N) (p : Fin 512) (n : Fin 1024) (r : Fin 32768) (hr : r.val = 512 * t.val + p.val) :
    (iblk m c 1 t : FVec Ideal S512x1024 .f32) (ix2 p n) = (m ((c : Thread nD τ).loc main_arg1) : FVec Ideal S32768x1024 .f32) (ix2 r n) := by
  show (V m c main_arg1 : FVec Ideal S32768x1024 .f32) (((cfg0.win 1).blk t).view.emb (ix2 p n)) = _
  rw [emb1, V_main_arg1, show (⟨512 * t.val + p.val, by omega⟩ : Fin 32768) = r from Fin.ext hr.symm]

/-- The weights' block at an index. -/
theorem blk2 (c : Dev nD) (t : Fin cfg0.N) (k n : Fin 1024) :
    (iblk m c 2 t : FVec Ideal S1024x1024 .bf16) (ix2 k n) = (m ((c : Thread nD τ).loc main_arg2) : FVec Ideal S1x1024x1024 .f32) (ix3 0 k n) := by
  show (V m c main_v2 : FVec Ideal S1024x1024 .bf16) (((cfg0.win 2).blk t).view.emb (ix2 k n)) = _
  rw [emb2, entry2]
  exact weights_at _ k n

/-- The reference at an index: the residual, and the row's product with a column of the weights. -/
theorem ref_at (A0 : FVec Ideal S2x16384x1024 .f32) (A1 : FVec Ideal S32768x1024 .f32) (A2 : FVec Ideal S1x1024x1024 .f32) (r : Fin 32768) (n : Fin 1024) :
    REF A0 A1 A2 (ix2 r n) = A0 (ix3 ⟨r.val / 16384, by omega⟩ ⟨r.val % 16384, by omega⟩ n) + ∑ k, A1 (ix2 r k) * A2 (ix3 0 k n) := by
  pointwise [REF]

/-- What the body stores at an index of its block. -/
theorem pay_at (X0 : FVec Ideal S512x1024 .f32) (X1 : FVec Ideal S512x1024 .f32) (X2 : FVec Ideal S1024x1024 .bf16) (p : Fin 512) (n : Fin 1024) :
    k0_pay1 (F := Ideal) X0 X1 X2 (ix2 p n) = X0 (ix2 p n) + ∑ k, X1 (ix2 p k) * X2 (ix2 k n) := by
  pointwise [k0_pay1]

/-- What a point of the grid stores at an index of its block is the reference's entry at the index's place. -/
theorem point (c : Dev nD) (t : Fin cfg0.N) (p : Fin 512) (n : Fin 1024) :
    k0_pay1 (F := Ideal) (iblk m c 0 t) (iblk m c 1 t) (iblk m c 2 t) (ix2 p n)
      = REF (m ((c : Thread nD τ).loc main_arg0)) (m ((c : Thread nD τ).loc main_arg1)) (m ((c : Thread nD τ).loc main_arg2)) (((cfg0.win 3).blk t).view.emb (ix2 p n)) := by
  have h : t.val < 64 := t.isLt
  rw [emb3, ref_at]
  refine (pay_at _ _ _ p n).trans ?_
  rw [blk0 m c t p n ⟨512 * t.val + p.val, by omega⟩ rfl]
  congr 1
  refine Finset.sum_congr rfl fun k _ => ?_
  rw [blk1 m c t p k ⟨512 * t.val + p.val, by omega⟩ rfl, blk2 m c t k n]

/-- The kernel's result is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  rw [show y = ix2 (y 0) (y 1) from by funext a; match a with | ⟨0, _⟩ => rfl | ⟨1, _⟩ => rfl]
  exact point m c t (y 0) (y 1)

end Cert.Residual

end
-- ==== Proof.DeltaBody.lean ====
/-
  The body of the gated delta rule kernel, written once for a head `h` and a chunk `n` of its block: the printed body
  unrolls eight heads by two chunks; each unrolled group is one of the formulas below at its `(h, n)`.
-/
module

public import proofs.«01_k».proof.Proof.Gen.Kernel7Ideal.Skeleton

@[expose] public section

set_option maxRecDepth 65536

noncomputable section

open Idealize.ShloMosaic Idealize.ShloMosaic.TcCoe Idealize.SL.Sem

namespace Cert.Kernel7Ideal.Delta

open Cert.Kernel7Ideal Cert.Kernel7Ideal.Gen

variable {F : FTy → Type} [FloatOps F]

/-- Column `8 + h` of the running sums. -/
theorem colA_ok : ∀ h : Fin 8, S64x128.Slices ![0, 8 + h.val] S64x1 := by decide
/-- Row `8 + h` of the transposed running sums. -/
theorem rowA_ok : ∀ h : Fin 8, S128x64.Slices ![8 + h.val, 0] S1x64 := by decide
/-- Column `h` of the rows of chunk `n`. -/
theorem colB_ok : ∀ (h : Fin 8) (n : Fin 2), S128x128.Slices ![64 * n.val, h.val] S64x1 := by decide
/-- The rows of chunk `n`. -/
theorem rows_ok : ∀ n : Fin 2, S128x128.Slices ![64 * n.val, 0] S64x128 := by decide

/-- The rows of chunk `n` of a block. -/
def rowsV (x : FVec F S128x128 .f32) (n : Fin 2) : FVec F S64x128 .f32 :=
  extractStridedSlice S64x128 ![64 * n.val, 0] x (rows_ok n)

/-- One tap of the convolution. -/
def tapV (w : Vec F S1x128 .f32) (b : Vec F S1x128x128 .f32) : FVec F S128x128 .f32 :=
  mulf (broadcastTo S128x128 (shapeCast S1x128 w shapeCasts_S1x128_S1x128) broadcasts_S1x128_S128x128)
    (shapeCast S128x128 b shapeCasts_S1x128x128_S128x128)

/-- The four taps added. -/
def tapsV (w : Fin 4 → Vec F S1x128 .f32) (b : Fin 4 → Vec F S1x128x128 .f32) : FVec F S128x128 .f32 :=
  addf (addf (addf (tapV (w 0) (b 0)) (tapV (w 1) (b 1))) (tapV (w 2) (b 2))) (tapV (w 3) (b 3))

/-- A block gated by its own logistic. -/
def siluV (x : FVec F S128x128 .f32) : FVec F S128x128 .f32 := mulf x (logistic x)

/-- A block with each row scaled to length one. -/
def unitV (x : FVec F S128x128 .f32) : FVec F S128x128 .f32 :=
  mulf x (broadcastTo S128x128 (rsqrt (addf (shapeCast S128x1
    (multiReduction .add [1] S128 (mulf x x) 0x00000000#32 reduces_S128x128_S128 (.inl rfl) rfl) shapeCasts_S128_S128x1)
    (broadcast S128x1 (Scalar.ofBits .f32 0x358637BD#32)))) broadcasts_S128x1_S128x128)

/-- The queries: unit rows times the scale. -/
def scaledV (x : FVec F S128x128 .f32) : FVec F S128x128 .f32 :=
  mulf (unitV x) (broadcast S128x128 (Scalar.ofBits .f32 0x3DB504F3#32))

/-- The log decays of a block. -/
def logV (ba : Vec F S128x128 .f32) (nega dtb : Vec F S1x128 .f32) : FVec F S128x128 .f32 :=
  k0_pay12 (k0_pay8 nega) (k0_pay10 ba dtb) (k0_pay11 ba dtb)

/-- Their running sums over the rows of chunk `n`. -/
def decV (ba : Vec F S128x128 .f32) (nega dtb : Vec F S1x128 .f32) (n : Fin 2) : FVec F S64x128 .f32 :=
  matmul dot_S64x64_S64x128_S64x128_1_0_0_1_n_n (some .fp32) (k0_pay15 (F := F)) (rowsV (logV ba nega dtb) n)
    (constant S64x128 .f32 0x00000000#32)

/-- The running sum of head `h`, along every row. -/
def dcolV (d : FVec F S64x128 .f32) (h : Fin 8) : FVec F S64x128 .f32 :=
  broadcastTo S64x128 (shapeCast S64x1 (extractStridedSlice S64x1 ![0, 8 + h.val] d (colA_ok h)) shapeCasts_S64x1_S64x1)
    broadcasts_S64x1_S64x128

/-- The differences of the running sums of head `h`. -/
def diffV (d : FVec F S64x128 .f32) (h : Fin 8) : FVec F S64x64 .f32 :=
  subf (extractStridedSlice S64x64 ![0, 0] (dcolV d h) slices_S64x128_o0_0_S64x64)
    (broadcastTo S64x64 (extractStridedSlice S1x64 ![8 + h.val, 0]
      (transpose S128x64 [1, 0] d transposes_S64x128_p1_0_S128x64) (rowA_ok h)) broadcasts_S1x64_S64x64)

/-- The decays between two rows, zero above the diagonal. -/
def lmaskV (d : FVec F S64x128 .f32) (h : Fin 8) : FVec F S64x64 .f32 :=
  select k0_pay13 (exp (select k0_pay13 (diffV d h) (broadcast S64x64 (Scalar.ofBits .f32 0x00000000#32))))
    (broadcast S64x64 (Scalar.ofBits .f32 0x00000000#32))

/-- The write strength of head `h`, along every row of chunk `n`. -/
def betaV (ba : Vec F S128x128 .f32) (h : Fin 8) (n : Fin 2) : FVec F S64x128 .f32 :=
  broadcastTo S64x128 (shapeCast S64x1 (extractStridedSlice S64x1 ![64 * n.val, h.val] (k0_pay7 ba) (colB_ok h n))
    shapeCasts_S64x1_S64x1) broadcasts_S64x1_S64x128

/-- The leading part of a matrix. -/
def hiV (x : FVec F S64x64 .f32) : FVec F S64x64 .bf16 := truncf .bf16 x bitsLt_bf16_f32
/-- What is left of it. -/
def loV (x : FVec F S64x64 .f32) : FVec F S64x64 .bf16 :=
  truncf .bf16 (subf x (extf .f32 (hiV x) bitsLt_bf16_f32)) bitsLt_bf16_f32

/-- The product of two 64 × 64 matrices. -/
def mm (x y : FVec F S64x64 .bf16) : FVec F S64x64 .f32 :=
  matmul dot_S64x64_S64x64_S64x64_1_0_0_1_n_n none x y (constant S64x64 .f32 0x00000000#32)

/-- The product of two matrices, each in two parts. -/
def mm3 (x y : FVec F S64x64 .f32) : FVec F S64x64 .f32 :=
  addf (mm (hiV x) (hiV y)) (addf (mm (hiV x) (loV y)) (mm (loV x) (hiV y)))

/-- The strictly lower triangular scores of the keys. -/
def aV (k bc : FVec F S64x128 .f32) (lm : FVec F S64x64 .f32) : FVec F S64x64 .f32 :=
  select k0_pay14 (mulf (matmul dot_S64x128_S64x128_S64x64_1_1_0_0_n_n none (truncf .bf16 (mulf k bc) bitsLt_bf16_f32)
    (truncf .bf16 k bitsLt_bf16_f32) (constant S64x64 .f32 0x00000000#32)) lm)
    (broadcast S64x64 (Scalar.ofBits .f32 0x00000000#32))

/-- The repeated squares of the negated scores. -/
def powV (a : FVec F S64x64 .f32) : ℕ → FVec F S64x64 .f32
  | 0 => subf (broadcast S64x64 (Scalar.ofBits .f32 0x00000000#32)) a
  | r + 1 => mm3 (powV a r) (powV a r)

/-- The partial products of the inverse. -/
def invV (a : FVec F S64x64 .f32) : ℕ → FVec F S64x64 .f32
  | 0 => subf k0_pay16 a
  | r + 1 => addf (invV a r) (mm3 (invV a r) (powV a (r + 1)))

/-- A 64 × 64 matrix times a tile. -/
def mt (x : FVec F S64x64 .bf16) (y : FVec F S64x128 .bf16) : FVec F S64x128 .f32 :=
  matmul dot_S64x64_S64x128_S64x128_1_0_0_1_n_n none x y (constant S64x128 .f32 0x00000000#32)

/-- A tile times the state. -/
def ms (x : FVec F S64x128 .bf16) (s : FVec F S128x128 .f32) : FVec F S64x128 .f32 :=
  matmul dot_S64x128_S128x128_S64x128_1_0_0_1_n_n none x (truncf .bf16 s bitsLt_bf16_f32) (constant S64x128 .f32 0x00000000#32)

/-- The last row of the running sums. -/
def lastV (dc : FVec F S64x128 .f32) : FVec F S1x128 .f32 := extractStridedSlice S1x128 ![63, 0] dc slices_S64x128_o63_0_S1x128

section
variable (q k v dc bc : FVec F S64x128 .f32) (lm : FVec F S64x64 .f32)

/-- The inverse applied to the weighted values. -/
def valueV : FVec F S64x128 .f32 := mt (hiV (invV (aV k bc lm) 5)) (truncf .bf16 (mulf v bc) bitsLt_bf16_f32)
/-- The inverse applied to the weighted and decayed keys. -/
def kcumV : FVec F S64x128 .bf16 :=
  truncf .bf16 (mt (hiV (invV (aV k bc lm) 5)) (truncf .bf16 (mulf (mulf k bc) (exp dc)) bitsLt_bf16_f32)) bitsLt_bf16_f32
/-- The scores of the queries within the chunk. -/
def attnV : FVec F S64x64 .bf16 :=
  truncf .bf16 (mulf (matmul dot_S64x128_S64x128_S64x64_1_1_0_0_n_n none (truncf .bf16 q bitsLt_bf16_f32)
    (truncf .bf16 k bitsLt_bf16_f32) (constant S64x64 .f32 0x00000000#32)) lm) bitsLt_bf16_f32
/-- The decayed queries. -/
def qdecV : FVec F S64x128 .bf16 := truncf .bf16 (mulf q (exp dc)) bitsLt_bf16_f32
/-- The keys decayed to the end of the chunk. -/
def ktailV : FVec F S64x128 .bf16 :=
  truncf .bf16 (mulf k (exp (subf (broadcastTo S64x128 (lastV dc) broadcasts_S1x128_S64x128) dc))) bitsLt_bf16_f32
/-- The corrected values, of the state before the chunk. -/
def vnewV (s : FVec F S128x128 .f32) : FVec F S64x128 .bf16 :=
  truncf .bf16 (subf (valueV k v bc lm) (ms (kcumV k dc bc lm) s)) bitsLt_bf16_f32
/-- The output of a chunk, of the state before it. -/
def outV (s : FVec F S128x128 .f32) : FVec F S64x128 .f32 :=
  addf (ms (qdecV q dc) s) (mt (attnV q k lm) (vnewV k v dc bc lm s))
/-- The state after a chunk, of the state before it. -/
def nextV (s : FVec F S128x128 .f32) : FVec F S128x128 .f32 :=
  addf (mulf (broadcastTo S128x128 (exp (lastV dc)) broadcasts_S1x128_S128x128) s)
    (matmul dot_S64x128_S64x128_S128x128_0_0_1_1_n_n none (ktailV k dc) (vnewV k v dc bc lm s)
      (constant S128x128 .f32 0x00000000#32))
end

section
variable (rw : Fin 3 → Fin 4 → Fin 8 → Vec F S1x128 .f32) (rc : Fin 3 → Fin 4 → Fin 8 → Vec F S1x128x128 .f32)
  (ba : Vec F S128x128 .f32) (nega dtb : Vec F S1x128 .f32) (h : Fin 8) (n : Fin 2)

/-- The convolved rows of head `h`: queries for `p = 0`, keys for `1`, values for `2`. -/
def convV (p : Fin 3) : FVec F S128x128 .f32 := siluV (tapsV (fun j => rw p j h) (fun j => rc p j h))
/-- The queries of a chunk. -/
def qV : FVec F S64x128 .f32 := rowsV (scaledV (convV rw rc h 0)) n
/-- The keys of a chunk. -/
def kV : FVec F S64x128 .f32 := rowsV (unitV (convV rw rc h 1)) n
/-- The values of a chunk. -/
def vV : FVec F S64x128 .f32 := rowsV (convV rw rc h 2) n
/-- The running sums of a chunk. -/
def dcV : FVec F S64x128 .f32 := dcolV (decV ba nega dtb n) h
/-- The decays within a chunk. -/
def lmV : FVec F S64x64 .f32 := lmaskV (decV ba nega dtb n) h
/-- The output of chunk `n`, of the state before it. -/
def chunkV (s : FVec F S128x128 .f32) : FVec F S64x128 .f32 :=
  outV (qV rw rc h n) (kV rw rc h n) (vV rw rc h n) (dcV ba nega dtb h n) (betaV ba h n) (lmV ba nega dtb h n) s
/-- The state after chunk `n`, of the state before it. -/
def stepV (s : FVec F S128x128 .f32) : FVec F S128x128 .f32 :=
  nextV (kV rw rc h n) (vV rw rc h n) (dcV ba nega dtb h n) (betaV ba h n) (lmV ba nega dtb h n) s
/-- The two chunks' outputs, one under the other. -/
def catV (s : FVec F S128x128 .f32) : FVec F S128x128 .f32 :=
  concatenate S128x128 0 [⟨S64x128, chunkV rw rc ba nega dtb h 0 s⟩,
    ⟨S64x128, chunkV rw rc ba nega dtb h 1 (stepV rw rc ba nega dtb h 0 s)⟩] concatenates_S64x128_S64x128_S128x128_d0
/-- The state after both chunks. -/
def lastS (s : FVec F S128x128 .f32) : FVec F S128x128 .f32 :=
  stepV rw rc ba nega dtb h 1 (stepV rw rc ba nega dtb h 0 s)
end

/-- The outputs normed by their mean square, weighted, and gated. -/
def normV (o : FVec F S128x128 .f32) (gn : Vec F S1x128 .f32) (z : Vec F S128x128 .f32) : FVec F S128x128 .f32 :=
  mulf (mulf (mulf o (broadcastTo S128x128 (rsqrt (addf (divf (shapeCast S128x1
      (multiReduction .add [1] S128 (mulf o o) 0x00000000#32 reduces_S128x128_S128 (.inl rfl) rfl) shapeCasts_S128_S128x1)
      (broadcast S128x1 (Scalar.ofBits .f32 0x43000000#32))) (broadcast S128x1 (Scalar.ofBits .f32 0x358637BD#32))))
      broadcasts_S128x1_S128x128))
    (broadcastTo S128x128 (shapeCast S1x128 gn shapeCasts_S1x128_S1x128) broadcasts_S1x128_S128x128))
    (mulf z (logistic z))

end Cert.Kernel7Ideal.Delta
-- ==== Proof.DeltaReads.lean ====
/-
  What the gated delta rule kernel's body reads: the blocks, the convolution's weights and rows, and the carried
  state, each read named at a head, a tap and a part.
-/
module

public import proofs.«01_k».proof.Proof.DeltaBody
public import proofs.«01_k».proof.Proof.Gen.Kernel7Ideal.Frame

@[expose] public section

set_option maxRecDepth 65536

noncomputable section

open Idealize.ShloMosaic Idealize.ShloMosaic.TcCoe Idealize.SL.Sem

namespace Cert.Kernel7Ideal.Delta

open Cert.Kernel7Ideal Cert.Kernel7Ideal.Gen

variable {F : FTy → Type} [FloatOps F]

/-- The lanes of a head lie in a block of 1024 lanes. -/
theorem colO_ok : ∀ (h : Fin 8) (a : Fin 2), (![0, 128 * h.val] : Fin 2 → Nat) a + S128x128.size a ≤ S128x1024.size a := by decide
/-- The state of a head lies in the carried states. -/
theorem lay_ok : ∀ (h : Fin 8) (a : Fin 3), (![h.val, 0, 0] : Fin 3 → Nat) a + S1x128x128.size a ≤ S8x128x128.size a := by decide
/-- The weights of a tap and a head lie in the weights. -/
theorem tapw_ok : ∀ (p : Fin 3) (j : Fin 4) (h : Fin 8) (a : Fin 2),
    (![j.val, 1024 * p.val + 128 * h.val] : Fin 2 → Nat) a + S1x128.size a ≤ S4x3072.size a := by decide
/-- The rows of a tap and a head lie in the carried rows. -/
theorem tapr_ok : ∀ (p : Fin 3) (j : Fin 4) (h : Fin 8) (a : Fin 3),
    (![p.val, 5 + j.val, 128 * h.val] : Fin 3 → Nat) a + S1x128x128.size a ≤ S3x136x1024.size a := by decide

/-- The lanes of a head in a block. -/
abbrev colR (h : Fin 8) : Rect S128x1024 := Rect.unit (s := S128x1024) ![0, 128 * h.val] S128x128.size (colO_ok h)
/-- The state of a head in the carried states. -/
abbrev layR (h : Fin 8) : Rect S8x128x128 := Rect.unit (s := S8x128x128) ![h.val, 0, 0] S1x128x128.size (lay_ok h)
/-- The rows of a tap and a head in the carried rows. -/
abbrev tapR (p : Fin 3) (j : Fin 4) (h : Fin 8) : Rect S3x136x1024 :=
  Rect.unit (s := S3x136x1024) ![p.val, 5 + j.val, 128 * h.val] S1x128x128.size (tapr_ok p j h)

/-- The gates read whole. -/
def rdBA (a : Memref sig .tc .vmem S128x128 .f32) (ha : a.IsWhole) (x : Vec F S128x128 .f32) : Vec F S128x128 .f32 :=
  View.readAt (Elt F) a.view (Rect.unit (s := S128x128) ![0, 0] S128x128.size inb_S128x128_S128x128_0_0).toLoadRect (ha.unread x)
/-- A row read whole. -/
def rdR (a : Memref sig .tc .vmem S1x128 .f32) (ha : a.IsWhole) (x : Vec F S1x128 .f32) : Vec F S1x128 .f32 :=
  View.readAt (Elt F) a.view (Rect.unit (s := S1x128) ![0, 0] S1x128.size inb_S1x128_S1x128_0_0).toLoadRect (ha.unread x)
/-- A head's lanes of a block. -/
def rdZ (a : Memref sig .tc .vmem S128x1024 .f32) (ha : a.IsWhole) (x : Vec F S128x1024 .f32) (h : Fin 8) : Vec F S128x128 .f32 :=
  View.readAt (Elt F) a.view (colR h).toLoadRect (ha.unread x)
/-- A head's weights at a tap. -/
def rdW (a : Memref sig .tc .vmem S4x3072 .f32) (ha : a.IsWhole) (x : Vec F S4x3072 .f32) (p : Fin 3) (j : Fin 4) (h : Fin 8) :
    Vec F S1x128 .f32 :=
  View.readAt (Elt F) a.view (Rect.unit (s := S4x3072) ![j.val, 1024 * p.val + 128 * h.val] S1x128.size (tapw_ok p j h)).toLoadRect
    (ha.unread x)
/-- A block read whole. -/
def rdX (a : Memref sig .tc .vmem S128x1024 .f32) (ha : a.IsWhole) (x : Vec F S128x1024 .f32) : Vec F S128x1024 .f32 :=
  View.readAt (Elt F) a.view (Rect.unit (s := S128x1024) ![0, 0] S128x1024.size inb_S128x1024_S128x1024_0_0).toLoadRect (ha.unread x)

/-- The rows of this block, as stored under the rows before it: queries, keys and values. -/
def newRows (x0 x1 x2 : Vec F S128x1024 .f32) : List (View.Piece (Elt F) S3x136x1024 .f32) :=
  [⟨Rect.unit (s := S3x136x1024) ![2, 8, 0] S1x128x1024.size inb_S3x136x1024_S1x128x1024_2_8_0, shapeCast S1x128x1024 x2 shapeCasts_S128x1024_S1x128x1024⟩,
    ⟨Rect.unit (s := S3x136x1024) ![1, 8, 0] S1x128x1024.size inb_S3x136x1024_S1x128x1024_1_8_0, shapeCast S1x128x1024 x1 shapeCasts_S128x1024_S1x128x1024⟩,
    ⟨Rect.unit (s := S3x136x1024) ![0, 8, 0] S1x128x1024.size inb_S3x136x1024_S1x128x1024_0_8_0, shapeCast S1x128x1024 x0 shapeCasts_S128x1024_S1x128x1024⟩]

/-- The same, over rows of zero. -/
def freshRows (x0 x1 x2 : Vec F S128x1024 .f32) : List (View.Piece (Elt F) S3x136x1024 .f32) :=
  [⟨Rect.unit (s := S3x136x1024) ![2, 8, 0] S1x128x1024.size inb_S3x136x1024_S1x128x1024_2_8_0, shapeCast S1x128x1024 x2 shapeCasts_S128x1024_S1x128x1024⟩,
    ⟨Rect.unit (s := S3x136x1024) ![1, 8, 0] S1x128x1024.size inb_S3x136x1024_S1x128x1024_1_8_0, shapeCast S1x128x1024 x1 shapeCasts_S128x1024_S1x128x1024⟩,
    ⟨Rect.unit (s := S3x136x1024) ![0, 8, 0] S1x128x1024.size inb_S3x136x1024_S1x128x1024_0_8_0, shapeCast S1x128x1024 x0 shapeCasts_S128x1024_S1x128x1024⟩,
    ⟨Rect.unit (s := S3x136x1024) ![0, 0, 0] S3x8x1024.size inb_S3x136x1024_S3x8x1024_0_0_0, k0_pay3⟩]

/-- The last eight rows of the carried rows. -/
abbrev endR : Rect S3x136x1024 := Rect.unit (s := S3x136x1024) ![0, 128, 0] S3x8x1024.size inb_S3x136x1024_S3x8x1024_0_128_0

/-- A tap's rows at the first block of a sequence. -/
def rcA (a : Memref sig .tc .vmem S3x136x1024 .f32) (x0 x1 x2 : Vec F S128x1024 .f32) (p : Fin 3) (j : Fin 4) (h : Fin 8) :
    Vec F S1x128x128 .f32 :=
  a.view.readCov (Val := Elt F) (freshRows x0 x1 x2) (tapR p j h).toLoadRect
/-- A tap's rows at a later block. -/
def rcB (a : Memref sig .tc .vmem S3x136x1024 .f32) (ha : a.IsWhole) (x0 x1 x2 : Vec F S128x1024 .f32) (xs : Vec F S3x136x1024 .f32)
    (p : Fin 3) (j : Fin 4) (h : Fin 8) : Vec F S1x128x128 .f32 :=
  if j.val = 3 then a.view.readCov (Val := Elt F) (newRows x0 x1 x2) (tapR p j h).toLoadRect
  else View.readAt (Elt F) a.view (tapR p j h).toLoadRect (a.view.writes (Elt F) (ha.unread xs) (newRows x0 x1 x2))

/-- A head's state at the first block of a sequence. -/
def stA (a : Memref sig .tc .vmem S8x128x128 .f32) (h : Fin 8) : FVec F S128x128 .f32 :=
  shapeCast S128x128 (a.view.readCov (Val := Elt F) [⟨Rect.unit (s := S8x128x128) ![0, 0, 0] S8x128x128.size inb_S8x128x128_S8x128x128_0_0_0, k0_pay2⟩]
    (layR h).toLoadRect : Vec F S1x128x128 .f32) shapeCasts_S1x128x128_S128x128
/-- A head's state at a later block. -/
def stB (a : Memref sig .tc .vmem S8x128x128 .f32) (ha : a.IsWhole) (xs : Vec F S8x128x128 .f32) (h : Fin 8) : FVec F S128x128 .f32 :=
  shapeCast S128x128 (View.readAt (Elt F) a.view (layR h).toLoadRect (ha.unread xs) : Vec F S1x128x128 .f32) shapeCasts_S1x128x128_S128x128

/-- The store of a head's outputs. -/
def pieceO (v : Fin 8 → FVec F S128x128 .f32) (h : Fin 8) : View.Piece (Elt F) S128x1024 .f32 := ⟨colR h, v h⟩
/-- The store of a head's state. -/
def pieceS (v : Fin 8 → FVec F S128x128 .f32) (h : Fin 8) : View.Piece (Elt F) S8x128x128 .f32 :=
  ⟨layR h, shapeCast S1x128x128 (v h) shapeCasts_S128x128_S1x128x128⟩

end Cert.Kernel7Ideal.Delta
-- ==== Proof.DeltaSpec.lean ====
/-
  One chunk of the gated delta rule, in extended reals: a tile of 64 rows and 128 lanes holds the scaled queries `Q`,
  the unit keys `K` and the values `V` of one head; `B` holds the write strengths of its rows and `G` their log decays.
-/
module

public import Idealize.ShloMosaic.Lib.Pointwise
public import proofs.«01_k».proof.Proof.Spec

@[expose] public section

noncomputable section

open Idealize.ShloMosaic

namespace Cert.Delta

/-- A tile of a chunk: row, lane. -/
abbrev Tile := Fin 64 → Fin 128 → EReal
/-- A number for each row of a chunk. -/
abbrev Col := Fin 64 → EReal
/-- A number for each pair of rows of a chunk. -/
abbrev Mat := Fin 64 → Fin 64 → EReal
/-- A state: key lane, value lane. -/
abbrev State := Fin 128 → Fin 128 → EReal

section
variable (Q K V : Tile) (B G : Col) (S : State)

/-- The log decay from the start of the chunk through row `t`. -/
def cum (t : Fin 64) : EReal := ∑ s : Fin 64, if s.val ≤ t.val then G s else 0

/-- The decay from row `s` to row `t`, zero above the diagonal. -/
def decay : Mat := fun t s => if s.val ≤ t.val then Ideal.exp (cum G t - cum G s) else 0

/-- The strictly lower triangular scores of the keys. -/
def scores : Mat := fun t s => if s.val < t.val then (∑ d, K t d * B t * K s d) * decay G t s else 0

/-- The identity matrix. -/
def eye : Mat := fun t s => if t.val = s.val then 1 else 0

/-- The product of two matrices. -/
def mul (X Y : Mat) : Mat := fun t s => ∑ r, X t r * Y r s

/-- The steps of `T = I - A T` from zero. -/
def subst (A : Mat) : ℕ → Mat
  | 0 => fun _ _ => 0
  | k + 1 => fun t s => eye t s - mul A (subst A k) t s

/-- The inverse of `I + A`: 64 steps. -/
def inverse (A : Mat) : Mat := subst A 64

/-- The product of two matrices, each split into itself and what is left of it. -/
def mul3 (X Y : Mat) : Mat := fun t s =>
  mul X Y t s + (mul X (fun r s => Y r s - Y r s) t s + mul (fun t r => X t r - X t r) Y t s)

/-- The repeated squares of `-A`. -/
def pow (A : Mat) : ℕ → Mat
  | 0 => fun t s => 0 - A t s
  | r + 1 => mul3 (pow A r) (pow A r)

/-- The inverse of `I + A` by repeated squaring. -/
def doubled (A : Mat) : ℕ → Mat
  | 0 => fun t s => eye t s - A t s
  | r + 1 => fun t s => doubled A r t s + mul3 (doubled A r) (pow A (r + 1)) t s

variable (T : Mat)

/-- The inverse applied to the weighted values. -/
def value (t : Fin 64) (e : Fin 128) : EReal := ∑ s, T t s * (V s e * B s)
/-- The inverse applied to the weighted and decayed keys. -/
def kcum (t : Fin 64) (d : Fin 128) : EReal := ∑ s, T t s * (K s d * B s * Ideal.exp (cum G s))
/-- The scores of the queries. -/
def attn : Mat := fun t s => (∑ d, Q t d * K s d) * decay G t s
/-- The decayed queries. -/
def qdec (t : Fin 64) (d : Fin 128) : EReal := Q t d * Ideal.exp (cum G t)
/-- The keys decayed to the end of the chunk. -/
def ktail (t : Fin 64) (d : Fin 128) : EReal := K t d * Ideal.exp (cum G 63 - cum G t)
/-- The corrected values. -/
def vnew (t : Fin 64) (e : Fin 128) : EReal := value V B T t e - ∑ d, kcum K B G T t d * S d e
/-- The output of row `t`. -/
def out (t : Fin 64) (e : Fin 128) : EReal :=
  (∑ d, qdec Q G t d * S d e) + ∑ s, attn Q K G t s * vnew K V B G S T s e
/-- The state after the chunk. -/
def next (d e : Fin 128) : EReal := Ideal.exp (cum G 63) * S d e + ∑ t, ktail K G t d * vnew K V B G S T t e
end

/-- The state before chunk `k`, zero before chunk 0. -/
def run (K V : ℕ → Tile) (B G : ℕ → Col) : ℕ → State
  | 0 => fun _ _ => 0
  | k + 1 => next (K k) (V k) (B k) (G k) (run K V B G k) (inverse (scores (K k) (B k) (G k)))

/-! ## The two inverses agree where the scores are finite -/

/-- The entries of a real matrix, as extended reals. -/
def ofReal (M : Matrix (Fin 64) (Fin 64) ℝ) : Mat := fun t s => ((M t s : ℝ) : EReal)

/-- A sum of real numbers, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The product of real matrices. -/
theorem mul_real (M N : Matrix (Fin 64) (Fin 64) ℝ) : mul (ofReal M) (ofReal N) = ofReal (M * N) := by
  funext t s
  unfold mul ofReal
  rw [Matrix.mul_apply, coe_sum]
  exact Finset.sum_congr rfl fun r _ => (EReal.coe_mul _ _).symm

/-- A real matrix less itself. -/
theorem sub_real (M : Matrix (Fin 64) (Fin 64) ℝ) : (fun t s => ofReal M t s - ofReal M t s) = ofReal 0 := by
  funext t s
  unfold ofReal
  rw [← EReal.coe_sub, sub_self]
  rfl

/-- The product of real matrices in parts is the product. -/
theorem mul3_real (M N : Matrix (Fin 64) (Fin 64) ℝ) : mul3 (ofReal M) (ofReal N) = ofReal (M * N) := by
  unfold mul3
  rw [sub_real, sub_real, mul_real, mul_real, mul_real, Matrix.mul_zero, Matrix.zero_mul]
  funext t s
  show ofReal (M * N) t s + (((0 : ℝ) : EReal) + ((0 : ℝ) : EReal)) = _
  rw [EReal.coe_zero, add_zero, add_zero]

/-- The identity matrix. -/
theorem eye_real : eye = ofReal 1 := by
  funext t s
  unfold eye ofReal
  by_cases h : t = s
  · subst h
    rw [if_pos rfl, Matrix.one_apply_eq]
    rfl
  · rw [if_neg fun h' => h (Fin.ext h'), Matrix.one_apply_ne h]
    rfl

/-- The steps of `T = I - A T` add up the powers of `-A`. -/
theorem subst_real (M : Matrix (Fin 64) (Fin 64) ℝ) (k : ℕ) :
    subst (ofReal M) k = ofReal (∑ j ∈ Finset.range k, (-M) ^ j) := by
  induction k with
  | zero => rfl
  | succ k ih =>
    show (fun t s => eye t s - mul (ofReal M) (subst (ofReal M) k) t s) = _
    rw [ih, mul_real, eye_real, geom_sum_succ, Matrix.neg_mul]
    funext t s
    unfold ofReal
    rw [← EReal.coe_sub]
    refine congrArg _ ?_
    rw [Matrix.add_apply, Matrix.neg_apply]
    ring

/-- The repeated squares are the powers. -/
theorem pow_real (M : Matrix (Fin 64) (Fin 64) ℝ) (r : ℕ) : pow (ofReal M) r = ofReal ((-M) ^ 2 ^ r) := by
  induction r with
  | zero =>
    show (fun t s => 0 - ofReal M t s) = _
    rw [Nat.pow_zero, pow_one]
    funext t s
    unfold ofReal
    rw [Matrix.neg_apply, EReal.coe_neg, zero_sub]
  | succ r ih =>
    show mul3 (pow (ofReal M) r) (pow (ofReal M) r) = _
    rw [ih, mul3_real, ← pow_add, ← two_mul, ← pow_succ']

/-- Repeated squaring adds up the powers of `-A`. -/
theorem doubled_real (M : Matrix (Fin 64) (Fin 64) ℝ) (r : ℕ) :
    doubled (ofReal M) r = ofReal (∑ j ∈ Finset.range (2 ^ (r + 1)), (-M) ^ j) := by
  induction r with
  | zero =>
    show (fun t s => eye t s - ofReal M t s) = _
    rw [eye_real]
    funext t s
    unfold ofReal
    rw [← EReal.coe_sub]
    refine congrArg _ ?_
    simp [Finset.sum_range_succ, sub_eq_add_neg]
  | succ r ih =>
    show (fun t s => doubled (ofReal M) r t s + mul3 (doubled (ofReal M) r) (pow (ofReal M) (r + 1)) t s) = _
    rw [ih, pow_real, mul3_real, pow_succ 2 (r + 1), mul_two, Finset.sum_range_add]
    funext t s
    unfold ofReal
    rw [← EReal.coe_add]
    refine congrArg _ ?_
    rw [Matrix.add_apply, Finset.sum_mul]
    refine congrArg (_ + ·) (congrFun (congrFun (Finset.sum_congr rfl fun j _ => ?_) t) s)
    rw [← pow_add, Nat.add_comm]

/-- Where the scores are finite, five squarings give the inverse. -/
theorem doubled_eq (A : Mat) (hA : ∀ t s, A t s ≠ ⊤ ∧ A t s ≠ ⊥) : doubled A 5 = inverse A := by
  obtain ⟨M, rfl⟩ : ∃ M : Matrix (Fin 64) (Fin 64) ℝ, A = ofReal M :=
    ⟨Matrix.of fun t s => (A t s).toReal, funext fun t => funext fun s => (EReal.coe_toReal (hA t s).1 (hA t s).2).symm⟩
  rw [inverse, doubled_real, subst_real]
  rfl

/-! ## The scores are finite -/

/-- Neither infinity. -/
abbrev Finite (x : EReal) : Prop := x ≠ ⊤ ∧ x ≠ ⊥

/-- A real number is neither infinity. -/
theorem fin_coe (r : ℝ) : Finite (r : EReal) := ⟨EReal.coe_ne_top r, EReal.coe_ne_bot r⟩

/-- A number that is neither infinity is real. -/
theorem fin_real {x : EReal} (h : Finite x) : ∃ r : ℝ, x = r := ⟨x.toReal, (EReal.coe_toReal h.1 h.2).symm⟩

/-- The product of finite numbers is finite. -/
theorem fin_mul {x y : EReal} (hx : Finite x) (hy : Finite y) : Finite (x * y) := by
  obtain ⟨a, rfl⟩ := fin_real hx
  obtain ⟨b, rfl⟩ := fin_real hy
  rw [← EReal.coe_mul]
  exact fin_coe _

/-- The sum of finite numbers is finite. -/
theorem fin_sum {ι : Type} (s : Finset ι) (f : ι → EReal) (hf : ∀ i, Finite (f i)) : Finite (∑ i ∈ s, f i) := by
  rw [show f = fun i => ((f i).toReal : EReal) from funext fun i => (EReal.coe_toReal (hf i).1 (hf i).2).symm, ← coe_sum]
  exact fin_coe _

/-- The exponential of a number at most zero is finite. -/
theorem fin_exp {x : EReal} (h : x ≤ 0) : Finite (Ideal.exp x) := by
  induction x using EReal.rec with
  | bot => exact fin_coe 0
  | top => exact absurd h (by simp)
  | coe r => exact fin_coe (Real.exp r)

/-- A sum of numbers at most zero over more rows is smaller. -/
theorem cum_anti (G : Col) (hG : ∀ s, G s ≤ 0) {s t : Fin 64} (h : s.val ≤ t.val) : cum G t ≤ cum G s := by
  unfold cum
  refine Finset.sum_le_sum fun r _ => ?_
  by_cases hr : r.val ≤ s.val
  · rw [if_pos hr, if_pos (hr.trans h)]
  · rw [if_neg hr]
    split
    · exact hG r
    · exact le_rfl

/-- A sum of numbers at most zero is at most zero. -/
theorem cum_nonpos (G : Col) (hG : ∀ s, G s ≤ 0) (t : Fin 64) : cum G t ≤ 0 := by
  unfold cum
  refine Finset.sum_nonpos fun r _ => ?_
  split
  · exact hG r
  · exact le_rfl

/-- The difference of a smaller number and a larger one that is at most zero is at most zero. -/
theorem sub_le_zero {x y : EReal} (h : x ≤ y) (hy : y ≤ 0) : x - y ≤ 0 := by
  induction y using EReal.rec with
  | bot =>
    rw [le_bot_iff.mp h]
    show (⊥ : EReal) + ⊤ ≤ 0
    rw [EReal.bot_add]
    exact bot_le
  | top => exact absurd hy (by simp)
  | coe b =>
    induction x using EReal.rec with
    | bot =>
      show (⊥ : EReal) + -(b : EReal) ≤ 0
      rw [EReal.bot_add]
      exact bot_le
    | top => exact absurd h (by simp)
    | coe a =>
      rw [← EReal.coe_sub]
      have := EReal.coe_le_coe_iff.mp h
      exact_mod_cast sub_nonpos.mpr this

/-- The scores are finite where the keys and strengths are finite and the log decays are at most zero. -/
theorem scores_finite (K : Tile) (B G : Col) (hK : ∀ t d, Finite (K t d)) (hB : ∀ t, Finite (B t)) (hG : ∀ s, G s ≤ 0)
    (t s : Fin 64) : Finite (scores K B G t s) := by
  unfold scores
  split
  · refine fin_mul (fin_sum _ _ fun d => fin_mul (fin_mul (hK t d) (hB t)) (hK s d)) ?_
    unfold decay
    split
    · next h => exact fin_exp (sub_le_zero (cum_anti G hG h) (cum_nonpos G hG s))
    · exact fin_coe 0
  · exact fin_coe 0

end Cert.Delta

end
-- ==== Proof.DeltaWhole.lean ====
/-
  The gated delta rule over whole sequences: the convolved, activated and normed rows read off the projections of one
  sequence at any position and lane, chunk by chunk from the zero state.
-/
module

public import proofs.«01_k».proof.Proof.DeltaSpec
public import proofs.«01_k».proof.Proof.Whole

@[expose] public section

noncomputable section

open Idealize.ShloMosaic

namespace Cert.Delta

/-- A number times its logistic. -/
def silu (x : EReal) : EReal := x * Ideal.logistic x
/-- The logarithm of one plus the exponential, as the programs write it. -/
def softplus (x : EReal) : EReal := max x 0 + Ideal.log1p (Ideal.exp (-(max x (-x))))
/-- A row scaled to length one. -/
def unit (f : Fin 128 → EReal) (d : Fin 128) : EReal := f d * Ideal.rsqrt ((∑ d, f d * f d) + Ideal.ofBits .f32 0x358637BD#32)

variable (X W : ℕ → ℕ → EReal) (al dt : ℕ → EReal) (h : Fin 8)

/-- The projections with three rows of zeros before them. -/
def pad (i l : ℕ) : EReal := if i < 3 then 0 else X (i - 3) l
/-- The convolution along the positions. -/
def conv (p l : ℕ) : EReal :=
  W 0 l * pad X p l + W 1 l * pad X (p + 1) l + W 2 l * pad X (p + 2) l + W 3 l * pad X (p + 3) l
/-- The convolved rows, activated. -/
def act (p l : ℕ) : EReal := silu (conv X W p l)

/-- The scaled queries of chunk `k`. -/
def qT (k : ℕ) : Tile := fun t d => unit (fun d => act X W (64 * k + t.val) (128 * h.val + d.val)) d * Ideal.ofBits .f32 0x3DB504F3#32
/-- The keys of chunk `k`. -/
def kT (k : ℕ) : Tile := fun t d => unit (fun d => act X W (64 * k + t.val) (1024 + (128 * h.val + d.val))) d
/-- The values of chunk `k`. -/
def vT (k : ℕ) : Tile := fun t d => act X W (64 * k + t.val) (2048 + (128 * h.val + d.val))
/-- The write strengths of chunk `k`. -/
def bT (k : ℕ) : Col := fun t => Ideal.logistic (X (64 * k + t.val) (4096 + h.val))
/-- The log decays of chunk `k`. -/
def gT (k : ℕ) : Col := fun t => -(Ideal.exp (al h.val)) * softplus (X (64 * k + t.val) (4104 + h.val) + dt h.val)

/-- The inverse of chunk `k`. -/
def tT (k : ℕ) : Mat := inverse (scores (kT X W h k) (bT X h k) (gT X al dt h k))
/-- The state before chunk `k`. -/
def state (k : ℕ) : State := run (kT X W h) (vT X W h) (bT X h) (gT X al dt h) k
/-- The output at row `t` of chunk `k`. -/
def outT (k : ℕ) (t : Fin 64) (e : Fin 128) : EReal :=
  out (qT X W h k) (kT X W h k) (vT X W h k) (bT X h k) (gT X al dt h k) (state X W al dt h k) (tT X W al dt h k) t e
/-- The result at row `t` of chunk `k`, lane `e` of head `h`. -/
def result (gn : Fin 128 → EReal) (k : ℕ) (t : Fin 64) (e : Fin 128) : EReal :=
  Cert.Chunk.normed (fun e => outT X W al dt h k t e) (gn e) (X (64 * k + t.val) (3072 + (128 * h.val + e.val))) e

/-- One more chunk. -/
theorem state_succ (k : ℕ) : state X W al dt h (k + 1)
    = next (kT X W h k) (vT X W h k) (bT X h k) (gT X al dt h k) (state X W al dt h k) (tT X W al dt h k) := rfl

/-! ## The scores are finite whatever the projections -/

/-- The logistic function is finite. -/
theorem fin_logistic (x : EReal) : Finite (Ideal.logistic x) := by
  have h : ∃ y : EReal, 0 ≤ y ∧ Ideal.logistic x = Ideal.div 1 (1 + y) := by
    refine ⟨Ideal.exp (-x), ?_, rfl⟩
    induction -x using EReal.rec with
    | bot => exact le_rfl
    | top => exact le_top
    | coe r => exact EReal.coe_nonneg.mpr (Real.exp_pos r).le
  obtain ⟨y, hy, he⟩ := h
  rw [he, Ideal.div]
  induction y using EReal.rec with
  | bot => exact absurd hy (by simp)
  | top =>
    rw [EReal.add_top_of_ne_bot (by decide), if_neg EReal.top_ne_zero, EReal.inv_top, mul_zero]
    exact ⟨EReal.zero_ne_top, EReal.zero_ne_bot⟩
  | coe r =>
    have hr : 0 ≤ r := EReal.coe_nonneg.mp hy
    have h1 : (1 : EReal) + (r : EReal) = ((1 + r : ℝ) : EReal) := by rw [EReal.coe_add, EReal.coe_one]
    have hne : ((1 + r : ℝ) : EReal) ≠ 0 := by
      rw [← EReal.coe_zero, Ne, EReal.coe_eq_coe_iff]
      linarith
    rw [h1, if_neg hne, one_mul, ← EReal.coe_inv]
    exact ⟨EReal.coe_ne_top _, EReal.coe_ne_bot _⟩

/-- A square is at least zero. -/
theorem sq_nonneg' (x : EReal) : 0 ≤ x * x := by
  rcases le_total 0 x with h | h
  · exact mul_nonneg h h
  · rw [← neg_mul_neg]
    have h' : 0 ≤ -x := EReal.neg_nonneg.mpr h
    exact mul_nonneg h' h'

/-- A row scaled to length one is finite. -/
theorem fin_unit (f : Fin 128 → EReal) (d : Fin 128) : Finite (unit f d) := by
  have heps : ∃ c : ℝ, 0 < c ∧ Ideal.ofBits .f32 0x358637BD#32 = (c : EReal) := by
    refine ⟨(1 * (2 ^ 23 + 407485 : ℕ)) * (2 : ℝ) ^ (-43 : ℤ), by positivity, ?_⟩
    simp [Ideal.ofBits, Ideal.ieee, -EReal.coe_mul]
  obtain ⟨c, hc, he⟩ := heps
  have hsum : 0 ≤ ∑ d, f d * f d := Finset.sum_nonneg fun d _ => sq_nonneg' (f d)
  rw [unit, he]
  by_cases hall : ∀ d, Finite (f d)
  · have hf : Finite (∑ d, f d * f d) := fin_sum _ _ fun d => fin_mul (hall d) (hall d)
    obtain ⟨r, hr⟩ := fin_real hf
    rw [hr] at hsum ⊢
    have hr0 : 0 ≤ r := EReal.coe_nonneg.mp hsum
    rw [← EReal.coe_add]
    refine fin_mul (hall d) ?_
    show Finite (if r + c < 0 then ⊥ else if r + c = 0 then ⊤ else (((Real.sqrt (r + c))⁻¹ : ℝ) : EReal))
    rw [if_neg (by linarith), if_neg (by linarith)]
    exact ⟨EReal.coe_ne_top _, EReal.coe_ne_bot _⟩
  · have htop : ∑ d, f d * f d = ⊤ := by
      rw [not_forall] at hall
      obtain ⟨i, hi⟩ := hall
      have hsq : f i * f i = ⊤ := by
        induction hfi : f i using EReal.rec with
        | bot => exact EReal.bot_mul_bot
        | top => exact EReal.top_mul_top
        | coe r => exact absurd (by rw [hfi]; exact ⟨EReal.coe_ne_top _, EReal.coe_ne_bot _⟩) hi
      refine top_le_iff.mp ?_
      rw [← hsq]
      exact Finset.single_le_sum (f := fun d => f d * f d) (fun d _ => sq_nonneg' (f d)) (Finset.mem_univ i)
    rw [htop, EReal.top_add_of_ne_bot (EReal.coe_ne_bot c)]
    show Finite (f d * 0)
    rw [mul_zero]
    exact ⟨EReal.zero_ne_top, EReal.zero_ne_bot⟩

/-- The exponential is at least zero. -/
theorem exp_nonneg (x : EReal) : 0 ≤ Ideal.exp x := by
  induction x using EReal.rec with
  | bot => exact le_rfl
  | top => exact le_top
  | coe r => exact EReal.coe_nonneg.mpr (Real.exp_pos r).le

/-- The logarithm of one plus a number at least zero is at least zero. -/
theorem log1p_nonneg (y : EReal) (hy : 0 ≤ y) : 0 ≤ Ideal.log1p y := by
  rw [Ideal.log1p]
  induction y using EReal.rec with
  | bot => exact absurd hy (by simp)
  | top =>
    rw [EReal.add_top_of_ne_bot (by decide)]
    exact le_top
  | coe r =>
    have hr : 0 ≤ r := EReal.coe_nonneg.mp hy
    have h1 : (1 : EReal) + (r : EReal) = ((1 + r : ℝ) : EReal) := by rw [EReal.coe_add, EReal.coe_one]
    rw [h1]
    show (0 : EReal) ≤ if 1 + r ≤ 0 then ⊥ else ((Real.log (1 + r) : ℝ) : EReal)
    rw [if_neg (by linarith)]
    exact EReal.coe_nonneg.mpr (Real.log_nonneg (by linarith))

/-- The logarithm of one plus the exponential is at least zero. -/
theorem softplus_nonneg (x : EReal) : 0 ≤ softplus x :=
  add_nonneg (le_max_right _ _) (log1p_nonneg _ (exp_nonneg _))

/-- The log decays are at most zero. -/
theorem gT_nonpos (k : ℕ) (t : Fin 64) : gT X al dt h k t ≤ 0 := by
  rw [gT, EReal.neg_mul]
  rw [EReal.neg_le, neg_zero]
  exact mul_nonneg (exp_nonneg _) (softplus_nonneg _)

/-- The five squarings give the inverse. -/
theorem tT_eq (k : ℕ) : doubled (scores (kT X W h k) (bT X h k) (gT X al dt h k)) 5 = tT X W al dt h k :=
  doubled_eq _ (scores_finite _ _ _ (fun t d => fin_unit _ d) (fun t => fin_logistic _) (fun s => gT_nonpos X al dt h k s))

end Cert.Delta

end
-- ==== Proof.DeltaAt.lean ====
/-
  The formulas of the gated delta rule kernel's body read at an index, over extended reals.
-/
module

public import proofs.«01_k».proof.Proof.DeltaBody
public import proofs.«01_k».proof.Proof.DeltaWhole

@[expose] public section

set_option maxRecDepth 16384

noncomputable section

open Idealize.ShloMosaic Idealize.ShloMosaic.TcCoe Idealize.SL.Sem

namespace Cert.Kernel7Ideal.Delta

open Cert.Kernel7Ideal Cert.Kernel7Ideal.Gen Cert.Delta

/-- Row `t` of chunk `n` of a block. -/
def row (n : Fin 2) (t : Fin 64) : Fin 128 := ⟨64 * n.val + t.val, by omega⟩

/-- The entries of a 64 × 64 matrix. -/
def M {φ : FTy} (x : FVec Ideal S64x64 φ) : Mat := fun t s => x (ix2 t s)

/-- The rows of a chunk at an index. -/
theorem rows_at (x : FVec Ideal S128x128 .f32) (n : Fin 2) (t : Fin 64) (d : Fin 128) :
    rowsV x n (ix2 t d) = x (ix2 (row n t) d) := by
  unfold rowsV extractStridedSlice
  exact congrArg x (by
    funext a
    match a with
    | ⟨0, _⟩ => rfl
    | ⟨1, _⟩ => exact Fin.ext (show 0 + d.val = d.val by omega))

/-- One tap at an index. -/
theorem tap_at (w : FVec Ideal S1x128 .f32) (b : FVec Ideal S1x128x128 .f32) (r d : Fin 128) :
    tapV (F := Ideal) w b (ix2 r d) = w (ix2 0 d) * b (ix3 0 r d) := by
  pointwise [tapV]
/-- A block gated by its own logistic at an index. -/
theorem silu_at (x : FVec Ideal S128x128 .f32) (r d : Fin 128) : siluV (F := Ideal) x (ix2 r d) = silu (x (ix2 r d)) := by
  pointwise [siluV, silu]
/-- The unit rows at an index. -/
theorem unit_at (x : FVec Ideal S128x128 .f32) (r d : Fin 128) : unitV (F := Ideal) x (ix2 r d) = unit (fun d => x (ix2 r d)) d := by
  pointwise [unitV, unit]
/-- The scaled unit rows at an index. -/
theorem scaled_at (x : FVec Ideal S128x128 .f32) (r d : Fin 128) :
    scaledV (F := Ideal) x (ix2 r d) = unit (fun d => x (ix2 r d)) d * Ideal.ofBits .f32 0x3DB504F3#32 := by
  rw [← unit_at]
  pointwise [scaledV]

/-- The log decays at an index. -/
theorem log_at (ba : FVec Ideal S128x128 .f32) (nega dtb : FVec Ideal S1x128 .f32) (r l : Fin 128) :
    logV (F := Ideal) ba nega dtb (ix2 r l) = nega (ix2 0 l) * softplus (ba (ix2 r l) + dtb (ix2 0 l)) := by
  pointwise [logV, k0_pay12, k0_pay11, k0_pay10, k0_pay9, k0_pay8, softplus]
  rw [zero_sub]
  rfl

/-- The causal mask at an index. -/
theorem mask_at (t s : Fin 64) : k0_pay13 (ix2 t s) = if s.val ≤ t.val then 1#1 else 0#1 := by
  revert t s; decide +kernel
/-- The strict mask at an index. -/
theorem strict_at (t s : Fin 64) : k0_pay14 (ix2 t s) = if s.val < t.val then 1#1 else 0#1 := by
  revert t s; decide +kernel
/-- The integer one as a number. -/
theorem sitofp_one : (FloatOps.sitofp (F := Ideal) FTy.f32 (1#32) : EReal) = 1 := by
  show (((1#32 : BitVec 32).toInt : ℝ) : EReal) = 1
  rw [show (1#32 : BitVec 32).toInt = 1 from by decide]; norm_num
/-- The integer zero as a number. -/
theorem sitofp_zero : (FloatOps.sitofp (F := Ideal) FTy.f32 (0#32) : EReal) = 0 := by
  show (((0#32 : BitVec 32).toInt : ℝ) : EReal) = 0
  rw [show (0#32 : BitVec 32).toInt = 0 from by decide]; norm_num
/-- The lower triangle of ones at an index. -/
theorem tri_at (t s : Fin 64) : k0_pay15 (F := Ideal) (ix2 t s) = if s.val ≤ t.val then 1 else 0 := by
  have hw : ∀ t s : Fin 64, BitVec.setWidth 32 (k0_pay13 (ix2 t s)) = if s.val ≤ t.val then 1#32 else 0#32 := by decide +kernel
  pointwise [k0_pay15]
  rw [hw]
  by_cases hc : s.val ≤ t.val
  · rw [if_pos hc, if_pos hc]
    exact sitofp_one
  · rw [if_neg hc, if_neg hc]
    exact sitofp_zero
/-- The identity at an index. -/
theorem eye_at (t s : Fin 64) : k0_pay16 (F := Ideal) (ix2 t s) = eye t s := by
  have hw : ∀ t s : Fin 64, BitVec.setWidth 32 (IntOp.cmpi CmpIPredicate.eq (BitVec.ofNat 32 t.val) (BitVec.ofNat 32 s.val))
      = if t.val = s.val then 1#32 else 0#32 := by decide +kernel
  pointwise [k0_pay16]
  rw [hw]
  unfold eye
  by_cases hc : t.val = s.val
  · rw [if_pos hc, if_pos hc]
    exact sitofp_one
  · rw [if_neg hc, if_neg hc]
    exact sitofp_zero

/-- The running sums at an index. -/
theorem dec_at (ba : FVec Ideal S128x128 .f32) (nega dtb : FVec Ideal S1x128 .f32) (n : Fin 2) (t : Fin 64) (l : Fin 128) :
    decV (F := Ideal) ba nega dtb n (ix2 t l) = cum (fun s => logV (F := Ideal) ba nega dtb (ix2 (row n s) l)) t := by
  have hd : decV (F := Ideal) ba nega dtb n (ix2 t l)
      = ∑ s : Fin 64, k0_pay15 (F := Ideal) (ix2 t s) * rowsV (logV (F := Ideal) ba nega dtb) n (ix2 s l) := by
    pointwise [decV]
  rw [hd, cum]
  refine Finset.sum_congr rfl fun s _ => ?_
  rw [tri_at, rows_at]
  split
  · exact one_mul _
  · exact zero_mul _

/-- Lane `8 + h`. -/
def lane8 (h : Fin 8) : Fin 128 := ⟨8 + h.val, by omega⟩

/-- The running sum of head `h` at an index. -/
theorem dcol_at (x : FVec Ideal S64x128 .f32) (h : Fin 8) (t : Fin 64) (d : Fin 128) :
    dcolV (F := Ideal) x h (ix2 t d) = x (ix2 t (lane8 h)) := by
  pointwise [dcolV, lane8]

/-- The differences of the running sums at an index. -/
theorem diff_at (x : FVec Ideal S64x128 .f32) (h : Fin 8) (t s : Fin 64) :
    diffV (F := Ideal) x h (ix2 t s) = x (ix2 t (lane8 h)) - x (ix2 s (lane8 h)) := by
  pointwise [diffV, dcol_at, lane8]

/-- The decays at an index. -/
theorem lmask_at (x : FVec Ideal S64x128 .f32) (h : Fin 8) (G : Col) (hx : ∀ t, x (ix2 t (lane8 h)) = cum G t) (t s : Fin 64) :
    lmaskV (F := Ideal) x h (ix2 t s) = decay G t s := by
  have hp : lmaskV (F := Ideal) x h (ix2 t s) = Scalar.select (k0_pay13 (ix2 t s))
      (Ideal.exp (Scalar.select (k0_pay13 (ix2 t s)) (diffV (F := Ideal) x h (ix2 t s)) 0)) 0 := by
    pointwise [lmaskV]
  rw [hp, mask_at, diff_at, hx, hx, decay]
  by_cases hc : s.val ≤ t.val
  · rw [if_pos hc, if_pos hc, Scalar.select, if_pos (by decide), Scalar.select, if_pos (by decide)]
  · rw [if_neg hc, if_neg hc, Scalar.select, if_neg (by decide)]

/-- The write strengths at an index. -/
theorem beta_at (ba : FVec Ideal S128x128 .f32) (h : Fin 8) (n : Fin 2) (t : Fin 64) (d : Fin 128) :
    betaV (F := Ideal) ba h n (ix2 t d) = Ideal.logistic (ba (ix2 (row n t) ⟨h.val, by omega⟩)) := by
  pointwise [betaV, k0_pay7, row]

/-- The product of two matrices. -/
theorem mm_M (x y : FVec Ideal S64x64 .bf16) : M (mm (F := Ideal) x y) = mul (M x) (M y) := by
  funext t s
  unfold M mul
  pointwise [mm]

/-- The leading part of a matrix is the matrix. -/
theorem hi_M (x : FVec Ideal S64x64 .f32) : M (hiV (F := Ideal) x) = M x := by
  funext t s
  unfold M
  pointwise [hiV]
/-- What is left is the difference. -/
theorem lo_M (x : FVec Ideal S64x64 .f32) : M (loV (F := Ideal) x) = fun t s => M x t s - M x t s := by
  funext t s
  unfold M
  pointwise [loV, hiV]

/-- The product of two matrices in parts. -/
theorem mm3_M (x y : FVec Ideal S64x64 .f32) : M (mm3 (F := Ideal) x y) = mul3 (M x) (M y) := by
  have h : M (mm3 (F := Ideal) x y) = fun t s => M (mm (F := Ideal) (hiV x) (hiV y)) t s
      + (M (mm (F := Ideal) (hiV x) (loV y)) t s + M (mm (F := Ideal) (loV x) (hiV y)) t s) := rfl
  rw [h, mm_M, mm_M, mm_M, hi_M, hi_M, lo_M, lo_M]
  rfl

/-- The repeated squares. -/
theorem pow_M (a : FVec Ideal S64x64 .f32) (r : ℕ) : M (powV (F := Ideal) a r) = pow (M a) r := by
  induction r with
  | zero =>
    funext t s
    show M (subf (F := Ideal) (broadcast S64x64 (Scalar.ofBits .f32 0x00000000#32)) a) t s = 0 - M a t s
    unfold M
    pointwise []
  | succ r ih =>
    show M (mm3 (F := Ideal) (powV a r) (powV a r)) = mul3 (pow (M a) r) (pow (M a) r)
    rw [mm3_M, ih]

/-- The partial products of the inverse. -/
theorem inv_M (a : FVec Ideal S64x64 .f32) (r : ℕ) : M (invV (F := Ideal) a r) = doubled (M a) r := by
  induction r with
  | zero =>
    funext t s
    exact congrArg (· - M a t s) (eye_at t s)
  | succ r ih =>
    have h : M (invV (F := Ideal) a (r + 1)) = fun t s => M (invV (F := Ideal) a r) t s
      + M (mm3 (F := Ideal) (invV a r) (powV a (r + 1))) t s := rfl
    rw [h, mm3_M, ih, pow_M]
    rfl

section
variable (q k v dc bc : FVec Ideal S64x128 .f32) (lm : FVec Ideal S64x64 .f32) (s : FVec Ideal S128x128 .f32)
  (Q K V : Tile) (B G : Col) (S : State)

/-- The scores of the keys at an index. -/
theorem a_M (hk : ∀ t d, k (ix2 t d) = K t d) (hbc : ∀ t d, bc (ix2 t d) = B t) (hlm : ∀ t s, lm (ix2 t s) = decay G t s) :
    M (aV (F := Ideal) k bc lm) = scores K B G := by
  funext t s
  have hp : M (aV (F := Ideal) k bc lm) t s = Scalar.select (k0_pay14 (ix2 t s))
      ((∑ d : Fin 128, k (ix2 t d) * bc (ix2 t d) * k (ix2 s d)) * lm (ix2 t s)) 0 := by
    unfold M
    pointwise [aV]
  rw [hp, strict_at, scores]
  by_cases hc : s.val < t.val
  · rw [if_pos hc, if_pos hc, Scalar.select, if_pos (by decide), hlm]
    refine congrArg (· * _) (Finset.sum_congr rfl fun d _ => ?_)
    rw [hk, hbc, hk]
  · rw [if_neg hc, if_neg hc, Scalar.select, if_neg (by decide)]

/-- The inverse applied to the weighted values at an index. -/
theorem value_at (T : Mat) (hT : M (invV (F := Ideal) (aV k bc lm) 5) = T)
    (hv : ∀ t d, v (ix2 t d) = V t d) (hbc : ∀ t d, bc (ix2 t d) = B t) (t : Fin 64) (e : Fin 128) :
    valueV (F := Ideal) k v bc lm (ix2 t e) = value V B T t e := by
  have hp : valueV (F := Ideal) k v bc lm (ix2 t e)
      = ∑ s : Fin 64, M (hiV (F := Ideal) (invV (F := Ideal) (aV k bc lm) 5)) t s * (v (ix2 s e) * bc (ix2 s e)) := by
    unfold M
    pointwise [valueV, mt]
  rw [hp, hi_M, hT, value]
  refine Finset.sum_congr rfl fun s _ => ?_
  rw [hv, hbc]

/-- The inverse applied to the decayed keys at an index. -/
theorem kcum_at (T : Mat) (hT : M (invV (F := Ideal) (aV k bc lm) 5) = T)
    (hk : ∀ t d, k (ix2 t d) = K t d) (hbc : ∀ t d, bc (ix2 t d) = B t) (hdc : ∀ t d, dc (ix2 t d) = cum G t) (t : Fin 64) (d : Fin 128) :
    kcumV (F := Ideal) k dc bc lm (ix2 t d) = kcum K B G T t d := by
  have hp : kcumV (F := Ideal) k dc bc lm (ix2 t d)
      = ∑ s : Fin 64, M (hiV (F := Ideal) (invV (F := Ideal) (aV k bc lm) 5)) t s * (k (ix2 s d) * bc (ix2 s d) * Ideal.exp (dc (ix2 s d))) := by
    unfold M
    pointwise [kcumV, mt]
  rw [hp, hi_M, hT, kcum]
  refine Finset.sum_congr rfl fun s _ => ?_
  rw [hk, hbc, hdc]

/-- The scores of the queries at an index. -/
theorem attn_at (hq : ∀ t d, q (ix2 t d) = Q t d) (hk : ∀ t d, k (ix2 t d) = K t d) (hlm : ∀ t s, lm (ix2 t s) = decay G t s) (t s : Fin 64) :
    attnV (F := Ideal) q k lm (ix2 t s) = attn Q K G t s := by
  have hp : attnV (F := Ideal) q k lm (ix2 t s) = (∑ d : Fin 128, q (ix2 t d) * k (ix2 s d)) * lm (ix2 t s) := by
    pointwise [attnV]
  rw [hp, hlm, attn]
  refine congrArg (· * _) (Finset.sum_congr rfl fun d _ => ?_)
  rw [hq, hk]

/-- The decayed queries at an index. -/
theorem qdec_at (hq : ∀ t d, q (ix2 t d) = Q t d) (hdc : ∀ t d, dc (ix2 t d) = cum G t) (t : Fin 64) (d : Fin 128) :
    qdecV (F := Ideal) q dc (ix2 t d) = qdec Q G t d := by
  rw [qdec, ← hq, ← hdc t d]
  pointwise [qdecV]

/-- The last row of the running sums at an index. -/
theorem last_at (d : Fin 128) : lastV (F := Ideal) dc (ix2 0 d) = dc (ix2 63 d) := by
  pointwise [lastV]

/-- The decayed keys at an index. -/
theorem ktail_at (hk : ∀ t d, k (ix2 t d) = K t d) (hdc : ∀ t d, dc (ix2 t d) = cum G t) (t : Fin 64) (d : Fin 128) :
    ktailV (F := Ideal) k dc (ix2 t d) = ktail K G t d := by
  rw [ktail, ← hk, ← hdc t d, ← hdc 63 d]
  pointwise [ktailV, lastV]

/-- A tile times the state at an index. -/
theorem ms_at (x : FVec Ideal S64x128 .bf16) (t : Fin 64) (e : Fin 128) :
    ms (F := Ideal) x s (ix2 t e) = ∑ d : Fin 128, x (ix2 t d) * s (ix2 d e) := by
  pointwise [ms]
/-- A matrix times a tile at an index. -/
theorem mt_at (x : FVec Ideal S64x64 .bf16) (y : FVec Ideal S64x128 .bf16) (t : Fin 64) (e : Fin 128) :
    mt (F := Ideal) x y (ix2 t e) = ∑ r : Fin 64, x (ix2 t r) * y (ix2 r e) := by
  pointwise [mt]

/-- The corrected values at an index. -/
theorem vnew_at (T : Mat) (hT : M (invV (F := Ideal) (aV k bc lm) 5) = T) (hk : ∀ t d, k (ix2 t d) = K t d) (hv : ∀ t d, v (ix2 t d) = V t d)
    (hbc : ∀ t d, bc (ix2 t d) = B t) (hdc : ∀ t d, dc (ix2 t d) = cum G t) (hs : ∀ d e, s (ix2 d e) = S d e) (t : Fin 64) (e : Fin 128) :
    vnewV (F := Ideal) k v dc bc lm s (ix2 t e) = vnew K V B G S T t e := by
  have hp : vnewV (F := Ideal) k v dc bc lm s (ix2 t e)
      = valueV (F := Ideal) k v bc lm (ix2 t e) - ms (F := Ideal) (kcumV k dc bc lm) s (ix2 t e) := by
    pointwise [vnewV]
  rw [hp, value_at k v bc lm V B T hT hv hbc, ms_at, vnew]
  refine congrArg _ (Finset.sum_congr rfl fun d _ => ?_)
  rw [kcum_at k dc bc lm K B G T hT hk hbc hdc, hs]

/-- The output of a chunk at an index. -/
theorem out_at (T : Mat) (hT : M (invV (F := Ideal) (aV k bc lm) 5) = T) (hq : ∀ t d, q (ix2 t d) = Q t d) (hk : ∀ t d, k (ix2 t d) = K t d) (hv : ∀ t d, v (ix2 t d) = V t d)
    (hbc : ∀ t d, bc (ix2 t d) = B t) (hdc : ∀ t d, dc (ix2 t d) = cum G t) (hlm : ∀ t s, lm (ix2 t s) = decay G t s)
    (hs : ∀ d e, s (ix2 d e) = S d e) (t : Fin 64) (e : Fin 128) :
    outV (F := Ideal) q k v dc bc lm s (ix2 t e) = out Q K V B G S T t e := by
  have hp : outV (F := Ideal) q k v dc bc lm s (ix2 t e)
      = ms (F := Ideal) (qdecV q dc) s (ix2 t e) + mt (F := Ideal) (attnV q k lm) (vnewV k v dc bc lm s) (ix2 t e) := rfl
  rw [hp, ms_at, mt_at, out]
  congr 1
  · refine Finset.sum_congr rfl fun d _ => ?_
    rw [qdec_at q dc Q G hq hdc, hs]
  · refine Finset.sum_congr rfl fun r _ => ?_
    rw [attn_at q k lm Q K G hq hk hlm, vnew_at k v dc bc lm s K V B G S T hT hk hv hbc hdc hs]

/-- The state after a chunk at an index. -/
theorem next_at (T : Mat) (hT : M (invV (F := Ideal) (aV k bc lm) 5) = T) (hk : ∀ t d, k (ix2 t d) = K t d) (hv : ∀ t d, v (ix2 t d) = V t d)
    (hbc : ∀ t d, bc (ix2 t d) = B t) (hdc : ∀ t d, dc (ix2 t d) = cum G t) (hs : ∀ d e, s (ix2 d e) = S d e) (d e : Fin 128) :
    nextV (F := Ideal) k v dc bc lm s (ix2 d e) = next K V B G S T d e := by
  have hp : nextV (F := Ideal) k v dc bc lm s (ix2 d e) = Ideal.exp (lastV (F := Ideal) dc (ix2 0 e)) * s (ix2 d e)
      + ∑ t : Fin 64, ktailV (F := Ideal) k dc (ix2 t d) * vnewV (F := Ideal) k v dc bc lm s (ix2 t e) := by
    pointwise [nextV]
  rw [hp, last_at, hdc, hs, next]
  refine congrArg _ (Finset.sum_congr rfl fun t _ => ?_)
  rw [ktail_at k dc K G hk hdc, vnew_at k v dc bc lm s K V B G S T hT hk hv hbc hdc hs]
end

/-- The normed and gated output at an index. -/
theorem norm_at (o : FVec Ideal S128x128 .f32) (gn : FVec Ideal S1x128 .f32) (z : FVec Ideal S128x128 .f32) (r e : Fin 128) :
    normV (F := Ideal) o gn z (ix2 r e) = Cert.Chunk.normed (fun e => o (ix2 r e)) (gn (ix2 0 e)) (z (ix2 r e)) e := by
  pointwise [normV]
  rfl

end Cert.Kernel7Ideal.Delta

end
-- ==== Proof.DeltaRead.lean ====
/-
  The gated delta rule kernel's reads at an index.
-/
module

public import proofs.«01_k».proof.Proof.DeltaReads
public import proofs.«01_k».proof.Proof.DeltaAt
public import Idealize.ShloMosaic.Lib.WritesUnit

@[expose] public section

set_option maxRecDepth 16384

noncomputable section

open Idealize.ShloMosaic Idealize.ShloMosaic.TcCoe Idealize.SL.Sem

namespace Cert.Kernel7Ideal.Delta

open Cert.Kernel7Ideal Cert.Kernel7Ideal.Gen Cert.Delta

/-- Lane `e` of head `h`. -/
def lane (h : Fin 8) (e : Fin 128) : Fin 1024 := ⟨128 * h.val + e.val, by omega⟩
/-- Lane `e` of head `h` in part `p`. -/
def plane (p : Fin 3) (h : Fin 8) (e : Fin 128) : Fin 3072 := ⟨1024 * p.val + (128 * h.val + e.val), by omega⟩
/-- Row `r` of tap `j`. -/
def trow (j : Fin 4) (r : Fin 128) : Fin 136 := ⟨5 + j.val + r.val, by omega⟩

/-- The gates read whole are the gates. -/
theorem rdBA_eq (a : Memref sig .tc .vmem S128x128 .f32) (ha : a.IsWhole) (x : FVec Ideal S128x128 .f32) : rdBA (F := Ideal) a ha x = x := by
  unfold rdBA
  rw [View.readAt_eq_ld, ha.read_unread]
  exact View.ld_unit_zero (Val := Elt Ideal) (e := .f32) (S := S128x128) (off := ![0, 0]) (by funext b; match b with | ⟨0, _⟩ => rfl | ⟨1, _⟩ => rfl) _ x
/-- A row read whole is the row. -/
theorem rdR_eq (a : Memref sig .tc .vmem S1x128 .f32) (ha : a.IsWhole) (x : FVec Ideal S1x128 .f32) : rdR (F := Ideal) a ha x = x := by
  unfold rdR
  rw [View.readAt_eq_ld, ha.read_unread]
  exact View.ld_unit_zero (Val := Elt Ideal) (e := .f32) (S := S1x128) (off := ![0, 0]) (by funext b; match b with | ⟨0, _⟩ => rfl | ⟨1, _⟩ => rfl) _ x
/-- A block read whole is the block. -/
theorem rdX_eq (a : Memref sig .tc .vmem S128x1024 .f32) (ha : a.IsWhole) (x : FVec Ideal S128x1024 .f32) : rdX (F := Ideal) a ha x = x := by
  unfold rdX
  rw [View.readAt_eq_ld, ha.read_unread]
  exact View.ld_unit_zero (Val := Elt Ideal) (e := .f32) (S := S128x1024) (off := ![0, 0]) (by funext b; match b with | ⟨0, _⟩ => rfl | ⟨1, _⟩ => rfl) _ x
/-- A head's lanes of a block at an index. -/
theorem rdZ_at (a : Memref sig .tc .vmem S128x1024 .f32) (ha : a.IsWhole) (x : FVec Ideal S128x1024 .f32) (h : Fin 8) (r e : Fin 128) :
    rdZ (F := Ideal) a ha x h (ix2 r e) = x (ix2 r (lane h e)) := by
  unfold rdZ
  rw [View.readAt_eq_ld, ha.read_unread]
  exact congrArg x (by
    funext b
    match b with
    | ⟨0, _⟩ => exact Fin.ext (show 0 + 1 * r.val = r.val by omega)
    | ⟨1, _⟩ => exact Fin.ext (show 128 * h.val + 1 * e.val = 128 * h.val + e.val by omega))
/-- A head's weights at a tap and an index. -/
theorem rdW_at (a : Memref sig .tc .vmem S4x3072 .f32) (ha : a.IsWhole) (x : FVec Ideal S4x3072 .f32) (p : Fin 3) (j : Fin 4) (h : Fin 8) (d : Fin 128) :
    rdW (F := Ideal) a ha x p j h (ix2 0 d) = x (ix2 j (plane p h d)) := by
  unfold rdW
  rw [View.readAt_eq_ld, ha.read_unread]
  exact congrArg x (by
    funext b
    match b with
    | ⟨0, _⟩ => exact Fin.ext (show j.val + 1 * 0 = j.val by omega)
    | ⟨1, _⟩ => exact Fin.ext (show 1024 * p.val + 128 * h.val + 1 * d.val = 1024 * p.val + (128 * h.val + d.val) by omega))

/-- The one layer of a rank-3 block, read at an index. -/
theorem cast_at (v : FVec Ideal S1x128x128 .f32) (e d : Fin 128) :
    shapeCast S128x128 v shapeCasts_S1x128x128_S128x128 (ix2 e d) = v (ix3 0 e d) := by
  pointwise []
/-- A state as a layer of a rank-3 block, read at an index. -/
theorem uncast_at (v : FVec Ideal S128x128 .f32) (e d : Fin 128) :
    shapeCast S1x128x128 v shapeCasts_S128x128_S1x128x128 (ix3 0 e d) = v (ix2 e d) := by
  pointwise []
/-- Rows as a layer of a rank-3 block, read at an index. -/
theorem rowcast_at (v : FVec Ideal S128x1024 .f32) (r : Fin 128) (l : Fin 1024) :
    shapeCast S1x128x1024 v shapeCasts_S128x1024_S1x128x1024 (ix3 0 r l) = v (ix2 r l) := by
  pointwise []
/-- The zero rows a sequence starts from, at an index. -/
theorem pay3_at (p : Fin 3) (r : Fin 8) (l : Fin 1024) : k0_pay3 (F := Ideal) (ix3 p r l) = 0 := by
  pointwise [k0_pay3]
/-- The zero state a sequence starts from, at an index. -/
theorem pay2_at (h : Fin 8) (e d : Fin 128) : k0_pay2 (F := Ideal) (ix3 h e d) = 0 := by
  pointwise [k0_pay2]
/-- The rows kept for the next block, at an index. -/
theorem pay197_at (v : FVec Ideal S3x8x1024 .f32) (p : Fin 3) (r : Fin 8) (l : Fin 1024) : k0_pay197 (F := Ideal) v (ix3 p r l) = v (ix3 p r l) := by
  pointwise [k0_pay197]

/-- An index of a rank-3 block, in a rectangle of offsets `o0 o1 o2`. -/
theorem emb3 {a b c a' b' c' : ℕ} (o0 o1 o2 : ℕ) (hin) (i : Fin a') (j : Fin b') (k : Fin c') (i' : Fin a) (j' : Fin b) (k' : Fin c)
    (h0 : i'.val = o0 + i.val) (h1 : j'.val = o1 + j.val) (h2 : k'.val = o2 + k.val) :
    (Rect.unit (s := (⟨3, ![a, b, c]⟩ : Shape)) ![o0, o1, o2] (⟨3, ![a', b', c']⟩ : Shape).size hin).idx (ix3 i j k) = ix3 i' j' k' := by
  funext x
  match x with
  | ⟨0, _⟩ => exact Fin.ext (show o0 + 1 * i.val = i'.val by omega)
  | ⟨1, _⟩ => exact Fin.ext (show o1 + 1 * j.val = j'.val by omega)
  | ⟨2, _⟩ => exact Fin.ext (show o2 + 1 * k.val = k'.val by omega)

section
variable (x0 x1 x2 : FVec Ideal S128x1024 .f32)

/-- The rows of a part. -/
def part (p : Fin 3) : FVec Ideal S128x1024 .f32 := if p.val = 0 then x0 else if p.val = 1 then x1 else x2

/-- A part's rows, over whatever lay before them, read at an index. -/
theorem new_at {sig : RefSig} {κ : Kind} {sp : Space} (v : View sig κ sp S3x136x1024 .f32) (f : v.ty.Contents (Elt Ideal))
    (L : List (View.Piece (Elt Ideal) S3x136x1024 .f32)) (p : Fin 3) (r : Fin 136) (l : Fin 1024) :
    v.read (Elt Ideal) (v.writes (Elt Ideal) f (newRows (F := Ideal) x0 x1 x2 ++ L)) (ix3 p r l)
      = if hr : 8 ≤ r.val then part x0 x1 x2 p (ix2 ⟨r.val - 8, by omega⟩ l)
        else v.read (Elt Ideal) (v.writes (Elt Ideal) f L) (ix3 p r l) := by
  by_cases hr : 8 ≤ r.val
  · rw [dif_pos hr]
    have key : ∀ (w : FVec Ideal S128x1024 .f32) (q : ℕ) (hq : p.val = q) (hin) (L' : List (View.Piece (Elt Ideal) S3x136x1024 .f32)),
        v.read (Elt Ideal) (v.writes (Elt Ideal) f (⟨Rect.unit (s := S3x136x1024) ![q, 8, 0] S1x128x1024.size hin,
          shapeCast S1x128x1024 w shapeCasts_S128x1024_S1x128x1024⟩ :: L')) (ix3 p r l) = w (ix2 ⟨r.val - 8, by omega⟩ l) := by
      intro w q hq hin L'
      refine (View.read_writes_cons_unit_of_mem v f hin _ L' (ix3 p r l) (ix3 0 ⟨r.val - 8, by omega⟩ l) rfl ?_).trans (rowcast_at w _ l)
      intro a
      match a with
      | ⟨0, _⟩ => exact (show p.val = q + 0 by omega)
      | ⟨1, _⟩ => exact (show r.val = 8 + (r.val - 8) by omega)
      | ⟨2, _⟩ => exact (show l.val = 0 + l.val by omega)
    have skip : ∀ (q : ℕ) (hq : p.val ≠ q) (hin) (w) (L' : List (View.Piece (Elt Ideal) S3x136x1024 .f32)),
        v.read (Elt Ideal) (v.writes (Elt Ideal) f (⟨Rect.unit (s := S3x136x1024) ![q, 8, 0] S1x128x1024.size hin, w⟩ :: L')) (ix3 p r l)
          = v.read (Elt Ideal) (v.writes (Elt Ideal) f L') (ix3 p r l) := by
      intro q hq hin w L'
      refine View.read_writes_cons_unit_of_not_mem v f hin w L' (ix3 p r l) rfl (0 : Fin 3) ?_
      show p.val < q ∨ q + 1 ≤ p.val
      omega
    obtain ⟨k, hk⟩ := p
    interval_cases k
    · exact (skip 2 (show (0 : ℕ) ≠ 2 by decide) _ _ _).trans ((skip 1 (show (0 : ℕ) ≠ 1 by decide) _ _ _).trans (key x0 0 rfl _ _))
    · exact (skip 2 (show (1 : ℕ) ≠ 2 by decide) _ _ _).trans (key x1 1 rfl _ _)
    · exact key x2 2 rfl _ _
  · rw [dif_neg hr]
    have skip : ∀ (q : ℕ) (hin) (w) (L' : List (View.Piece (Elt Ideal) S3x136x1024 .f32)),
        v.read (Elt Ideal) (v.writes (Elt Ideal) f (⟨Rect.unit (s := S3x136x1024) ![q, 8, 0] S1x128x1024.size hin, w⟩ :: L')) (ix3 p r l)
          = v.read (Elt Ideal) (v.writes (Elt Ideal) f L') (ix3 p r l) := by
      intro q hin w L'
      refine View.read_writes_cons_unit_of_not_mem v f hin w L' (ix3 p r l) rfl (1 : Fin 3) ?_
      show r.val < 8 ∨ 8 + 128 ≤ r.val
      omega
    exact (skip 2 _ _ _).trans ((skip 1 _ _ _).trans (skip 0 _ _ _))

/-- The history a block is read over: at row `r` before the block's own rows. -/
def over (P : Fin 3 → Fin 136 → Fin 1024 → EReal) (p : Fin 3) (r : Fin 136) (l : Fin 1024) : EReal :=
  if hr : 8 ≤ r.val then part x0 x1 x2 p (ix2 ⟨r.val - 8, by omega⟩ l) else P p r l

/-- A later block's rows at an index. -/
theorem newB_at {sig : RefSig} {κ : Kind} {sp : Space} (a : Memref sig κ sp S3x136x1024 .f32) (ha : a.IsWhole) (xs : FVec Ideal S3x136x1024 .f32)
    (p : Fin 3) (r : Fin 136) (l : Fin 1024) :
    a.view.read (Elt Ideal) (a.view.writes (Elt Ideal) (ha.unread xs) (newRows (F := Ideal) x0 x1 x2)) (ix3 p r l)
      = over x0 x1 x2 (fun p r l => xs (ix3 p r l)) p r l := by
  have h := new_at x0 x1 x2 a.view (ha.unread xs) [] p r l
  rw [List.append_nil] at h
  rw [h, over]
  refine dite_congr rfl (fun _ => rfl) (fun _ => ?_)
  exact congrFun (ha.read_unread (Val := Elt Ideal) xs) (ix3 p r l)

/-- A first block's rows are a block's rows over rows of zero. -/
theorem fresh_eq : freshRows (F := Ideal) x0 x1 x2
    = newRows (F := Ideal) x0 x1 x2 ++ [⟨Rect.unit (s := S3x136x1024) ![0, 0, 0] S3x8x1024.size inb_S3x136x1024_S3x8x1024_0_0_0, k0_pay3 (F := Ideal)⟩] := rfl

/-- A first block's rows at an index. -/
theorem newA_at {sig : RefSig} {κ : Kind} {sp : Space} (v : View sig κ sp S3x136x1024 .f32) (f : v.ty.Contents (Elt Ideal))
    (p : Fin 3) (r : Fin 136) (l : Fin 1024) :
    v.read (Elt Ideal) (v.writes (Elt Ideal) f (freshRows (F := Ideal) x0 x1 x2)) (ix3 p r l) = over x0 x1 x2 (fun _ _ _ => 0) p r l := by
  rw [fresh_eq, new_at, over]
  refine dite_congr rfl (fun _ => rfl) (fun hr => ?_)
  refine (View.read_writes_cons_unit_of_mem v f _ _ [] (ix3 p r l) (ix3 p ⟨r.val, by have := hr; omega⟩ l) rfl ?_).trans (pay3_at p _ l)
  intro a
  match a with
  | ⟨0, _⟩ => exact (show p.val = 0 + p.val by omega)
  | ⟨1, _⟩ => exact (show r.val = 0 + r.val by omega)
  | ⟨2, _⟩ => exact (show l.val = 0 + l.val by omega)

/-- A tap's rows at the first block of a sequence, at an index. -/
theorem rcA_at (a : Memref sig .tc .vmem S3x136x1024 .f32) (p : Fin 3) (j : Fin 4) (h : Fin 8) (r d : Fin 128) :
    rcA (F := Ideal) a x0 x1 x2 p j h (ix3 0 r d) = over x0 x1 x2 (fun _ _ _ => 0) p (trow j r) (lane h d) := by
  have he : (tapR p j h).idx (ix3 0 r d) = ix3 p (trow j r) (lane h d) :=
    emb3 p.val (5 + j.val) (128 * h.val) (tapr_ok p j h) 0 r d p (trow j r) (lane h d) rfl rfl rfl
  show a.view.read (Elt Ideal) (a.view.writes (Elt Ideal) a.view.junk (freshRows (F := Ideal) x0 x1 x2)) ((tapR p j h).idx (ix3 0 r d)) = _
  rw [he]
  exact newA_at x0 x1 x2 a.view a.view.junk p (trow j r) (lane h d)

/-- A tap's rows at a later block, at an index. -/
theorem rcB_at (a : Memref sig .tc .vmem S3x136x1024 .f32) (ha : a.IsWhole) (xs : FVec Ideal S3x136x1024 .f32) (p : Fin 3) (j : Fin 4) (h : Fin 8) (r d : Fin 128) :
    rcB (F := Ideal) a ha x0 x1 x2 xs p j h (ix3 0 r d) = over x0 x1 x2 (fun p r l => xs (ix3 p r l)) p (trow j r) (lane h d) := by
  have he : (tapR p j h).idx (ix3 0 r d) = ix3 p (trow j r) (lane h d) :=
    emb3 p.val (5 + j.val) (128 * h.val) (tapr_ok p j h) 0 r d p (trow j r) (lane h d) rfl rfl rfl
  unfold rcB
  by_cases hj : j.val = 3
  · rw [if_pos hj]
    have hr : 8 ≤ (trow j r).val := by show 8 ≤ 5 + j.val + r.val; omega
    have h1 := new_at x0 x1 x2 a.view a.view.junk [] p (trow j r) (lane h d)
    rw [List.append_nil, dif_pos hr] at h1
    rw [over, dif_pos hr]
    show a.view.read (Elt Ideal) (a.view.writes (Elt Ideal) a.view.junk (newRows (F := Ideal) x0 x1 x2)) ((tapR p j h).idx (ix3 0 r d)) = _
    rw [he]
    exact h1
  · rw [if_neg hj]
    show a.view.read (Elt Ideal) (a.view.writes (Elt Ideal) (ha.unread xs) (newRows (F := Ideal) x0 x1 x2)) ((tapR p j h).idx (ix3 0 r d)) = _
    rw [he]
    exact newB_at x0 x1 x2 a ha xs p (trow j r) (lane h d)

end

/-- A head's state at the first block of a sequence is zero. -/
theorem stA_at (a : Memref sig .tc .vmem S8x128x128 .f32) (h : Fin 8) (e d : Fin 128) : stA (F := Ideal) a h (ix2 e d) = 0 := by
  unfold stA
  rw [cast_at, View.readCov_eq_canon', View.canon_unit_zero (by funext b; match b with | ⟨0, _⟩ => rfl | ⟨1, _⟩ => rfl | ⟨2, _⟩ => rfl)]
  refine Eq.trans (congrArg _ ?_) (pay2_at h e d)
  exact emb3 h.val 0 0 _ 0 e d h e d rfl (Nat.zero_add _).symm (Nat.zero_add _).symm
/-- A head's state at a later block is the carried one. -/
theorem stB_at (a : Memref sig .tc .vmem S8x128x128 .f32) (ha : a.IsWhole) (xs : FVec Ideal S8x128x128 .f32) (h : Fin 8) (e d : Fin 128) :
    stB (F := Ideal) a ha xs h (ix2 e d) = xs (ix3 h e d) := by
  unfold stB
  rw [cast_at, View.readAt_eq_ld, ha.read_unread]
  exact congrArg xs (emb3 h.val 0 0 _ 0 e d h e d rfl (Nat.zero_add _).symm (Nat.zero_add _).symm)

/-- The store of a head's outputs holds the head's lanes. -/
theorem col_hit (v : Fin 8 → FVec Ideal S128x128 .f32) (h : Fin 8) (L : List (View.Piece (Elt Ideal) S128x1024 .f32)) (r e : Fin 128) :
    View.canon (pieceO v h :: L) (ix2 r (lane h e)) = v h (ix2 r e) := by
  show View.canon (⟨colR h, v h⟩ :: L) (ix2 r (lane h e)) = v h (ix2 r e)
  refine Eq.trans (congrArg _ ?_) (View.canon_cons_emb (colR h) (v h) L (ix2 r e))
  funext b
  match b with
  | ⟨0, _⟩ => exact Fin.ext (show r.val = 0 + 1 * r.val by omega)
  | ⟨1, _⟩ => exact Fin.ext (show 128 * h.val + e.val = 128 * h.val + 1 * e.val by omega)
/-- The store of another head's outputs leaves a lane alone. -/
theorem col_miss (v : Fin 8 → FVec Ideal S128x128 .f32) (h h' : Fin 8) (hne : h ≠ h') (L : List (View.Piece (Elt Ideal) S128x1024 .f32)) (r e : Fin 128) :
    View.canon (pieceO v h' :: L) (ix2 r (lane h e)) = View.canon L (ix2 r (lane h e)) := by
  refine View.canon_cons_of_not_mem _ L ?_
  intro hx
  have h1 := (Rect.mem_set_unit (inb := colO_ok h')).1 hx (1 : Fin 2)
  have hne' : h.val ≠ h'.val := fun hh => hne (Fin.ext hh)
  have h2 : 128 * h'.val ≤ 128 * h.val + e.val ∧ 128 * h.val + e.val < 128 * h'.val + 128 := h1
  omega
/-- The store of a head's state holds the head's state. -/
theorem lay_hit (v : Fin 8 → FVec Ideal S128x128 .f32) (h : Fin 8) (L : List (View.Piece (Elt Ideal) S8x128x128 .f32)) (e d : Fin 128) :
    View.canon (pieceS v h :: L) (ix3 h e d) = v h (ix2 e d) := by
  show View.canon (⟨layR h, shapeCast S1x128x128 (v h) shapeCasts_S128x128_S1x128x128⟩ :: L) (ix3 h e d) = v h (ix2 e d)
  refine Eq.trans (congrArg _ ?_) (Eq.trans (View.canon_cons_emb (layR h) _ L (ix3 0 e d)) (uncast_at (v h) e d))
  exact (emb3 h.val 0 0 (lay_ok h) 0 e d h e d rfl (Nat.zero_add _).symm (Nat.zero_add _).symm).symm
/-- The store of another head's state leaves a head's state alone. -/
theorem lay_miss (v : Fin 8 → FVec Ideal S128x128 .f32) (h h' : Fin 8) (hne : h ≠ h') (L : List (View.Piece (Elt Ideal) S8x128x128 .f32)) (e d : Fin 128) :
    View.canon (pieceS v h' :: L) (ix3 h e d) = View.canon L (ix3 h e d) := by
  refine View.canon_cons_of_not_mem _ L ?_
  intro hx
  have h1 := (Rect.mem_set_unit (inb := lay_ok h')).1 hx (0 : Fin 3)
  have hne' : h.val ≠ h'.val := fun hh => hne (Fin.ext hh)
  have h2 : h'.val ≤ h.val ∧ h.val < h'.val + 1 := h1
  omega

/-- The eight stores of outputs, at an index. -/
theorem cols_at (v : Fin 8 → FVec Ideal S128x128 .f32) (h : Fin 8) (r e : Fin 128) :
    View.canon [pieceO v 7, pieceO v 6, pieceO v 5, pieceO v 4, pieceO v 3, pieceO v 2, pieceO v 1, pieceO v 0] (ix2 r (lane h e)) = v h (ix2 r e) := by
  have step : ∀ (h' : Fin 8) (L : List (View.Piece (Elt Ideal) S128x1024 .f32)), (h ≠ h' → View.canon L (ix2 r (lane h e)) = v h (ix2 r e)) →
      View.canon (pieceO v h' :: L) (ix2 r (lane h e)) = v h (ix2 r e) := by
    intro h' L hL
    by_cases hh : h = h'
    · subst hh
      exact col_hit v h L r e
    · exact (col_miss v h h' hh L r e).trans (hL hh)
  refine step 7 _ fun n7 => step 6 _ fun n6 => step 5 _ fun n5 => step 4 _ fun n4 => step 3 _ fun n3 => step 2 _ fun n2 => step 1 _ fun n1 => step 0 _ fun n0 => ?_
  exfalso
  have hlt := h.isLt
  have e0 : h.val ≠ 0 := fun q => n0 (Fin.ext q)
  have e1 : h.val ≠ 1 := fun q => n1 (Fin.ext q)
  have e2 : h.val ≠ 2 := fun q => n2 (Fin.ext q)
  have e3 : h.val ≠ 3 := fun q => n3 (Fin.ext q)
  have e4 : h.val ≠ 4 := fun q => n4 (Fin.ext q)
  have e5 : h.val ≠ 5 := fun q => n5 (Fin.ext q)
  have e6 : h.val ≠ 6 := fun q => n6 (Fin.ext q)
  have e7 : h.val ≠ 7 := fun q => n7 (Fin.ext q)
  omega
/-- The eight stores of states, at an index. -/
theorem lays_at (v : Fin 8 → FVec Ideal S128x128 .f32) (L : List (View.Piece (Elt Ideal) S8x128x128 .f32)) (h : Fin 8) (e d : Fin 128) :
    View.canon (pieceS v 7 :: pieceS v 6 :: pieceS v 5 :: pieceS v 4 :: pieceS v 3 :: pieceS v 2 :: pieceS v 1 :: pieceS v 0 :: L) (ix3 h e d) = v h (ix2 e d) := by
  have step : ∀ (h' : Fin 8) (L : List (View.Piece (Elt Ideal) S8x128x128 .f32)), (h ≠ h' → View.canon L (ix3 h e d) = v h (ix2 e d)) →
      View.canon (pieceS v h' :: L) (ix3 h e d) = v h (ix2 e d) := by
    intro h' L hL
    by_cases hh : h = h'
    · subst hh
      exact lay_hit v h L e d
    · exact (lay_miss v h h' hh L e d).trans (hL hh)
  refine step 7 _ fun n7 => step 6 _ fun n6 => step 5 _ fun n5 => step 4 _ fun n4 => step 3 _ fun n3 => step 2 _ fun n2 => step 1 _ fun n1 => step 0 _ fun n0 => ?_
  exfalso
  have hlt := h.isLt
  have e0 : h.val ≠ 0 := fun q => n0 (Fin.ext q)
  have e1 : h.val ≠ 1 := fun q => n1 (Fin.ext q)
  have e2 : h.val ≠ 2 := fun q => n2 (Fin.ext q)
  have e3 : h.val ≠ 3 := fun q => n3 (Fin.ext q)
  have e4 : h.val ≠ 4 := fun q => n4 (Fin.ext q)
  have e5 : h.val ≠ 5 := fun q => n5 (Fin.ext q)
  have e6 : h.val ≠ 6 := fun q => n6 (Fin.ext q)
  have e7 : h.val ≠ 7 := fun q => n7 (Fin.ext q)
  omega

/-- The rows kept for the next block, at an index. -/
theorem kept_at (R : Fin 3 → Fin 136 → Fin 1024 → EReal) (a : Memref sig .tc .vmem S3x136x1024 .f32) (L L' : List (View.Piece (Elt Ideal) S3x136x1024 .f32))
    (hL : ∀ (p : Fin 3) (r : Fin 136) (l : Fin 1024), 8 ≤ r.val → a.view.read (Elt Ideal) (a.view.writes (Elt Ideal) a.view.junk L) (ix3 p r l) = R p r l)
    (p : Fin 3) (r : Fin 8) (l : Fin 1024) :
    View.canon (⟨Rect.unit (s := S3x136x1024) ![0, 0, 0] S3x8x1024.size inb_S3x136x1024_S3x8x1024_0_0_0, k0_pay197 (F := Ideal) (a.view.readCov (Val := Elt Ideal) L endR.toLoadRect)⟩ :: L')
      (ix3 p ⟨r.val, by omega⟩ l) = R p ⟨128 + r.val, by omega⟩ l := by
  refine Eq.trans (congrArg _ ?_) (Eq.trans (View.canon_cons_emb (Rect.unit (s := S3x136x1024) ![0, 0, 0] S3x8x1024.size inb_S3x136x1024_S3x8x1024_0_0_0) _ L' (ix3 p r l)) ?_)
  · exact (emb3 0 0 0 inb_S3x136x1024_S3x8x1024_0_0_0 p r l p ⟨r.val, by omega⟩ l (Nat.zero_add _).symm (Nat.zero_add _).symm (Nat.zero_add _).symm).symm
  · rw [pay197_at]
    refine Eq.trans ?_ (hL p ⟨128 + r.val, by omega⟩ l (by show 8 ≤ 128 + r.val; omega))
    exact congrArg _ (emb3 0 128 0 inb_S3x136x1024_S3x8x1024_0_128_0 p r l p ⟨128 + r.val, by omega⟩ l (Nat.zero_add _).symm rfl (Nat.zero_add _).symm)

end Cert.Kernel7Ideal.Delta

end
-- ==== Proof.DeltaOutA.lean ====
/-
  The stores of the gated delta rule kernel's body in case A: the result block.
-/
module

public import proofs.«01_k».proof.Proof.DeltaReads

@[expose] public section

set_option maxRecDepth 65536

noncomputable section

open Idealize.ShloMosaic Idealize.ShloMosaic.TcCoe Idealize.SL.Sem

namespace Cert.Kernel7Ideal.Delta

open Cert.Kernel7Ideal Cert.Kernel7Ideal.Gen

variable {F : FTy → Type} [FloatOps F]

/-- The outputs stored at a first block. -/
theorem out_A (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x128 .f32) (harg6 : arg6.IsWhole) (arg7 : Memref sig .tc .vmem S4x3072 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1024 .f32) (harg11 : arg11.IsWhole) (arg12 : Memref sig .tc .vmem S8x128x128 .f32) (harg12 : arg12.IsWhole) (arg13 : Memref sig .tc .vmem S3x136x1024 .f32) (harg13 : arg13.IsWhole) (hc0 : cond0_0 i) (x0 : Vec F S128x1024 .f32) (x1 : Vec F S128x1024 .f32) (x2 : Vec F S128x1024 .f32) (x3 : Vec F S128x1024 .f32) (x4 : Vec F S128x128 .f32) (x5 : Vec F S4x3072 .f32) (x6 : Vec F S1x128 .f32) (x7 : Vec F S1x128 .f32) (x8 : Vec F S1x128 .f32)  :
    (kernelRun0_A (F := F) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1 =
      [pieceO (fun h => normV (catV (rdW arg7 harg7 x5) (rcA arg13 (rdX arg2 harg2 x0) (rdX arg3 harg3 x1) (rdX arg4 harg4 x2)) (rdBA arg6 harg6 x4) (rdR arg8 harg8 x6) (rdR arg9 harg9 x7) h (stA arg12 h)) (rdR arg10 harg10 x8) (rdZ arg5 harg5 x3 h)) 7, pieceO (fun h => normV (catV (rdW arg7 harg7 x5) (rcA arg13 (rdX arg2 harg2 x0) (rdX arg3 harg3 x1) (rdX arg4 harg4 x2)) (rdBA arg6 harg6 x4) (rdR arg8 harg8 x6) (rdR arg9 harg9 x7) h (stA arg12 h)) (rdR arg10 harg10 x8) (rdZ arg5 harg5 x3 h)) 6, pieceO (fun h => normV (catV (rdW arg7 harg7 x5) (rcA arg13 (rdX arg2 harg2 x0) (rdX arg3 harg3 x1) (rdX arg4 harg4 x2)) (rdBA arg6 harg6 x4) (rdR arg8 harg8 x6) (rdR arg9 harg9 x7) h (stA arg12 h)) (rdR arg10 harg10 x8) (rdZ arg5 harg5 x3 h)) 5, pieceO (fun h => normV (catV (rdW arg7 harg7 x5) (rcA arg13 (rdX arg2 harg2 x0) (rdX arg3 harg3 x1) (rdX arg4 harg4 x2)) (rdBA arg6 harg6 x4) (rdR arg8 harg8 x6) (rdR arg9 harg9 x7) h (stA arg12 h)) (rdR arg10 harg10 x8) (rdZ arg5 harg5 x3 h)) 4, pieceO (fun h => normV (catV (rdW arg7 harg7 x5) (rcA arg13 (rdX arg2 harg2 x0) (rdX arg3 harg3 x1) (rdX arg4 harg4 x2)) (rdBA arg6 harg6 x4) (rdR arg8 harg8 x6) (rdR arg9 harg9 x7) h (stA arg12 h)) (rdR arg10 harg10 x8) (rdZ arg5 harg5 x3 h)) 3, pieceO (fun h => normV (catV (rdW arg7 harg7 x5) (rcA arg13 (rdX arg2 harg2 x0) (rdX arg3 harg3 x1) (rdX arg4 harg4 x2)) (rdBA arg6 harg6 x4) (rdR arg8 harg8 x6) (rdR arg9 harg9 x7) h (stA arg12 h)) (rdR arg10 harg10 x8) (rdZ arg5 harg5 x3 h)) 2, pieceO (fun h => normV (catV (rdW arg7 harg7 x5) (rcA arg13 (rdX arg2 harg2 x0) (rdX arg3 harg3 x1) (rdX arg4 harg4 x2)) (rdBA arg6 harg6 x4) (rdR arg8 harg8 x6) (rdR arg9 harg9 x7) h (stA arg12 h)) (rdR arg10 harg10 x8) (rdZ arg5 harg5 x3 h)) 1, pieceO (fun h => normV (catV (rdW arg7 harg7 x5) (rcA arg13 (rdX arg2 harg2 x0) (rdX arg3 harg3 x1) (rdX arg4 harg4 x2)) (rdBA arg6 harg6 x4) (rdR arg8 harg8 x6) (rdR arg9 harg9 x7) h (stA arg12 h)) (rdR arg10 harg10 x8) (rdZ arg5 harg5 x3 h)) 0] := rfl

end Cert.Kernel7Ideal.Delta
-- ==== Proof.DeltaOutB.lean ====
/-
  The stores of the gated delta rule kernel's body in case B: the result block.
-/
module

public import proofs.«01_k».proof.Proof.DeltaReads

@[expose] public section

set_option maxRecDepth 65536

noncomputable section

open Idealize.ShloMosaic Idealize.ShloMosaic.TcCoe Idealize.SL.Sem

namespace Cert.Kernel7Ideal.Delta

open Cert.Kernel7Ideal Cert.Kernel7Ideal.Gen

variable {F : FTy → Type} [FloatOps F]

set_option maxHeartbeats 1600000 in
/-- The outputs stored at a later block. -/
theorem out_B (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x128 .f32) (harg6 : arg6.IsWhole) (arg7 : Memref sig .tc .vmem S4x3072 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1024 .f32) (harg11 : arg11.IsWhole) (arg12 : Memref sig .tc .vmem S8x128x128 .f32) (harg12 : arg12.IsWhole) (arg13 : Memref sig .tc .vmem S3x136x1024 .f32) (harg13 : arg13.IsWhole) (hc0 : ¬cond0_0 i) (x0 : Vec F S128x1024 .f32) (x1 : Vec F S128x1024 .f32) (x2 : Vec F S128x1024 .f32) (x3 : Vec F S128x1024 .f32) (x4 : Vec F S128x128 .f32) (x5 : Vec F S4x3072 .f32) (x6 : Vec F S1x128 .f32) (x7 : Vec F S1x128 .f32) (x8 : Vec F S1x128 .f32) (xs0 : Vec F S8x128x128 .f32) (xs1 : Vec F S3x136x1024 .f32)  :
    (kernelRun0_B (F := F) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1).1 =
      [pieceO (fun h => normV (catV (rdW arg7 harg7 x5) (rcB arg13 harg13 (rdX arg2 harg2 x0) (rdX arg3 harg3 x1) (rdX arg4 harg4 x2) xs1) (rdBA arg6 harg6 x4) (rdR arg8 harg8 x6) (rdR arg9 harg9 x7) h (stB arg12 harg12 xs0 h)) (rdR arg10 harg10 x8) (rdZ arg5 harg5 x3 h)) 7, pieceO (fun h => normV (catV (rdW arg7 harg7 x5) (rcB arg13 harg13 (rdX arg2 harg2 x0) (rdX arg3 harg3 x1) (rdX arg4 harg4 x2) xs1) (rdBA arg6 harg6 x4) (rdR arg8 harg8 x6) (rdR arg9 harg9 x7) h (stB arg12 harg12 xs0 h)) (rdR arg10 harg10 x8) (rdZ arg5 harg5 x3 h)) 6, pieceO (fun h => normV (catV (rdW arg7 harg7 x5) (rcB arg13 harg13 (rdX arg2 harg2 x0) (rdX arg3 harg3 x1) (rdX arg4 harg4 x2) xs1) (rdBA arg6 harg6 x4) (rdR arg8 harg8 x6) (rdR arg9 harg9 x7) h (stB arg12 harg12 xs0 h)) (rdR arg10 harg10 x8) (rdZ arg5 harg5 x3 h)) 5, pieceO (fun h => normV (catV (rdW arg7 harg7 x5) (rcB arg13 harg13 (rdX arg2 harg2 x0) (rdX arg3 harg3 x1) (rdX arg4 harg4 x2) xs1) (rdBA arg6 harg6 x4) (rdR arg8 harg8 x6) (rdR arg9 harg9 x7) h (stB arg12 harg12 xs0 h)) (rdR arg10 harg10 x8) (rdZ arg5 harg5 x3 h)) 4, pieceO (fun h => normV (catV (rdW arg7 harg7 x5) (rcB arg13 harg13 (rdX arg2 harg2 x0) (rdX arg3 harg3 x1) (rdX arg4 harg4 x2) xs1) (rdBA arg6 harg6 x4) (rdR arg8 harg8 x6) (rdR arg9 harg9 x7) h (stB arg12 harg12 xs0 h)) (rdR arg10 harg10 x8) (rdZ arg5 harg5 x3 h)) 3, pieceO (fun h => normV (catV (rdW arg7 harg7 x5) (rcB arg13 harg13 (rdX arg2 harg2 x0) (rdX arg3 harg3 x1) (rdX arg4 harg4 x2) xs1) (rdBA arg6 harg6 x4) (rdR arg8 harg8 x6) (rdR arg9 harg9 x7) h (stB arg12 harg12 xs0 h)) (rdR arg10 harg10 x8) (rdZ arg5 harg5 x3 h)) 2, pieceO (fun h => normV (catV (rdW arg7 harg7 x5) (rcB arg13 harg13 (rdX arg2 harg2 x0) (rdX arg3 harg3 x1) (rdX arg4 harg4 x2) xs1) (rdBA arg6 harg6 x4) (rdR arg8 harg8 x6) (rdR arg9 harg9 x7) h (stB arg12 harg12 xs0 h)) (rdR arg10 harg10 x8) (rdZ arg5 harg5 x3 h)) 1, pieceO (fun h => normV (catV (rdW arg7 harg7 x5) (rcB arg13 harg13 (rdX arg2 harg2 x0) (rdX arg3 harg3 x1) (rdX arg4 harg4 x2) xs1) (rdBA arg6 harg6 x4) (rdR arg8 harg8 x6) (rdR arg9 harg9 x7) h (stB arg12 harg12 xs0 h)) (rdR arg10 harg10 x8) (rdZ arg5 harg5 x3 h)) 0] := rfl

end Cert.Kernel7Ideal.Delta
-- ==== Proof.DeltaStateA.lean ====
/-
  The stores of the gated delta rule kernel's body in case A: the carried state.
-/
module

public import proofs.«01_k».proof.Proof.DeltaReads

@[expose] public section

set_option maxRecDepth 65536

noncomputable section

open Idealize.ShloMosaic Idealize.ShloMosaic.TcCoe Idealize.SL.Sem

namespace Cert.Kernel7Ideal.Delta

open Cert.Kernel7Ideal Cert.Kernel7Ideal.Gen

variable {F : FTy → Type} [FloatOps F]

/-- The states stored at a first block. -/
theorem state_A (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x128 .f32) (harg6 : arg6.IsWhole) (arg7 : Memref sig .tc .vmem S4x3072 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1024 .f32) (harg11 : arg11.IsWhole) (arg12 : Memref sig .tc .vmem S8x128x128 .f32) (harg12 : arg12.IsWhole) (arg13 : Memref sig .tc .vmem S3x136x1024 .f32) (harg13 : arg13.IsWhole) (hc0 : cond0_0 i) (x0 : Vec F S128x1024 .f32) (x1 : Vec F S128x1024 .f32) (x2 : Vec F S128x1024 .f32) (x3 : Vec F S128x1024 .f32) (x4 : Vec F S128x128 .f32) (x5 : Vec F S4x3072 .f32) (x6 : Vec F S1x128 .f32) (x7 : Vec F S1x128 .f32) (x8 : Vec F S1x128 .f32)  :
    (kernelRun0_A (F := F) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1 =
      [pieceS (fun h => lastS (rdW arg7 harg7 x5) (rcA arg13 (rdX arg2 harg2 x0) (rdX arg3 harg3 x1) (rdX arg4 harg4 x2)) (rdBA arg6 harg6 x4) (rdR arg8 harg8 x6) (rdR arg9 harg9 x7) h (stA arg12 h)) 7, pieceS (fun h => lastS (rdW arg7 harg7 x5) (rcA arg13 (rdX arg2 harg2 x0) (rdX arg3 harg3 x1) (rdX arg4 harg4 x2)) (rdBA arg6 harg6 x4) (rdR arg8 harg8 x6) (rdR arg9 harg9 x7) h (stA arg12 h)) 6, pieceS (fun h => lastS (rdW arg7 harg7 x5) (rcA arg13 (rdX arg2 harg2 x0) (rdX arg3 harg3 x1) (rdX arg4 harg4 x2)) (rdBA arg6 harg6 x4) (rdR arg8 harg8 x6) (rdR arg9 harg9 x7) h (stA arg12 h)) 5, pieceS (fun h => lastS (rdW arg7 harg7 x5) (rcA arg13 (rdX arg2 harg2 x0) (rdX arg3 harg3 x1) (rdX arg4 harg4 x2)) (rdBA arg6 harg6 x4) (rdR arg8 harg8 x6) (rdR arg9 harg9 x7) h (stA arg12 h)) 4, pieceS (fun h => lastS (rdW arg7 harg7 x5) (rcA arg13 (rdX arg2 harg2 x0) (rdX arg3 harg3 x1) (rdX arg4 harg4 x2)) (rdBA arg6 harg6 x4) (rdR arg8 harg8 x6) (rdR arg9 harg9 x7) h (stA arg12 h)) 3, pieceS (fun h => lastS (rdW arg7 harg7 x5) (rcA arg13 (rdX arg2 harg2 x0) (rdX arg3 harg3 x1) (rdX arg4 harg4 x2)) (rdBA arg6 harg6 x4) (rdR arg8 harg8 x6) (rdR arg9 harg9 x7) h (stA arg12 h)) 2, pieceS (fun h => lastS (rdW arg7 harg7 x5) (rcA arg13 (rdX arg2 harg2 x0) (rdX arg3 harg3 x1) (rdX arg4 harg4 x2)) (rdBA arg6 harg6 x4) (rdR arg8 harg8 x6) (rdR arg9 harg9 x7) h (stA arg12 h)) 1, pieceS (fun h => lastS (rdW arg7 harg7 x5) (rcA arg13 (rdX arg2 harg2 x0) (rdX arg3 harg3 x1) (rdX arg4 harg4 x2)) (rdBA arg6 harg6 x4) (rdR arg8 harg8 x6) (rdR arg9 harg9 x7) h (stA arg12 h)) 0] ++ [⟨Rect.unit (s := S8x128x128) ![0, 0, 0] S8x128x128.size inb_S8x128x128_S8x128x128_0_0_0, k0_pay2⟩] := rfl

end Cert.Kernel7Ideal.Delta
-- ==== Proof.DeltaStateB.lean ====
/-
  The stores of the gated delta rule kernel's body in case B: the carried state.
-/
module

public import proofs.«01_k».proof.Proof.DeltaReads

@[expose] public section

set_option maxRecDepth 65536

noncomputable section

open Idealize.ShloMosaic Idealize.ShloMosaic.TcCoe Idealize.SL.Sem

namespace Cert.Kernel7Ideal.Delta

open Cert.Kernel7Ideal Cert.Kernel7Ideal.Gen

variable {F : FTy → Type} [FloatOps F]

/-- The states stored at a later block. -/
theorem state_B (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x128 .f32) (harg6 : arg6.IsWhole) (arg7 : Memref sig .tc .vmem S4x3072 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1024 .f32) (harg11 : arg11.IsWhole) (arg12 : Memref sig .tc .vmem S8x128x128 .f32) (harg12 : arg12.IsWhole) (arg13 : Memref sig .tc .vmem S3x136x1024 .f32) (harg13 : arg13.IsWhole) (hc0 : ¬cond0_0 i) (x0 : Vec F S128x1024 .f32) (x1 : Vec F S128x1024 .f32) (x2 : Vec F S128x1024 .f32) (x3 : Vec F S128x1024 .f32) (x4 : Vec F S128x128 .f32) (x5 : Vec F S4x3072 .f32) (x6 : Vec F S1x128 .f32) (x7 : Vec F S1x128 .f32) (x8 : Vec F S1x128 .f32) (xs0 : Vec F S8x128x128 .f32) (xs1 : Vec F S3x136x1024 .f32)  :
    (kernelRun0_B (F := F) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1).2.1 =
      [pieceS (fun h => lastS (rdW arg7 harg7 x5) (rcB arg13 harg13 (rdX arg2 harg2 x0) (rdX arg3 harg3 x1) (rdX arg4 harg4 x2) xs1) (rdBA arg6 harg6 x4) (rdR arg8 harg8 x6) (rdR arg9 harg9 x7) h (stB arg12 harg12 xs0 h)) 7, pieceS (fun h => lastS (rdW arg7 harg7 x5) (rcB arg13 harg13 (rdX arg2 harg2 x0) (rdX arg3 harg3 x1) (rdX arg4 harg4 x2) xs1) (rdBA arg6 harg6 x4) (rdR arg8 harg8 x6) (rdR arg9 harg9 x7) h (stB arg12 harg12 xs0 h)) 6, pieceS (fun h => lastS (rdW arg7 harg7 x5) (rcB arg13 harg13 (rdX arg2 harg2 x0) (rdX arg3 harg3 x1) (rdX arg4 harg4 x2) xs1) (rdBA arg6 harg6 x4) (rdR arg8 harg8 x6) (rdR arg9 harg9 x7) h (stB arg12 harg12 xs0 h)) 5, pieceS (fun h => lastS (rdW arg7 harg7 x5) (rcB arg13 harg13 (rdX arg2 harg2 x0) (rdX arg3 harg3 x1) (rdX arg4 harg4 x2) xs1) (rdBA arg6 harg6 x4) (rdR arg8 harg8 x6) (rdR arg9 harg9 x7) h (stB arg12 harg12 xs0 h)) 4, pieceS (fun h => lastS (rdW arg7 harg7 x5) (rcB arg13 harg13 (rdX arg2 harg2 x0) (rdX arg3 harg3 x1) (rdX arg4 harg4 x2) xs1) (rdBA arg6 harg6 x4) (rdR arg8 harg8 x6) (rdR arg9 harg9 x7) h (stB arg12 harg12 xs0 h)) 3, pieceS (fun h => lastS (rdW arg7 harg7 x5) (rcB arg13 harg13 (rdX arg2 harg2 x0) (rdX arg3 harg3 x1) (rdX arg4 harg4 x2) xs1) (rdBA arg6 harg6 x4) (rdR arg8 harg8 x6) (rdR arg9 harg9 x7) h (stB arg12 harg12 xs0 h)) 2, pieceS (fun h => lastS (rdW arg7 harg7 x5) (rcB arg13 harg13 (rdX arg2 harg2 x0) (rdX arg3 harg3 x1) (rdX arg4 harg4 x2) xs1) (rdBA arg6 harg6 x4) (rdR arg8 harg8 x6) (rdR arg9 harg9 x7) h (stB arg12 harg12 xs0 h)) 1, pieceS (fun h => lastS (rdW arg7 harg7 x5) (rcB arg13 harg13 (rdX arg2 harg2 x0) (rdX arg3 harg3 x1) (rdX arg4 harg4 x2) xs1) (rdBA arg6 harg6 x4) (rdR arg8 harg8 x6) (rdR arg9 harg9 x7) h (stB arg12 harg12 xs0 h)) 0] := rfl

end Cert.Kernel7Ideal.Delta
-- ==== Proof.DeltaRowsA.lean ====
/-
  The stores of the gated delta rule kernel's body in case A: the carried rows.
-/
module

public import proofs.«01_k».proof.Proof.DeltaReads

@[expose] public section

set_option maxRecDepth 65536

noncomputable section

open Idealize.ShloMosaic Idealize.ShloMosaic.TcCoe Idealize.SL.Sem

namespace Cert.Kernel7Ideal.Delta

open Cert.Kernel7Ideal Cert.Kernel7Ideal.Gen

variable {F : FTy → Type} [FloatOps F]

/-- The rows stored at a first block. -/
theorem rows_A (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x128 .f32) (harg6 : arg6.IsWhole) (arg7 : Memref sig .tc .vmem S4x3072 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1024 .f32) (harg11 : arg11.IsWhole) (arg12 : Memref sig .tc .vmem S8x128x128 .f32) (harg12 : arg12.IsWhole) (arg13 : Memref sig .tc .vmem S3x136x1024 .f32) (harg13 : arg13.IsWhole) (hc0 : cond0_0 i) (x0 : Vec F S128x1024 .f32) (x1 : Vec F S128x1024 .f32) (x2 : Vec F S128x1024 .f32) (x3 : Vec F S128x1024 .f32) (x4 : Vec F S128x128 .f32) (x5 : Vec F S4x3072 .f32) (x6 : Vec F S1x128 .f32) (x7 : Vec F S1x128 .f32) (x8 : Vec F S1x128 .f32)  :
    (kernelRun0_A (F := F) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1 =
      ⟨Rect.unit (s := S3x136x1024) ![0, 0, 0] S3x8x1024.size inb_S3x136x1024_S3x8x1024_0_0_0, k0_pay197 (arg13.view.readCov (Val := Elt F) (freshRows (rdX arg2 harg2 x0) (rdX arg3 harg3 x1) (rdX arg4 harg4 x2)) endR.toLoadRect)⟩ :: freshRows (rdX arg2 harg2 x0) (rdX arg3 harg3 x1) (rdX arg4 harg4 x2) := rfl

end Cert.Kernel7Ideal.Delta
-- ==== Proof.DeltaRowsB.lean ====
/-
  The stores of the gated delta rule kernel's body in case B: the carried rows.
-/
module

public import proofs.«01_k».proof.Proof.DeltaReads

@[expose] public section

set_option maxRecDepth 65536

noncomputable section

open Idealize.ShloMosaic Idealize.ShloMosaic.TcCoe Idealize.SL.Sem

namespace Cert.Kernel7Ideal.Delta

open Cert.Kernel7Ideal Cert.Kernel7Ideal.Gen

variable {F : FTy → Type} [FloatOps F]

/-- The rows stored at a later block. -/
theorem rows_B (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x128 .f32) (harg6 : arg6.IsWhole) (arg7 : Memref sig .tc .vmem S4x3072 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1024 .f32) (harg11 : arg11.IsWhole) (arg12 : Memref sig .tc .vmem S8x128x128 .f32) (harg12 : arg12.IsWhole) (arg13 : Memref sig .tc .vmem S3x136x1024 .f32) (harg13 : arg13.IsWhole) (hc0 : ¬cond0_0 i) (x0 : Vec F S128x1024 .f32) (x1 : Vec F S128x1024 .f32) (x2 : Vec F S128x1024 .f32) (x3 : Vec F S128x1024 .f32) (x4 : Vec F S128x128 .f32) (x5 : Vec F S4x3072 .f32) (x6 : Vec F S1x128 .f32) (x7 : Vec F S1x128 .f32) (x8 : Vec F S1x128 .f32) (xs0 : Vec F S8x128x128 .f32) (xs1 : Vec F S3x136x1024 .f32)  :
    (kernelRun0_B (F := F) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1).2.2.1 =
      ⟨Rect.unit (s := S3x136x1024) ![0, 0, 0] S3x8x1024.size inb_S3x136x1024_S3x8x1024_0_0_0, k0_pay197 (arg13.view.readCov (Val := Elt F) (newRows (rdX arg2 harg2 x0) (rdX arg3 harg3 x1) (rdX arg4 harg4 x2)) endR.toLoadRect)⟩ :: newRows (rdX arg2 harg2 x0) (rdX arg3 harg3 x1) (rdX arg4 harg4 x2) := rfl

end Cert.Kernel7Ideal.Delta
-- ==== Proof.DeltaBlockAt.lean ====
/-
  The blocks and the carried arrays a point of the gated delta rule kernel leaves, read at an index.
-/
module

public import proofs.«01_k».proof.Proof.DeltaRead
public import proofs.«01_k».proof.Proof.DeltaOutA
public import proofs.«01_k».proof.Proof.DeltaOutB
public import proofs.«01_k».proof.Proof.DeltaStateA
public import proofs.«01_k».proof.Proof.DeltaStateB
public import proofs.«01_k».proof.Proof.DeltaRowsA
public import proofs.«01_k».proof.Proof.DeltaRowsB

@[expose] public section

set_option maxRecDepth 16384

noncomputable section

open Idealize.ShloMosaic Idealize.ShloMosaic.TcCoe Idealize.SL.Sem

namespace Cert.Kernel7Ideal.Delta

open Cert.Kernel7Ideal Cert.Kernel7Ideal.Gen Cert.Delta

/-- The result block of a point that starts a sequence, at an index. -/
theorem out_A_at (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x128 .f32) (harg6 : arg6.IsWhole) (arg7 : Memref sig .tc .vmem S4x3072 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1024 .f32) (harg11 : arg11.IsWhole) (arg12 : Memref sig .tc .vmem S8x128x128 .f32) (harg12 : arg12.IsWhole) (arg13 : Memref sig .tc .vmem S3x136x1024 .f32) (harg13 : arg13.IsWhole) (hc0 : cond0_0 i) (x0 : Vec Ideal S128x1024 .f32) (x1 : Vec Ideal S128x1024 .f32) (x2 : Vec Ideal S128x1024 .f32) (x3 : Vec Ideal S128x1024 .f32) (x4 : Vec Ideal S128x128 .f32) (x5 : Vec Ideal S4x3072 .f32) (x6 : Vec Ideal S1x128 .f32) (x7 : Vec Ideal S1x128 .f32) (x8 : Vec Ideal S1x128 .f32) (h : Fin 8) (r e : Fin 128) :
    out0_A_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix2 r (lane h e))
      = normV (F := Ideal) (catV (F := Ideal) (rdW (F := Ideal) arg7 harg7 x5) (rcA (F := Ideal) arg13 x0 x1 x2) x4 x6 x7 h (stA (F := Ideal) arg12 h)) x8 (rdZ (F := Ideal) arg5 harg5 x3 h) (ix2 r e) := by
  unfold out0_A_9
  rw [View.read_writes_eq_canon _ _ _ (cover0_A_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8), out_A]
  refine (cols_at _ h r e).trans ?_
  rw [rdX_eq, rdX_eq, rdX_eq, rdBA_eq, rdR_eq, rdR_eq, rdR_eq]

/-- The state a point that starts a sequence leaves, at an index. -/
theorem state_A_at (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x128 .f32) (harg6 : arg6.IsWhole) (arg7 : Memref sig .tc .vmem S4x3072 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1024 .f32) (harg11 : arg11.IsWhole) (arg12 : Memref sig .tc .vmem S8x128x128 .f32) (harg12 : arg12.IsWhole) (arg13 : Memref sig .tc .vmem S3x136x1024 .f32) (harg13 : arg13.IsWhole) (hc0 : cond0_0 i) (x0 : Vec Ideal S128x1024 .f32) (x1 : Vec Ideal S128x1024 .f32) (x2 : Vec Ideal S128x1024 .f32) (x3 : Vec Ideal S128x1024 .f32) (x4 : Vec Ideal S128x128 .f32) (x5 : Vec Ideal S4x3072 .f32) (x6 : Vec Ideal S1x128 .f32) (x7 : Vec Ideal S1x128 .f32) (x8 : Vec Ideal S1x128 .f32) (h : Fin 8) (e d : Fin 128) :
    sout0_A_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix3 h e d) = lastS (F := Ideal) (rdW (F := Ideal) arg7 harg7 x5) (rcA (F := Ideal) arg13 x0 x1 x2) x4 x6 x7 h (stA (F := Ideal) arg12 h) (ix2 e d) := by
  unfold sout0_A_0
  rw [View.read_writes_eq_canon _ _ _ (scover0_A_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8), state_A]
  refine (lays_at _ [⟨Rect.unit (s := S8x128x128) ![0, 0, 0] S8x128x128.size inb_S8x128x128_S8x128x128_0_0_0, k0_pay2 (F := Ideal)⟩] h e d).trans ?_
  rw [rdX_eq, rdX_eq, rdX_eq, rdBA_eq, rdR_eq, rdR_eq]

/-- The rows a point that starts a sequence keeps for the next, at an index. -/
theorem rows_A_at (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x128 .f32) (harg6 : arg6.IsWhole) (arg7 : Memref sig .tc .vmem S4x3072 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1024 .f32) (harg11 : arg11.IsWhole) (arg12 : Memref sig .tc .vmem S8x128x128 .f32) (harg12 : arg12.IsWhole) (arg13 : Memref sig .tc .vmem S3x136x1024 .f32) (harg13 : arg13.IsWhole) (hc0 : cond0_0 i) (x0 : Vec Ideal S128x1024 .f32) (x1 : Vec Ideal S128x1024 .f32) (x2 : Vec Ideal S128x1024 .f32) (x3 : Vec Ideal S128x1024 .f32) (x4 : Vec Ideal S128x128 .f32) (x5 : Vec Ideal S4x3072 .f32) (x6 : Vec Ideal S1x128 .f32) (x7 : Vec Ideal S1x128 .f32) (x8 : Vec Ideal S1x128 .f32) (p : Fin 3) (r : Fin 8) (l : Fin 1024) :
    sout0_A_1 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix3 p ⟨r.val, by omega⟩ l) = part x0 x1 x2 p (ix2 ⟨120 + r.val, by omega⟩ l) := by
  unfold sout0_A_1
  rw [View.read_writes_eq_canon _ _ _ (scover0_A_1 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8), rows_A, rdX_eq, rdX_eq, rdX_eq]
  refine (kept_at (over x0 x1 x2 (fun _ _ _ => 0)) arg13 _ _ (fun p r l hr => ?_) p r l).trans ?_
  · exact newA_at x0 x1 x2 arg13.view arg13.view.junk p r l
  · rw [over, dif_pos (show 8 ≤ 128 + r.val by omega)]
    exact congrArg (fun q => part x0 x1 x2 p (ix2 q l)) (Fin.ext (show 128 + r.val - 8 = 120 + r.val by omega))

/-- The result block of a point that continues a sequence, at an index. -/
theorem out_B_at (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x128 .f32) (harg6 : arg6.IsWhole) (arg7 : Memref sig .tc .vmem S4x3072 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1024 .f32) (harg11 : arg11.IsWhole) (arg12 : Memref sig .tc .vmem S8x128x128 .f32) (harg12 : arg12.IsWhole) (arg13 : Memref sig .tc .vmem S3x136x1024 .f32) (harg13 : arg13.IsWhole) (hc0 : ¬cond0_0 i) (x0 : Vec Ideal S128x1024 .f32) (x1 : Vec Ideal S128x1024 .f32) (x2 : Vec Ideal S128x1024 .f32) (x3 : Vec Ideal S128x1024 .f32) (x4 : Vec Ideal S128x128 .f32) (x5 : Vec Ideal S4x3072 .f32) (x6 : Vec Ideal S1x128 .f32) (x7 : Vec Ideal S1x128 .f32) (x8 : Vec Ideal S1x128 .f32) (xs0 : Vec Ideal S8x128x128 .f32) (xs1 : Vec Ideal S3x136x1024 .f32) (h : Fin 8) (r e : Fin 128) :
    out0_B_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 (ix2 r (lane h e))
      = normV (F := Ideal) (catV (F := Ideal) (rdW (F := Ideal) arg7 harg7 x5) (rcB (F := Ideal) arg13 harg13 x0 x1 x2 xs1) x4 x6 x7 h (stB (F := Ideal) arg12 harg12 xs0 h)) x8 (rdZ (F := Ideal) arg5 harg5 x3 h) (ix2 r e) := by
  unfold out0_B_9
  rw [View.read_writes_eq_canon _ _ _ (cover0_B_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1), out_B]
  refine (cols_at _ h r e).trans ?_
  rw [rdX_eq, rdX_eq, rdX_eq, rdBA_eq, rdR_eq, rdR_eq, rdR_eq]

/-- The state a point that continues a sequence leaves, at an index. -/
theorem state_B_at (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x128 .f32) (harg6 : arg6.IsWhole) (arg7 : Memref sig .tc .vmem S4x3072 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1024 .f32) (harg11 : arg11.IsWhole) (arg12 : Memref sig .tc .vmem S8x128x128 .f32) (harg12 : arg12.IsWhole) (arg13 : Memref sig .tc .vmem S3x136x1024 .f32) (harg13 : arg13.IsWhole) (hc0 : ¬cond0_0 i) (x0 : Vec Ideal S128x1024 .f32) (x1 : Vec Ideal S128x1024 .f32) (x2 : Vec Ideal S128x1024 .f32) (x3 : Vec Ideal S128x1024 .f32) (x4 : Vec Ideal S128x128 .f32) (x5 : Vec Ideal S4x3072 .f32) (x6 : Vec Ideal S1x128 .f32) (x7 : Vec Ideal S1x128 .f32) (x8 : Vec Ideal S1x128 .f32) (xs0 : Vec Ideal S8x128x128 .f32) (xs1 : Vec Ideal S3x136x1024 .f32) (h : Fin 8) (e d : Fin 128) :
    sout0_B_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 (ix3 h e d) = lastS (F := Ideal) (rdW (F := Ideal) arg7 harg7 x5) (rcB (F := Ideal) arg13 harg13 x0 x1 x2 xs1) x4 x6 x7 h (stB (F := Ideal) arg12 harg12 xs0 h) (ix2 e d) := by
  unfold sout0_B_0
  rw [View.read_writes_eq_canon _ _ _ (scover0_B_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1), state_B]
  refine (lays_at _ [] h e d).trans ?_
  rw [rdX_eq, rdX_eq, rdX_eq, rdBA_eq, rdR_eq, rdR_eq]

/-- The rows a point that continues a sequence keeps for the next, at an index. -/
theorem rows_B_at (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x128 .f32) (harg6 : arg6.IsWhole) (arg7 : Memref sig .tc .vmem S4x3072 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1024 .f32) (harg11 : arg11.IsWhole) (arg12 : Memref sig .tc .vmem S8x128x128 .f32) (harg12 : arg12.IsWhole) (arg13 : Memref sig .tc .vmem S3x136x1024 .f32) (harg13 : arg13.IsWhole) (hc0 : ¬cond0_0 i) (x0 : Vec Ideal S128x1024 .f32) (x1 : Vec Ideal S128x1024 .f32) (x2 : Vec Ideal S128x1024 .f32) (x3 : Vec Ideal S128x1024 .f32) (x4 : Vec Ideal S128x128 .f32) (x5 : Vec Ideal S4x3072 .f32) (x6 : Vec Ideal S1x128 .f32) (x7 : Vec Ideal S1x128 .f32) (x8 : Vec Ideal S1x128 .f32) (xs0 : Vec Ideal S8x128x128 .f32) (xs1 : Vec Ideal S3x136x1024 .f32) (p : Fin 3) (r : Fin 8) (l : Fin 1024) :
    sout0_B_1 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 (ix3 p ⟨r.val, by omega⟩ l) = part x0 x1 x2 p (ix2 ⟨120 + r.val, by omega⟩ l) := by
  unfold sout0_B_1
  rw [View.read_writes_eq_canon _ _ _ (scover0_B_1 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1), rows_B, rdX_eq, rdX_eq, rdX_eq]
  refine (kept_at (over x0 x1 x2 (fun _ _ _ => 0)) arg13 _ _ (fun p r l hr => ?_) p r l).trans ?_
  · have h1 := new_at x0 x1 x2 arg13.view arg13.view.junk [] p r l
    rw [List.append_nil, dif_pos hr] at h1
    rw [over, dif_pos hr]
    exact h1
  · rw [over, dif_pos (show 8 ≤ 128 + r.val by omega)]
    exact congrArg (fun q => part x0 x1 x2 p (ix2 q l)) (Fin.ext (show 128 + r.val - 8 = 120 + r.val by omega))

end Cert.Kernel7Ideal.Delta

end
-- ==== Proof.DeltaChunk.lean ====
/-
  One block of the gated delta rule kernel against the recurrence over a whole sequence: what its two chunks leave, from
  what the block's reads hold.
-/
module

public import proofs.«01_k».proof.Proof.DeltaAt

@[expose] public section

set_option maxRecDepth 16384

noncomputable section

open Idealize.ShloMosaic Idealize.ShloMosaic.TcCoe Idealize.SL.Sem

namespace Cert.Kernel7Ideal.Delta

open Cert.Kernel7Ideal Cert.Kernel7Ideal.Gen Cert.Delta

/-- Two chunks, one under the other, at an index. -/
theorem pair_at (u v : FVec Ideal S64x128 .f32) (n : Fin 2) (t : Fin 64) (e : Fin 128) :
    concatenate S128x128 0 [⟨S64x128, u⟩, ⟨S64x128, v⟩] concatenates_S64x128_S64x128_S128x128_d0 (ix2 (row n t) e)
      = if n.val = 0 then u (ix2 t e) else v (ix2 t e) := by
  have hp : ∀ r : Fin 128, concatenate S128x128 0 [⟨S64x128, u⟩, ⟨S64x128, v⟩] concatenates_S64x128_S64x128_S128x128_d0 (ix2 r e)
      = if hr : r.val < 64 then u (ix2 ⟨r.val, hr⟩ e) else v (ix2 ⟨r.val - 64, by omega⟩ e) := by
    intro r
    pointwise []
  have hv : (row n t).val = 64 * n.val + t.val := rfl
  rw [hp]
  by_cases hn : n.val = 0
  · rw [if_pos hn, dif_pos (by omega)]
    exact congrArg (fun r => u (ix2 r e)) (Fin.ext (show (row n t).val = t.val by omega))
  · rw [if_neg hn, dif_neg (by omega)]
    exact congrArg (fun r => v (ix2 r e)) (Fin.ext (show (row n t).val - 64 = t.val by omega))

/-- What a block's reads hold: block `q` of a sequence of projections `X`, weights `W`, rates `al` and offsets `dt`. -/
structure Reads (X W : ℕ → ℕ → EReal) (al dt : ℕ → EReal) (q : ℕ)
    (rw : Fin 3 → Fin 4 → Fin 8 → FVec Ideal S1x128 .f32) (rc : Fin 3 → Fin 4 → Fin 8 → FVec Ideal S1x128x128 .f32)
    (ba : FVec Ideal S128x128 .f32) (nega dtb : FVec Ideal S1x128 .f32) : Prop where
  /-- The weights. -/
  w : ∀ p j h (d : Fin 128), rw p j h (ix2 0 d) = W j.val (1024 * p.val + (128 * h.val + d.val))
  /-- The rows. -/
  c : ∀ p j h (r d : Fin 128), rc p j h (ix3 0 r d) = pad X (128 * q + r.val + j.val) (1024 * p.val + (128 * h.val + d.val))
  /-- The gates of the writes. -/
  b : ∀ (r : Fin 128) (h : Fin 8), ba (ix2 r ⟨h.val, by omega⟩) = X (128 * q + r.val) (4096 + h.val)
  /-- The gates of the decays. -/
  g : ∀ (r : Fin 128) (h : Fin 8), ba (ix2 r (lane8 h)) = X (128 * q + r.val) (4104 + h.val)
  /-- The rates. -/
  a : ∀ h : Fin 8, nega (ix2 0 (lane8 h)) = -(Ideal.exp (al h.val))
  /-- The offsets. -/
  t : ∀ h : Fin 8, dtb (ix2 0 (lane8 h)) = dt h.val

section
variable {X W : ℕ → ℕ → EReal} {al dt : ℕ → EReal} {q : ℕ}
  {rw_ : Fin 3 → Fin 4 → Fin 8 → FVec Ideal S1x128 .f32} {rc : Fin 3 → Fin 4 → Fin 8 → FVec Ideal S1x128x128 .f32}
  {ba : FVec Ideal S128x128 .f32} {nega dtb : FVec Ideal S1x128 .f32} (R : Reads X W al dt q rw_ rc ba nega dtb) (h : Fin 8)
include R

/-- The convolved rows at an index. -/
theorem conv_at (p : Fin 3) (r d : Fin 128) :
    convV (F := Ideal) rw_ rc h p (ix2 r d) = act X W (128 * q + r.val) (1024 * p.val + (128 * h.val + d.val)) := by
  have hp : tapsV (F := Ideal) (fun j => rw_ p j h) (fun j => rc p j h) (ix2 r d)
      = tapV (F := Ideal) (rw_ p 0 h) (rc p 0 h) (ix2 r d) + tapV (F := Ideal) (rw_ p 1 h) (rc p 1 h) (ix2 r d)
        + tapV (F := Ideal) (rw_ p 2 h) (rc p 2 h) (ix2 r d) + tapV (F := Ideal) (rw_ p 3 h) (rc p 3 h) (ix2 r d) := rfl
  rw [convV, silu_at, act, hp, tap_at, tap_at, tap_at, tap_at, R.w, R.w, R.w, R.w, R.c, R.c, R.c, R.c]
  rfl

/-- The row of a sequence at row `t` of chunk `n` of a block. -/
theorem row_seq (n : Fin 2) (t : Fin 64) : 128 * q + (row n t).val = 64 * (2 * q + n.val) + t.val := by
  have hv : (row n t).val = 64 * n.val + t.val := rfl
  omega

/-- The queries at an index. -/
theorem q_at (n : Fin 2) (t : Fin 64) (d : Fin 128) : qV (F := Ideal) rw_ rc h n (ix2 t d) = qT X W h (2 * q + n.val) t d := by
  rw [qV, rows_at, scaled_at, qT]
  refine congrArg (fun f => unit f d * _) ?_
  funext d'
  rw [conv_at R, row_seq R]
  exact congrArg (act X W _) (show 1024 * 0 + (128 * h.val + d'.val) = 128 * h.val + d'.val by omega)
/-- The keys at an index. -/
theorem k_at (n : Fin 2) (t : Fin 64) (d : Fin 128) : kV (F := Ideal) rw_ rc h n (ix2 t d) = kT X W h (2 * q + n.val) t d := by
  rw [kV, rows_at, unit_at, kT]
  refine congrArg (fun f => unit f d) ?_
  funext d'
  rw [conv_at R, row_seq R]
  rfl
/-- The values at an index. -/
theorem v_at (n : Fin 2) (t : Fin 64) (d : Fin 128) : vV (F := Ideal) rw_ rc h n (ix2 t d) = vT X W h (2 * q + n.val) t d := by
  rw [vV, rows_at, conv_at R, row_seq R]
  rfl
/-- The running sums at an index. -/
theorem sum_at (n : Fin 2) (t : Fin 64) : decV (F := Ideal) ba nega dtb n (ix2 t (lane8 h)) = cum (gT X al dt h (2 * q + n.val)) t := by
  rw [dec_at]
  refine congrArg (fun f => cum f t) ?_
  funext s
  rw [log_at, R.g, R.a, R.t, row_seq R]
  rfl
/-- The running sums of a head at an index. -/
theorem dc_at (n : Fin 2) (t : Fin 64) (d : Fin 128) : dcV (F := Ideal) ba nega dtb h n (ix2 t d) = cum (gT X al dt h (2 * q + n.val)) t := by
  rw [dcV, dcol_at, sum_at R]
/-- The decays at an index. -/
theorem lm_at (n : Fin 2) (t s : Fin 64) : lmV (F := Ideal) ba nega dtb h n (ix2 t s) = decay (gT X al dt h (2 * q + n.val)) t s := by
  rw [lmV, lmask_at _ h _ (fun t => sum_at R h n t)]
/-- The write strengths at an index. -/
theorem b_at (n : Fin 2) (t : Fin 64) (d : Fin 128) : betaV (F := Ideal) ba h n (ix2 t d) = bT X h (2 * q + n.val) t := by
  rw [beta_at, R.b, row_seq R]
  rfl
/-- The inverse of a chunk. -/
theorem t_at (n : Fin 2) : M (invV (F := Ideal) (aV (kV rw_ rc h n) (betaV ba h n) (lmV ba nega dtb h n)) 5) = tT X W al dt h (2 * q + n.val) := by
  rw [inv_M, a_M _ _ _ _ _ _ (k_at R h n) (b_at R h n) (lm_at R h n), tT_eq]

/-- A chunk's output at an index. -/
theorem chunk_at (n : Fin 2) (s : FVec Ideal S128x128 .f32) (hs : ∀ d e, s (ix2 d e) = state X W al dt h (2 * q + n.val) d e) (t : Fin 64) (e : Fin 128) :
    chunkV (F := Ideal) rw_ rc ba nega dtb h n s (ix2 t e) = outT X W al dt h (2 * q + n.val) t e := by
  rw [chunkV, out_at (T := tT X W al dt h (2 * q + n.val)) (hT := t_at R h n) (hq := q_at R h n) (hk := k_at R h n) (hv := v_at R h n) (hbc := b_at R h n)
    (hdc := dc_at R h n) (hlm := lm_at R h n) (hs := hs)]
  rfl
/-- The state after a chunk at an index. -/
theorem step_at (n : Fin 2) (s : FVec Ideal S128x128 .f32) (hs : ∀ d e, s (ix2 d e) = state X W al dt h (2 * q + n.val) d e) (d e : Fin 128) :
    stepV (F := Ideal) rw_ rc ba nega dtb h n s (ix2 d e) = state X W al dt h (2 * q + n.val + 1) d e := by
  rw [stepV, next_at (T := tT X W al dt h (2 * q + n.val)) (hT := t_at R h n) (hk := k_at R h n) (hv := v_at R h n) (hbc := b_at R h n)
    (hdc := dc_at R h n) (hs := hs), state_succ]
/-- A block's outputs at an index. -/
theorem cat_at (s : FVec Ideal S128x128 .f32) (hs : ∀ d e, s (ix2 d e) = state X W al dt h (2 * q) d e) (n : Fin 2) (t : Fin 64) (e : Fin 128) :
    catV (F := Ideal) rw_ rc ba nega dtb h s (ix2 (row n t) e) = outT X W al dt h (2 * q + n.val) t e := by
  rw [catV, pair_at]
  obtain ⟨k, hk⟩ := n
  interval_cases k
  · exact chunk_at R h 0 s hs t e
  · exact chunk_at R h 1 _ (step_at R h 0 s hs) t e
/-- The state after a block at an index. -/
theorem last_state (s : FVec Ideal S128x128 .f32) (hs : ∀ d e, s (ix2 d e) = state X W al dt h (2 * q) d e) (d e : Fin 128) :
    lastS (F := Ideal) rw_ rc ba nega dtb h s (ix2 d e) = state X W al dt h (2 * (q + 1)) d e :=
  step_at R h 1 _ (step_at R h 0 s hs) d e
/-- A block's results at an index. -/
theorem res_at (s : FVec Ideal S128x128 .f32) (hs : ∀ d e, s (ix2 d e) = state X W al dt h (2 * q) d e)
    (gn : FVec Ideal S1x128 .f32) (z : FVec Ideal S128x128 .f32) (w : Fin 128 → EReal) (hw : ∀ e, gn (ix2 0 e) = w e)
    (hz : ∀ r e : Fin 128, z (ix2 r e) = X (128 * q + r.val) (3072 + (128 * h.val + e.val))) (n : Fin 2) (t : Fin 64) (e : Fin 128) :
    normV (F := Ideal) (catV (F := Ideal) rw_ rc ba nega dtb h s) gn z (ix2 (row n t) e) = result X W al dt h w (2 * q + n.val) t e := by
  rw [norm_at, hw, hz, row_seq R, result]
  refine congrArg (fun o => Cert.Chunk.normed o _ _ _) ?_
  funext e'
  exact cat_at R h s hs n t e'
end

end Cert.Kernel7Ideal.Delta

end
-- ==== Proof.DeltaHost.lean ====
/-
  The rows the gated delta rule call's host code prepares for the kernel: the decay rates and the offsets, spread over
  the lanes the kernel reads them at.
-/
module

public import proofs.«01_k».proof.Proof.DeltaAt
public import proofs.«01_k».proof.Proof.Gen.Kernel7Ideal.Value
public import Idealize.ShloMosaic.Lib.Pointwise

@[expose] public section

set_option maxRecDepth 16384

noncomputable section

open Idealize.ShloMosaic Idealize.ShloMosaic.TcCoe Idealize.SL.Sem

namespace Cert.Kernel7Ideal.Delta

open Cert.Kernel7Ideal Cert.Kernel7Ideal.Gen Cert.Kernel7Ideal.Value Cert.Delta

/-- A number at every lane. -/
def spread (b : BitVec 32) : IVec S128 32 := broadcastInDim S128 ![] bcast_S_S128 (constantI S_ 32 b)
/-- The lanes that hold the decays. -/
def inA : IVec S128 1 := andi (cmpi .sge (iotaInDim S128 32 0) (spread 8#32)) (cmpi .slt (iotaInDim S128 32 0) (spread 16#32))
/-- The lanes less eight, kept between zero and seven. -/
def clipped : IVec S128 32 := minsi (spread 7#32) (maxsi (spread 0#32) (subi (iotaInDim S128 32 0) (spread 8#32)))
/-- The head each lane takes its number from. -/
def headOf : IVec S128x1 32 :=
  broadcastInDim S128x1 ![0] bcast_S128_S128x1_0 (select (cmpi .slt clipped (spread 0#32)) (addi clipped (spread 8#32)) clipped)
/-- A row with zeros where no decay is. -/
def rowOf (x : FVec Ideal S128 .f32) : FVec Ideal S1x128 .f32 :=
  shapeCast S1x128 (select inA x (broadcastInDim S128 ![] bcast_S_S128 (constant (F := Ideal) S_ .f32 0x00000000#32))) shapeCasts_S128_S1x128
/-- Each lane's number, taken from its head. -/
def taken (x : FVec Ideal S8 .f32) : FVec Ideal S128 .f32 := Host.gather gather_S8_S128x1_S128_n_0_n_n_0_1_1 x headOf
/-- The negated decay rates by lane. -/
def negaRow (x : FVec Ideal S1x8 .f32) : FVec Ideal S1x128 .f32 :=
  rowOf (Host.negf (taken (Host.exp (shapeCast S8 x shapeCasts_S1x8_S8))))
/-- The offsets by lane. -/
def dtbRow (x : FVec Ideal S1x8 .f32) : FVec Ideal S1x128 .f32 := rowOf (taken (shapeCast S8 x shapeCasts_S1x8_S8))

/-- The lanes from eight on hold the decays. -/
theorem inA_at : ∀ h : Fin 8, inA (ix1 (lane8 h)) = 1#1 := by decide +kernel

/-- A number gathered at a lane is its head's. -/
theorem taken_at (x : FVec Ideal S8 .f32) (h : Fin 8) : taken x (ix1 (lane8 h)) = x (ix1 h) := by
  unfold taken Host.gather
  refine congrArg x ?_
  revert h
  decide +kernel

/-- A vector as a row, at an index. -/
theorem asRow_at (x : FVec Ideal S128 .f32) (l : Fin 128) : shapeCast S1x128 x shapeCasts_S128_S1x128 (ix2 0 l) = x (ix1 l) := by
  pointwise []
/-- A row as a vector, at an index. -/
theorem asVec_at (x : FVec Ideal S1x8 .f32) (h : Fin 8) : shapeCast S8 x shapeCasts_S1x8_S8 (ix1 h) = x (ix2 0 h) := by
  pointwise []
/-- The weights without their leading axis, at an index. -/
theorem taps_at (x : FVec Ideal S1x4x3072 .f32) (j : Fin 4) (l : Fin 3072) : shapeCast S4x3072 x shapeCasts_S1x4x3072_S4x3072 (ix2 j l) = x (ix3 0 j l) := by
  pointwise []
/-- The norm's weights read through a vector. -/
theorem gnrow_at (x : FVec Ideal S1x128 .f32) (e : Fin 128) :
    shapeCast S1x128 (shapeCast S128 x shapeCasts_S1x128_S128) shapeCasts_S128_S1x128 (ix2 0 e) = x (ix2 0 e) := by
  pointwise []
/-- A row at a lane that holds a decay. -/
theorem rowOf_at (x : FVec Ideal S128 .f32) (h : Fin 8) : rowOf x (ix2 0 (lane8 h)) = x (ix1 (lane8 h)) := by
  unfold rowOf
  rw [asRow_at]
  exact if_pos (inA_at h)

/-- The rates' row at a head's lane. -/
theorem negaRow_at (x : FVec Ideal S1x8 .f32) (h : Fin 8) : negaRow x (ix2 0 (lane8 h)) = -(Ideal.exp (x (ix2 0 h))) := by
  unfold negaRow
  rw [rowOf_at]
  show -(taken _ (ix1 (lane8 h))) = _
  rw [taken_at]
  show -(Ideal.exp (shapeCast S8 x shapeCasts_S1x8_S8 (ix1 h))) = _
  rw [asVec_at]
/-- The offsets' row at a head's lane. -/
theorem dtbRow_at (x : FVec Ideal S1x8 .f32) (h : Fin 8) : dtbRow x (ix2 0 (lane8 h)) = x (ix2 0 h) := by
  unfold dtbRow
  rw [rowOf_at, taken_at, asVec_at]

variable (m : (ℓ : Loc nD τ sig) → Buf (Elt Ideal) ℓ) (c : Dev nD)

set_option maxHeartbeats 1600000 in
/-- The rates' row the kernel is given. -/
theorem nega_entry : V m c main_v23 = negaRow (m ((c : Thread nD τ).loc main_arg2)) := by
  entry_read
  rfl
set_option maxHeartbeats 1600000 in
/-- The offsets' row the kernel is given. -/
theorem dtb_entry : V m c main_v32 = dtbRow (m ((c : Thread nD τ).loc main_arg3)) := by
  entry_read
  rfl
/-- The convolution's weights the kernel is given. -/
theorem cw_entry : V m c main_v0 = shapeCast S4x3072 (m ((c : Thread nD τ).loc main_arg1)) shapeCasts_S1x4x3072_S4x3072 := by
  entry_read
  rfl
/-- The norm's weights the kernel is given. -/
theorem gn_entry : V m c main_v33 = shapeCast S1x128 (shapeCast S128 (m ((c : Thread nD τ).loc main_arg4)) shapeCasts_S1x128_S128) shapeCasts_S128_S1x128 := by
  entry_read
  rfl

end Cert.Kernel7Ideal.Delta

end
-- ==== Proof.DeltaFold.lean ====
/-
  The blocks a grid point of the gated delta rule kernel reads, as entries of the arrays the call is given.
-/
module

public import proofs.«01_k».proof.Proof.DeltaHost
public import proofs.«01_k».proof.Proof.Whole
public import Idealize.ShloMosaic.Lib.Pipeline.ValueKit

@[expose] public section

set_option maxRecDepth 16384

noncomputable section

open Idealize.ShloMosaic Idealize.ShloMosaic.TcCoe Idealize.SL.Sem

namespace Cert.Kernel7Ideal.Delta

open Cert.Kernel7Ideal Cert.Kernel7Ideal.Gen Cert.Kernel7Ideal.Value Cert.Delta
open Cert.Chunk (rd2 rd2_eq)

variable (m : (ℓ : Loc nD τ sig) → Buf (Elt Ideal) ℓ) (c : Dev nD)

/-- The projections of sequence `b` at any position and lane. -/
def XS (b p l : ℕ) : EReal := rd2 (fun (r : Fin 32768) (l : Fin 4224) => m ((c : Thread nD τ).loc main_arg0) (ix2 r l)) (16384 * b + p) l
/-- The convolution's weights at any tap and channel. -/
def WS : ℕ → ℕ → EReal := rd2 fun (j : Fin 4) (l : Fin 3072) => m ((c : Thread nD τ).loc main_arg1) (ix3 0 j l)
/-- The decay rate of any head. -/
def AS (h : ℕ) : EReal := rd2 (fun (_ : Fin 1) (h : Fin 8) => m ((c : Thread nD τ).loc main_arg2) (ix2 0 h)) 0 h
/-- The offset of any head. -/
def DS (h : ℕ) : EReal := rd2 (fun (_ : Fin 1) (h : Fin 8) => m ((c : Thread nD τ).loc main_arg3) (ix2 0 h)) 0 h
/-- The norm's weights. -/
def GS (e : Fin 128) : EReal := m ((c : Thread nD τ).loc main_arg4) (ix2 0 e)

/-- The blocks of a point: 128 rows of the projections' column blocks, and the prepared arrays whole. -/
theorem idx : ∀ t : Fin cfg0.N, win0_0.index t = ![t.val, 0] ∧ win0_1.index t = ![t.val, 1] ∧ win0_2.index t = ![t.val, 2]
    ∧ win0_3.index t = ![t.val, 3] ∧ win0_4.index t = ![t.val, 32] ∧ win0_5.index t = ![0, 0] ∧ win0_6.index t = ![0, 0]
    ∧ win0_7.index t = ![0, 0] ∧ win0_8.index t = ![0, 0] :=
  (by decide +kernel : ∀ t : Fin grid0.N, _)

/-- The queries' block at an index is the projections' entry it was taken from. -/
theorem x0_at (t : Fin cfg0.N) (r : Fin 128) (l : Fin 1024) : X0_0 m c t (ix2 r l) = XS m c (t.val / 128) (128 * (t.val % 128) + r.val) (0 + l.val) := by
  have ht : t.val < 256 := lt_of_lt_of_eq t.isLt N_0
  rw [XS, rd2_eq _ ⟨128 * t.val + r.val, by omega⟩ ⟨0 + l.val, by omega⟩ _ _ (show 16384 * (t.val / 128) + (128 * (t.val % 128) + r.val) = 128 * t.val + r.val by omega) rfl]
  unfold X0_0 Pipeline.Window.fill
  rw [dif_pos (moved0_0 t _)]
  blk_ext [iblk, V, idx t]

/-- The keys' block at an index is the projections' entry it was taken from. -/
theorem x1_at (t : Fin cfg0.N) (r : Fin 128) (l : Fin 1024) : X0_1 m c t (ix2 r l) = XS m c (t.val / 128) (128 * (t.val % 128) + r.val) (1024 + l.val) := by
  have ht : t.val < 256 := lt_of_lt_of_eq t.isLt N_0
  rw [XS, rd2_eq _ ⟨128 * t.val + r.val, by omega⟩ ⟨1024 + l.val, by omega⟩ _ _ (show 16384 * (t.val / 128) + (128 * (t.val % 128) + r.val) = 128 * t.val + r.val by omega) rfl]
  unfold X0_1 Pipeline.Window.fill
  rw [dif_pos (moved0_1 t _)]
  blk_ext [iblk, V, idx t]

/-- The values' block at an index is the projections' entry it was taken from. -/
theorem x2_at (t : Fin cfg0.N) (r : Fin 128) (l : Fin 1024) : X0_2 m c t (ix2 r l) = XS m c (t.val / 128) (128 * (t.val % 128) + r.val) (2048 + l.val) := by
  have ht : t.val < 256 := lt_of_lt_of_eq t.isLt N_0
  rw [XS, rd2_eq _ ⟨128 * t.val + r.val, by omega⟩ ⟨2048 + l.val, by omega⟩ _ _ (show 16384 * (t.val / 128) + (128 * (t.val % 128) + r.val) = 128 * t.val + r.val by omega) rfl]
  unfold X0_2 Pipeline.Window.fill
  rw [dif_pos (moved0_2 t _)]
  blk_ext [iblk, V, idx t]

/-- The output gates' block at an index is the projections' entry it was taken from. -/
theorem x3_at (t : Fin cfg0.N) (r : Fin 128) (l : Fin 1024) : X0_3 m c t (ix2 r l) = XS m c (t.val / 128) (128 * (t.val % 128) + r.val) (3072 + l.val) := by
  have ht : t.val < 256 := lt_of_lt_of_eq t.isLt N_0
  rw [XS, rd2_eq _ ⟨128 * t.val + r.val, by omega⟩ ⟨3072 + l.val, by omega⟩ _ _ (show 16384 * (t.val / 128) + (128 * (t.val % 128) + r.val) = 128 * t.val + r.val by omega) rfl]
  unfold X0_3 Pipeline.Window.fill
  rw [dif_pos (moved0_3 t _)]
  blk_ext [iblk, V, idx t]

/-- The gates' block at an index is the projections' entry it was taken from. -/
theorem x4_at (t : Fin cfg0.N) (r l : Fin 128) : iblk m c 4 t (ix2 r l) = XS m c (t.val / 128) (128 * (t.val % 128) + r.val) (4096 + l.val) := by
  have ht : t.val < 256 := lt_of_lt_of_eq t.isLt N_0
  rw [XS, rd2_eq _ ⟨128 * t.val + r.val, by omega⟩ ⟨4096 + l.val, by omega⟩ _ _ (show 16384 * (t.val / 128) + (128 * (t.val % 128) + r.val) = 128 * t.val + r.val by omega) rfl]
  blk_ext [iblk, V, idx t]

/-- The convolution's weights' block at an index. -/
theorem x5_at (t : Fin cfg0.N) (j : Fin 4) (l : Fin 3072) : iblk m c 5 t (ix2 j l) = WS m c j.val l.val := by
  rw [WS, rd2_eq _ j l _ _ rfl rfl]
  refine Eq.trans ?_ ((congrFun (cw_entry m c) (ix2 j l)).trans (taps_at _ j l))
  blk_ext [iblk, idx t]

/-- The rates' block at a head's lane. -/
theorem x6_at (t : Fin cfg0.N) (h : Fin 8) : iblk m c 6 t (ix2 0 (lane8 h)) = -(Ideal.exp (AS m c h.val)) := by
  rw [AS, rd2_eq _ (0 : Fin 1) h 0 h.val rfl rfl]
  refine Eq.trans ?_ ((congrFun (nega_entry m c) (ix2 0 (lane8 h))).trans (negaRow_at _ h))
  blk_ext [iblk, idx t]

/-- The offsets' block at a head's lane. -/
theorem x7_at (t : Fin cfg0.N) (h : Fin 8) : iblk m c 7 t (ix2 0 (lane8 h)) = DS m c h.val := by
  rw [DS, rd2_eq _ (0 : Fin 1) h 0 h.val rfl rfl]
  refine Eq.trans ?_ ((congrFun (dtb_entry m c) (ix2 0 (lane8 h))).trans (dtbRow_at _ h))
  blk_ext [iblk, idx t]

/-- The norm's weights' block at an index. -/
theorem x8_at (t : Fin cfg0.N) (e : Fin 128) : iblk m c 8 t (ix2 0 e) = GS m c e := by
  rw [GS]
  refine Eq.trans ?_ ((congrFun (gn_entry m c) (ix2 0 e)).trans (gnrow_at _ e))
  blk_ext [iblk, idx t]

end Cert.Kernel7Ideal.Delta

end
-- ==== Proof.DeltaCarried.lean ====
/-
  The state and the rows the gated delta rule kernel carries from grid point to grid point, and the result array those
  leave, read at an index.
-/
module

public import proofs.«01_k».proof.Proof.DeltaBlockAt
public import proofs.«01_k».proof.Proof.DeltaChunk
public import proofs.«01_k».proof.Proof.DeltaFold

@[expose] public section

set_option maxRecDepth 16384

noncomputable section

open Idealize.ShloMosaic Idealize.ShloMosaic.TcCoe Idealize.SL.Sem

namespace Cert.Kernel7Ideal.Delta

open Cert.Kernel7Ideal Cert.Kernel7Ideal.Gen Cert.Kernel7Ideal.Value Cert.Delta

variable (m : (ℓ : Loc nD τ sig) → Buf (Elt Ideal) ℓ) (c : Dev nD)

/-- A part of a block at an index is the projections' entry it was taken from. -/
theorem part_at (t : Fin cfg0.N) (p : Fin 3) (r : Fin 128) (l : Fin 1024) :
    part (X0_0 m c t) (X0_1 m c t) (X0_2 m c t) p (ix2 r l) = XS m c (t.val / 128) (128 * (t.val % 128) + r.val) (1024 * p.val + l.val) := by
  match p with
  | ⟨0, _⟩ => exact x0_at m c t r l
  | ⟨1, _⟩ => exact x1_at m c t r l
  | ⟨2, _⟩ => exact x2_at m c t r l

/-- The rows before a block's convolution, from the eight rows kept before the block. -/
theorem over_at (t : Fin cfg0.N) (P : Fin 3 → Fin 136 → Fin 1024 → EReal) (p : Fin 3) (j : Fin 4) (r : Fin 128) (l : Fin 1024)
    (hP : ∀ ρ : Fin 136, 5 + j.val + r.val = ρ.val → ρ.val < 8 → P p ρ l = pad (XS m c (t.val / 128)) (128 * (t.val % 128) + (ρ.val - 5)) (1024 * p.val + l.val)) :
    over (X0_0 m c t) (X0_1 m c t) (X0_2 m c t) P p (trow j r) l
      = pad (XS m c (t.val / 128)) (128 * (t.val % 128) + r.val + j.val) (1024 * p.val + l.val) := by
  have hv : (trow j r).val = 5 + j.val + r.val := rfl
  unfold over
  by_cases hr : 8 ≤ (trow j r).val
  · rw [dif_pos hr, part_at, Cert.Delta.pad, if_neg (by omega)]
    exact congrArg (fun i => XS m c (t.val / 128) i (1024 * p.val + l.val))
      (show 128 * (t.val % 128) + ((trow j r).val - 8) = 128 * (t.val % 128) + r.val + j.val - 3 by omega)
  · rw [dif_neg hr, hP _ hv.symm (by omega)]
    exact congrArg (fun i => pad (XS m c (t.val / 128)) i (1024 * p.val + l.val))
      (show 128 * (t.val % 128) + ((trow j r).val - 5) = 128 * (t.val % 128) + r.val + j.val by omega)

/-- What a block reads, from what its convolution's rows are. -/
theorem reads_of (t : Fin cfg0.N) (arg7 : Memref sig .tc .vmem S4x3072 .f32) (harg7 : arg7.IsWhole) (rc : Fin 3 → Fin 4 → Fin 8 → FVec Ideal S1x128x128 .f32)
    (hc : ∀ p j h (r d : Fin 128), rc p j h (ix3 0 r d) = pad (XS m c (t.val / 128)) (128 * (t.val % 128) + r.val + j.val) (1024 * p.val + (128 * h.val + d.val))) :
    Reads (XS m c (t.val / 128)) (WS m c) (AS m c) (DS m c) (t.val % 128) (rdW (F := Ideal) arg7 harg7 (iblk m c 5 t)) rc (iblk m c 4 t) (iblk m c 6 t) (iblk m c 7 t) where
  w p j h d := (rdW_at arg7 harg7 _ p j h d).trans (x5_at m c t j (plane p h d))
  c := hc
  b r h := x4_at m c t r _
  g r h := (x4_at m c t r (lane8 h)).trans (congrArg (XS m c (t.val / 128) _) (show 4096 + (8 + h.val) = 4104 + h.val by omega))
  a h := x6_at m c t h
  t h := x7_at m c t h

/-- What the first block of a sequence reads. -/
theorem reads_A (t : Fin cfg0.N) (h0 : t.val % 128 = 0) (arg7 : Memref sig .tc .vmem S4x3072 .f32) (harg7 : arg7.IsWhole) (arg13 : Memref sig .tc .vmem S3x136x1024 .f32) :
    Reads (XS m c (t.val / 128)) (WS m c) (AS m c) (DS m c) (t.val % 128) (rdW (F := Ideal) arg7 harg7 (iblk m c 5 t))
      (rcA (F := Ideal) arg13 (X0_0 m c t) (X0_1 m c t) (X0_2 m c t)) (iblk m c 4 t) (iblk m c 6 t) (iblk m c 7 t) :=
  reads_of m c t arg7 harg7 _ fun p j h r d => (rcA_at _ _ _ arg13 p j h r d).trans
    (over_at m c t _ p j r (lane h d) fun ρ _ hρ => by
      rw [Cert.Delta.pad, if_pos (by omega)])

/-- What a later block of a sequence reads, from the rows the block before it kept. -/
theorem reads_B (t : Fin cfg0.N) (h0 : ¬t.val % 128 = 0) (arg7 : Memref sig .tc .vmem S4x3072 .f32) (harg7 : arg7.IsWhole) (arg13 : Memref sig .tc .vmem S3x136x1024 .f32)
    (harg13 : arg13.IsWhole) (xs : FVec Ideal S3x136x1024 .f32)
    (hx : ∀ (p : Fin 3) (r : Fin 8) (l : Fin 1024), xs (ix3 p ⟨r.val, by omega⟩ l) = XS m c (t.val / 128) (128 * (t.val % 128) + r.val - 8) (1024 * p.val + l.val)) :
    Reads (XS m c (t.val / 128)) (WS m c) (AS m c) (DS m c) (t.val % 128) (rdW (F := Ideal) arg7 harg7 (iblk m c 5 t))
      (rcB (F := Ideal) arg13 harg13 (X0_0 m c t) (X0_1 m c t) (X0_2 m c t) xs) (iblk m c 4 t) (iblk m c 6 t) (iblk m c 7 t) :=
  reads_of m c t arg7 harg7 _ fun p j h r d => (rcB_at _ _ _ arg13 harg13 xs p j h r d).trans
    (over_at m c t _ p j r (lane h d) fun ρ hj hρ => by
      refine (hx p ⟨ρ.val, hρ⟩ (lane h d)).trans ?_
      rw [Cert.Delta.pad, if_neg (by omega)]
      exact congrArg (fun i => XS m c (t.val / 128) i _)
        (show 128 * (t.val % 128) + ρ.val - 8 = 128 * (t.val % 128) + (ρ.val - 5) - 3 by omega))

/-- The state after point `n` at key lane `d` and value lane `e`. -/
abbrev stateS (n : ℕ) (h : Fin 8) (k : ℕ) (d e : Fin 128) : EReal := state (XS m c (n / 128)) (WS m c) (AS m c) (DS m c) h k d e

/-- The rows kept after a point are the last of its block. -/
theorem rows_carried (n : ℕ) (hn : n < cfg0.N) (p : Fin 3) (r : Fin 8) (l : Fin 1024) :
    (outsAt0 m c n hn).2.2 (ix3 p ⟨r.val, by omega⟩ l) = XS m c (n / 128) (128 * (n % 128) + (120 + r.val)) (1024 * p.val + l.val) := by
  cases n with
  | zero =>
    rw [outsAt0_zero, stAt0_A m c ⟨0, hn⟩ _ rfl]
    dsimp only
    rw [rows_A_at]
    exact part_at m c ⟨0, hn⟩ p _ l
  | succ n =>
    rw [outsAt0_succ]
    by_cases h0 : (n + 1) % 128 = 0
    · rw [stAt0_A m c ⟨n + 1, hn⟩ _ h0]
      dsimp only
      rw [rows_A_at]
      exact part_at m c ⟨n + 1, hn⟩ p _ l
    · rw [stAt0_B m c ⟨n + 1, hn⟩ _ h0]
      dsimp only
      rw [rows_B_at]
      exact part_at m c ⟨n + 1, hn⟩ p _ l

/-- The rows a later point finds are those just before its block. -/
theorem rows_found (n : ℕ) (hn : n + 1 < cfg0.N) (h0 : ¬(n + 1) % 128 = 0) (p : Fin 3) (r : Fin 8) (l : Fin 1024) :
    (outsAt0 m c n (Nat.lt_of_succ_lt hn)).2.2 (ix3 p ⟨r.val, by omega⟩ l)
      = XS m c ((n + 1) / 128) (128 * ((n + 1) % 128) + r.val - 8) (1024 * p.val + l.val) := by
  rw [rows_carried]
  have h1 : (n + 1) % 128 = n % 128 + 1 := by omega
  have h2 : (n + 1) / 128 = n / 128 := by omega
  have h3 : 128 * (n % 128) + (120 + r.val) = 128 * (n % 128 + 1) + r.val - 8 := by omega
  rw [h1, h2, h3]

/-- The state after a point is the sequence's. -/
theorem carried (n : ℕ) (hn : n < cfg0.N) (h : Fin 8) (d e : Fin 128) :
    (outsAt0 m c n hn).2.1 (ix3 h d e) = stateS m c n h (2 * (n % 128 + 1)) d e := by
  induction n generalizing d e with
  | zero =>
    rw [outsAt0_zero, stAt0_A m c ⟨0, hn⟩ _ rfl]
    dsimp only
    rw [state_A_at]
    exact last_state (reads_A m c ⟨0, hn⟩ rfl _ _ _) h _ (fun d e => stA_at _ h d e) d e
  | succ n ih =>
    rw [outsAt0_succ]
    by_cases h0 : (n + 1) % 128 = 0
    · rw [stAt0_A m c ⟨n + 1, hn⟩ _ h0]
      dsimp only
      rw [state_A_at]
      refine last_state (reads_A m c ⟨n + 1, hn⟩ h0 _ _ _) h _ (fun d e => (stA_at _ h d e).trans ?_) d e
      show _ = state _ _ _ _ _ (2 * ((n + 1) % 128)) _ _
      rw [h0]
      rfl
    · rw [stAt0_B m c ⟨n + 1, hn⟩ _ h0]
      dsimp only
      rw [state_B_at]
      refine last_state (reads_B m c ⟨n + 1, hn⟩ h0 _ _ _ _ _ (rows_found m c n hn h0)) h _ (fun d e => (stB_at _ _ _ h d e).trans ?_) d e
      rw [ih (Nat.lt_of_succ_lt hn)]
      show state (XS m c (n / 128)) _ _ _ _ _ _ _ = state (XS m c ((n + 1) / 128)) _ _ _ _ (2 * ((n + 1) % 128)) _ _
      have h1 : (n + 1) % 128 = n % 128 + 1 := by omega
      have h2 : (n + 1) / 128 = n / 128 := by omega
      rw [h1, h2]

/-- The state a later point finds. -/
theorem state_found (n : ℕ) (hn : n + 1 < cfg0.N) (h0 : ¬(n + 1) % 128 = 0) (h : Fin 8) (d e : Fin 128) :
    (outsAt0 m c n (Nat.lt_of_succ_lt hn)).2.1 (ix3 h d e) = stateS m c (n + 1) h (2 * ((n + 1) % 128)) d e := by
  rw [carried]
  have h1 : (n + 1) % 128 = n % 128 + 1 := by omega
  have h2 : (n + 1) / 128 = n / 128 := by omega
  show state (XS m c (n / 128)) _ _ _ _ _ _ _ = state (XS m c ((n + 1) / 128)) _ _ _ _ _ _ _
  rw [h1, h2]

/-- What a point writes of the result. -/
theorem written (n : ℕ) (hn : n < cfg0.N) (h : Fin 8) (k : Fin 2) (t : Fin 64) (e : Fin 128) :
    (outsAt0 m c n hn).1 (ix2 (row k t) (lane h e))
      = result (XS m c (n / 128)) (WS m c) (AS m c) (DS m c) h (GS m c) (2 * (n % 128) + k.val) t e := by
  cases n with
  | zero =>
    rw [outsAt0_zero, stAt0_A m c ⟨0, hn⟩ _ rfl]
    dsimp only
    rw [out_A_at]
    exact res_at (reads_A m c ⟨0, hn⟩ rfl _ _ _) h _ (fun d e => stA_at _ h d e) _ _ _ (x8_at m c ⟨0, hn⟩)
      (fun r e => (rdZ_at _ _ _ h r e).trans (x3_at m c ⟨0, hn⟩ r (lane h e))) k t e
  | succ n =>
    rw [outsAt0_succ]
    by_cases h0 : (n + 1) % 128 = 0
    · rw [stAt0_A m c ⟨n + 1, hn⟩ _ h0]
      dsimp only
      rw [out_A_at]
      refine res_at (reads_A m c ⟨n + 1, hn⟩ h0 _ _ _) h _ (fun d e => (stA_at _ h d e).trans ?_) _ _ _ (x8_at m c ⟨n + 1, hn⟩)
        (fun r e => (rdZ_at _ _ _ h r e).trans (x3_at m c ⟨n + 1, hn⟩ r (lane h e))) k t e
      show _ = state _ _ _ _ _ (2 * ((n + 1) % 128)) _ _
      rw [h0]
      rfl
    · rw [stAt0_B m c ⟨n + 1, hn⟩ _ h0]
      dsimp only
      rw [out_B_at]
      exact res_at (reads_B m c ⟨n + 1, hn⟩ h0 _ _ _ _ _ (rows_found m c n hn h0)) h _
        (fun d e => (stB_at _ _ _ h d e).trans (state_found m c n hn h0 h d e)) _ _ _ (x8_at m c ⟨n + 1, hn⟩)
        (fun r e => (rdZ_at _ _ _ h r e).trans (x3_at m c ⟨n + 1, hn⟩ r (lane h e))) k t e

/-- The result array at a row and lane. -/
theorem G9_at (b : Fin 2) (k : Fin 256) (t : Fin 64) (h : Fin 8) (e : Fin 128) (r : Fin 32768) (l : Fin 1024)
    (hr : r.val = 16384 * b.val + 64 * k.val + t.val) (hl : l.val = 128 * h.val + e.val) :
    G9 m c (ix2 r l) = result (XS m c b.val) (WS m c) (AS m c) (DS m c) h (GS m c) k.val t e := by
  have hN : cfg0.N = 256 := N_0
  have hp : pt9Of (ix2 r l) = r.val / 128 := by
    show 1 * (r.val / 128 - 0) + 1 * (l.val / 1024 - 0) = _
    omega
  have hlt : pt9Of (ix2 r l) < cfg0.N := by rw [hp, hN]; omega
  have hloc : loc9Of (ix2 r l) = ix2 (row ⟨k.val % 2, by omega⟩ t) (lane h e) := by
    funext a
    match a with
    | ⟨0, _⟩ => exact Fin.ext (show r.val % 128 = 64 * (k.val % 2) + t.val by omega)
    | ⟨1, _⟩ => exact Fin.ext (show l.val % 1024 = 128 * h.val + e.val by omega)
  unfold G9
  rw [dif_pos hlt, ← outsAt0_sweep m c _ hlt, hloc, written, hp]
  have e1 : r.val / 128 / 128 = b.val := by omega
  have e2 : 2 * (r.val / 128 % 128) + k.val % 2 = k.val := by omega
  rw [e1]
  show result _ _ _ _ _ _ (2 * (r.val / 128 % 128) + k.val % 2) _ _ = _
  rw [e2]

end Cert.Kernel7Ideal.Delta

end
-- ==== Proof.DeltaRunning.lean ====
/-
  The gated delta rule reference's running sum along the rows of a chunk, read at an index: a window of 64 rows padded low
  by 63 sums the rows up to and including the one read.
-/
module

public import proofs.«01_k».proof.Reference7Ideal
public import proofs.«01_k».proof.Proof.Running
public import Idealize.ShloMosaic.Lib.Pointwise

@[expose] public section

set_option maxRecDepth 16384

noncomputable section

open Idealize.ShloMosaic

namespace Cert.Reference7Ideal.Running

open Cert.Reference7Ideal

/-- The last 64 of the rows padded low by 63, row `t` the last, are the rows up to `t`. -/
theorem sum_shift (t : Fin 64) (g : Fin 64 → EReal) :
    (∑ n : Fin 64, if h : 63 ≤ t.val + n.val then g ⟨t.val + n.val - 63, by omega⟩ else 0)
      = ∑ s : Fin 64, if s.val ≤ t.val then g s else 0 := by
  refine Finset.sum_bij_ne_zero (fun n _ _ => (⟨(t.val + n.val + 1) % 64, Nat.mod_lt _ (by decide)⟩ : Fin 64)) ?_ ?_ ?_ ?_
  · intros; exact Finset.mem_univ _
  · intro a _ _ b _ _ hab
    have := congrArg Fin.val hab
    dsimp only at this
    exact Fin.ext (by omega)
  · intro s _ hs
    have hst : s.val ≤ t.val := by
      by_contra hn
      exact hs (if_neg hn)
    refine ⟨⟨s.val + 63 - t.val, by omega⟩, Finset.mem_univ _, ?_, ?_⟩
    · rw [if_pos hst] at hs
      rw [dif_pos (show 63 ≤ t.val + (s.val + 63 - t.val) by omega)]
      intro h0
      refine hs (Eq.trans (congrArg g (Fin.ext ?_)) h0)
      show s.val = t.val + (s.val + 63 - t.val) - 63
      omega
    · exact Fin.ext (show (t.val + (s.val + 63 - t.val) + 1) % 64 = s.val by omega)
  · intro n _ hn
    have h : 63 ≤ t.val + n.val := by
      by_contra h
      exact hn (dif_neg h)
    rw [dif_pos h, if_pos (show (t.val + n.val + 1) % 64 ≤ t.val by omega)]
    exact congrArg g (Fin.ext (show t.val + n.val - 63 = (t.val + n.val + 1) % 64 by omega))

/-- A sum over the indices of a window one row wide in every axis but the last is the sum over the last. -/
theorem sum_window (f : (⟨4, ![1, 1, 1, 64]⟩ : Shape).Idx → EReal) : ∑ w, f w = ∑ n : Fin 64, f (ix4 0 0 0 n) := by
  refine Finset.sum_nbij' (fun w => (w 3 : Fin 64)) (fun n => ix4 0 0 0 n) ?_ ?_ ?_ ?_ ?_
  · intros; exact Finset.mem_univ _
  · intros; exact Finset.mem_univ _
  · intro w _
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  · intro n _
    rfl
  · intro w _
    refine congrArg f ?_
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- The running sum over the rows of a chunk at an index. -/
theorem running_at (x : FVec Ideal S256x2x8x64 .f32) (init : FVec Ideal S_ .f32) (hi : ∀ j, init j = 0)
    (hw) (hu) (k : Fin 256) (b : Fin 2) (h : Fin 8) (t : Fin 64) :
    Host.reduceWindowAdd (F := Ideal) (s := S256x2x8x64) (t := S256x2x8x64) (u := S_) ![1, 1, 1, 64] ![1, 1, 1, 1] ![0, 0, 0, 63] ![0, 0, 0, 0] x init hw hu (ix4 k b h t)
      = ∑ s : Fin 64, if s.val ≤ t.val then x (ix4 k b h s) else 0 := by
  unfold Host.reduceWindowAdd
  rw [Ideal.hostReduceWindowAdd_def, hi, Cert.ReferenceIdeal.Running.window_sum, sum_window, ← sum_shift t fun s => x (ix4 k b h s)]
  refine Finset.sum_congr rfl fun n _ => ?_
  dsimp only
  by_cases hn : 63 ≤ t.val + n.val
  · rw [dif_pos hn, dif_pos]
    · refine congrArg x ?_
      funext a
      match a with
      | ⟨0, _⟩ => exact Fin.ext (show k.val * 1 + 0 - 0 = k.val by omega)
      | ⟨1, _⟩ => exact Fin.ext (show b.val * 1 + 0 - 0 = b.val by omega)
      | ⟨2, _⟩ => exact Fin.ext (show h.val * 1 + 0 - 0 = h.val by omega)
      | ⟨3, _⟩ => exact Fin.ext (show t.val * 1 + n.val - 63 = t.val + n.val - 63 by omega)
    · intro a
      match a with
      | ⟨0, _⟩ => show 0 ≤ k.val * 1 + 0 ∧ k.val * 1 + 0 - 0 < 256; omega
      | ⟨1, _⟩ => show 0 ≤ b.val * 1 + 0 ∧ b.val * 1 + 0 - 0 < 2; omega
      | ⟨2, _⟩ => show 0 ≤ h.val * 1 + 0 ∧ h.val * 1 + 0 - 0 < 8; omega
      | ⟨3, _⟩ => show 63 ≤ t.val * 1 + n.val ∧ t.val * 1 + n.val - 63 < 64; omega
  · rw [dif_neg hn, dif_neg]
    intro hin
    have h3 : 63 ≤ t.val * 1 + n.val := (hin 3).1
    omega

end Cert.Reference7Ideal.Running

end
-- ==== Proof.DeltaRefAt.lean ====
/-
  The gated delta rule reference's arrays before its loop, as functions of its arguments, and each read at an index: chunk,
  sequence, head, row of the chunk, lane.
-/
module

public import proofs.«01_k».proof.Proof.Gen.Reference7Ideal
public import proofs.«01_k».proof.Proof.DeltaRunning
public import Idealize.ShloMosaic.Lib.KernelVsHost
public import proofs.«01_k».proof.Proof.DeltaWhole
public import Idealize.ShloMosaic.Lib.Pointwise

@[expose] public section

set_option maxRecDepth 16384

noncomputable section

open Idealize.ShloMosaic Cert.Reference7Ideal Cert.Reference7Ideal.Gen Cert.Delta
open Cert.Chunk (rd2 rd2_eq normed)

namespace Cert.Reference7Ideal.Arrays

/-- An array over batch, position and channel. -/
abbrev Wide := FVec Ideal S2x16384x3072 .f32
/-- An array over batch, position, head and lane. -/
abbrev Long := FVec Ideal S2x16384x8x128 .f32
/-- An array over batch, position and head. -/
abbrev Thin := FVec Ideal S2x16384x8 .f32
/-- An array over chunk, batch, head, row and lane. -/
abbrev Chunked := FVec Ideal S256x2x8x64x128 .f32
/-- An array over chunk, batch, head and row. -/
abbrev ThinC := FVec Ideal S256x2x8x64 .f32
/-- An array over chunk, batch, head and two rows. -/
abbrev Square := FVec Ideal S256x2x8x64x64 .f32

/-- Zero. -/
def zero : FVec Ideal S_ .f32 := constant (F := Ideal) S_ .f32 0x00000000#32
/-- One. -/
def one : FVec Ideal S_ .f32 := constant (F := Ideal) S_ .f32 0x3F800000#32

variable (a : FVec Ideal S32768x4224 .f32) (cw : FVec Ideal S1x4x3072 .f32) (al dt : FVec Ideal S1x8 .f32)

/-- The projections by batch. -/
def proj : FVec Ideal S2x16384x4112 .f32 :=
  shapeCast S2x16384x4112 (extractStridedSlice S32768x4112 ![0, 0] a slices_S32768x4224_S32768x4112_0_0) shapeCasts_S32768x4112_S2x16384x4112
/-- The channels of the convolution. -/
def rawQkv : Wide := extractStridedSlice S2x16384x3072 ![0, 0, 0] (proj a) slices_S2x16384x4112_S2x16384x3072_0_0_0
/-- The output gates. -/
def rawZ : FVec Ideal S2x16384x1024 .f32 := extractStridedSlice S2x16384x1024 ![0, 0, 3072] (proj a) slices_S2x16384x4112_S2x16384x1024_0_0_3072
/-- The raw write strengths. -/
def rawB : Thin := extractStridedSlice S2x16384x8 ![0, 0, 4096] (proj a) slices_S2x16384x4112_S2x16384x8_0_0_4096
/-- The raw decays. -/
def rawA : Thin := extractStridedSlice S2x16384x8 ![0, 0, 4104] (proj a) slices_S2x16384x4112_S2x16384x8_0_0_4104
/-- The convolution's weights. -/
def weights : FVec Ideal S4x3072 .f32 := shapeCast S4x3072 cw shapeCasts_S1x4x3072_S4x3072

/-- Three rows of zeros before the channels. -/
def padded : FVec Ideal S2x16387x3072 .f32 :=
  pad S2x16387x3072 ![0, 3, 0] ![0, 0, 0] ![0, 0, 0] (rawQkv a) (sitofp (F := Ideal) .f32 (constantI S_ 32 0#32)) pads_S2x16384x3072_S2x16387x3072_000_300_000 h_S_

/-- One weight of every channel, at every position. -/
def every (w : FVec Ideal S1x3072 .f32) : Wide :=
  broadcastInDim S2x16384x3072 ![0, 1, 2] bcast_S1x1x3072_S2x16384x3072_0_1_2 (broadcastInDim S1x1x3072 ![2] bcast_S3072_S1x1x3072_2 (shapeCast S3072 w shapeCasts_S1x3072_S3072))

/-- The first tap. -/
def tap0 : Wide := mulf (every (extractStridedSlice S1x3072 ![0, 0] (weights cw) slices_S4x3072_S1x3072_0_0)) (extractStridedSlice S2x16384x3072 ![0, 0, 0] (padded a) slices_S2x16387x3072_S2x16384x3072_0_0_0)
/-- The second tap. -/
def tap1 : Wide := mulf (every (extractStridedSlice S1x3072 ![1, 0] (weights cw) slices_S4x3072_S1x3072_1_0)) (extractStridedSlice S2x16384x3072 ![0, 1, 0] (padded a) slices_S2x16387x3072_S2x16384x3072_0_1_0)
/-- The third tap. -/
def tap2 : Wide := mulf (every (extractStridedSlice S1x3072 ![2, 0] (weights cw) slices_S4x3072_S1x3072_2_0)) (extractStridedSlice S2x16384x3072 ![0, 2, 0] (padded a) slices_S2x16387x3072_S2x16384x3072_0_2_0)
/-- The fourth tap. -/
def tap3 : Wide := mulf (every (extractStridedSlice S1x3072 ![3, 0] (weights cw) slices_S4x3072_S1x3072_3_0)) (extractStridedSlice S2x16384x3072 ![0, 3, 0] (padded a) slices_S2x16387x3072_S2x16384x3072_0_3_0)

/-- The convolution. -/
def convd : Wide :=
  addf (addf (addf (addf (broadcastInDim S2x16384x3072 ![] bcast_S_S2x16384x3072 zero) (tap0 a cw)) (tap1 a cw)) (tap2 a cw)) (tap3 a cw)

/-- The logistic function at every channel, as the host expands it. -/
def sigmW (x : Wide) : Wide :=
  Host.divf (broadcastInDim S2x16384x3072 ![] bcast_S_S2x16384x3072 one) (addf (broadcastInDim S2x16384x3072 ![] bcast_S_S2x16384x3072 one) (Host.exp (Host.negf x)))
/-- The activated convolution. -/
def acts : Wide := mulf (convd a cw) (sigmW (convd a cw))

/-- The rows scaled to length one. -/
def units (x : Long) : Long :=
  mulf x (broadcastInDim S2x16384x8x128 ![0, 1, 2, 3] bcast_S2x16384x8x1_S2x16384x8x128_0_1_2_3
    (Host.rsqrt (addf (broadcastInDim S2x16384x8x1 ![0, 1, 2] bcast_S2x16384x8_S2x16384x8x1_0_1_2
      (Host.reduceAdd (mulf x x) zero reducesTo_S2x16384x8x128_S2x16384x8_d3 h_S_))
      (broadcastInDim S2x16384x8x1 ![] bcast_S_S2x16384x8x1 (constant (F := Ideal) S_ .f32 0x358637BD#32)))))

/-- The queries before the norm. -/
def actQ : Long := shapeCast S2x16384x8x128 (extractStridedSlice S2x16384x1024 ![0, 0, 0] (acts a cw) slices_S2x16384x3072_S2x16384x1024_0_0_0) shapeCasts_S2x16384x1024_S2x16384x8x128
/-- The keys before the norm. -/
def actK : Long := shapeCast S2x16384x8x128 (extractStridedSlice S2x16384x1024 ![0, 0, 1024] (acts a cw) slices_S2x16384x3072_S2x16384x1024_0_0_1024) shapeCasts_S2x16384x1024_S2x16384x8x128
/-- The values. -/
def actV : Long := shapeCast S2x16384x8x128 (extractStridedSlice S2x16384x1024 ![0, 0, 2048] (acts a cw) slices_S2x16384x3072_S2x16384x1024_0_0_2048) shapeCasts_S2x16384x1024_S2x16384x8x128

/-- The scaled queries. -/
def longQ : Long := mulf (units (actQ a cw)) (broadcastInDim S2x16384x8x128 ![] bcast_S_S2x16384x8x128 (constant (F := Ideal) S_ .f32 0x3DB504F3#32))
/-- The write strengths. -/
def longB : Thin :=
  Host.divf (broadcastInDim S2x16384x8 ![] bcast_S_S2x16384x8 one) (addf (broadcastInDim S2x16384x8 ![] bcast_S_S2x16384x8 one) (Host.exp (Host.negf (rawB a))))

/-- The same number for each head, at every position. -/
def heads (x : FVec Ideal S8 .f32) : Thin :=
  broadcastInDim S2x16384x8 ![0, 1, 2] bcast_S1x1x8_S2x16384x8_0_1_2 (broadcastInDim S1x1x8 ![2] bcast_S8_S1x1x8_2 x)

/-- The raw decays shifted. -/
def shifted : Thin := addf (rawA a) (heads (shapeCast S8 dt shapeCasts_S1x8_S8))
/-- Zero for each head, at every position. -/
def zeros8 : Thin := broadcastInDim S2x16384x8 ![] bcast_S_S2x16384x8 zero
/-- The logarithm of one plus the exponential. -/
def softs (x : Thin) : Thin :=
  select (cmpf .une (subf x zeros8) (subf x zeros8)) (addf x zeros8)
    (addf (maximumf x zeros8) (Host.log1p (Host.exp (Host.negf (Host.absf (subf x zeros8))))))
/-- The log decays. -/
def longG : Thin := mulf (heads (Host.negf (Host.exp (shapeCast S8 al shapeCasts_S1x8_S8)))) (softs (shifted a dt))

/-- Into chunks of 64 rows. -/
def chunked (x : Long) : Chunked :=
  transpose S256x2x8x64x128 [1, 0, 3, 2, 4] (shapeCast S2x256x64x8x128 x shapeCasts_S2x16384x8x128_S2x256x64x8x128)
    transposes_S2x256x64x8x128_S256x2x8x64x128_1_0_3_2_4
/-- Into chunks of 64 rows, a number for each head. -/
def chunkedT (x : Thin) : ThinC :=
  transpose S256x2x8x64 [1, 0, 3, 2] (shapeCast S2x256x64x8 x shapeCasts_S2x16384x8_S2x256x64x8)
    transposes_S2x256x64x8_S256x2x8x64_1_0_3_2

/-- The queries, by chunk. -/
def qs : Chunked := chunked (longQ a cw)
/-- The keys, by chunk. -/
def ks : Chunked := chunked (units (actK a cw))
/-- The values, by chunk. -/
def vs : Chunked := chunked (actV a cw)
/-- A number for each row, as a column. -/
def col (x : ThinC) : FVec Ideal S256x2x8x64x1 .f32 := broadcastInDim S256x2x8x64x1 ![0, 1, 2, 3] bcast_S256x2x8x64_S256x2x8x64x1_0_1_2_3 x
/-- A column along every lane. -/
def wide (x : FVec Ideal S256x2x8x64x1 .f32) : Chunked := broadcastInDim S256x2x8x64x128 ![0, 1, 2, 3, 4] bcast_S256x2x8x64x1_S256x2x8x64x128_0_1_2_3_4 x
/-- The write strengths, by chunk. -/
def bs : FVec Ideal S256x2x8x64x1 .f32 := col (chunkedT (longB a))
/-- The log decays, by chunk. -/
def gs : ThinC := chunkedT (longG a al dt)

/-- The log decays summed along the rows of a chunk. -/
def cs : ThinC :=
  Host.reduceWindowAdd (F := Ideal) ![1, 1, 1, 64] ![1, 1, 1, 1] ![0, 0, 0, 63] ![0, 0, 0, 0] (gs a al dt)
    (broadcastInDim S_ ![] bcast_S_S_ zero)
    reduceWindows_S256x2x8x64_S256x2x8x64_w1s1p0_0_w1s1p0_0_w1s1p0_0_w64s1p63_0 h_S_

/-- The lower triangle from a diagonal on. -/
def tri (c : BitVec 32) : IVec S64x64 1 :=
  select (cmpi .sge (addi (iotaInDim S64x64 32 0) (broadcastInDim S64x64 ![] bcast_S_S64x64 (constantI S_ 32 c))) (iotaInDim S64x64 32 1))
    (broadcastInDim S64x64 ![] bcast_S_S64x64 (constantI S_ 1 1#1)) (broadcastInDim S64x64 ![] bcast_S_S64x64 (constantI S_ 1 0#1))

/-- A matrix where the mask is set, zero elsewhere. -/
def masked (m : IVec S64x64 1) (x : Square) : Square :=
  select (broadcastInDim S256x2x8x64x64 ![3, 4] bcast_S64x64_S256x2x8x64x64_3_4 m) x (broadcastInDim S256x2x8x64x64 ![] bcast_S_S256x2x8x64x64 (id zero))

/-- The differences of the running sums. -/
def diffs : Square :=
  subf (broadcastInDim S256x2x8x64x64 ![0, 1, 2, 3, 4] bcast_S256x2x8x64x1_S256x2x8x64x64_0_1_2_3_4 (col (cs a al dt)))
    (broadcastInDim S256x2x8x64x64 ![0, 1, 2, 3, 4] bcast_S256x2x8x1x64_S256x2x8x64x64_0_1_2_3_4
      (broadcastInDim S256x2x8x1x64 ![0, 1, 2, 4] bcast_S256x2x8x64_S256x2x8x1x64_0_1_2_4 (cs a al dt)))
/-- The decays between two rows. -/
def lms : Square := masked (tri 0#32) (Host.exp (F := Ideal) (φ := .f32) (masked (tri 0#32) (diffs a al dt)))

/-- The weighted keys. -/
def kbs : Chunked := mulf (ks a cw) (wide (bs a))
/-- The scores of the keys. -/
def asC : Square :=
  masked (tri 4294967295#32) (mulf (Host.dotGeneral (F := Ideal) dot_S256x2x8x64x128_S256x2x8x64x128_S256x2x8x64x64_4_4_3_3_012_012 none (kbs a cw) (ks a cw)) (lms a al dt))

/-- The identity. -/
def eyeM : FVec Ideal S64x64 .f32 :=
  uitofp (F := Ideal) .f32 (cmpi .eq (addi (iotaInDim S64x64 32 0) (broadcastInDim S64x64 ![] bcast_S_S64x64 (constantI S_ 32 0#32))) (iotaInDim S64x64 32 1))
/-- One step of the substitution. -/
def substep (x t : Square) : Square :=
  subf (broadcastInDim S256x2x8x64x64 ![0, 1, 2, 3, 4] bcast_S1x1x1x64x64_S256x2x8x64x64_0_1_2_3_4 (broadcastInDim S1x1x1x64x64 ![3, 4] bcast_S64x64_S1x1x1x64x64_3_4 eyeM))
    (Host.dotGeneral (F := Ideal) dot_S256x2x8x64x64_S256x2x8x64x64_S256x2x8x64x64_4_3_3_4_012_012 none x t)
/-- Eight steps. -/
def eight (x t : Square) : Square :=
  substep x (substep x (substep x (substep x (substep x (substep x (substep x (substep x t)))))))
/-- The inverse. -/
def inv (x : Square) : Square :=
  eight x (eight x (eight x (eight x (eight x (eight x (eight x (eight x (broadcastInDim S256x2x8x64x64 ![] bcast_S_S256x2x8x64x64 zero))))))))

/-- A square times a tile. -/
def sqt (x : Square) (y : Chunked) : Chunked := Host.dotGeneral (F := Ideal) dot_S256x2x8x64x64_S256x2x8x64x128_S256x2x8x64x128_4_3_3_4_012_012 none x y

/-- The inverse applied to the weighted values. -/
def values : Chunked := sqt (inv (asC a cw al dt)) (mulf (vs a cw) (wide (bs a)))
/-- The inverse applied to the weighted and decayed keys. -/
def kcums : Chunked := sqt (inv (asC a cw al dt)) (mulf (kbs a cw) (wide (col (Host.exp (F := Ideal) (φ := .f32) (cs a al dt)))))
/-- The scores of the queries. -/
def attns : Square := mulf (Host.dotGeneral (F := Ideal) dot_S256x2x8x64x128_S256x2x8x64x128_S256x2x8x64x64_4_4_3_3_012_012 none (qs a cw) (ks a cw)) (lms a al dt)
/-- The decayed queries. -/
def qdecs : Chunked := mulf (qs a cw) (wide (col (Host.exp (F := Ideal) (φ := .f32) (cs a al dt))))
/-- The last of the running sums. -/
def lasts : FVec Ideal S256x2x8x1 .f32 := extractStridedSlice S256x2x8x1 ![0, 0, 0, 63] (cs a al dt) slices_S256x2x8x64_S256x2x8x1_0_0_0_63
/-- The keys decayed to the end of the chunk. -/
def ktails : Chunked :=
  mulf (ks a cw) (wide (col (Host.exp (F := Ideal) (φ := .f32) (subf (broadcastInDim S256x2x8x64 ![0, 1, 2, 3] bcast_S256x2x8x1_S256x2x8x64_0_1_2_3 (lasts a al dt)) (cs a al dt)))))
/-- The decay of a whole chunk. -/
def tots : FVec Ideal S256x2x8 .f32 := Host.exp (F := Ideal) (φ := .f32) (shapeCast S256x2x8 (lasts a al dt) shapeCasts_S256x2x8x1_S256x2x8)

/-! ## Read at an index -/

/-- The projections of one sequence at any position and lane. -/
def XR (b : Fin 2) (p l : ℕ) : EReal := rd2 (fun (r : Fin 32768) (l : Fin 4224) => a (ix2 r l)) (16384 * b.val + p) l
/-- The weights at any tap and channel. -/
def WR : ℕ → ℕ → EReal := rd2 fun (j : Fin 4) (l : Fin 3072) => cw (ix3 0 j l)
/-- A number for each head, at any head. -/
def HR (x : FVec Ideal S1x8 .f32) (h : ℕ) : EReal := rd2 (fun (_ : Fin 1) (h : Fin 8) => x (ix2 0 h)) 0 h

/-- The projections by sequence, at an index. -/
theorem proj_at (b : Fin 2) (r : Fin 16384) (l : Fin 4112) : proj a (ix3 b r l) = XR a b r.val l.val := by
  rw [XR, rd2_eq _ ⟨16384 * b.val + r.val, by omega⟩ (⟨l.val, by omega⟩ : Fin 4224) _ _ rfl rfl]
  pointwise [proj]
  simp only [Nat.mul_comm]

/-- The channels at an index. -/
theorem rawQkv_at (b : Fin 2) (r : Fin 16384) (l : Fin 3072) : rawQkv a (ix3 b r l) = XR a b r.val l.val := by
  refine Eq.trans ?_ (proj_at a b r ⟨l.val, by omega⟩)
  pointwise [rawQkv]
/-- The output gates at an index. -/
theorem rawZ_at (b : Fin 2) (r : Fin 16384) (l : Fin 1024) : rawZ a (ix3 b r l) = XR a b r.val (3072 + l.val) := by
  refine Eq.trans ?_ (proj_at a b r ⟨3072 + l.val, by omega⟩)
  pointwise [rawZ]
/-- The raw write strengths at an index. -/
theorem rawB_at (b : Fin 2) (r : Fin 16384) (h : Fin 8) : rawB a (ix3 b r h) = XR a b r.val (4096 + h.val) := by
  refine Eq.trans ?_ (proj_at a b r ⟨4096 + h.val, by omega⟩)
  pointwise [rawB]
/-- The raw decays at an index. -/
theorem rawA_at (b : Fin 2) (r : Fin 16384) (h : Fin 8) : rawA a (ix3 b r h) = XR a b r.val (4104 + h.val) := by
  refine Eq.trans ?_ (proj_at a b r ⟨4104 + h.val, by omega⟩)
  pointwise [rawA]

/-- The integer zero as a number. -/
theorem sitofp_zero : (FloatOps.sitofp (F := Ideal) FTy.f32 (0#32) : EReal) = 0 := by
  show (((0#32 : BitVec 32).toInt : ℝ) : EReal) = 0
  rw [show (0#32 : BitVec 32).toInt = 0 from by decide]; norm_num

/-- The padded channels at an index. -/
theorem padded_at (b : Fin 2) (r : Fin 16387) (l : Fin 3072) : padded a (ix3 b r l) = Cert.Delta.pad (XR a b) r.val l.val := by
  unfold padded Cert.Delta.pad
  by_cases h3 : r.val < 3
  · rw [if_pos h3, pad_apply_of_not_inside _ _ _ _ _ _ _ (ix3 b r l) (1 : Fin 3) ?_]
    · exact sitofp_zero
    · intro hin
      have h1 : 3 ≤ r.val := hin.1
      omega
  · rw [if_neg h3, pad_apply_of_inside _ _ _ _ _ _ _ (ix3 b r l) (ix3 b ⟨r.val - 3, by omega⟩ l) ?_]
    · exact rawQkv_at a b ⟨r.val - 3, by omega⟩ l
    · intro x
      match x with
      | ⟨0, _⟩ => show b.val = 0 + b.val * (0 + 1); omega
      | ⟨1, _⟩ => show r.val = 3 + (r.val - 3) * (0 + 1); omega
      | ⟨2, _⟩ => show l.val = 0 + l.val * (0 + 1); omega

/-- The weights at an index. -/
theorem weights_at (j : Fin 4) (l : Fin 3072) : weights cw (ix2 j l) = WR cw j.val l.val := by
  rw [WR, rd2_eq _ j l _ _ rfl rfl]
  pointwise [weights]

/-- One weight of every channel at an index. -/
theorem every_at (w : FVec Ideal S1x3072 .f32) (b : Fin 2) (r : Fin 16384) (l : Fin 3072) : every w (ix3 b r l) = w (ix2 0 l) := by
  pointwise [every]

/-- The first tap at an index. -/
theorem tap0_at (b : Fin 2) (r : Fin 16384) (l : Fin 3072) : tap0 a cw (ix3 b r l) = WR cw 0 l.val * Cert.Delta.pad (XR a b) r.val l.val := by
  have hp : tap0 a cw (ix3 b r l) = weights cw (ix2 0 l) * padded a (ix3 b ⟨r.val, by omega⟩ l) := by
    pointwise [tap0, every_at]
  rw [hp, weights_at, padded_at]
  rfl
/-- The second tap at an index. -/
theorem tap1_at (b : Fin 2) (r : Fin 16384) (l : Fin 3072) : tap1 a cw (ix3 b r l) = WR cw 1 l.val * Cert.Delta.pad (XR a b) (r.val + 1) l.val := by
  have hp : tap1 a cw (ix3 b r l) = weights cw (ix2 1 l) * padded a (ix3 b ⟨1 + r.val, by omega⟩ l) := by
    pointwise [tap1, every_at]
  rw [hp, weights_at, padded_at]
  exact congrArg (fun n => WR cw 1 l.val * Cert.Delta.pad (XR a b) n l.val) (Nat.add_comm 1 r.val)
/-- The third tap at an index. -/
theorem tap2_at (b : Fin 2) (r : Fin 16384) (l : Fin 3072) : tap2 a cw (ix3 b r l) = WR cw 2 l.val * Cert.Delta.pad (XR a b) (r.val + 2) l.val := by
  have hp : tap2 a cw (ix3 b r l) = weights cw (ix2 2 l) * padded a (ix3 b ⟨2 + r.val, by omega⟩ l) := by
    pointwise [tap2, every_at]
  rw [hp, weights_at, padded_at]
  exact congrArg (fun n => WR cw 2 l.val * Cert.Delta.pad (XR a b) n l.val) (Nat.add_comm 2 r.val)
/-- The fourth tap at an index. -/
theorem tap3_at (b : Fin 2) (r : Fin 16384) (l : Fin 3072) : tap3 a cw (ix3 b r l) = WR cw 3 l.val * Cert.Delta.pad (XR a b) (r.val + 3) l.val := by
  have hp : tap3 a cw (ix3 b r l) = weights cw (ix2 3 l) * padded a (ix3 b ⟨3 + r.val, by omega⟩ l) := by
    pointwise [tap3, every_at]
  rw [hp, weights_at, padded_at]
  exact congrArg (fun n => WR cw 3 l.val * Cert.Delta.pad (XR a b) n l.val) (Nat.add_comm 3 r.val)

/-- The convolution at an index. -/
theorem convd_at (b : Fin 2) (r : Fin 16384) (l : Fin 3072) : convd a cw (ix3 b r l) = conv (XR a b) (WR cw) r.val l.val := by
  rw [conv, ← tap0_at, ← tap1_at, ← tap2_at, ← tap3_at]
  have hp : convd a cw (ix3 b r l) = 0 + tap0 a cw (ix3 b r l) + tap1 a cw (ix3 b r l) + tap2 a cw (ix3 b r l) + tap3 a cw (ix3 b r l) := by
    pointwise [convd, zero]
  rw [hp, zero_add]

/-- The logistic function at an index. -/
theorem sigmW_at (x : Wide) (b : Fin 2) (r : Fin 16384) (l : Fin 3072) : sigmW x (ix3 b r l) = Ideal.logistic (x (ix3 b r l)) := by
  pointwise [sigmW, one]
  rfl

/-- The activated convolution at an index. -/
theorem acts_at (b : Fin 2) (r : Fin 16384) (l : Fin 3072) : acts a cw (ix3 b r l) = act (XR a b) (WR cw) r.val l.val := by
  rw [act, silu, ← convd_at]
  pointwise [acts, sigmW_at]

/-- The queries before the norm at an index. -/
theorem actQ_at (b : Fin 2) (r : Fin 16384) (h : Fin 8) (d : Fin 128) :
    actQ a cw (ix4 b r h d) = act (XR a b) (WR cw) r.val (128 * h.val + d.val) := by
  refine Eq.trans ?_ (acts_at a cw b r ⟨128 * h.val + d.val, by omega⟩)
  pointwise [actQ]
  simp only [Nat.mul_comm]
/-- The keys before the norm at an index. -/
theorem actK_at (b : Fin 2) (r : Fin 16384) (h : Fin 8) (d : Fin 128) :
    actK a cw (ix4 b r h d) = act (XR a b) (WR cw) r.val (1024 + (128 * h.val + d.val)) := by
  refine Eq.trans ?_ (acts_at a cw b r ⟨1024 + (128 * h.val + d.val), by omega⟩)
  pointwise [actK]
  simp only [Nat.mul_comm]
/-- The values at an index. -/
theorem actV_at (b : Fin 2) (r : Fin 16384) (h : Fin 8) (d : Fin 128) :
    actV a cw (ix4 b r h d) = act (XR a b) (WR cw) r.val (2048 + (128 * h.val + d.val)) := by
  refine Eq.trans ?_ (acts_at a cw b r ⟨2048 + (128 * h.val + d.val), by omega⟩)
  pointwise [actV]
  simp only [Nat.mul_comm]

/-- The rows scaled to length one, at an index. -/
theorem units_at (x : Long) (b : Fin 2) (r : Fin 16384) (h : Fin 8) (d : Fin 128) :
    units x (ix4 b r h d) = unit (fun d => x (ix4 b r h d)) d := by
  pointwise [units, unit, zero]

/-- An array cut into chunks, at an index. -/
theorem chunked_at (x : Long) (k : Fin 256) (b : Fin 2) (h : Fin 8) (t : Fin 64) (d : Fin 128) :
    chunked x (ix5 k b h t d) = x (ix4 b ⟨64 * k.val + t.val, by omega⟩ h d) := by
  pointwise [chunked]
  simp only [Nat.mul_comm]
/-- A number for each head cut into chunks, at an index. -/
theorem chunkedT_at (x : Thin) (k : Fin 256) (b : Fin 2) (h : Fin 8) (t : Fin 64) :
    chunkedT x (ix4 k b h t) = x (ix3 b ⟨64 * k.val + t.val, by omega⟩ h) := by
  pointwise [chunkedT]
  simp only [Nat.mul_comm]

/-- A number for each head at an index. -/
theorem heads_at (x : FVec Ideal S8 .f32) (b : Fin 2) (r : Fin 16384) (h : Fin 8) : heads x (ix3 b r h) = x (ix1 h) := by
  pointwise [heads]

/-- The shifts at an index. -/
theorem vec8_at (x : FVec Ideal S1x8 .f32) (h : Fin 8) : shapeCast S8 x shapeCasts_S1x8_S8 (ix1 h) = HR x h.val := by
  refine Eq.trans ?_ (rd2_eq (fun (_ : Fin 1) (h : Fin 8) => x (ix2 0 h)) (0 : Fin 1) h 0 h.val rfl rfl).symm
  pointwise []

/-- No number differs from itself. -/
theorem une_self (x : EReal) : FloatOps.cmpf (F := Ideal) (φ := .f32) .une x x = 0#1 := by
  show BitVec.ofBool _ = _
  simp

/-- The logarithm of one plus the exponential at an index. -/
theorem softs_at (x : Thin) (b : Fin 2) (r : Fin 16384) (h : Fin 8) : softs x (ix3 b r h) = softplus (x (ix3 b r h)) := by
  have hz : ∀ j, zeros8 j = 0 := by
    intro j
    pointwise [zeros8, zero]
  have hs : subf x zeros8 (ix3 b r h) = x (ix3 b r h) := by
    show x (ix3 b r h) - zeros8 (ix3 b r h) = _
    rw [hz]
    exact sub_zero _
  show Scalar.select (FloatOps.cmpf (F := Ideal) (φ := .f32) .une (subf x zeros8 (ix3 b r h)) (subf x zeros8 (ix3 b r h))) _
    (max (x (ix3 b r h)) (zeros8 (ix3 b r h)) + Ideal.log1p (Ideal.exp (-(max (subf x zeros8 (ix3 b r h)) (-(subf x zeros8 (ix3 b r h))))))) = _
  rw [une_self, Scalar.select, if_neg (by decide), hs, hz]
  rfl

/-- The log decays at an index. -/
theorem longG_at (b : Fin 2) (r : Fin 16384) (h : Fin 8) :
    longG a al dt (ix3 b r h) = -(Ideal.exp (HR al h.val)) * softplus (XR a b r.val (4104 + h.val) + HR dt h.val) := by
  have hp : longG a al dt (ix3 b r h) = heads (Host.negf (Host.exp (shapeCast S8 al shapeCasts_S1x8_S8))) (ix3 b r h)
      * softs (addf (rawA a) (heads (shapeCast S8 dt shapeCasts_S1x8_S8))) (ix3 b r h) := rfl
  rw [hp, heads_at, softs_at, ← vec8_at al h, ← vec8_at dt h, ← rawA_at a b r h, ← heads_at (shapeCast S8 dt shapeCasts_S1x8_S8) b r h]
  rfl

/-- The write strengths at an index. -/
theorem longB_at (b : Fin 2) (r : Fin 16384) (h : Fin 8) : longB a (ix3 b r h) = Ideal.logistic (XR a b r.val (4096 + h.val)) := by
  rw [← rawB_at a b r h]
  pointwise [longB, one]
  rfl

section
variable (k : Fin 256) (b : Fin 2) (h : Fin 8) (t s : Fin 64) (d e : Fin 128)

/-- The queries by chunk, at an index. -/
theorem qs_at : qs a cw (ix5 k b h t d) = qT (XR a b) (WR cw) h k.val t d := by
  rw [qs, chunked_at, qT]
  have hp : longQ a cw (ix4 b ⟨64 * k.val + t.val, by omega⟩ h d) = units (actQ a cw) (ix4 b ⟨64 * k.val + t.val, by omega⟩ h d) * Ideal.ofBits .f32 0x3DB504F3#32 := by
    pointwise [longQ]
  rw [hp, units_at]
  simp only [actQ_at]
/-- The keys by chunk, at an index. -/
theorem ks_at : ks a cw (ix5 k b h t d) = kT (XR a b) (WR cw) h k.val t d := by
  rw [ks, chunked_at, kT, units_at]
  simp only [actK_at]
/-- The values by chunk, at an index. -/
theorem vs_at : vs a cw (ix5 k b h t d) = vT (XR a b) (WR cw) h k.val t d := by
  rw [vs, chunked_at, vT, actV_at]
/-- A column at an index. -/
theorem col_at (x : ThinC) : col x (ix5 k b h t 0) = x (ix4 k b h t) := by
  pointwise [col]
/-- A column along every lane at an index. -/
theorem wide_at (x : FVec Ideal S256x2x8x64x1 .f32) : wide x (ix5 k b h t d) = x (ix5 k b h t 0) := by
  pointwise [wide]
/-- The write strengths by chunk, at an index. -/
theorem bs_at : bs a (ix5 k b h t 0) = bT (XR a b) h k.val t := by
  rw [bs, col_at, chunkedT_at, longB_at, bT]
/-- The log decays by chunk, at an index. -/
theorem gs_at : gs a al dt (ix4 k b h t) = gT (XR a b) (HR al) (HR dt) h k.val t := by
  rw [gs, chunkedT_at, longG_at, gT]

/-- The running sums by chunk, at an index. -/
theorem cs_at : cs a al dt (ix4 k b h t) = cum (gT (XR a b) (HR al) (HR dt) h k.val) t := by
  rw [cs, Running.running_at]
  · rw [cum]
    refine Finset.sum_congr rfl fun s _ => ?_
    rw [gs_at]
  · intro j
    pointwise [zero]

/-- The lower triangle at an index. -/
theorem tri_at : tri 0#32 (ix2 t s) = if s.val ≤ t.val then 1#1 else 0#1 := by
  revert t s
  decide +kernel
/-- The strict triangle at an index. -/
theorem strict_at : tri 4294967295#32 (ix2 t s) = if s.val < t.val then 1#1 else 0#1 := by
  revert t s
  decide +kernel

/-- A masked matrix at an index. -/
theorem masked_at (m : IVec S64x64 1) (x : Square) : masked m x (ix5 k b h t s) = Scalar.select (m (ix2 t s)) (x (ix5 k b h t s)) 0 := by
  rw [masked, id_eq]
  pointwise [zero]

/-- The differences of the running sums at an index. -/
theorem diffs_at : diffs a al dt (ix5 k b h t s) = cum (gT (XR a b) (HR al) (HR dt) h k.val) t - cum (gT (XR a b) (HR al) (HR dt) h k.val) s := by
  rw [← cs_at, ← cs_at]
  pointwise [diffs, col]

/-- The decays at an index. -/
theorem lms_at : lms a al dt (ix5 k b h t s) = decay (gT (XR a b) (HR al) (HR dt) h k.val) t s := by
  have hp : lms a al dt (ix5 k b h t s) = Scalar.select (tri 0#32 (ix2 t s)) (Ideal.exp (masked (tri 0#32) (diffs a al dt) (ix5 k b h t s))) 0 := by
    rw [lms, masked_at]
    rfl
  rw [hp, masked_at, tri_at, diffs_at, decay]
  by_cases hc : s.val ≤ t.val
  · rw [if_pos hc, if_pos hc, Scalar.select, if_pos (by decide), Scalar.select, if_pos (by decide)]
  · rw [if_neg hc, if_neg hc, Scalar.select, if_neg (by decide)]

/-- The weighted keys at an index. -/
theorem kbs_at : kbs a cw (ix5 k b h t d) = kT (XR a b) (WR cw) h k.val t d * bT (XR a b) h k.val t := by
  rw [← ks_at, ← bs_at, ← wide_at k b h t d (bs a)]
  rfl

/-- The products of the rows of two arrays at an index. -/
theorem dots_at (x y : Chunked) : Host.dotGeneral (F := Ideal) dot_S256x2x8x64x128_S256x2x8x64x128_S256x2x8x64x64_4_4_3_3_012_012 none x y (ix5 k b h t s)
    = ∑ d : Fin 128, x (ix5 k b h t d) * y (ix5 k b h s d) := by
  pointwise []

/-- The scores of the keys at an index. -/
theorem as_at : asC a cw al dt (ix5 k b h t s)
    = scores (kT (XR a b) (WR cw) h k.val) (bT (XR a b) h k.val) (gT (XR a b) (HR al) (HR dt) h k.val) t s := by
  have hp : asC a cw al dt (ix5 k b h t s) = Scalar.select (tri 4294967295#32 (ix2 t s))
      (Host.dotGeneral (F := Ideal) dot_S256x2x8x64x128_S256x2x8x64x128_S256x2x8x64x64_4_4_3_3_012_012 none (kbs a cw) (ks a cw) (ix5 k b h t s) * lms a al dt (ix5 k b h t s)) 0 := by
    rw [asC, masked_at]
    rfl
  rw [hp, strict_at, dots_at, lms_at, scores]
  by_cases hc : s.val < t.val
  · rw [if_pos hc, if_pos hc, Scalar.select, if_pos (by decide)]
    refine congrArg (· * _) (Finset.sum_congr rfl fun d _ => ?_)
    rw [kbs_at, ks_at]
  · rw [if_neg hc, if_neg hc, Scalar.select, if_neg (by decide)]

/-- The bit one as a number. -/
theorem uitofp_one : (FloatOps.uitofp (F := Ideal) FTy.f32 (1#1) : EReal) = 1 := by
  show (((1#1 : BitVec 1).toNat : ℝ) : EReal) = 1
  rw [show (1#1 : BitVec 1).toNat = 1 from by decide]; norm_num
/-- The bit zero as a number. -/
theorem uitofp_zero : (FloatOps.uitofp (F := Ideal) FTy.f32 (0#1) : EReal) = 0 := by
  show (((0#1 : BitVec 1).toNat : ℝ) : EReal) = 0
  rw [show (0#1 : BitVec 1).toNat = 0 from by decide]; norm_num

/-- The identity at an index. -/
theorem eyeM_at : eyeM (ix2 t s) = eye t s := by
  have hw : ∀ t s : Fin 64, cmpi .eq (addi (iotaInDim S64x64 32 0) (broadcastInDim S64x64 ![] bcast_S_S64x64 (constantI S_ 32 0#32))) (iotaInDim S64x64 32 1) (ix2 t s)
      = if t.val = s.val then 1#1 else 0#1 := by decide +kernel
  show FloatOps.uitofp (F := Ideal) FTy.f32 (cmpi .eq (addi (iotaInDim S64x64 32 0) (broadcastInDim S64x64 ![] bcast_S_S64x64 (constantI S_ 32 0#32))) (iotaInDim S64x64 32 1) (ix2 t s)) = _
  rw [hw]
  unfold eye
  by_cases hc : t.val = s.val
  · rw [if_pos hc, if_pos hc]
    exact uitofp_one
  · rw [if_neg hc, if_neg hc]
    exact uitofp_zero

/-- The product of two squares at an index. -/
theorem sqs_at (x y : Square) : Host.dotGeneral (F := Ideal) dot_S256x2x8x64x64_S256x2x8x64x64_S256x2x8x64x64_4_3_3_4_012_012 none x y (ix5 k b h t s)
    = ∑ r : Fin 64, x (ix5 k b h t r) * y (ix5 k b h r s) := by
  pointwise []

/-- The identity of every chunk at an index. -/
theorem eyes_at : broadcastInDim S256x2x8x64x64 ![0, 1, 2, 3, 4] bcast_S1x1x1x64x64_S256x2x8x64x64_0_1_2_3_4 (broadcastInDim S1x1x1x64x64 ![3, 4] bcast_S64x64_S1x1x1x64x64_3_4 eyeM) (ix5 k b h t s)
    = eye t s := by
  rw [← eyeM_at]
  pointwise []

/-- The entries of one chunk's square. -/
def MR (x : Square) (k : Fin 256) (b : Fin 2) (h : Fin 8) : Mat := fun t s => x (ix5 k b h t s)

/-- One step of the substitution. -/
theorem substep_M (x y : Square) (j : ℕ) (hy : MR y k b h = subst (MR x k b h) j) : MR (substep x y) k b h = subst (MR x k b h) (j + 1) := by
  funext t s
  show broadcastInDim S256x2x8x64x64 ![0, 1, 2, 3, 4] bcast_S1x1x1x64x64_S256x2x8x64x64_0_1_2_3_4 (broadcastInDim S1x1x1x64x64 ![3, 4] bcast_S64x64_S1x1x1x64x64_3_4 eyeM) (ix5 k b h t s)
    - Host.dotGeneral (F := Ideal) dot_S256x2x8x64x64_S256x2x8x64x64_S256x2x8x64x64_4_3_3_4_012_012 none x y (ix5 k b h t s) = eye t s - mul (MR x k b h) (subst (MR x k b h) j) t s
  rw [eyes_at, sqs_at, ← hy]
  rfl
/-- Eight steps of the substitution. -/
theorem eight_M (x y : Square) (j : ℕ) (hy : MR y k b h = subst (MR x k b h) j) : MR (eight x y) k b h = subst (MR x k b h) (j + 8) :=
  substep_M k b h x _ (j + 7) (substep_M k b h x _ (j + 6) (substep_M k b h x _ (j + 5) (substep_M k b h x _ (j + 4)
    (substep_M k b h x _ (j + 3) (substep_M k b h x _ (j + 2) (substep_M k b h x _ (j + 1) (substep_M k b h x _ j hy)))))))
/-- The substitution from zero. -/
theorem inv_M (x : Square) : MR (inv x) k b h = inverse (MR x k b h) :=
  eight_M k b h x _ 56 (eight_M k b h x _ 48 (eight_M k b h x _ 40 (eight_M k b h x _ 32 (eight_M k b h x _ 24 (eight_M k b h x _ 16
    (eight_M k b h x _ 8 (eight_M k b h x _ 0 (by
      funext t s
      unfold MR
      pointwise [zero, subst]))))))))

/-- The inverse of a chunk. -/
theorem inv_at : inv (asC a cw al dt) (ix5 k b h t s) = tT (XR a b) (WR cw) (HR al) (HR dt) h k.val t s := by
  have hA : MR (asC a cw al dt) k b h
      = scores (kT (XR a b) (WR cw) h k.val) (bT (XR a b) h k.val) (gT (XR a b) (HR al) (HR dt) h k.val) := by
    funext t s
    exact as_at a cw al dt k b h t s
  rw [tT, ← hA, ← inv_M]
  rfl

/-- A square times a tile at an index. -/
theorem sqt_at (x : Square) (y : Chunked) : sqt x y (ix5 k b h t e) = ∑ s : Fin 64, x (ix5 k b h t s) * y (ix5 k b h s e) := by
  pointwise [sqt]

/-- The inverse applied to the weighted values at an index. -/
theorem values_at : values a cw al dt (ix5 k b h t e)
    = value (vT (XR a b) (WR cw) h k.val) (bT (XR a b) h k.val) (tT (XR a b) (WR cw) (HR al) (HR dt) h k.val) t e := by
  rw [values, sqt_at, value]
  refine Finset.sum_congr rfl fun s _ => ?_
  rw [inv_at, ← vs_at, ← bs_at, ← wide_at k b h s e (bs a)]
  rfl

/-- The decays from the start of the chunk, along every lane, at an index. -/
theorem exps_at : wide (col (Host.exp (F := Ideal) (φ := .f32) (cs a al dt))) (ix5 k b h t d) = Ideal.exp (cum (gT (XR a b) (HR al) (HR dt) h k.val) t) := by
  rw [wide_at, col_at, ← cs_at]
  rfl

/-- The inverse applied to the decayed keys at an index. -/
theorem kcums_at : kcums a cw al dt (ix5 k b h t d)
    = kcum (kT (XR a b) (WR cw) h k.val) (bT (XR a b) h k.val) (gT (XR a b) (HR al) (HR dt) h k.val) (tT (XR a b) (WR cw) (HR al) (HR dt) h k.val) t d := by
  rw [kcums, sqt_at, kcum]
  refine Finset.sum_congr rfl fun s _ => ?_
  rw [inv_at, ← kbs_at, ← exps_at a al dt k b h s d]
  rfl

/-- The scores of the queries at an index. -/
theorem attns_at : attns a cw al dt (ix5 k b h t s)
    = attn (qT (XR a b) (WR cw) h k.val) (kT (XR a b) (WR cw) h k.val) (gT (XR a b) (HR al) (HR dt) h k.val) t s := by
  have hp : attns a cw al dt (ix5 k b h t s) = Host.dotGeneral (F := Ideal) dot_S256x2x8x64x128_S256x2x8x64x128_S256x2x8x64x64_4_4_3_3_012_012 none (qs a cw) (ks a cw) (ix5 k b h t s)
      * lms a al dt (ix5 k b h t s) := rfl
  rw [hp, dots_at, lms_at, attn]
  refine congrArg (· * _) (Finset.sum_congr rfl fun d _ => ?_)
  rw [qs_at, ks_at]

/-- The decayed queries at an index. -/
theorem qdecs_at : qdecs a cw al dt (ix5 k b h t d) = qdec (qT (XR a b) (WR cw) h k.val) (gT (XR a b) (HR al) (HR dt) h k.val) t d := by
  rw [qdec, ← qs_at, ← exps_at a al dt k b h t d]
  rfl

/-- The last of the running sums at an index. -/
theorem lasts_at : lasts a al dt (ix4 k b h 0) = cum (gT (XR a b) (HR al) (HR dt) h k.val) 63 := by
  rw [← cs_at]
  pointwise [lasts]

/-- The last of the running sums along every row at an index. -/
theorem lastrow_at : broadcastInDim S256x2x8x64 ![0, 1, 2, 3] bcast_S256x2x8x1_S256x2x8x64_0_1_2_3 (lasts a al dt) (ix4 k b h t) = cum (gT (XR a b) (HR al) (HR dt) h k.val) 63 := by
  rw [← lasts_at]
  pointwise []

/-- The keys decayed to the end of the chunk at an index. -/
theorem ktails_at : ktails a cw al dt (ix5 k b h t d) = ktail (kT (XR a b) (WR cw) h k.val) (gT (XR a b) (HR al) (HR dt) h k.val) t d := by
  have hp : ktails a cw al dt (ix5 k b h t d) = ks a cw (ix5 k b h t d)
      * wide (col (Host.exp (F := Ideal) (φ := .f32) (subf (broadcastInDim S256x2x8x64 ![0, 1, 2, 3] bcast_S256x2x8x1_S256x2x8x64_0_1_2_3 (lasts a al dt)) (cs a al dt)))) (ix5 k b h t d) := rfl
  rw [hp, wide_at, col_at, ktail, ks_at, ← lastrow_at a al dt k b h t, ← cs_at]
  rfl

/-- The decay of a whole chunk, at an index. -/
theorem tots_at : tots a al dt (ix3 k b h) = Ideal.exp (cum (gT (XR a b) (HR al) (HR dt) h k.val) 63) := by
  rw [← lasts_at]
  pointwise [tots]

end

end Cert.Reference7Ideal.Arrays

end
-- ==== Proof.DeltaRefStep.lean ====
/-
  One trip of the gated delta rule reference's loop as a function of the arrays it carries, read at an index, and the
  arrays its trips leave: the state before every chunk, and the outputs of the chunks done.
-/
module

public import proofs.«01_k».proof.Proof.DeltaRefAt
public import Idealize.ShloMosaic.Lib.Pointwise
public import Idealize.ShloMosaic.Lib.WordCmp

@[expose] public section

set_option maxRecDepth 16384

noncomputable section

open Idealize.ShloMosaic Cert.Reference7Ideal Cert.Reference7Ideal.Gen Cert.Delta
open Cert.Chunk (rd2 rd2_eq normed)

namespace Cert.Reference7Ideal.Arrays

/-- The states of all heads. -/
abbrev States := FVec Ideal S2x8x128x128 .f32
/-- One chunk of all heads. -/
abbrev Rows := FVec Ideal S2x8x64x128 .f32
/-- One chunk's square of all heads. -/
abbrev Squares := FVec Ideal S2x8x64x64 .f32

/-- The start of chunk `i` in an array over chunks. -/
abbrev start5 (i : IVec S_ 32) : Fin 5 → Int := fun k => (((![i, constantI S_ 32 0#32, constantI S_ 32 0#32, constantI S_ 32 0#32, constantI S_ 32 0#32] : Fin 5 → IVec S_ 32)) k (Shape.Idx.first h_S_)).toInt
/-- The start of chunk `i` in the array of whole decays. -/
abbrev start3 (i : IVec S_ 32) : Fin 3 → Int := fun k => (((![i, constantI S_ 32 0#32, constantI S_ 32 0#32] : Fin 3 → IVec S_ 32)) k (Shape.Idx.first h_S_)).toInt

/-- Chunk `i` of an array. -/
def pick (x : Chunked) (i : IVec S_ 32) : Rows :=
  shapeCast S2x8x64x128 (Host.dynamicSlice S1x2x8x64x128 x (start5 i) sliceFits_S256x2x8x64x128_S1x2x8x64x128) shapeCasts_S1x2x8x64x128_S2x8x64x128
/-- Chunk `i` of an array of squares. -/
def pickM (x : Square) (i : IVec S_ 32) : Squares :=
  shapeCast S2x8x64x64 (Host.dynamicSlice S1x2x8x64x64 x (start5 i) sliceFits_S256x2x8x64x64_S1x2x8x64x64) shapeCasts_S1x2x8x64x64_S2x8x64x64
/-- Chunk `i` of the whole decays. -/
def pickT (x : FVec Ideal S256x2x8 .f32) (i : IVec S_ 32) : FVec Ideal S2x8 .f32 :=
  shapeCast S2x8 (Host.dynamicSlice S1x2x8 x (start3 i) sliceFits_S256x2x8_S1x2x8) shapeCasts_S1x2x8_S2x8
/-- An array with chunk `i` replaced. -/
def put (x : Chunked) (y : Rows) (i : IVec S_ 32) : Chunked :=
  Host.dynamicUpdateSlice x (broadcastInDim S1x2x8x64x128 ![1, 2, 3, 4] bcast_S2x8x64x128_S1x2x8x64x128_1_2_3_4 y) (start5 i) updateFits_S256x2x8x64x128_S1x2x8x64x128

/-- A chunk's rows times the states. -/
def rowsS (x : Rows) (S : States) : Rows := Host.dotGeneral (F := Ideal) dot_S2x8x64x128_S2x8x128x128_S2x8x64x128_3_2_2_3_01_01 none x S
/-- The corrected values of chunk `i`. -/
def newV (v kc : Chunked) (i : IVec S_ 32) (S : States) : Rows := subf (pick v i) (rowsS (pick kc i) S)
/-- The states after chunk `i`. -/
def stepS (v kc kt : Chunked) (tot : FVec Ideal S256x2x8 .f32) (i : IVec S_ 32) (S : States) : States :=
  addf (mulf (broadcastInDim S2x8x128x128 ![0, 1, 2, 3] bcast_S2x8x1x1_S2x8x128x128_0_1_2_3 (broadcastInDim S2x8x1x1 ![0, 1] bcast_S2x8_S2x8x1x1_0_1 (pickT tot i))) S)
    (Host.dotGeneral (F := Ideal) dot_S2x8x64x128_S2x8x64x128_S2x8x128x128_2_2_3_3_01_01 none (pick kt i) (newV v kc i S))
/-- The outputs, with those of chunk `i`. -/
def stepO (v kc : Chunked) (at_ : Square) (q : Chunked) (i : IVec S_ 32) (S : States) (o : Chunked) : Chunked :=
  put o (addf (rowsS (pick q i) S) (Host.dotGeneral (F := Ideal) dot_S2x8x64x64_S2x8x64x128_S2x8x64x128_3_2_2_3_01_01 none (pickM at_ i) (newV v kc i S))) i

/-- A word below 256 read as an integer. -/
theorem word_small (n : Fin 256) : (BitVec.ofNat 32 n.val).toInt = (n.val : Int) := by
  revert n
  decide +kernel

/-- The start of a chunk, as naturals. -/
theorem start5_at (n : Fin 256) (a : Fin 5) : start5 (fun _ => BitVec.ofNat 32 n.val) a = ((![n.val, 0, 0, 0, 0] : Fin 5 → ℕ) a : Int) :=
  match a with
  | ⟨0, _⟩ => word_small n
  | ⟨1, _⟩ => rfl
  | ⟨2, _⟩ => rfl
  | ⟨3, _⟩ => rfl
  | ⟨4, _⟩ => rfl

/-- The same for the whole decays. -/
theorem start3_at (n : Fin 256) (a : Fin 3) : start3 (fun _ => BitVec.ofNat 32 n.val) a = ((![n.val, 0, 0] : Fin 3 → ℕ) a : Int) :=
  match a with
  | ⟨0, _⟩ => word_small n
  | ⟨1, _⟩ => rfl
  | ⟨2, _⟩ => rfl

/-- Every chunk lies inside. -/
theorem fits5 (n : Fin 256) : S256x2x8x64x128.Slices ![n.val, 0, 0, 0, 0] S1x2x8x64x128 := by
  revert n
  decide +kernel
/-- Every chunk of squares lies inside. -/
theorem fitsM (n : Fin 256) : S256x2x8x64x64.Slices ![n.val, 0, 0, 0, 0] S1x2x8x64x64 := by
  revert n
  decide +kernel
/-- Every chunk of the whole decays lies inside. -/
theorem fits3 (n : Fin 256) : S256x2x8.Slices ![n.val, 0, 0] S1x2x8 := by
  revert n
  decide +kernel

section
variable (n : Fin 256) (b : Fin 2) (h : Fin 8) (t s : Fin 64) (d e : Fin 128)

/-- A chunk of an array at an index. -/
theorem pick_at (x : Chunked) : pick x (fun _ => BitVec.ofNat 32 n.val) (ix4 b h t d) = x (ix5 n b h t d) := by
  rw [pick, WordCmp.dynamicSlice_eq_extract _ _ _ _ ![n.val, 0, 0, 0, 0] (fits5 n) (start5_at n)]
  pointwise []

/-- A chunk of an array of squares at an index. -/
theorem pickM_at (x : Square) : pickM x (fun _ => BitVec.ofNat 32 n.val) (ix4 b h t s) = x (ix5 n b h t s) := by
  rw [pickM, WordCmp.dynamicSlice_eq_extract _ _ _ _ ![n.val, 0, 0, 0, 0] (fitsM n) (start5_at n)]
  pointwise []

/-- A chunk of the whole decays at an index. -/
theorem pickT_at (x : FVec Ideal S256x2x8 .f32) : pickT x (fun _ => BitVec.ofNat 32 n.val) (ix2 b h) = x (ix3 n b h) := by
  rw [pickT, WordCmp.dynamicSlice_eq_extract _ _ _ _ ![n.val, 0, 0] (fits3 n) (start3_at n)]
  pointwise []

/-- An array with a chunk replaced, at an index. -/
theorem put_at (x : Chunked) (y : Rows) (k : Fin 256) :
    put x y (fun _ => BitVec.ofNat 32 n.val) (ix5 k b h t d) = if k.val = n.val then y (ix4 b h t d) else x (ix5 k b h t d) := by
  rw [put, WordCmp.dynamicUpdateSlice_eq_update _ _ _ _ ![n.val, 0, 0, 0, 0] (fits5 n) (start5_at n)]
  by_cases hk : k.val = n.val
  · rw [if_pos hk]
    pointwise []
    rw [dif_pos (by omega)]
  · rw [if_neg hk]
    pointwise []
    rw [dif_neg (by omega)]

/-- A chunk's rows times the states at an index. -/
theorem rowsS_at (x : Rows) (S : States) : rowsS x S (ix4 b h t e) = ∑ d : Fin 128, x (ix4 b h t d) * S (ix4 b h d e) := by
  pointwise [rowsS]

/-- The corrected values of a chunk at an index. -/
theorem newV_at (v kc : Chunked) (S : States) : newV v kc (fun _ => BitVec.ofNat 32 n.val) S (ix4 b h t e)
    = v (ix5 n b h t e) - ∑ d : Fin 128, kc (ix5 n b h t d) * S (ix4 b h d e) := by
  have hp : newV v kc (fun _ => BitVec.ofNat 32 n.val) S (ix4 b h t e)
      = pick v (fun _ => BitVec.ofNat 32 n.val) (ix4 b h t e) - rowsS (pick kc (fun _ => BitVec.ofNat 32 n.val)) S (ix4 b h t e) := rfl
  rw [hp, pick_at, rowsS_at]
  refine congrArg _ (Finset.sum_congr rfl fun d _ => ?_)
  rw [pick_at]

/-- The states after a chunk, at an index. -/
theorem stepS_at (v kc kt : Chunked) (tot : FVec Ideal S256x2x8 .f32) (S : States) :
    stepS v kc kt tot (fun _ => BitVec.ofNat 32 n.val) S (ix4 b h d e)
      = tot (ix3 n b h) * S (ix4 b h d e)
        + ∑ t : Fin 64, kt (ix5 n b h t d) * (v (ix5 n b h t e) - ∑ d : Fin 128, kc (ix5 n b h t d) * S (ix4 b h d e)) := by
  have hp : stepS v kc kt tot (fun _ => BitVec.ofNat 32 n.val) S (ix4 b h d e)
      = pickT tot (fun _ => BitVec.ofNat 32 n.val) (ix2 b h) * S (ix4 b h d e)
        + ∑ t : Fin 64, pick kt (fun _ => BitVec.ofNat 32 n.val) (ix4 b h t d) * newV v kc (fun _ => BitVec.ofNat 32 n.val) S (ix4 b h t e) := by
    pointwise [stepS]
  rw [hp, pickT_at]
  refine congrArg _ (Finset.sum_congr rfl fun t _ => ?_)
  rw [pick_at, newV_at]

/-- The outputs after a chunk, at an index. -/
theorem stepO_at (v kc : Chunked) (at_ : Square) (q : Chunked) (S : States) (o : Chunked) (k : Fin 256) :
    stepO v kc at_ q (fun _ => BitVec.ofNat 32 n.val) S o (ix5 k b h t e)
      = if k.val = n.val then (∑ d : Fin 128, q (ix5 k b h t d) * S (ix4 b h d e))
          + ∑ s : Fin 64, at_ (ix5 k b h t s) * (v (ix5 k b h s e) - ∑ d : Fin 128, kc (ix5 k b h s d) * S (ix4 b h d e))
        else o (ix5 k b h t e) := by
  rw [stepO, put_at]
  by_cases hk : k.val = n.val
  · have hp : addf (rowsS (pick q (fun _ => BitVec.ofNat 32 n.val)) S) (Host.dotGeneral (F := Ideal) dot_S2x8x64x64_S2x8x64x128_S2x8x64x128_3_2_2_3_01_01 none (pickM at_ (fun _ => BitVec.ofNat 32 n.val)) (newV v kc (fun _ => BitVec.ofNat 32 n.val) S)) (ix4 b h t e)
        = rowsS (pick q (fun _ => BitVec.ofNat 32 n.val)) S (ix4 b h t e)
          + ∑ s : Fin 64, pickM at_ (fun _ => BitVec.ofNat 32 n.val) (ix4 b h t s) * newV v kc (fun _ => BitVec.ofNat 32 n.val) S (ix4 b h s e) := by
      pointwise []
    have hkn : k = n := Fin.ext hk
    subst hkn
    rw [if_pos rfl, if_pos rfl, hp, rowsS_at]
    congr 1
    · refine Finset.sum_congr rfl fun d _ => ?_
      rw [pick_at]
    · refine Finset.sum_congr rfl fun s _ => ?_
      rw [pickM_at, newV_at]
  · rw [if_neg hk, if_neg hk]

end

variable (a : FVec Ideal S32768x4224 .f32) (cw : FVec Ideal S1x4x3072 .f32) (al dt : FVec Ideal S1x8 .f32)

/-- The states before chunk `k`. -/
def carryS : ℕ → States
  | 0 => broadcastInDim S2x8x128x128 ![] bcast_S_S2x8x128x128 zero
  | k + 1 => stepS (values a cw al dt) (kcums a cw al dt) (ktails a cw al dt) (tots a al dt) (fun _ => BitVec.ofNat 32 k) (carryS k)

/-- The outputs of the chunks below `k`. -/
def carryO : ℕ → Chunked
  | 0 => broadcastInDim S256x2x8x64x128 ![] bcast_S_S256x2x8x64x128 zero
  | k + 1 => stepO (values a cw al dt) (kcums a cw al dt) (attns a cw al dt) (qdecs a cw al dt) (fun _ => BitVec.ofNat 32 k) (carryS a cw al dt k) (carryO k)

/-- The states carried are the recurrence's. -/
theorem carryS_at (b : Fin 2) (h : Fin 8) : ∀ (k : ℕ) (hk : k ≤ 256) (d e : Fin 128),
    carryS a cw al dt k (ix4 b h d e) = state (XR a b) (WR cw) (HR al) (HR dt) h k d e
  | 0, _, d, e => by
    refine Eq.trans (b := 0) ?_ rfl
    pointwise [carryS, zero]
  | k + 1, hk, d, e => by
    refine (stepS_at ⟨k, by omega⟩ b h d e _ _ _ _ _).trans ?_
    rw [tots_at, state_succ, next]
    simp only [carryS_at b h k (by omega), ktails_at, values_at, kcums_at]
    rfl

/-- The outputs carried are the recurrence's, of the chunks done. -/
theorem carryO_at (b : Fin 2) (h : Fin 8) (j : Fin 256) (t : Fin 64) (e : Fin 128) : ∀ (k : ℕ) (hk : k ≤ 256), j.val < k →
    carryO a cw al dt k (ix5 j b h t e) = outT (XR a b) (WR cw) (HR al) (HR dt) h j.val t e
  | 0, _, hj => absurd hj (by omega)
  | k + 1, hk, hj => by
    refine (stepO_at ⟨k, by omega⟩ b h t e _ _ _ _ _ _ _).trans ?_
    by_cases hjk : j.val = k
    · rw [if_pos hjk, outT, out]
      subst hjk
      simp only [carryS_at a cw al dt b h j.val (by omega), qdecs_at, attns_at, values_at, kcums_at]
      rfl
    · rw [if_neg hjk]
      exact carryO_at b h j t e k (by omega) (by omega)

/-- Out of chunks. -/
def long (x : Chunked) : Long :=
  shapeCast S2x16384x8x128 (transpose S2x256x64x8x128 [1, 0, 3, 2, 4] x transposes_S256x2x8x64x128_S2x256x64x8x128_1_0_3_2_4) shapeCasts_S2x256x64x8x128_S2x16384x8x128

/-- An array out of chunks at an index. -/
theorem long_at (x : Chunked) (k : Fin 256) (b : Fin 2) (h : Fin 8) (t : Fin 64) (d : Fin 128) (r : Fin 16384) (hr : r.val = 64 * k.val + t.val) :
    long x (ix4 b r h d) = x (ix5 k b h t d) := by
  have hp : long x (ix4 b r h d) = x (ix5 ⟨r.val / 64, by omega⟩ b h ⟨r.val % 64, by omega⟩ d) := by
    pointwise [long]
  rw [hp]
  have h1 : (⟨r.val / 64, by omega⟩ : Fin 256) = k := Fin.ext (show r.val / 64 = k.val by omega)
  have h2 : (⟨r.val % 64, by omega⟩ : Fin 64) = t := Fin.ext (show r.val % 64 = t.val by omega)
  rw [h1, h2]

/-- The outputs normed by their mean square and weighted. -/
def weighted (o : Chunked) (w : FVec Ideal S128 .f32) : Long :=
  let y := long o
  let s := Host.rsqrt (F := Ideal) (φ := .f32) (addf (Host.divf (broadcastInDim S2x16384x8x1 ![0, 1, 2] bcast_S2x16384x8_S2x16384x8x1_0_1_2
      (Host.reduceAdd (F := Ideal) (φ := .f32) (mulf y y) (constant (F := Ideal) S_ .f32 0x00000000#32) reducesTo_S2x16384x8x128_S2x16384x8_d3 h_S_))
    (broadcastInDim S2x16384x8x1 ![] bcast_S_S2x16384x8x1 (constant (F := Ideal) S_ .f32 0x43000000#32)))
    (broadcastInDim S2x16384x8x1 ![] bcast_S_S2x16384x8x1 (constant (F := Ideal) S_ .f32 0x358637BD#32)))
  mulf (mulf y (broadcastInDim S2x16384x8x128 ![0, 1, 2, 3] bcast_S2x16384x8x1_S2x16384x8x128_0_1_2_3 s))
    (broadcastInDim S2x16384x8x128 ![0, 1, 2, 3] bcast_S1x1x1x128_S2x16384x8x128_0_1_2_3 (broadcastInDim S1x1x1x128 ![3] bcast_S128_S1x1x1x128_3 w))

/-- The logistic function, as the host expands it. -/
def sigm (x : Long) : Long :=
  Host.divf (broadcastInDim S2x16384x8x128 ![] bcast_S_S2x16384x8x128 one) (addf (broadcastInDim S2x16384x8x128 ![] bcast_S_S2x16384x8x128 one) (Host.exp (Host.negf x)))
/-- The logistic function at an index. -/
theorem sigm_at (x : Long) (b : Fin 2) (r : Fin 16384) (h : Fin 8) (d : Fin 128) : sigm x (ix4 b r h d) = Ideal.logistic (x (ix4 b r h d)) := by
  pointwise [sigm, one]
  rfl

/-- The outputs normed, weighted and gated. -/
def tail (o : Chunked) (w : FVec Ideal S128 .f32) (g : Long) : FVec Ideal S32768x1024 .f32 :=
  shapeCast S32768x1024 (shapeCast S2x16384x1024 (mulf (weighted o w) (mulf g (sigm g))) shapeCasts_S2x16384x8x128_S2x16384x1024) shapeCasts_S2x16384x1024_S32768x1024

/-- The result at an index, of the outputs before the norm. -/
theorem tail_at (o : Chunked) (w : FVec Ideal S128 .f32) (g : Long) (k : Fin 256) (b : Fin 2) (h : Fin 8) (t : Fin 64) (e : Fin 128)
    (r : Fin 32768) (l : Fin 1024) (hr : r.val = 16384 * b.val + 64 * k.val + t.val) (hl : l.val = 128 * h.val + e.val) :
    tail o w g (ix2 r l) = normed (fun d => o (ix5 k b h t d)) (w (ix1 e)) (g (ix4 b ⟨64 * k.val + t.val, by omega⟩ h e)) e := by
  have hp : tail o w g (ix2 r l) = normed (fun d => long o (ix4 ⟨r.val / 16384, by omega⟩ ⟨r.val % 16384, by omega⟩ ⟨l.val / 128, by omega⟩ d))
      (w (ix1 ⟨l.val % 128, by omega⟩)) (g (ix4 ⟨r.val / 16384, by omega⟩ ⟨r.val % 16384, by omega⟩ ⟨l.val / 128, by omega⟩ ⟨l.val % 128, by omega⟩)) ⟨l.val % 128, by omega⟩ := by
    pointwise [tail, weighted, normed, sigm_at]
  rw [hp]
  have h1 : (⟨r.val / 16384, by omega⟩ : Fin 2) = b := Fin.ext (show r.val / 16384 = b.val by omega)
  have h2 : (⟨r.val % 16384, by omega⟩ : Fin 16384) = ⟨64 * k.val + t.val, by omega⟩ := Fin.ext (show r.val % 16384 = 64 * k.val + t.val by omega)
  have h3 : (⟨l.val / 128, by omega⟩ : Fin 8) = h := Fin.ext (show l.val / 128 = h.val by omega)
  have h4 : (⟨l.val % 128, by omega⟩ : Fin 128) = e := Fin.ext (show l.val % 128 = e.val by omega)
  rw [h1, h2, h3, h4]
  exact congrArg (fun f => normed f _ _ e) (funext fun d => long_at o k b h t d _ rfl)

end Cert.Reference7Ideal.Arrays

end
-- ==== Proof.DeltaRefEntry.lean ====
/-
  The gated delta rule reference's stretches of host operations before its loop, each read as a function of the buffers
  before it.
-/
module

public import proofs.«01_k».proof.Proof.DeltaRefStep
public import proofs.«01_k».proof.Proof.Gen.Reference7Ideal.Run

@[expose] public section

set_option maxRecDepth 16384

noncomputable section

open Idealize.ShloMosaic Idealize.ShloMosaic.TcCoe Idealize.ShloMosaic.Tactic Idealize.ShloMosaic.StableHlo Idealize.SL.Sem
open Cert.Reference7Ideal Cert.Reference7Ideal.Gen Cert.Reference7Ideal.Value Cert.Reference7Ideal.Arrays

namespace Cert.Reference7Ideal.Entry

/-- Three rows of zeros before the channels. -/
def padOf (x : Wide) (i : IVec S_ 32) : FVec Ideal S2x16387x3072 .f32 :=
  pad S2x16387x3072 ![0, 3, 0] ![0, 0, 0] ![0, 0, 0] x (sitofp (F := Ideal) .f32 i) pads_S2x16384x3072_S2x16387x3072_000_300_000 h_S_
/-- The convolution of padded channels. -/
def convOf (w : FVec Ideal S4x3072 .f32) (x : FVec Ideal S2x16387x3072 .f32) : Wide :=
  addf (addf (addf (addf (broadcastInDim S2x16384x3072 ![] bcast_S_S2x16384x3072 zero)
    (mulf (every (extractStridedSlice S1x3072 ![0, 0] w slices_S4x3072_S1x3072_0_0)) (extractStridedSlice S2x16384x3072 ![0, 0, 0] x slices_S2x16387x3072_S2x16384x3072_0_0_0)))
    (mulf (every (extractStridedSlice S1x3072 ![1, 0] w slices_S4x3072_S1x3072_1_0)) (extractStridedSlice S2x16384x3072 ![0, 1, 0] x slices_S2x16387x3072_S2x16384x3072_0_1_0)))
    (mulf (every (extractStridedSlice S1x3072 ![2, 0] w slices_S4x3072_S1x3072_2_0)) (extractStridedSlice S2x16384x3072 ![0, 2, 0] x slices_S2x16387x3072_S2x16384x3072_0_2_0)))
    (mulf (every (extractStridedSlice S1x3072 ![3, 0] w slices_S4x3072_S1x3072_3_0)) (extractStridedSlice S2x16384x3072 ![0, 3, 0] x slices_S2x16387x3072_S2x16384x3072_0_3_0))
/-- An array times its logistic function. -/
def siluOf (x : Wide) : Wide := mulf x (sigmW x)
/-- The first channels by head. -/
def headsQ (x : Wide) : Long := shapeCast S2x16384x8x128 (extractStridedSlice S2x16384x1024 ![0, 0, 0] x slices_S2x16384x3072_S2x16384x1024_0_0_0) shapeCasts_S2x16384x1024_S2x16384x8x128
/-- The second channels by head. -/
def headsK (x : Wide) : Long := shapeCast S2x16384x8x128 (extractStridedSlice S2x16384x1024 ![0, 0, 1024] x slices_S2x16384x3072_S2x16384x1024_0_0_1024) shapeCasts_S2x16384x1024_S2x16384x8x128
/-- The last channels by head. -/
def headsV (x : Wide) : Long := shapeCast S2x16384x8x128 (extractStridedSlice S2x16384x1024 ![0, 0, 2048] x slices_S2x16384x3072_S2x16384x1024_0_0_2048) shapeCasts_S2x16384x1024_S2x16384x8x128
/-- The rows scaled. -/
def scaleOf (x : Long) : Long := mulf (units x) (broadcastInDim S2x16384x8x128 ![] bcast_S_S2x16384x8x128 (constant (F := Ideal) S_ .f32 0x3DB504F3#32))
/-- The logistic function for each head. -/
def sigmT (x : Thin) : Thin :=
  Host.divf (broadcastInDim S2x16384x8 ![] bcast_S_S2x16384x8 one) (addf (broadcastInDim S2x16384x8 ![] bcast_S_S2x16384x8 one) (Host.exp (Host.negf x)))
/-- The negated exponential. -/
def negexp (x : FVec Ideal S8 .f32) : FVec Ideal S8 .f32 := Host.negf (Host.exp x)
/-- The raw decays shifted. -/
def shiftOf (x : Thin) (y : FVec Ideal S8 .f32) : Thin := addf x (heads y)
/-- The log decays by chunk. -/
def decayOf (x : FVec Ideal S8 .f32) (y : Thin) : ThinC := chunkedT (mulf (heads x) y)
/-- The running sum along a chunk's rows. -/
def rowsum (x : ThinC) : ThinC :=
  Host.reduceWindowAdd (F := Ideal) ![1, 1, 1, 64] ![1, 1, 1, 1] ![0, 0, 0, 63] ![0, 0, 0, 0] x
    (broadcastInDim S_ ![] bcast_S_S_ zero)
    reduceWindows_S256x2x8x64_S256x2x8x64_w1s1p0_0_w1s1p0_0_w1s1p0_0_w64s1p63_0 h_S_
/-- All true. -/
def allTrue : IVec S64x64 1 := broadcastInDim S64x64 ![] bcast_S_S64x64 (constantI S_ 1 1#1)
/-- A mask kept in the lower triangle from a diagonal on. -/
def triOf (c : BitVec 32) (x : IVec S64x64 1) : IVec S64x64 1 :=
  select (cmpi .sge (addi (iotaInDim S64x64 32 0) (broadcastInDim S64x64 ![] bcast_S_S64x64 (constantI S_ 32 c))) (iotaInDim S64x64 32 1))
    x (broadcastInDim S64x64 ![] bcast_S_S64x64 (constantI S_ 1 0#1))
/-- The differences of a number for each row. -/
def diffOf (x : ThinC) : Square :=
  subf (broadcastInDim S256x2x8x64x64 ![0, 1, 2, 3, 4] bcast_S256x2x8x64x1_S256x2x8x64x64_0_1_2_3_4 (col x))
    (broadcastInDim S256x2x8x64x64 ![0, 1, 2, 3, 4] bcast_S256x2x8x1x64_S256x2x8x64x64_0_1_2_3_4
      (broadcastInDim S256x2x8x1x64 ![0, 1, 2, 4] bcast_S256x2x8x64_S256x2x8x1x64_0_1_2_4 x))
/-- A matrix where the mask is set, a number elsewhere. -/
def maskOf (m : IVec S64x64 1) (x : Square) (z : FVec Ideal S_ .f32) : Square :=
  select (broadcastInDim S256x2x8x64x64 ![3, 4] bcast_S64x64_S256x2x8x64x64_3_4 m) x (broadcastInDim S256x2x8x64x64 ![] bcast_S_S256x2x8x64x64 (id z))
/-- The exponential of every entry. -/
def expM (x : Square) : Square := Host.exp (F := Ideal) (φ := .f32) x
/-- The exponential for every row. -/
def expC (x : ThinC) : ThinC := Host.exp (F := Ideal) (φ := .f32) x
/-- Rows weighted by a column. -/
def weigh (x : Chunked) (y : FVec Ideal S256x2x8x64x1 .f32) : Chunked := mulf x (wide y)
/-- The products of two tiles' rows, entry by entry times a square. -/
def dotM (x y : Chunked) (z : Square) : Square :=
  mulf (Host.dotGeneral (F := Ideal) dot_S256x2x8x64x128_S256x2x8x64x128_S256x2x8x64x64_4_4_3_3_012_012 none x y) z
/-- One step of the substitution, of an identity. -/
def subOf (E : FVec Ideal S64x64 .f32) (x t : Square) : Square :=
  subf (broadcastInDim S256x2x8x64x64 ![0, 1, 2, 3, 4] bcast_S1x1x1x64x64_S256x2x8x64x64_0_1_2_3_4 (broadcastInDim S1x1x1x64x64 ![3, 4] bcast_S64x64_S1x1x1x64x64_3_4 E))
    (Host.dotGeneral (F := Ideal) dot_S256x2x8x64x64_S256x2x8x64x64_S256x2x8x64x64_4_3_3_4_012_012 none x t)
/-- Eight steps. -/
def eightOf (E : FVec Ideal S64x64 .f32) (x t : Square) : Square :=
  subOf E x (subOf E x (subOf E x (subOf E x (subOf E x (subOf E x (subOf E x (subOf E x t)))))))
/-- The last row of every chunk. -/
def lastOf (x : ThinC) : FVec Ideal S256x2x8x1 .f32 := extractStridedSlice S256x2x8x1 ![0, 0, 0, 63] x slices_S256x2x8x64_S256x2x8x1_0_0_0_63
/-- The decay from every row to the end of its chunk. -/
def toEnd (x : ThinC) : ThinC :=
  Host.exp (F := Ideal) (φ := .f32) (subf (broadcastInDim S256x2x8x64 ![0, 1, 2, 3] bcast_S256x2x8x1_S256x2x8x64_0_1_2_3 (lastOf x)) x)
/-- The decay of a whole chunk. -/
def totOf (x : ThinC) : FVec Ideal S256x2x8 .f32 := Host.exp (F := Ideal) (φ := .f32) (shapeCast S256x2x8 (lastOf x) shapeCasts_S256x2x8x1_S256x2x8)

variable (V : Valuation τ sig (Elt Ideal))

/-- The channels. -/
theorem s0_v2 : after hostOps0 V (Proc.devRef .tc main_v2) = rawQkv (V (Proc.devRef .tc main_arg0)) := by
  after_reads_simp
  all_goals rfl

/-- The output gates. -/
theorem s0_v3 : after hostOps0 V (Proc.devRef .tc main_v3) = rawZ (V (Proc.devRef .tc main_arg0)) := by
  after_reads_simp
  all_goals rfl

/-- The raw write strengths. -/
theorem s0_v4 : after hostOps0 V (Proc.devRef .tc main_v4) = rawB (V (Proc.devRef .tc main_arg0)) := by
  after_reads_simp
  all_goals rfl

/-- The raw decays. -/
theorem s0_v5 : after hostOps0 V (Proc.devRef .tc main_v5) = rawA (V (Proc.devRef .tc main_arg0)) := by
  after_reads_simp
  all_goals rfl

/-- The convolution's weights. -/
theorem s0_v6 : after hostOps0 V (Proc.devRef .tc main_v6) = weights (V (Proc.devRef .tc main_arg1)) := by
  after_reads_simp
  all_goals rfl

/-- The decay rates. -/
theorem s0_v7 : after hostOps0 V (Proc.devRef .tc main_v7) = shapeCast S8 (V (Proc.devRef .tc main_arg2)) shapeCasts_S1x8_S8 := by
  after_reads_simp
  all_goals rfl

/-- The shifts. -/
theorem s0_v8 : after hostOps0 V (Proc.devRef .tc main_v8) = shapeCast S8 (V (Proc.devRef .tc main_arg3)) shapeCasts_S1x8_S8 := by
  after_reads_simp
  all_goals rfl

/-- The norm's weights. -/
theorem s0_v9 : after hostOps0 V (Proc.devRef .tc main_v9) = shapeCast S128 (V (Proc.devRef .tc main_arg4)) shapeCasts_S1x128_S128 := by
  after_reads_simp
  all_goals rfl

/-- Zero. -/
theorem s0_c : after hostOps0 V (Proc.devRef .tc main_c) = constantI S_ 32 0#32 := by
  after_reads_simp
  all_goals rfl

/-- The channels padded. -/
theorem s1_v10 : after hostOps0_1 V (Proc.devRef .tc main_v10) = padOf (V (Proc.devRef .tc main_v2)) (V (Proc.devRef .tc main_c)) := by
  after_reads_simp
  all_goals rfl

/-- The convolution. -/
theorem s2_v39 : after hostOps0_2 V (Proc.devRef .tc main_v39) = convOf (V (Proc.devRef .tc main_v6)) (V (Proc.devRef .tc main_v10)) := by
  after_reads_simp
  all_goals rfl

/-- The activated convolution. -/
theorem s3_v40 : after hostOps0_3 V (Proc.devRef .tc main_v40) = siluOf (V (Proc.devRef .tc main_v39)) := by
  after_reads_simp
  all_goals rfl

/-- The queries. -/
theorem s4_v54 : after hostOps0_4 V (Proc.devRef .tc main_v54) = scaleOf (headsQ (V (Proc.devRef .tc main_v40))) := by
  after_reads_simp
  all_goals rfl

/-- The keys. -/
theorem s4_v63 : after hostOps0_4 V (Proc.devRef .tc main_v63) = units (headsK (V (Proc.devRef .tc main_v40))) := by
  after_reads_simp
  all_goals rfl

/-- The values. -/
theorem s4_v64 : after hostOps0_4 V (Proc.devRef .tc main_v64) = headsV (V (Proc.devRef .tc main_v40)) := by
  after_reads_simp
  all_goals rfl

/-- The write strengths. -/
theorem s4_v70 : after hostOps0_4 V (Proc.devRef .tc main_v70) = sigmT (V (Proc.devRef .tc main_v4)) := by
  after_reads_simp
  all_goals rfl

/-- The negated decay rates. -/
theorem s4_v72 : after hostOps0_4 V (Proc.devRef .tc main_v72) = negexp (V (Proc.devRef .tc main_v7)) := by
  after_reads_simp
  all_goals rfl

/-- The shifted decays. -/
theorem s4_v75 : after hostOps0_4 V (Proc.devRef .tc main_v75) = shiftOf (V (Proc.devRef .tc main_v5)) (V (Proc.devRef .tc main_v8)) := by
  after_reads_simp
  all_goals rfl

/-- The softened decays. -/
theorem s5_v76 : after hostOps0_5 V (Proc.devRef .tc main_v76) = softs (V (Proc.devRef .tc main_v75)) := by
  after_reads_simp
  all_goals rfl

/-- The queries by chunk. -/
theorem s6_v81 : after hostOps0_6 V (Proc.devRef .tc main_v81) = chunked (V (Proc.devRef .tc main_v54)) := by
  after_reads_simp
  all_goals rfl

/-- The keys by chunk. -/
theorem s6_v83 : after hostOps0_6 V (Proc.devRef .tc main_v83) = chunked (V (Proc.devRef .tc main_v63)) := by
  after_reads_simp
  all_goals rfl

/-- The values by chunk. -/
theorem s6_v85 : after hostOps0_6 V (Proc.devRef .tc main_v85) = chunked (V (Proc.devRef .tc main_v64)) := by
  after_reads_simp
  all_goals rfl

/-- The write strengths by chunk. -/
theorem s6_v88 : after hostOps0_6 V (Proc.devRef .tc main_v88) = col (chunkedT (V (Proc.devRef .tc main_v70))) := by
  after_reads_simp
  all_goals rfl

/-- The log decays by chunk. -/
theorem s6_v90 : after hostOps0_6 V (Proc.devRef .tc main_v90) = decayOf (V (Proc.devRef .tc main_v72)) (V (Proc.devRef .tc main_v76)) := by
  after_reads_simp
  all_goals rfl

/-- The running sums. -/
theorem s7_v91 : after hostOps0_7 V (Proc.devRef .tc main_v91) = rowsum (V (Proc.devRef .tc main_v90)) := by
  after_reads_simp
  all_goals rfl

/-- All true. -/
theorem s8_v92 : after hostOps0_8 V (Proc.devRef .tc main_v92) = allTrue := by
  after_reads_simp
  all_goals rfl

/-- The lower triangle. -/
theorem s9_v93 : after hostOps0_9 V (Proc.devRef .tc main_v93) = triOf 0#32 (V (Proc.devRef .tc main_v92)) := by
  after_reads_simp
  all_goals rfl

/-- All true. -/
theorem s10_v94 : after hostOps0_10 V (Proc.devRef .tc main_v94) = allTrue := by
  after_reads_simp
  all_goals rfl

/-- The strict lower triangle. -/
theorem s11_v95 : after hostOps0_11 V (Proc.devRef .tc main_v95) = triOf 4294967295#32 (V (Proc.devRef .tc main_v94)) := by
  unfold triOf
  after_reads_simp
  simp only [StableHlo.TRef.ofBuf_toBuf]
  generalize (iotaInDim S64x64 32 0) = i0
  generalize (iotaInDim S64x64 32 1) = i1
  generalize (constantI S_ 32 4294967295#32) = b
  rfl

/-- The differences. -/
theorem s12_v100 : after hostOps0_12 V (Proc.devRef .tc main_v100) = diffOf (V (Proc.devRef .tc main_v91)) := by
  after_reads_simp
  all_goals rfl

/-- Zero. -/
theorem s12_cst_9 : after hostOps0_12 V (Proc.devRef .tc main_cst_9) = zero := by
  after_reads_simp
  all_goals rfl

/-- The differences masked. -/
theorem s13_v101 : after hostOps0_13 V (Proc.devRef .tc main_v101) = maskOf (V (Proc.devRef .tc main_v93)) (V (Proc.devRef .tc main_v100)) (V (Proc.devRef .tc main_cst_9)) := by
  after_reads_simp
  all_goals rfl

/-- Their exponentials. -/
theorem s14_v102 : after hostOps0_14 V (Proc.devRef .tc main_v102) = expM (V (Proc.devRef .tc main_v101)) := by
  after_reads_simp
  all_goals rfl

/-- Zero. -/
theorem s14_cst_10 : after hostOps0_14 V (Proc.devRef .tc main_cst_10) = zero := by
  after_reads_simp
  all_goals rfl

/-- The decays between rows. -/
theorem s15_v103 : after hostOps0_15 V (Proc.devRef .tc main_v103) = maskOf (V (Proc.devRef .tc main_v93)) (V (Proc.devRef .tc main_v102)) (V (Proc.devRef .tc main_cst_10)) := by
  after_reads_simp
  all_goals rfl

/-- The weighted keys. -/
theorem s16_v105 : after hostOps0_16 V (Proc.devRef .tc main_v105) = weigh (V (Proc.devRef .tc main_v83)) (V (Proc.devRef .tc main_v88)) := by
  after_reads_simp
  all_goals rfl

/-- The scores before the mask. -/
theorem s16_v107 : after hostOps0_16 V (Proc.devRef .tc main_v107) = dotM (weigh (V (Proc.devRef .tc main_v83)) (V (Proc.devRef .tc main_v88))) (V (Proc.devRef .tc main_v83)) (V (Proc.devRef .tc main_v103)) := by
  after_reads_simp
  all_goals rfl

/-- Zero. -/
theorem s16_cst_11 : after hostOps0_16 V (Proc.devRef .tc main_cst_11) = zero := by
  after_reads_simp
  all_goals rfl

/-- The scores. -/
theorem s17_v108 : after hostOps0_17 V (Proc.devRef .tc main_v108) = maskOf (V (Proc.devRef .tc main_v95)) (V (Proc.devRef .tc main_v107)) (V (Proc.devRef .tc main_cst_11)) := by
  after_reads_simp
  all_goals rfl

/-- The identity. -/
theorem s18_v114 : after hostOps0_18 V (Proc.devRef .tc main_v114) = eyeM := by
  after_reads_simp
  all_goals rfl

/-- Zeros. -/
theorem s18_v115 : after hostOps0_18 V (Proc.devRef .tc main_v115) = broadcastInDim S256x2x8x64x64 ![] bcast_S_S256x2x8x64x64 zero := by
  after_reads_simp
  all_goals rfl

/-- Eight more steps of the substitution. -/
theorem s19_v116 : after hostOps0_19 V (Proc.devRef .tc main_v116) = eightOf (V (Proc.devRef .tc main_v114)) (V (Proc.devRef .tc main_v108)) (V (Proc.devRef .tc main_v115)) := by
  after_reads_simp
  all_goals rfl

/-- Eight more steps of the substitution. -/
theorem s20_v117 : after hostOps0_20 V (Proc.devRef .tc main_v117) = eightOf (V (Proc.devRef .tc main_v114)) (V (Proc.devRef .tc main_v108)) (V (Proc.devRef .tc main_v116)) := by
  after_reads_simp
  all_goals rfl

/-- Eight more steps of the substitution. -/
theorem s21_v118 : after hostOps0_21 V (Proc.devRef .tc main_v118) = eightOf (V (Proc.devRef .tc main_v114)) (V (Proc.devRef .tc main_v108)) (V (Proc.devRef .tc main_v117)) := by
  after_reads_simp
  all_goals rfl

/-- Eight more steps of the substitution. -/
theorem s22_v119 : after hostOps0_22 V (Proc.devRef .tc main_v119) = eightOf (V (Proc.devRef .tc main_v114)) (V (Proc.devRef .tc main_v108)) (V (Proc.devRef .tc main_v118)) := by
  after_reads_simp
  all_goals rfl

/-- Eight more steps of the substitution. -/
theorem s23_v120 : after hostOps0_23 V (Proc.devRef .tc main_v120) = eightOf (V (Proc.devRef .tc main_v114)) (V (Proc.devRef .tc main_v108)) (V (Proc.devRef .tc main_v119)) := by
  after_reads_simp
  all_goals rfl

/-- Eight more steps of the substitution. -/
theorem s24_v121 : after hostOps0_24 V (Proc.devRef .tc main_v121) = eightOf (V (Proc.devRef .tc main_v114)) (V (Proc.devRef .tc main_v108)) (V (Proc.devRef .tc main_v120)) := by
  after_reads_simp
  all_goals rfl

/-- Eight more steps of the substitution. -/
theorem s25_v122 : after hostOps0_25 V (Proc.devRef .tc main_v122) = eightOf (V (Proc.devRef .tc main_v114)) (V (Proc.devRef .tc main_v108)) (V (Proc.devRef .tc main_v121)) := by
  after_reads_simp
  all_goals rfl

/-- Eight more steps of the substitution. -/
theorem s26_v123 : after hostOps0_26 V (Proc.devRef .tc main_v123) = eightOf (V (Proc.devRef .tc main_v114)) (V (Proc.devRef .tc main_v108)) (V (Proc.devRef .tc main_v122)) := by
  after_reads_simp
  all_goals rfl

/-- The carried values. -/
theorem s27_v150_0 : after hostOps0_27 V (Proc.devRef .tc main_v150_0) = sqt (V (Proc.devRef .tc main_v123)) (weigh (V (Proc.devRef .tc main_v85)) (V (Proc.devRef .tc main_v88))) := by
  after_reads_simp
  all_goals rfl

/-- The carried decayed keys. -/
theorem s27_v150_1 : after hostOps0_27 V (Proc.devRef .tc main_v150_1) = sqt (V (Proc.devRef .tc main_v123)) (weigh (V (Proc.devRef .tc main_v105)) (col (expC (V (Proc.devRef .tc main_v91))))) := by
  after_reads_simp
  all_goals rfl

/-- The carried scores. -/
theorem s27_v150_2 : after hostOps0_27 V (Proc.devRef .tc main_v150_2) = dotM (V (Proc.devRef .tc main_v81)) (V (Proc.devRef .tc main_v83)) (V (Proc.devRef .tc main_v103)) := by
  after_reads_simp
  all_goals rfl

/-- The carried decayed queries. -/
theorem s27_v150_3 : after hostOps0_27 V (Proc.devRef .tc main_v150_3) = weigh (V (Proc.devRef .tc main_v81)) (col (expC (V (Proc.devRef .tc main_v91)))) := by
  after_reads_simp
  all_goals rfl

/-- The carried keys decayed to the end. -/
theorem s27_v150_4 : after hostOps0_27 V (Proc.devRef .tc main_v150_4) = weigh (V (Proc.devRef .tc main_v83)) (col (toEnd (V (Proc.devRef .tc main_v91)))) := by
  after_reads_simp
  all_goals rfl

/-- The carried whole decays. -/
theorem s27_v150_5 : after hostOps0_27 V (Proc.devRef .tc main_v150_5) = totOf (V (Proc.devRef .tc main_v91)) := by
  after_reads_simp
  all_goals rfl

/-- The zero states. -/
theorem s27_v150_7 : after hostOps0_27 V (Proc.devRef .tc main_v150_7) = broadcastInDim S2x8x128x128 ![] bcast_S_S2x8x128x128 zero := by
  after_reads_simp
  all_goals rfl

/-- The zero outputs. -/
theorem s27_v150_8 : after hostOps0_27 V (Proc.devRef .tc main_v150_8) = broadcastInDim S256x2x8x64x128 ![] bcast_S_S256x2x8x64x128 zero := by
  after_reads_simp
  all_goals rfl

end Cert.Reference7Ideal.Entry

end
-- ==== Proof.DeltaRefLoop.lean ====
/-
  The gated delta rule reference's run up to its loop: the buffers the loop starts from, as arrays of the arguments.
-/
module

public import proofs.«01_k».proof.Proof.DeltaRefEntry

@[expose] public section

set_option maxRecDepth 16384

noncomputable section

open Idealize.ShloMosaic Idealize.ShloMosaic.TcCoe Idealize.ShloMosaic.Tactic Idealize.ShloMosaic.StableHlo Idealize.SL.Sem
open Cert.Reference7Ideal Cert.Reference7Ideal.Gen Cert.Reference7Ideal.Value Cert.Reference7Ideal.Arrays

namespace Cert.Reference7Ideal.Entry

variable (m : (ℓ : Loc nD τ sig) → Buf (Elt Ideal) ℓ) (c : Dev nD)

/-- The projections. -/
abbrev A : FVec Ideal S32768x4224 .f32 := m ((c : Thread nD τ).loc main_arg0)
/-- The convolution's weights. -/
abbrev CW : FVec Ideal S1x4x3072 .f32 := m ((c : Thread nD τ).loc main_arg1)
/-- The decay rates. -/
abbrev AL : FVec Ideal S1x8 .f32 := m ((c : Thread nD τ).loc main_arg2)
/-- The shifts. -/
abbrev DT : FVec Ideal S1x8 .f32 := m ((c : Thread nD τ).loc main_arg3)

/-- The buffers at launch. -/
def V0 : Valuation τ sig (Elt Ideal) := entryContents [] m c
/-- The buffers after stretch 1. -/
def V1 : Valuation τ sig (Elt Ideal) := after hostOps0 (V0 m c)
/-- The buffers after stretch 2. -/
def V2 : Valuation τ sig (Elt Ideal) := after hostOps0_1 (V1 m c)
/-- The buffers after stretch 3. -/
def V3 : Valuation τ sig (Elt Ideal) := after hostOps0_2 (V2 m c)
/-- The buffers after stretch 4. -/
def V4 : Valuation τ sig (Elt Ideal) := after hostOps0_3 (V3 m c)
/-- The buffers after stretch 5. -/
def V5 : Valuation τ sig (Elt Ideal) := after hostOps0_4 (V4 m c)
/-- The buffers after stretch 6. -/
def V6 : Valuation τ sig (Elt Ideal) := after hostOps0_5 (V5 m c)
/-- The buffers after stretch 7. -/
def V7 : Valuation τ sig (Elt Ideal) := after hostOps0_6 (V6 m c)
/-- The buffers after stretch 8. -/
def V8 : Valuation τ sig (Elt Ideal) := after hostOps0_7 (V7 m c)
/-- The buffers after stretch 9. -/
def V9 : Valuation τ sig (Elt Ideal) := after hostOps0_8 (V8 m c)
/-- The buffers after stretch 10. -/
def V10 : Valuation τ sig (Elt Ideal) := after hostOps0_9 (V9 m c)
/-- The buffers after stretch 11. -/
def V11 : Valuation τ sig (Elt Ideal) := after hostOps0_10 (V10 m c)
/-- The buffers after stretch 12. -/
def V12 : Valuation τ sig (Elt Ideal) := after hostOps0_11 (V11 m c)
/-- The buffers after stretch 13. -/
def V13 : Valuation τ sig (Elt Ideal) := after hostOps0_12 (V12 m c)
/-- The buffers after stretch 14. -/
def V14 : Valuation τ sig (Elt Ideal) := after hostOps0_13 (V13 m c)
/-- The buffers after stretch 15. -/
def V15 : Valuation τ sig (Elt Ideal) := after hostOps0_14 (V14 m c)
/-- The buffers after stretch 16. -/
def V16 : Valuation τ sig (Elt Ideal) := after hostOps0_15 (V15 m c)
/-- The buffers after stretch 17. -/
def V17 : Valuation τ sig (Elt Ideal) := after hostOps0_16 (V16 m c)
/-- The buffers after stretch 18. -/
def V18 : Valuation τ sig (Elt Ideal) := after hostOps0_17 (V17 m c)
/-- The buffers after stretch 19. -/
def V19 : Valuation τ sig (Elt Ideal) := after hostOps0_18 (V18 m c)
/-- The buffers after stretch 20. -/
def V20 : Valuation τ sig (Elt Ideal) := after hostOps0_19 (V19 m c)
/-- The buffers after stretch 21. -/
def V21 : Valuation τ sig (Elt Ideal) := after hostOps0_20 (V20 m c)
/-- The buffers after stretch 22. -/
def V22 : Valuation τ sig (Elt Ideal) := after hostOps0_21 (V21 m c)
/-- The buffers after stretch 23. -/
def V23 : Valuation τ sig (Elt Ideal) := after hostOps0_22 (V22 m c)
/-- The buffers after stretch 24. -/
def V24 : Valuation τ sig (Elt Ideal) := after hostOps0_23 (V23 m c)
/-- The buffers after stretch 25. -/
def V25 : Valuation τ sig (Elt Ideal) := after hostOps0_24 (V24 m c)
/-- The buffers after stretch 26. -/
def V26 : Valuation τ sig (Elt Ideal) := after hostOps0_25 (V25 m c)
/-- The buffers after stretch 27. -/
def V27 : Valuation τ sig (Elt Ideal) := after hostOps0_26 (V26 m c)
/-- The buffers when the loop starts. -/
def Z : Valuation τ sig (Elt Ideal) := after hostOps0_27 (V27 m c)

/-- They are the loop's entry contents. -/
theorem Z_eq : entryContents preI m c = Z m c := rfl

/-- Stretch 1 keeps what it does not write. -/
theorem keep0 {r : Ref sig .tc} (h : r ∉ hostOps0_W) : V1 m c (Proc.devRef .tc r) = V0 m c (Proc.devRef .tc r) := after_of_writes_sub hostOps0 _ hostOps0_writes h
/-- Stretch 2 keeps what it does not write. -/
theorem keep1 {r : Ref sig .tc} (h : r ∉ hostOps0_1_W) : V2 m c (Proc.devRef .tc r) = V1 m c (Proc.devRef .tc r) := after_of_writes_sub hostOps0_1 _ hostOps0_1_writes h
/-- Stretch 3 keeps what it does not write. -/
theorem keep2 {r : Ref sig .tc} (h : r ∉ hostOps0_2_W) : V3 m c (Proc.devRef .tc r) = V2 m c (Proc.devRef .tc r) := after_of_writes_sub hostOps0_2 _ hostOps0_2_writes h
/-- Stretch 4 keeps what it does not write. -/
theorem keep3 {r : Ref sig .tc} (h : r ∉ hostOps0_3_W) : V4 m c (Proc.devRef .tc r) = V3 m c (Proc.devRef .tc r) := after_of_writes_sub hostOps0_3 _ hostOps0_3_writes h
/-- Stretch 5 keeps what it does not write. -/
theorem keep4 {r : Ref sig .tc} (h : r ∉ hostOps0_4_W) : V5 m c (Proc.devRef .tc r) = V4 m c (Proc.devRef .tc r) := after_of_writes_sub hostOps0_4 _ hostOps0_4_writes h
/-- Stretch 6 keeps what it does not write. -/
theorem keep5 {r : Ref sig .tc} (h : r ∉ hostOps0_5_W) : V6 m c (Proc.devRef .tc r) = V5 m c (Proc.devRef .tc r) := after_of_writes_sub hostOps0_5 _ hostOps0_5_writes h
/-- Stretch 7 keeps what it does not write. -/
theorem keep6 {r : Ref sig .tc} (h : r ∉ hostOps0_6_W) : V7 m c (Proc.devRef .tc r) = V6 m c (Proc.devRef .tc r) := after_of_writes_sub hostOps0_6 _ hostOps0_6_writes h
/-- Stretch 8 keeps what it does not write. -/
theorem keep7 {r : Ref sig .tc} (h : r ∉ hostOps0_7_W) : V8 m c (Proc.devRef .tc r) = V7 m c (Proc.devRef .tc r) := after_of_writes_sub hostOps0_7 _ hostOps0_7_writes h
/-- Stretch 9 keeps what it does not write. -/
theorem keep8 {r : Ref sig .tc} (h : r ∉ hostOps0_8_W) : V9 m c (Proc.devRef .tc r) = V8 m c (Proc.devRef .tc r) := after_of_writes_sub hostOps0_8 _ hostOps0_8_writes h
/-- Stretch 10 keeps what it does not write. -/
theorem keep9 {r : Ref sig .tc} (h : r ∉ hostOps0_9_W) : V10 m c (Proc.devRef .tc r) = V9 m c (Proc.devRef .tc r) := after_of_writes_sub hostOps0_9 _ hostOps0_9_writes h
/-- Stretch 11 keeps what it does not write. -/
theorem keep10 {r : Ref sig .tc} (h : r ∉ hostOps0_10_W) : V11 m c (Proc.devRef .tc r) = V10 m c (Proc.devRef .tc r) := after_of_writes_sub hostOps0_10 _ hostOps0_10_writes h
/-- Stretch 12 keeps what it does not write. -/
theorem keep11 {r : Ref sig .tc} (h : r ∉ hostOps0_11_W) : V12 m c (Proc.devRef .tc r) = V11 m c (Proc.devRef .tc r) := after_of_writes_sub hostOps0_11 _ hostOps0_11_writes h
/-- Stretch 13 keeps what it does not write. -/
theorem keep12 {r : Ref sig .tc} (h : r ∉ hostOps0_12_W) : V13 m c (Proc.devRef .tc r) = V12 m c (Proc.devRef .tc r) := after_of_writes_sub hostOps0_12 _ hostOps0_12_writes h
/-- Stretch 14 keeps what it does not write. -/
theorem keep13 {r : Ref sig .tc} (h : r ∉ hostOps0_13_W) : V14 m c (Proc.devRef .tc r) = V13 m c (Proc.devRef .tc r) := after_of_writes_sub hostOps0_13 _ hostOps0_13_writes h
/-- Stretch 15 keeps what it does not write. -/
theorem keep14 {r : Ref sig .tc} (h : r ∉ hostOps0_14_W) : V15 m c (Proc.devRef .tc r) = V14 m c (Proc.devRef .tc r) := after_of_writes_sub hostOps0_14 _ hostOps0_14_writes h
/-- Stretch 16 keeps what it does not write. -/
theorem keep15 {r : Ref sig .tc} (h : r ∉ hostOps0_15_W) : V16 m c (Proc.devRef .tc r) = V15 m c (Proc.devRef .tc r) := after_of_writes_sub hostOps0_15 _ hostOps0_15_writes h
/-- Stretch 17 keeps what it does not write. -/
theorem keep16 {r : Ref sig .tc} (h : r ∉ hostOps0_16_W) : V17 m c (Proc.devRef .tc r) = V16 m c (Proc.devRef .tc r) := after_of_writes_sub hostOps0_16 _ hostOps0_16_writes h
/-- Stretch 18 keeps what it does not write. -/
theorem keep17 {r : Ref sig .tc} (h : r ∉ hostOps0_17_W) : V18 m c (Proc.devRef .tc r) = V17 m c (Proc.devRef .tc r) := after_of_writes_sub hostOps0_17 _ hostOps0_17_writes h
/-- Stretch 19 keeps what it does not write. -/
theorem keep18 {r : Ref sig .tc} (h : r ∉ hostOps0_18_W) : V19 m c (Proc.devRef .tc r) = V18 m c (Proc.devRef .tc r) := after_of_writes_sub hostOps0_18 _ hostOps0_18_writes h
/-- Stretch 20 keeps what it does not write. -/
theorem keep19 {r : Ref sig .tc} (h : r ∉ hostOps0_19_W) : V20 m c (Proc.devRef .tc r) = V19 m c (Proc.devRef .tc r) := after_of_writes_sub hostOps0_19 _ hostOps0_19_writes h
/-- Stretch 21 keeps what it does not write. -/
theorem keep20 {r : Ref sig .tc} (h : r ∉ hostOps0_20_W) : V21 m c (Proc.devRef .tc r) = V20 m c (Proc.devRef .tc r) := after_of_writes_sub hostOps0_20 _ hostOps0_20_writes h
/-- Stretch 22 keeps what it does not write. -/
theorem keep21 {r : Ref sig .tc} (h : r ∉ hostOps0_21_W) : V22 m c (Proc.devRef .tc r) = V21 m c (Proc.devRef .tc r) := after_of_writes_sub hostOps0_21 _ hostOps0_21_writes h
/-- Stretch 23 keeps what it does not write. -/
theorem keep22 {r : Ref sig .tc} (h : r ∉ hostOps0_22_W) : V23 m c (Proc.devRef .tc r) = V22 m c (Proc.devRef .tc r) := after_of_writes_sub hostOps0_22 _ hostOps0_22_writes h
/-- Stretch 24 keeps what it does not write. -/
theorem keep23 {r : Ref sig .tc} (h : r ∉ hostOps0_23_W) : V24 m c (Proc.devRef .tc r) = V23 m c (Proc.devRef .tc r) := after_of_writes_sub hostOps0_23 _ hostOps0_23_writes h
/-- Stretch 25 keeps what it does not write. -/
theorem keep24 {r : Ref sig .tc} (h : r ∉ hostOps0_24_W) : V25 m c (Proc.devRef .tc r) = V24 m c (Proc.devRef .tc r) := after_of_writes_sub hostOps0_24 _ hostOps0_24_writes h
/-- Stretch 26 keeps what it does not write. -/
theorem keep25 {r : Ref sig .tc} (h : r ∉ hostOps0_25_W) : V26 m c (Proc.devRef .tc r) = V25 m c (Proc.devRef .tc r) := after_of_writes_sub hostOps0_25 _ hostOps0_25_writes h
/-- Stretch 27 keeps what it does not write. -/
theorem keep26 {r : Ref sig .tc} (h : r ∉ hostOps0_26_W) : V27 m c (Proc.devRef .tc r) = V26 m c (Proc.devRef .tc r) := after_of_writes_sub hostOps0_26 _ hostOps0_26_writes h
/-- Stretch 28 keeps what it does not write. -/
theorem keep27 {r : Ref sig .tc} (h : r ∉ hostOps0_27_W) : Z m c (Proc.devRef .tc r) = V27 m c (Proc.devRef .tc r) := after_of_writes_sub hostOps0_27 _ hostOps0_27_writes h

/-- A buffer at launch is the memory's. -/
theorem V0_at (r : Ref sig .tc) : V0 m c (Proc.devRef .tc r) = m ((c : Thread nD τ).loc r) := rfl

/-- The channels, after stretch 1. -/
theorem v2_at : V1 m c (Proc.devRef .tc main_v2) = rawQkv (A m c) := by
  refine (s0_v2 (V0 m c)).trans ?_
  rfl

/-- The output gates, after stretch 1. -/
theorem v3_at : V1 m c (Proc.devRef .tc main_v3) = rawZ (A m c) := by
  refine (s0_v3 (V0 m c)).trans ?_
  rfl

/-- The raw write strengths, after stretch 1. -/
theorem v4_at : V1 m c (Proc.devRef .tc main_v4) = rawB (A m c) := by
  refine (s0_v4 (V0 m c)).trans ?_
  rfl

/-- The raw decays, after stretch 1. -/
theorem v5_at : V1 m c (Proc.devRef .tc main_v5) = rawA (A m c) := by
  refine (s0_v5 (V0 m c)).trans ?_
  rfl

/-- The convolution's weights, after stretch 1. -/
theorem v6_at : V1 m c (Proc.devRef .tc main_v6) = weights (CW m c) := by
  refine (s0_v6 (V0 m c)).trans ?_
  rfl

/-- The decay rates, after stretch 1. -/
theorem v7_at : V1 m c (Proc.devRef .tc main_v7) = shapeCast S8 (AL m c) shapeCasts_S1x8_S8 := by
  refine (s0_v7 (V0 m c)).trans ?_
  rfl

/-- The shifts, after stretch 1. -/
theorem v8_at : V1 m c (Proc.devRef .tc main_v8) = shapeCast S8 (DT m c) shapeCasts_S1x8_S8 := by
  refine (s0_v8 (V0 m c)).trans ?_
  rfl

/-- The norm's weights, after stretch 1. -/
theorem v9_at : V1 m c (Proc.devRef .tc main_v9) = shapeCast S128 (m ((c : Thread nD τ).loc main_arg4)) shapeCasts_S1x128_S128 := by
  refine (s0_v9 (V0 m c)).trans ?_
  rfl

/-- Zero, after stretch 1. -/
theorem c_at : V1 m c (Proc.devRef .tc main_c) = constantI S_ 32 0#32 := by
  refine (s0_c (V0 m c)).trans ?_
  rfl

/-- The channels padded, after stretch 2. -/
theorem v10_at : V2 m c (Proc.devRef .tc main_v10) = padded (A m c) := by
  refine (s1_v10 (V1 m c)).trans ?_
  have h_c : V1 m c (Proc.devRef .tc main_c) = constantI S_ 32 0#32 := by
    rw [c_at]
  have h_v2 : V1 m c (Proc.devRef .tc main_v2) = rawQkv (A m c) := by
    rw [v2_at]
  rw [h_c, h_v2]
  try rfl

/-- The convolution, after stretch 3. -/
theorem v39_at : V3 m c (Proc.devRef .tc main_v39) = convd (A m c) (CW m c) := by
  refine (s2_v39 (V2 m c)).trans ?_
  have h_v6 : V2 m c (Proc.devRef .tc main_v6) = weights (CW m c) := by
    rw [keep1 m c (by decide), v6_at]
  have h_v10 : V2 m c (Proc.devRef .tc main_v10) = padded (A m c) := by
    rw [v10_at]
  rw [h_v6, h_v10]
  try rfl

/-- The activated convolution, after stretch 4. -/
theorem v40_at : V4 m c (Proc.devRef .tc main_v40) = acts (A m c) (CW m c) := by
  refine (s3_v40 (V3 m c)).trans ?_
  have h_v39 : V3 m c (Proc.devRef .tc main_v39) = convd (A m c) (CW m c) := by
    rw [v39_at]
  rw [h_v39]
  try rfl

/-- The queries, after stretch 5. -/
theorem v54_at : V5 m c (Proc.devRef .tc main_v54) = longQ (A m c) (CW m c) := by
  refine (s4_v54 (V4 m c)).trans ?_
  have h_v40 : V4 m c (Proc.devRef .tc main_v40) = acts (A m c) (CW m c) := by
    rw [v40_at]
  rw [h_v40]
  try rfl

/-- The keys, after stretch 5. -/
theorem v63_at : V5 m c (Proc.devRef .tc main_v63) = units (actK (A m c) (CW m c)) := by
  refine (s4_v63 (V4 m c)).trans ?_
  have h_v40 : V4 m c (Proc.devRef .tc main_v40) = acts (A m c) (CW m c) := by
    rw [v40_at]
  rw [h_v40]
  try rfl

/-- The values, after stretch 5. -/
theorem v64_at : V5 m c (Proc.devRef .tc main_v64) = actV (A m c) (CW m c) := by
  refine (s4_v64 (V4 m c)).trans ?_
  have h_v40 : V4 m c (Proc.devRef .tc main_v40) = acts (A m c) (CW m c) := by
    rw [v40_at]
  rw [h_v40]
  try rfl

/-- The write strengths, after stretch 5. -/
theorem v70_at : V5 m c (Proc.devRef .tc main_v70) = longB (A m c) := by
  refine (s4_v70 (V4 m c)).trans ?_
  have h_v4 : V4 m c (Proc.devRef .tc main_v4) = rawB (A m c) := by
    rw [keep3 m c (by decide), keep2 m c (by decide), keep1 m c (by decide), v4_at]
  rw [h_v4]
  try rfl

/-- The negated decay rates, after stretch 5. -/
theorem v72_at : V5 m c (Proc.devRef .tc main_v72) = Host.negf (F := Ideal) (φ := .f32) (Host.exp (shapeCast S8 (AL m c) shapeCasts_S1x8_S8)) := by
  refine (s4_v72 (V4 m c)).trans ?_
  have h_v7 : V4 m c (Proc.devRef .tc main_v7) = shapeCast S8 (AL m c) shapeCasts_S1x8_S8 := by
    rw [keep3 m c (by decide), keep2 m c (by decide), keep1 m c (by decide), v7_at]
  rw [h_v7]
  try rfl

/-- The shifted decays, after stretch 5. -/
theorem v75_at : V5 m c (Proc.devRef .tc main_v75) = shifted (A m c) (DT m c) := by
  refine (s4_v75 (V4 m c)).trans ?_
  have h_v5 : V4 m c (Proc.devRef .tc main_v5) = rawA (A m c) := by
    rw [keep3 m c (by decide), keep2 m c (by decide), keep1 m c (by decide), v5_at]
  have h_v8 : V4 m c (Proc.devRef .tc main_v8) = shapeCast S8 (DT m c) shapeCasts_S1x8_S8 := by
    rw [keep3 m c (by decide), keep2 m c (by decide), keep1 m c (by decide), v8_at]
  rw [h_v5, h_v8]
  try rfl

/-- The softened decays, after stretch 6. -/
theorem v76_at : V6 m c (Proc.devRef .tc main_v76) = softs (shifted (A m c) (DT m c)) := by
  refine (s5_v76 (V5 m c)).trans ?_
  have h_v75 : V5 m c (Proc.devRef .tc main_v75) = shifted (A m c) (DT m c) := by
    rw [v75_at]
  rw [h_v75]
  try rfl

/-- The queries by chunk, after stretch 7. -/
theorem v81_at : V7 m c (Proc.devRef .tc main_v81) = qs (A m c) (CW m c) := by
  refine (s6_v81 (V6 m c)).trans ?_
  have h_v54 : V6 m c (Proc.devRef .tc main_v54) = longQ (A m c) (CW m c) := by
    rw [keep5 m c (by decide), v54_at]
  rw [h_v54]
  try rfl

/-- The keys by chunk, after stretch 7. -/
theorem v83_at : V7 m c (Proc.devRef .tc main_v83) = ks (A m c) (CW m c) := by
  refine (s6_v83 (V6 m c)).trans ?_
  have h_v63 : V6 m c (Proc.devRef .tc main_v63) = units (actK (A m c) (CW m c)) := by
    rw [keep5 m c (by decide), v63_at]
  rw [h_v63]
  try rfl

/-- The values by chunk, after stretch 7. -/
theorem v85_at : V7 m c (Proc.devRef .tc main_v85) = vs (A m c) (CW m c) := by
  refine (s6_v85 (V6 m c)).trans ?_
  have h_v64 : V6 m c (Proc.devRef .tc main_v64) = actV (A m c) (CW m c) := by
    rw [keep5 m c (by decide), v64_at]
  rw [h_v64]
  try rfl

/-- The write strengths by chunk, after stretch 7. -/
theorem v88_at : V7 m c (Proc.devRef .tc main_v88) = bs (A m c) := by
  refine (s6_v88 (V6 m c)).trans ?_
  have h_v70 : V6 m c (Proc.devRef .tc main_v70) = longB (A m c) := by
    rw [keep5 m c (by decide), v70_at]
  rw [h_v70]
  try rfl

/-- The log decays by chunk, after stretch 7. -/
theorem v90_at : V7 m c (Proc.devRef .tc main_v90) = gs (A m c) (AL m c) (DT m c) := by
  refine (s6_v90 (V6 m c)).trans ?_
  have h_v72 : V6 m c (Proc.devRef .tc main_v72) = Host.negf (F := Ideal) (φ := .f32) (Host.exp (shapeCast S8 (AL m c) shapeCasts_S1x8_S8)) := by
    rw [keep5 m c (by decide), v72_at]
  have h_v76 : V6 m c (Proc.devRef .tc main_v76) = softs (shifted (A m c) (DT m c)) := by
    rw [v76_at]
  rw [h_v72, h_v76]
  try rfl

/-- The running sums, after stretch 8. -/
theorem v91_at : V8 m c (Proc.devRef .tc main_v91) = cs (A m c) (AL m c) (DT m c) := by
  refine (s7_v91 (V7 m c)).trans ?_
  have h_v90 : V7 m c (Proc.devRef .tc main_v90) = gs (A m c) (AL m c) (DT m c) := by
    rw [v90_at]
  rw [h_v90]
  try rfl

/-- All true, after stretch 9. -/
theorem v92_at : V9 m c (Proc.devRef .tc main_v92) = allTrue := by
  refine (s8_v92 (V8 m c)).trans ?_
  rfl

/-- A triangle's mask, from a mask that is all true. -/
theorem triOf_all (d : BitVec 32) : triOf d allTrue = tri d := rfl

/-- The masked scores, of the mask and the products. -/
theorem asC_of (a : FVec Ideal S32768x4224 .f32) (cw : FVec Ideal S1x4x3072 .f32) (al dt : FVec Ideal S1x8 .f32) (M : IVec S64x64 1)
    (hM : M = tri 4294967295#32) : maskOf M (dotM (kbs a cw) (ks a cw) (lms a al dt)) zero = asC a cw al dt := by
  unfold asC
  rw [← hM]
  rfl

/-- The lower triangle, after stretch 10. -/
theorem v93_at : V10 m c (Proc.devRef .tc main_v93) = tri 0#32 := by
  refine (s9_v93 (V9 m c)).trans ?_
  have h_v92 : V9 m c (Proc.devRef .tc main_v92) = allTrue := by
    rw [v92_at]
  rw [h_v92]
  try rfl

/-- All true, after stretch 11. -/
theorem v94_at : V11 m c (Proc.devRef .tc main_v94) = allTrue := by
  refine (s10_v94 (V10 m c)).trans ?_
  rfl

/-- The strict lower triangle, after stretch 12. -/
theorem v95_at : V12 m c (Proc.devRef .tc main_v95) = tri 4294967295#32 := by
  refine (s11_v95 (V11 m c)).trans ?_
  have h_v94 : V11 m c (Proc.devRef .tc main_v94) = allTrue := by
    rw [v94_at]
  rw [h_v94]
  exact triOf_all _

/-- The differences, after stretch 13. -/
theorem v100_at : V13 m c (Proc.devRef .tc main_v100) = diffs (A m c) (AL m c) (DT m c) := by
  refine (s12_v100 (V12 m c)).trans ?_
  have h_v91 : V12 m c (Proc.devRef .tc main_v91) = cs (A m c) (AL m c) (DT m c) := by
    rw [keep11 m c (by decide), keep10 m c (by decide), keep9 m c (by decide), keep8 m c (by decide), v91_at]
  rw [h_v91]
  try rfl

/-- Zero, after stretch 13. -/
theorem cst_9_at : V13 m c (Proc.devRef .tc main_cst_9) = zero := by
  refine (s12_cst_9 (V12 m c)).trans ?_
  rfl

/-- The differences masked, after stretch 14. -/
theorem v101_at : V14 m c (Proc.devRef .tc main_v101) = masked (tri 0#32) (diffs (A m c) (AL m c) (DT m c)) := by
  refine (s13_v101 (V13 m c)).trans ?_
  have h_v93 : V13 m c (Proc.devRef .tc main_v93) = tri 0#32 := by
    rw [keep12 m c (by decide), keep11 m c (by decide), keep10 m c (by decide), v93_at]
  have h_v100 : V13 m c (Proc.devRef .tc main_v100) = diffs (A m c) (AL m c) (DT m c) := by
    rw [v100_at]
  have h_cst_9 : V13 m c (Proc.devRef .tc main_cst_9) = zero := by
    rw [cst_9_at]
  rw [h_v93, h_v100, h_cst_9]
  try rfl

/-- Their exponentials, after stretch 15. -/
theorem v102_at : V15 m c (Proc.devRef .tc main_v102) = expM (masked (tri 0#32) (diffs (A m c) (AL m c) (DT m c))) := by
  refine (s14_v102 (V14 m c)).trans ?_
  have h_v101 : V14 m c (Proc.devRef .tc main_v101) = masked (tri 0#32) (diffs (A m c) (AL m c) (DT m c)) := by
    rw [v101_at]
  rw [h_v101]
  try rfl

/-- Zero, after stretch 15. -/
theorem cst_10_at : V15 m c (Proc.devRef .tc main_cst_10) = zero := by
  refine (s14_cst_10 (V14 m c)).trans ?_
  rfl

/-- The decays between rows, after stretch 16. -/
theorem v103_at : V16 m c (Proc.devRef .tc main_v103) = lms (A m c) (AL m c) (DT m c) := by
  refine (s15_v103 (V15 m c)).trans ?_
  have h_v93 : V15 m c (Proc.devRef .tc main_v93) = tri 0#32 := by
    rw [keep14 m c (by decide), keep13 m c (by decide), keep12 m c (by decide), keep11 m c (by decide), keep10 m c (by decide), v93_at]
  have h_v102 : V15 m c (Proc.devRef .tc main_v102) = expM (masked (tri 0#32) (diffs (A m c) (AL m c) (DT m c))) := by
    rw [v102_at]
  have h_cst_10 : V15 m c (Proc.devRef .tc main_cst_10) = zero := by
    rw [cst_10_at]
  rw [h_v93, h_v102, h_cst_10]
  try rfl

/-- The weighted keys, after stretch 17. -/
theorem v105_at : V17 m c (Proc.devRef .tc main_v105) = kbs (A m c) (CW m c) := by
  refine (s16_v105 (V16 m c)).trans ?_
  have h_v83 : V16 m c (Proc.devRef .tc main_v83) = ks (A m c) (CW m c) := by
    rw [keep15 m c (by decide), keep14 m c (by decide), keep13 m c (by decide), keep12 m c (by decide), keep11 m c (by decide), keep10 m c (by decide), keep9 m c (by decide), keep8 m c (by decide), keep7 m c (by decide), v83_at]
  have h_v88 : V16 m c (Proc.devRef .tc main_v88) = bs (A m c) := by
    rw [keep15 m c (by decide), keep14 m c (by decide), keep13 m c (by decide), keep12 m c (by decide), keep11 m c (by decide), keep10 m c (by decide), keep9 m c (by decide), keep8 m c (by decide), keep7 m c (by decide), v88_at]
  rw [h_v83, h_v88]
  try rfl

/-- The scores before the mask, after stretch 17. -/
theorem v107_at : V17 m c (Proc.devRef .tc main_v107) = dotM (kbs (A m c) (CW m c)) (ks (A m c) (CW m c)) (lms (A m c) (AL m c) (DT m c)) := by
  refine (s16_v107 (V16 m c)).trans ?_
  have h_v83 : V16 m c (Proc.devRef .tc main_v83) = ks (A m c) (CW m c) := by
    rw [keep15 m c (by decide), keep14 m c (by decide), keep13 m c (by decide), keep12 m c (by decide), keep11 m c (by decide), keep10 m c (by decide), keep9 m c (by decide), keep8 m c (by decide), keep7 m c (by decide), v83_at]
  have h_v88 : V16 m c (Proc.devRef .tc main_v88) = bs (A m c) := by
    rw [keep15 m c (by decide), keep14 m c (by decide), keep13 m c (by decide), keep12 m c (by decide), keep11 m c (by decide), keep10 m c (by decide), keep9 m c (by decide), keep8 m c (by decide), keep7 m c (by decide), v88_at]
  have h_v103 : V16 m c (Proc.devRef .tc main_v103) = lms (A m c) (AL m c) (DT m c) := by
    rw [v103_at]
  rw [h_v83, h_v88, h_v103]
  try rfl

/-- Zero, after stretch 17. -/
theorem cst_11_at : V17 m c (Proc.devRef .tc main_cst_11) = zero := by
  refine (s16_cst_11 (V16 m c)).trans ?_
  rfl

/-- The scores, after stretch 18. -/
theorem v108_at : V18 m c (Proc.devRef .tc main_v108) = asC (A m c) (CW m c) (AL m c) (DT m c) := by
  refine (s17_v108 (V17 m c)).trans ?_
  have h_v95 : V17 m c (Proc.devRef .tc main_v95) = tri 4294967295#32 := by
    rw [keep16 m c (by decide), keep15 m c (by decide), keep14 m c (by decide), keep13 m c (by decide), keep12 m c (by decide), v95_at]
  have h_v107 : V17 m c (Proc.devRef .tc main_v107) = dotM (kbs (A m c) (CW m c)) (ks (A m c) (CW m c)) (lms (A m c) (AL m c) (DT m c)) := by
    rw [v107_at]
  have h_cst_11 : V17 m c (Proc.devRef .tc main_cst_11) = zero := by
    rw [cst_11_at]
  rw [h_v107, h_cst_11]
  exact asC_of _ _ _ _ _ h_v95

/-- The identity, after stretch 19. -/
theorem v114_at : V19 m c (Proc.devRef .tc main_v114) = eyeM := by
  refine (s18_v114 (V18 m c)).trans ?_
  rfl

/-- Zeros, after stretch 19. -/
theorem v115_at : V19 m c (Proc.devRef .tc main_v115) = broadcastInDim S256x2x8x64x64 ![] bcast_S_S256x2x8x64x64 zero := by
  refine (s18_v115 (V18 m c)).trans ?_
  rfl

/-- Eight more steps of the substitution, after stretch 20. -/
theorem v116_at : V20 m c (Proc.devRef .tc main_v116) = eight (asC (A m c) (CW m c) (AL m c) (DT m c)) (broadcastInDim S256x2x8x64x64 ![] bcast_S_S256x2x8x64x64 zero) := by
  refine (s19_v116 (V19 m c)).trans ?_
  have h_v114 : V19 m c (Proc.devRef .tc main_v114) = eyeM := by
    rw [v114_at]
  have h_v108 : V19 m c (Proc.devRef .tc main_v108) = asC (A m c) (CW m c) (AL m c) (DT m c) := by
    rw [keep18 m c (by decide), v108_at]
  have h_v115 : V19 m c (Proc.devRef .tc main_v115) = broadcastInDim S256x2x8x64x64 ![] bcast_S_S256x2x8x64x64 zero := by
    rw [v115_at]
  rw [h_v114, h_v108, h_v115]
  try rfl

/-- Eight more steps of the substitution, after stretch 21. -/
theorem v117_at : V21 m c (Proc.devRef .tc main_v117) = eight (asC (A m c) (CW m c) (AL m c) (DT m c)) (eight (asC (A m c) (CW m c) (AL m c) (DT m c)) (broadcastInDim S256x2x8x64x64 ![] bcast_S_S256x2x8x64x64 zero)) := by
  refine (s20_v117 (V20 m c)).trans ?_
  have h_v114 : V20 m c (Proc.devRef .tc main_v114) = eyeM := by
    rw [keep19 m c (by decide), v114_at]
  have h_v108 : V20 m c (Proc.devRef .tc main_v108) = asC (A m c) (CW m c) (AL m c) (DT m c) := by
    rw [keep19 m c (by decide), keep18 m c (by decide), v108_at]
  have h_v116 : V20 m c (Proc.devRef .tc main_v116) = eight (asC (A m c) (CW m c) (AL m c) (DT m c)) (broadcastInDim S256x2x8x64x64 ![] bcast_S_S256x2x8x64x64 zero) := by
    rw [v116_at]
  rw [h_v114, h_v108, h_v116]
  try rfl

/-- Eight more steps of the substitution, after stretch 22. -/
theorem v118_at : V22 m c (Proc.devRef .tc main_v118) = eight (asC (A m c) (CW m c) (AL m c) (DT m c)) (eight (asC (A m c) (CW m c) (AL m c) (DT m c)) (eight (asC (A m c) (CW m c) (AL m c) (DT m c)) (broadcastInDim S256x2x8x64x64 ![] bcast_S_S256x2x8x64x64 zero))) := by
  refine (s21_v118 (V21 m c)).trans ?_
  have h_v114 : V21 m c (Proc.devRef .tc main_v114) = eyeM := by
    rw [keep20 m c (by decide), keep19 m c (by decide), v114_at]
  have h_v108 : V21 m c (Proc.devRef .tc main_v108) = asC (A m c) (CW m c) (AL m c) (DT m c) := by
    rw [keep20 m c (by decide), keep19 m c (by decide), keep18 m c (by decide), v108_at]
  have h_v117 : V21 m c (Proc.devRef .tc main_v117) = eight (asC (A m c) (CW m c) (AL m c) (DT m c)) (eight (asC (A m c) (CW m c) (AL m c) (DT m c)) (broadcastInDim S256x2x8x64x64 ![] bcast_S_S256x2x8x64x64 zero)) := by
    rw [v117_at]
  rw [h_v114, h_v108, h_v117]
  try rfl

/-- Eight more steps of the substitution, after stretch 23. -/
theorem v119_at : V23 m c (Proc.devRef .tc main_v119) = eight (asC (A m c) (CW m c) (AL m c) (DT m c)) (eight (asC (A m c) (CW m c) (AL m c) (DT m c)) (eight (asC (A m c) (CW m c) (AL m c) (DT m c)) (eight (asC (A m c) (CW m c) (AL m c) (DT m c)) (broadcastInDim S256x2x8x64x64 ![] bcast_S_S256x2x8x64x64 zero)))) := by
  refine (s22_v119 (V22 m c)).trans ?_
  have h_v114 : V22 m c (Proc.devRef .tc main_v114) = eyeM := by
    rw [keep21 m c (by decide), keep20 m c (by decide), keep19 m c (by decide), v114_at]
  have h_v108 : V22 m c (Proc.devRef .tc main_v108) = asC (A m c) (CW m c) (AL m c) (DT m c) := by
    rw [keep21 m c (by decide), keep20 m c (by decide), keep19 m c (by decide), keep18 m c (by decide), v108_at]
  have h_v118 : V22 m c (Proc.devRef .tc main_v118) = eight (asC (A m c) (CW m c) (AL m c) (DT m c)) (eight (asC (A m c) (CW m c) (AL m c) (DT m c)) (eight (asC (A m c) (CW m c) (AL m c) (DT m c)) (broadcastInDim S256x2x8x64x64 ![] bcast_S_S256x2x8x64x64 zero))) := by
    rw [v118_at]
  rw [h_v114, h_v108, h_v118]
  try rfl

/-- Eight more steps of the substitution, after stretch 24. -/
theorem v120_at : V24 m c (Proc.devRef .tc main_v120) = eight (asC (A m c) (CW m c) (AL m c) (DT m c)) (eight (asC (A m c) (CW m c) (AL m c) (DT m c)) (eight (asC (A m c) (CW m c) (AL m c) (DT m c)) (eight (asC (A m c) (CW m c) (AL m c) (DT m c)) (eight (asC (A m c) (CW m c) (AL m c) (DT m c)) (broadcastInDim S256x2x8x64x64 ![] bcast_S_S256x2x8x64x64 zero))))) := by
  refine (s23_v120 (V23 m c)).trans ?_
  have h_v114 : V23 m c (Proc.devRef .tc main_v114) = eyeM := by
    rw [keep22 m c (by decide), keep21 m c (by decide), keep20 m c (by decide), keep19 m c (by decide), v114_at]
  have h_v108 : V23 m c (Proc.devRef .tc main_v108) = asC (A m c) (CW m c) (AL m c) (DT m c) := by
    rw [keep22 m c (by decide), keep21 m c (by decide), keep20 m c (by decide), keep19 m c (by decide), keep18 m c (by decide), v108_at]
  have h_v119 : V23 m c (Proc.devRef .tc main_v119) = eight (asC (A m c) (CW m c) (AL m c) (DT m c)) (eight (asC (A m c) (CW m c) (AL m c) (DT m c)) (eight (asC (A m c) (CW m c) (AL m c) (DT m c)) (eight (asC (A m c) (CW m c) (AL m c) (DT m c)) (broadcastInDim S256x2x8x64x64 ![] bcast_S_S256x2x8x64x64 zero)))) := by
    rw [v119_at]
  rw [h_v114, h_v108, h_v119]
  try rfl

/-- Eight more steps of the substitution, after stretch 25. -/
theorem v121_at : V25 m c (Proc.devRef .tc main_v121) = eight (asC (A m c) (CW m c) (AL m c) (DT m c)) (eight (asC (A m c) (CW m c) (AL m c) (DT m c)) (eight (asC (A m c) (CW m c) (AL m c) (DT m c)) (eight (asC (A m c) (CW m c) (AL m c) (DT m c)) (eight (asC (A m c) (CW m c) (AL m c) (DT m c)) (eight (asC (A m c) (CW m c) (AL m c) (DT m c)) (broadcastInDim S256x2x8x64x64 ![] bcast_S_S256x2x8x64x64 zero)))))) := by
  refine (s24_v121 (V24 m c)).trans ?_
  have h_v114 : V24 m c (Proc.devRef .tc main_v114) = eyeM := by
    rw [keep23 m c (by decide), keep22 m c (by decide), keep21 m c (by decide), keep20 m c (by decide), keep19 m c (by decide), v114_at]
  have h_v108 : V24 m c (Proc.devRef .tc main_v108) = asC (A m c) (CW m c) (AL m c) (DT m c) := by
    rw [keep23 m c (by decide), keep22 m c (by decide), keep21 m c (by decide), keep20 m c (by decide), keep19 m c (by decide), keep18 m c (by decide), v108_at]
  have h_v120 : V24 m c (Proc.devRef .tc main_v120) = eight (asC (A m c) (CW m c) (AL m c) (DT m c)) (eight (asC (A m c) (CW m c) (AL m c) (DT m c)) (eight (asC (A m c) (CW m c) (AL m c) (DT m c)) (eight (asC (A m c) (CW m c) (AL m c) (DT m c)) (eight (asC (A m c) (CW m c) (AL m c) (DT m c)) (broadcastInDim S256x2x8x64x64 ![] bcast_S_S256x2x8x64x64 zero))))) := by
    rw [v120_at]
  rw [h_v114, h_v108, h_v120]
  try rfl

/-- Eight more steps of the substitution, after stretch 26. -/
theorem v122_at : V26 m c (Proc.devRef .tc main_v122) = eight (asC (A m c) (CW m c) (AL m c) (DT m c)) (eight (asC (A m c) (CW m c) (AL m c) (DT m c)) (eight (asC (A m c) (CW m c) (AL m c) (DT m c)) (eight (asC (A m c) (CW m c) (AL m c) (DT m c)) (eight (asC (A m c) (CW m c) (AL m c) (DT m c)) (eight (asC (A m c) (CW m c) (AL m c) (DT m c)) (eight (asC (A m c) (CW m c) (AL m c) (DT m c)) (broadcastInDim S256x2x8x64x64 ![] bcast_S_S256x2x8x64x64 zero))))))) := by
  refine (s25_v122 (V25 m c)).trans ?_
  have h_v114 : V25 m c (Proc.devRef .tc main_v114) = eyeM := by
    rw [keep24 m c (by decide), keep23 m c (by decide), keep22 m c (by decide), keep21 m c (by decide), keep20 m c (by decide), keep19 m c (by decide), v114_at]
  have h_v108 : V25 m c (Proc.devRef .tc main_v108) = asC (A m c) (CW m c) (AL m c) (DT m c) := by
    rw [keep24 m c (by decide), keep23 m c (by decide), keep22 m c (by decide), keep21 m c (by decide), keep20 m c (by decide), keep19 m c (by decide), keep18 m c (by decide), v108_at]
  have h_v121 : V25 m c (Proc.devRef .tc main_v121) = eight (asC (A m c) (CW m c) (AL m c) (DT m c)) (eight (asC (A m c) (CW m c) (AL m c) (DT m c)) (eight (asC (A m c) (CW m c) (AL m c) (DT m c)) (eight (asC (A m c) (CW m c) (AL m c) (DT m c)) (eight (asC (A m c) (CW m c) (AL m c) (DT m c)) (eight (asC (A m c) (CW m c) (AL m c) (DT m c)) (broadcastInDim S256x2x8x64x64 ![] bcast_S_S256x2x8x64x64 zero)))))) := by
    rw [v121_at]
  rw [h_v114, h_v108, h_v121]
  try rfl

/-- Eight more steps of the substitution, after stretch 27. -/
theorem v123_at : V27 m c (Proc.devRef .tc main_v123) = inv (asC (A m c) (CW m c) (AL m c) (DT m c)) := by
  refine (s26_v123 (V26 m c)).trans ?_
  have h_v114 : V26 m c (Proc.devRef .tc main_v114) = eyeM := by
    rw [keep25 m c (by decide), keep24 m c (by decide), keep23 m c (by decide), keep22 m c (by decide), keep21 m c (by decide), keep20 m c (by decide), keep19 m c (by decide), v114_at]
  have h_v108 : V26 m c (Proc.devRef .tc main_v108) = asC (A m c) (CW m c) (AL m c) (DT m c) := by
    rw [keep25 m c (by decide), keep24 m c (by decide), keep23 m c (by decide), keep22 m c (by decide), keep21 m c (by decide), keep20 m c (by decide), keep19 m c (by decide), keep18 m c (by decide), v108_at]
  have h_v122 : V26 m c (Proc.devRef .tc main_v122) = eight (asC (A m c) (CW m c) (AL m c) (DT m c)) (eight (asC (A m c) (CW m c) (AL m c) (DT m c)) (eight (asC (A m c) (CW m c) (AL m c) (DT m c)) (eight (asC (A m c) (CW m c) (AL m c) (DT m c)) (eight (asC (A m c) (CW m c) (AL m c) (DT m c)) (eight (asC (A m c) (CW m c) (AL m c) (DT m c)) (eight (asC (A m c) (CW m c) (AL m c) (DT m c)) (broadcastInDim S256x2x8x64x64 ![] bcast_S_S256x2x8x64x64 zero))))))) := by
    rw [v122_at]
  rw [h_v114, h_v108, h_v122]
  try rfl

/-- The carried values, after stretch 28. -/
theorem v150_0_at : Z m c (Proc.devRef .tc main_v150_0) = values (A m c) (CW m c) (AL m c) (DT m c) := by
  refine (s27_v150_0 (V27 m c)).trans ?_
  have h_v123 : V27 m c (Proc.devRef .tc main_v123) = inv (asC (A m c) (CW m c) (AL m c) (DT m c)) := by
    rw [v123_at]
  have h_v85 : V27 m c (Proc.devRef .tc main_v85) = vs (A m c) (CW m c) := by
    rw [keep26 m c (by decide), keep25 m c (by decide), keep24 m c (by decide), keep23 m c (by decide), keep22 m c (by decide), keep21 m c (by decide), keep20 m c (by decide), keep19 m c (by decide), keep18 m c (by decide), keep17 m c (by decide), keep16 m c (by decide), keep15 m c (by decide), keep14 m c (by decide), keep13 m c (by decide), keep12 m c (by decide), keep11 m c (by decide), keep10 m c (by decide), keep9 m c (by decide), keep8 m c (by decide), keep7 m c (by decide), v85_at]
  have h_v88 : V27 m c (Proc.devRef .tc main_v88) = bs (A m c) := by
    rw [keep26 m c (by decide), keep25 m c (by decide), keep24 m c (by decide), keep23 m c (by decide), keep22 m c (by decide), keep21 m c (by decide), keep20 m c (by decide), keep19 m c (by decide), keep18 m c (by decide), keep17 m c (by decide), keep16 m c (by decide), keep15 m c (by decide), keep14 m c (by decide), keep13 m c (by decide), keep12 m c (by decide), keep11 m c (by decide), keep10 m c (by decide), keep9 m c (by decide), keep8 m c (by decide), keep7 m c (by decide), v88_at]
  rw [h_v123, h_v85, h_v88]
  try rfl

/-- The carried decayed keys, after stretch 28. -/
theorem v150_1_at : Z m c (Proc.devRef .tc main_v150_1) = kcums (A m c) (CW m c) (AL m c) (DT m c) := by
  refine (s27_v150_1 (V27 m c)).trans ?_
  have h_v123 : V27 m c (Proc.devRef .tc main_v123) = inv (asC (A m c) (CW m c) (AL m c) (DT m c)) := by
    rw [v123_at]
  have h_v105 : V27 m c (Proc.devRef .tc main_v105) = kbs (A m c) (CW m c) := by
    rw [keep26 m c (by decide), keep25 m c (by decide), keep24 m c (by decide), keep23 m c (by decide), keep22 m c (by decide), keep21 m c (by decide), keep20 m c (by decide), keep19 m c (by decide), keep18 m c (by decide), keep17 m c (by decide), v105_at]
  have h_v91 : V27 m c (Proc.devRef .tc main_v91) = cs (A m c) (AL m c) (DT m c) := by
    rw [keep26 m c (by decide), keep25 m c (by decide), keep24 m c (by decide), keep23 m c (by decide), keep22 m c (by decide), keep21 m c (by decide), keep20 m c (by decide), keep19 m c (by decide), keep18 m c (by decide), keep17 m c (by decide), keep16 m c (by decide), keep15 m c (by decide), keep14 m c (by decide), keep13 m c (by decide), keep12 m c (by decide), keep11 m c (by decide), keep10 m c (by decide), keep9 m c (by decide), keep8 m c (by decide), v91_at]
  rw [h_v123, h_v105, h_v91]
  try rfl

/-- The carried scores, after stretch 28. -/
theorem v150_2_at : Z m c (Proc.devRef .tc main_v150_2) = attns (A m c) (CW m c) (AL m c) (DT m c) := by
  refine (s27_v150_2 (V27 m c)).trans ?_
  have h_v81 : V27 m c (Proc.devRef .tc main_v81) = qs (A m c) (CW m c) := by
    rw [keep26 m c (by decide), keep25 m c (by decide), keep24 m c (by decide), keep23 m c (by decide), keep22 m c (by decide), keep21 m c (by decide), keep20 m c (by decide), keep19 m c (by decide), keep18 m c (by decide), keep17 m c (by decide), keep16 m c (by decide), keep15 m c (by decide), keep14 m c (by decide), keep13 m c (by decide), keep12 m c (by decide), keep11 m c (by decide), keep10 m c (by decide), keep9 m c (by decide), keep8 m c (by decide), keep7 m c (by decide), v81_at]
  have h_v83 : V27 m c (Proc.devRef .tc main_v83) = ks (A m c) (CW m c) := by
    rw [keep26 m c (by decide), keep25 m c (by decide), keep24 m c (by decide), keep23 m c (by decide), keep22 m c (by decide), keep21 m c (by decide), keep20 m c (by decide), keep19 m c (by decide), keep18 m c (by decide), keep17 m c (by decide), keep16 m c (by decide), keep15 m c (by decide), keep14 m c (by decide), keep13 m c (by decide), keep12 m c (by decide), keep11 m c (by decide), keep10 m c (by decide), keep9 m c (by decide), keep8 m c (by decide), keep7 m c (by decide), v83_at]
  have h_v103 : V27 m c (Proc.devRef .tc main_v103) = lms (A m c) (AL m c) (DT m c) := by
    rw [keep26 m c (by decide), keep25 m c (by decide), keep24 m c (by decide), keep23 m c (by decide), keep22 m c (by decide), keep21 m c (by decide), keep20 m c (by decide), keep19 m c (by decide), keep18 m c (by decide), keep17 m c (by decide), keep16 m c (by decide), v103_at]
  rw [h_v81, h_v83, h_v103]
  try rfl

/-- The carried decayed queries, after stretch 28. -/
theorem v150_3_at : Z m c (Proc.devRef .tc main_v150_3) = qdecs (A m c) (CW m c) (AL m c) (DT m c) := by
  refine (s27_v150_3 (V27 m c)).trans ?_
  have h_v81 : V27 m c (Proc.devRef .tc main_v81) = qs (A m c) (CW m c) := by
    rw [keep26 m c (by decide), keep25 m c (by decide), keep24 m c (by decide), keep23 m c (by decide), keep22 m c (by decide), keep21 m c (by decide), keep20 m c (by decide), keep19 m c (by decide), keep18 m c (by decide), keep17 m c (by decide), keep16 m c (by decide), keep15 m c (by decide), keep14 m c (by decide), keep13 m c (by decide), keep12 m c (by decide), keep11 m c (by decide), keep10 m c (by decide), keep9 m c (by decide), keep8 m c (by decide), keep7 m c (by decide), v81_at]
  have h_v91 : V27 m c (Proc.devRef .tc main_v91) = cs (A m c) (AL m c) (DT m c) := by
    rw [keep26 m c (by decide), keep25 m c (by decide), keep24 m c (by decide), keep23 m c (by decide), keep22 m c (by decide), keep21 m c (by decide), keep20 m c (by decide), keep19 m c (by decide), keep18 m c (by decide), keep17 m c (by decide), keep16 m c (by decide), keep15 m c (by decide), keep14 m c (by decide), keep13 m c (by decide), keep12 m c (by decide), keep11 m c (by decide), keep10 m c (by decide), keep9 m c (by decide), keep8 m c (by decide), v91_at]
  rw [h_v81, h_v91]
  try rfl

/-- The carried keys decayed to the end, after stretch 28. -/
theorem v150_4_at : Z m c (Proc.devRef .tc main_v150_4) = ktails (A m c) (CW m c) (AL m c) (DT m c) := by
  refine (s27_v150_4 (V27 m c)).trans ?_
  have h_v83 : V27 m c (Proc.devRef .tc main_v83) = ks (A m c) (CW m c) := by
    rw [keep26 m c (by decide), keep25 m c (by decide), keep24 m c (by decide), keep23 m c (by decide), keep22 m c (by decide), keep21 m c (by decide), keep20 m c (by decide), keep19 m c (by decide), keep18 m c (by decide), keep17 m c (by decide), keep16 m c (by decide), keep15 m c (by decide), keep14 m c (by decide), keep13 m c (by decide), keep12 m c (by decide), keep11 m c (by decide), keep10 m c (by decide), keep9 m c (by decide), keep8 m c (by decide), keep7 m c (by decide), v83_at]
  have h_v91 : V27 m c (Proc.devRef .tc main_v91) = cs (A m c) (AL m c) (DT m c) := by
    rw [keep26 m c (by decide), keep25 m c (by decide), keep24 m c (by decide), keep23 m c (by decide), keep22 m c (by decide), keep21 m c (by decide), keep20 m c (by decide), keep19 m c (by decide), keep18 m c (by decide), keep17 m c (by decide), keep16 m c (by decide), keep15 m c (by decide), keep14 m c (by decide), keep13 m c (by decide), keep12 m c (by decide), keep11 m c (by decide), keep10 m c (by decide), keep9 m c (by decide), keep8 m c (by decide), v91_at]
  rw [h_v83, h_v91]
  try rfl

/-- The carried whole decays, after stretch 28. -/
theorem v150_5_at : Z m c (Proc.devRef .tc main_v150_5) = tots (A m c) (AL m c) (DT m c) := by
  refine (s27_v150_5 (V27 m c)).trans ?_
  have h_v91 : V27 m c (Proc.devRef .tc main_v91) = cs (A m c) (AL m c) (DT m c) := by
    rw [keep26 m c (by decide), keep25 m c (by decide), keep24 m c (by decide), keep23 m c (by decide), keep22 m c (by decide), keep21 m c (by decide), keep20 m c (by decide), keep19 m c (by decide), keep18 m c (by decide), keep17 m c (by decide), keep16 m c (by decide), keep15 m c (by decide), keep14 m c (by decide), keep13 m c (by decide), keep12 m c (by decide), keep11 m c (by decide), keep10 m c (by decide), keep9 m c (by decide), keep8 m c (by decide), v91_at]
  rw [h_v91]
  try rfl

/-- The zero states, after stretch 28. -/
theorem v150_7_at : Z m c (Proc.devRef .tc main_v150_7) = carryS (A m c) (CW m c) (AL m c) (DT m c) 0 := by
  refine (s27_v150_7 (V27 m c)).trans ?_
  rfl

/-- The zero outputs, after stretch 28. -/
theorem v150_8_at : Z m c (Proc.devRef .tc main_v150_8) = carryO (A m c) (CW m c) (AL m c) (DT m c) 0 := by
  refine (s27_v150_8 (V27 m c)).trans ?_
  rfl

/-- The output gates, when the loop starts. -/
theorem z_entry : Z m c (Proc.devRef .tc main_v3) = rawZ (A m c) := by
  rw [keep27 m c (by decide), keep26 m c (by decide), keep25 m c (by decide), keep24 m c (by decide), keep23 m c (by decide), keep22 m c (by decide), keep21 m c (by decide), keep20 m c (by decide), keep19 m c (by decide), keep18 m c (by decide), keep17 m c (by decide), keep16 m c (by decide), keep15 m c (by decide), keep14 m c (by decide), keep13 m c (by decide), keep12 m c (by decide), keep11 m c (by decide), keep10 m c (by decide), keep9 m c (by decide), keep8 m c (by decide), keep7 m c (by decide), keep6 m c (by decide), keep5 m c (by decide), keep4 m c (by decide), keep3 m c (by decide), keep2 m c (by decide), keep1 m c (by decide), v3_at]
/-- The norm's weights, when the loop starts. -/
theorem w_entry : Z m c (Proc.devRef .tc main_v9) = shapeCast S128 (m ((c : Thread nD τ).loc main_arg4)) shapeCasts_S1x128_S128 := by
  rw [keep27 m c (by decide), keep26 m c (by decide), keep25 m c (by decide), keep24 m c (by decide), keep23 m c (by decide), keep22 m c (by decide), keep21 m c (by decide), keep20 m c (by decide), keep19 m c (by decide), keep18 m c (by decide), keep17 m c (by decide), keep16 m c (by decide), keep15 m c (by decide), keep14 m c (by decide), keep13 m c (by decide), keep12 m c (by decide), keep11 m c (by decide), keep10 m c (by decide), keep9 m c (by decide), keep8 m c (by decide), keep7 m c (by decide), keep6 m c (by decide), keep5 m c (by decide), keep4 m c (by decide), keep3 m c (by decide), keep2 m c (by decide), keep1 m c (by decide), v9_at]
/-- An argument, when the loop starts. -/
theorem arg_entry0 : Z m c (Proc.devRef .tc main_arg0) = m ((c : Thread nD τ).loc main_arg0) := by
  rw [keep27 m c (by decide), keep26 m c (by decide), keep25 m c (by decide), keep24 m c (by decide), keep23 m c (by decide), keep22 m c (by decide), keep21 m c (by decide), keep20 m c (by decide), keep19 m c (by decide), keep18 m c (by decide), keep17 m c (by decide), keep16 m c (by decide), keep15 m c (by decide), keep14 m c (by decide), keep13 m c (by decide), keep12 m c (by decide), keep11 m c (by decide), keep10 m c (by decide), keep9 m c (by decide), keep8 m c (by decide), keep7 m c (by decide), keep6 m c (by decide), keep5 m c (by decide), keep4 m c (by decide), keep3 m c (by decide), keep2 m c (by decide), keep1 m c (by decide), keep0 m c (by decide), V0_at]
/-- An argument, when the loop starts. -/
theorem arg_entry1 : Z m c (Proc.devRef .tc main_arg1) = m ((c : Thread nD τ).loc main_arg1) := by
  rw [keep27 m c (by decide), keep26 m c (by decide), keep25 m c (by decide), keep24 m c (by decide), keep23 m c (by decide), keep22 m c (by decide), keep21 m c (by decide), keep20 m c (by decide), keep19 m c (by decide), keep18 m c (by decide), keep17 m c (by decide), keep16 m c (by decide), keep15 m c (by decide), keep14 m c (by decide), keep13 m c (by decide), keep12 m c (by decide), keep11 m c (by decide), keep10 m c (by decide), keep9 m c (by decide), keep8 m c (by decide), keep7 m c (by decide), keep6 m c (by decide), keep5 m c (by decide), keep4 m c (by decide), keep3 m c (by decide), keep2 m c (by decide), keep1 m c (by decide), keep0 m c (by decide), V0_at]
/-- An argument, when the loop starts. -/
theorem arg_entry2 : Z m c (Proc.devRef .tc main_arg2) = m ((c : Thread nD τ).loc main_arg2) := by
  rw [keep27 m c (by decide), keep26 m c (by decide), keep25 m c (by decide), keep24 m c (by decide), keep23 m c (by decide), keep22 m c (by decide), keep21 m c (by decide), keep20 m c (by decide), keep19 m c (by decide), keep18 m c (by decide), keep17 m c (by decide), keep16 m c (by decide), keep15 m c (by decide), keep14 m c (by decide), keep13 m c (by decide), keep12 m c (by decide), keep11 m c (by decide), keep10 m c (by decide), keep9 m c (by decide), keep8 m c (by decide), keep7 m c (by decide), keep6 m c (by decide), keep5 m c (by decide), keep4 m c (by decide), keep3 m c (by decide), keep2 m c (by decide), keep1 m c (by decide), keep0 m c (by decide), V0_at]
/-- An argument, when the loop starts. -/
theorem arg_entry3 : Z m c (Proc.devRef .tc main_arg3) = m ((c : Thread nD τ).loc main_arg3) := by
  rw [keep27 m c (by decide), keep26 m c (by decide), keep25 m c (by decide), keep24 m c (by decide), keep23 m c (by decide), keep22 m c (by decide), keep21 m c (by decide), keep20 m c (by decide), keep19 m c (by decide), keep18 m c (by decide), keep17 m c (by decide), keep16 m c (by decide), keep15 m c (by decide), keep14 m c (by decide), keep13 m c (by decide), keep12 m c (by decide), keep11 m c (by decide), keep10 m c (by decide), keep9 m c (by decide), keep8 m c (by decide), keep7 m c (by decide), keep6 m c (by decide), keep5 m c (by decide), keep4 m c (by decide), keep3 m c (by decide), keep2 m c (by decide), keep1 m c (by decide), keep0 m c (by decide), V0_at]
/-- An argument, when the loop starts. -/
theorem arg_entry4 : Z m c (Proc.devRef .tc main_arg4) = m ((c : Thread nD τ).loc main_arg4) := by
  rw [keep27 m c (by decide), keep26 m c (by decide), keep25 m c (by decide), keep24 m c (by decide), keep23 m c (by decide), keep22 m c (by decide), keep21 m c (by decide), keep20 m c (by decide), keep19 m c (by decide), keep18 m c (by decide), keep17 m c (by decide), keep16 m c (by decide), keep15 m c (by decide), keep14 m c (by decide), keep13 m c (by decide), keep12 m c (by decide), keep11 m c (by decide), keep10 m c (by decide), keep9 m c (by decide), keep8 m c (by decide), keep7 m c (by decide), keep6 m c (by decide), keep5 m c (by decide), keep4 m c (by decide), keep3 m c (by decide), keep2 m c (by decide), keep1 m c (by decide), keep0 m c (by decide), V0_at]

end Cert.Reference7Ideal.Entry

end
-- ==== Proof.DeltaRefRun.lean ====
/-
  The gated delta rule reference's run: after every trip of its loop, and its result at an index, as the recurrence over
  whole sequences.
-/
module

public import proofs.«01_k».proof.Proof.DeltaRefLoop
public import Idealize.ShloMosaic.Lib.Quiescent

@[expose] public section

set_option maxRecDepth 16384

noncomputable section

open Idealize.ShloMosaic Idealize.ShloMosaic.TcCoe Idealize.ShloMosaic.Tactic Idealize.ShloMosaic.StableHlo Idealize.SL.Sem
open Cert.Reference7Ideal Cert.Reference7Ideal.Gen Cert.Reference7Ideal.Value Cert.Reference7Ideal.Arrays Cert.Delta
open Cert.Chunk (normed)

namespace Cert.Reference7Ideal.Entry

/-! The buffers the stretches after the loop write. -/

/-- The buffers the first stretch after the loop writes, in order. -/
abbrev hostOps0_28_W : List (Ref sig .tc) := [main_v151, main_v152, main_v153, main_cst_17, main_v154, main_v155, main_cst_18, main_v156, main_v157, main_cst_19, main_v158, main_v159, main_v160, main_v161, main_v162, main_v163, main_v164, main_v165, main_v166]
/-- It writes no others. -/
theorem hostOps0_28_writes : (hostOps0_28 : List (HloOp τ sig (Elt Ideal))).Forall fun op => op.writes ⊆ (hostOps0_28_W.map (Proc.devRef (τ := τ) .tc)).toFinset :=
  StableHlo.forall_writes_sub_of_map rfl
/-- The buffers the second stretch after the loop writes, in order. -/
abbrev hostOps0_29_W : List (Ref sig .tc) := [main_call24_v0, main_call24_v1, main_call24_cst, main_call24_v2, main_call24_v3, main_call24_cst_0, main_call24_v4, main_call24_v5, main_v167]
/-- It writes no others. -/
theorem hostOps0_29_writes : (hostOps0_29 : List (HloOp τ sig (Elt Ideal))).Forall fun op => op.writes ⊆ (hostOps0_29_W.map (Proc.devRef (τ := τ) .tc)).toFinset :=
  StableHlo.forall_writes_sub_of_map rfl
/-- The buffers the last stretch after the loop writes, in order. -/
abbrev hostOps0_30_W : List (Ref sig .tc) := [main_v168, main_v169, main_v170]
/-- It writes no others. -/
theorem hostOps0_30_writes : (hostOps0_30 : List (HloOp τ sig (Elt Ideal))).Forall fun op => op.writes ⊆ (hostOps0_30_W.map (Proc.devRef (τ := τ) .tc)).toFinset :=
  StableHlo.forall_writes_sub_of_map rfl

section
variable (V : Valuation τ sig (Elt Ideal))

/-- The outputs normed and weighted, after the loop. -/
theorem p28_v165 : after hostOps0_28 V (Proc.devRef .tc main_v165) = weighted (V (Proc.devRef .tc main_v150_8)) (V (Proc.devRef .tc main_v9)) := by
  after_reads_simp
  all_goals rfl
/-- The output gates by head. -/
theorem p28_v166 : after hostOps0_28 V (Proc.devRef .tc main_v166) = shapeCast S2x16384x8x128 (V (Proc.devRef .tc main_v3)) shapeCasts_S2x16384x1024_S2x16384x8x128 := by
  after_reads_simp
  all_goals rfl
/-- The output gates' activation. -/
theorem p29_v167 : after hostOps0_29 V (Proc.devRef .tc main_v167) = (mulf (V (Proc.devRef .tc main_v166)) (sigm (V (Proc.devRef .tc main_v166))) : Long) := by
  after_reads_simp
  all_goals rfl
/-- The result. -/
theorem p30_v170 : after hostOps0_30 V (Proc.devRef .tc main_v170)
    = shapeCast S32768x1024 (shapeCast S2x16384x1024 (mulf (F := Ideal) (φ := .f32) (V (Proc.devRef .tc main_v165)) (V (Proc.devRef .tc main_v167))) shapeCasts_S2x16384x8x128_S2x16384x1024) shapeCasts_S2x16384x1024_S32768x1024 := by
  after_reads_simp
  all_goals rfl
/-- The three stretches after the loop, as one function of the buffers it leaves. -/
theorem post_result : afterL postI V (Proc.devRef .tc main_v170)
    = tail (V (Proc.devRef .tc main_v150_8)) (V (Proc.devRef .tc main_v9))
        (shapeCast S2x16384x8x128 (V (Proc.devRef .tc main_v3)) shapeCasts_S2x16384x1024_S2x16384x8x128) := by
  simp only [afterL_cons, afterL_nil]
  rw [p30_v170, p29_v167, p28_v166, after_of_writes_sub hostOps0_29 _ hostOps0_29_writes (by decide), p28_v165]
  rfl
/-- The stretches after the loop keep what they do not write. -/
theorem post_keep {r : Ref sig .tc} (h1 : r ∉ hostOps0_28_W) (h2 : r ∉ hostOps0_29_W) (h3 : r ∉ hostOps0_30_W) :
    afterL postI V (Proc.devRef .tc r) = V (Proc.devRef .tc r) := by
  simp only [afterL_cons, afterL_nil]
  rw [after_of_writes_sub hostOps0_30 _ hostOps0_30_writes h3, after_of_writes_sub hostOps0_29 _ hostOps0_29_writes h2,
    after_of_writes_sub hostOps0_28 _ hostOps0_28_writes h1]
/-- One trip keeps what it does not write. -/
theorem trip_keep {r : Ref sig .tc} (hc : r ∉ condOps_W) (h0 : r ∉ while0Ops0_W) (h1 : r ∉ while0Ops0_1_W) (h2 : r ∉ while0Ops0_2_W) (h3 : r ∉ while0Ops0_3_W) (h4 : r ∉ while0Ops0_4_W) (h5 : r ∉ while0Ops0_5_W) (h6 : r ∉ while0Ops0_6_W) (h7 : r ∉ while0Ops0_7_W) (h8 : r ∉ while0Ops0_8_W) :
    afterL bodyI (after condOps V) (Proc.devRef .tc r) = V (Proc.devRef .tc r) := by
  simp only [afterL_cons, afterL_nil]
  rw [after_of_writes_sub while0Ops0_8 _ while0Ops0_8_writes h8, after_of_writes_sub while0Ops0_7 _ while0Ops0_7_writes h7, after_of_writes_sub while0Ops0_6 _ while0Ops0_6_writes h6, after_of_writes_sub while0Ops0_5 _ while0Ops0_5_writes h5, after_of_writes_sub while0Ops0_4 _ while0Ops0_4_writes h4, after_of_writes_sub while0Ops0_3 _ while0Ops0_3_writes h3, after_of_writes_sub while0Ops0_2 _ while0Ops0_2_writes h2, after_of_writes_sub while0Ops0_1 _ while0Ops0_1_writes h1, after_of_writes_sub while0Ops0 _ while0Ops0_writes h0, after_of_writes_sub condOps _ condOps_writes hc]

end

variable (m : (ℓ : Loc nD τ sig) → Buf (Elt Ideal) ℓ) (c : Dev nD)

/-- The loop keeps what no trip writes. -/
theorem loop_keep {r : Ref sig .tc} (hc : r ∉ condOps_W) (h0 : r ∉ while0Ops0_W) (h1 : r ∉ while0Ops0_1_W) (h2 : r ∉ while0Ops0_2_W) (h3 : r ∉ while0Ops0_3_W) (h4 : r ∉ while0Ops0_4_W) (h5 : r ∉ while0Ops0_5_W) (h6 : r ∉ while0Ops0_6_W) (h7 : r ∉ while0Ops0_7_W) (h8 : r ∉ while0Ops0_8_W) (k : ℕ) :
    after condOps (atK m k c) (Proc.devRef .tc r) = Z m c (Proc.devRef .tc r) := by
  rw [after_of_writes_sub condOps _ condOps_writes hc]
  induction k with
  | zero => rfl
  | succ k ih => exact (trip_keep (atK m k c) hc h0 h1 h2 h3 h4 h5 h6 h7 h8).trans ih

/-- The carried buffers after `k` trips. -/
abbrev W (k : ℕ) : Valuation τ sig (Elt Ideal) := STEP^[k] (entryContents preI m c)

/-- One more trip. -/
theorem W_succ (k : ℕ) : W m c (k + 1) = STEP (W m c k) := Function.iterate_succ_apply' ..

/-- The trip counter. -/
theorem W_ctr (k : ℕ) : W m c k (Proc.devRef .tc main_v150_6) = fun _ => BitVec.ofNat 32 k := by
  refine (atK_agree m c k main_v150_6 (by decide)).symm.trans ((atK_ctr m c k).trans (funext fun _ => ?_))
  rw [Scf.iv, BitVec.mul_one, BitVec.zero_add]

/-- The values stay. -/
theorem W_value (k : ℕ) : W m c k (Proc.devRef .tc main_v150_0) = values (A m c) (CW m c) (AL m c) (DT m c) := by
  induction k with
  | zero => exact v150_0_at m c
  | succ k ih => rw [W_succ, STEP_main_v150_0, ih]

/-- The decayed keys stay. -/
theorem W_kcum (k : ℕ) : W m c k (Proc.devRef .tc main_v150_1) = kcums (A m c) (CW m c) (AL m c) (DT m c) := by
  induction k with
  | zero => exact v150_1_at m c
  | succ k ih => rw [W_succ, STEP_main_v150_1, ih]

/-- The scores stay. -/
theorem W_attn (k : ℕ) : W m c k (Proc.devRef .tc main_v150_2) = attns (A m c) (CW m c) (AL m c) (DT m c) := by
  induction k with
  | zero => exact v150_2_at m c
  | succ k ih => rw [W_succ, STEP_main_v150_2, ih]

/-- The decayed queries stay. -/
theorem W_qdec (k : ℕ) : W m c k (Proc.devRef .tc main_v150_3) = qdecs (A m c) (CW m c) (AL m c) (DT m c) := by
  induction k with
  | zero => exact v150_3_at m c
  | succ k ih => rw [W_succ, STEP_main_v150_3, ih]

/-- The keys decayed to the end stay. -/
theorem W_ktail (k : ℕ) : W m c k (Proc.devRef .tc main_v150_4) = ktails (A m c) (CW m c) (AL m c) (DT m c) := by
  induction k with
  | zero => exact v150_4_at m c
  | succ k ih => rw [W_succ, STEP_main_v150_4, ih]

/-- The whole decays stay. -/
theorem W_tot (k : ℕ) : W m c k (Proc.devRef .tc main_v150_5) = tots (A m c) (AL m c) (DT m c) := by
  induction k with
  | zero => exact v150_5_at m c
  | succ k ih => rw [W_succ, STEP_main_v150_5, ih]

/-- A trip's states, of the buffers before it. -/
theorem trip_s (V : Valuation τ sig (Elt Ideal)) : step_main_v150_7 V = stepS (V (Proc.devRef .tc main_v150_0)) (V (Proc.devRef .tc main_v150_1)) (V (Proc.devRef .tc main_v150_4)) (V (Proc.devRef .tc main_v150_5)) (V (Proc.devRef .tc main_v150_6)) (V (Proc.devRef .tc main_v150_7)) := rfl
/-- A trip's outputs, of the buffers before it. -/
theorem trip_o (V : Valuation τ sig (Elt Ideal)) : step_main_v150_8 V = stepO (V (Proc.devRef .tc main_v150_0)) (V (Proc.devRef .tc main_v150_1)) (V (Proc.devRef .tc main_v150_2)) (V (Proc.devRef .tc main_v150_3)) (V (Proc.devRef .tc main_v150_6)) (V (Proc.devRef .tc main_v150_7)) (V (Proc.devRef .tc main_v150_8)) := by
  unfold step_main_v150_8 stepO put pick
  rfl

/-- The states after `k` trips. -/
theorem W_s (k : ℕ) : W m c k (Proc.devRef .tc main_v150_7) = carryS (A m c) (CW m c) (AL m c) (DT m c) k := by
  induction k with
  | zero => exact v150_7_at m c
  | succ k ih =>
    rw [W_succ, STEP_main_v150_7, trip_s, W_value, W_kcum, W_ktail, W_tot, W_ctr, ih]
    rfl
/-- The outputs after `k` trips. -/
theorem W_o (k : ℕ) : W m c k (Proc.devRef .tc main_v150_8) = carryO (A m c) (CW m c) (AL m c) (DT m c) k := by
  induction k with
  | zero => exact v150_8_at m c
  | succ k ih =>
    rw [W_succ, STEP_main_v150_8, trip_o, W_value, W_kcum, W_attn, W_qdec, W_ctr, W_s, ih]
    rfl

/-- The outputs the loop leaves. -/
theorem loop_o : after condOps (atK m 256 c) (Proc.devRef .tc main_v150_8) = carryO (A m c) (CW m c) (AL m c) (DT m c) 256 := by
  rw [after_of_writes_sub condOps _ condOps_writes (by decide), atK_agree m c 256 main_v150_8 (by decide)]
  exact W_o m c 256

/-- The reference's result, as one array of its arguments. -/
theorem result_eq : finalContents condOps preI bodyI postI 256 m c (Proc.devRef .tc main_v170)
    = tail (carryO (A m c) (CW m c) (AL m c) (DT m c) 256) (shapeCast S128 (m ((c : Thread nD τ).loc main_arg4)) shapeCasts_S1x128_S128)
        (shapeCast S2x16384x8x128 (rawZ (A m c)) shapeCasts_S2x16384x1024_S2x16384x8x128) := by
  refine (post_result (after condOps (atK m 256 c))).trans ?_
  rw [loop_o, loop_keep m c (by decide) (by decide) (by decide) (by decide) (by decide) (by decide) (by decide) (by decide) (by decide) (by decide) 256, w_entry, loop_keep m c (by decide) (by decide) (by decide) (by decide) (by decide) (by decide) (by decide) (by decide) (by decide) (by decide) 256, z_entry]

/-- The output gates by head, at an index. -/
theorem gates_at (b : Fin 2) (r : Fin 16384) (h : Fin 8) (e : Fin 128) :
    shapeCast S2x16384x8x128 (rawZ (A m c)) shapeCasts_S2x16384x1024_S2x16384x8x128 (ix4 b r h e) = XR (A m c) b r.val (3072 + (128 * h.val + e.val)) := by
  refine Eq.trans ?_ (rawZ_at (A m c) b r ⟨128 * h.val + e.val, by omega⟩)
  pointwise []
  simp only [Nat.mul_comm]

/-- The reference's result at an index. -/
theorem result_at (b : Fin 2) (k : Fin 256) (t : Fin 64) (h : Fin 8) (e : Fin 128) (r : Fin 32768) (l : Fin 1024)
    (hr : r.val = 16384 * b.val + 64 * k.val + t.val) (hl : l.val = 128 * h.val + e.val) :
    (finalContents condOps preI bodyI postI 256 m c (Proc.devRef .tc main_v170) : FVec Ideal S32768x1024 .f32) (ix2 r l)
      = result (XR (A m c) b) (WR (CW m c)) (HR (AL m c)) (HR (DT m c)) h (fun e => m ((c : Thread nD τ).loc main_arg4) (ix2 0 e)) k.val t e := by
  rw [result_eq, tail_at _ _ _ k b h t e r l hr hl, result, gates_at]
  have hw : shapeCast S128 (m ((c : Thread nD τ).loc main_arg4) : FVec Ideal S1x128 .f32) shapeCasts_S1x128_S128 (ix1 e)
      = (m ((c : Thread nD τ).loc main_arg4) : FVec Ideal S1x128 .f32) (ix2 0 e) := by
    pointwise []
  have ho : (fun d => carryO (A m c) (CW m c) (AL m c) (DT m c) 256 (ix5 k b h t d))
      = fun d => outT (XR (A m c) b) (WR (CW m c)) (HR (AL m c)) (HR (DT m c)) h k.val t d := by
    funext d
    exact carryO_at (A m c) (CW m c) (AL m c) (DT m c) b h k t d 256 le_rfl k.isLt
  rw [hw, ho]

/-- An argument is kept. -/
theorem kept0 : finalContents condOps preI bodyI postI 256 m c (Proc.devRef .tc main_arg0) = m ((c : Thread nD τ).loc main_arg0) := by
  refine (post_keep _ (by decide) (by decide) (by decide)).trans ?_
  rw [loop_keep m c (by decide) (by decide) (by decide) (by decide) (by decide) (by decide) (by decide) (by decide) (by decide) (by decide) 256]
  exact arg_entry0 m c

/-- An argument is kept. -/
theorem kept1 : finalContents condOps preI bodyI postI 256 m c (Proc.devRef .tc main_arg1) = m ((c : Thread nD τ).loc main_arg1) := by
  refine (post_keep _ (by decide) (by decide) (by decide)).trans ?_
  rw [loop_keep m c (by decide) (by decide) (by decide) (by decide) (by decide) (by decide) (by decide) (by decide) (by decide) (by decide) 256]
  exact arg_entry1 m c

/-- An argument is kept. -/
theorem kept2 : finalContents condOps preI bodyI postI 256 m c (Proc.devRef .tc main_arg2) = m ((c : Thread nD τ).loc main_arg2) := by
  refine (post_keep _ (by decide) (by decide) (by decide)).trans ?_
  rw [loop_keep m c (by decide) (by decide) (by decide) (by decide) (by decide) (by decide) (by decide) (by decide) (by decide) (by decide) 256]
  exact arg_entry2 m c

/-- An argument is kept. -/
theorem kept3 : finalContents condOps preI bodyI postI 256 m c (Proc.devRef .tc main_arg3) = m ((c : Thread nD τ).loc main_arg3) := by
  refine (post_keep _ (by decide) (by decide) (by decide)).trans ?_
  rw [loop_keep m c (by decide) (by decide) (by decide) (by decide) (by decide) (by decide) (by decide) (by decide) (by decide) (by decide) 256]
  exact arg_entry3 m c

/-- An argument is kept. -/
theorem kept4 : finalContents condOps preI bodyI postI 256 m c (Proc.devRef .tc main_arg4) = m ((c : Thread nD τ).loc main_arg4) := by
  refine (post_keep _ (by decide) (by decide) (by decide)).trans ?_
  rw [loop_keep m c (by decide) (by decide) (by decide) (by decide) (by decide) (by decide) (by decide) (by decide) (by decide) (by decide) 256]
  exact arg_entry4 m c

/-- The reference's run: its result and its arguments. -/
theorem run (ρ : Dev nD → PrngReg) : θ_run defs (onTc (τ := τ) (main (F := Ideal))) ⟨m, fun _ => 0, ρ⟩ fun r => ∀ c : Dev nD,
    r.2.mem ((c : Thread nD τ).loc main_v170) = finalContents condOps preI bodyI postI 256 m c (Proc.devRef .tc main_v170)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c => ⟨h c main_v170 rfl, (h c main_arg0 rfl).trans (kept0 m c), (h c main_arg1 rfl).trans (kept1 m c), (h c main_arg2 rfl).trans (kept2 m c), (h c main_arg3 rfl).trans (kept3 m c), (h c main_arg4 rfl).trans (kept4 m c)⟩) (run_fold (F := Ideal) m ρ)

end Cert.Reference7Ideal.Entry

end
-- ==== Proof.DeltaEqual.lean ====
/-
  The gated delta rule: the kernel's result array is the reference's, from memories that agree on the arguments.
-/
module

public import proofs.«01_k».proof.Proof.DeltaCarried
public import proofs.«01_k».proof.Proof.DeltaRefRun

@[expose] public section

set_option maxRecDepth 16384

noncomputable section

open Idealize.ShloMosaic Idealize.ShloMosaic.TcCoe Idealize.SL.Sem

namespace Cert.Delta.Equal

variable (m : (ℓ : Loc Cert.Kernel7Ideal.nD Cert.Kernel7Ideal.τ Cert.Kernel7Ideal.sig) → Buf (Elt Ideal) ℓ)
  (m' : (ℓ : Loc Cert.Reference7Ideal.nD Cert.Reference7Ideal.τ Cert.Reference7Ideal.sig) → Buf (Elt Ideal) ℓ)
  (c : Dev Cert.Kernel7Ideal.nD)

/-- The results at an index, from memories that agree on the arguments. -/
theorem result_at
    (h0 : m' ((c : Thread Cert.Reference7Ideal.nD Cert.Reference7Ideal.τ).loc Cert.Reference7Ideal.main_arg0) = m ((c : Thread Cert.Kernel7Ideal.nD Cert.Kernel7Ideal.τ).loc Cert.Kernel7Ideal.main_arg0))
    (h1 : m' ((c : Thread Cert.Reference7Ideal.nD Cert.Reference7Ideal.τ).loc Cert.Reference7Ideal.main_arg1) = m ((c : Thread Cert.Kernel7Ideal.nD Cert.Kernel7Ideal.τ).loc Cert.Kernel7Ideal.main_arg1))
    (h2 : m' ((c : Thread Cert.Reference7Ideal.nD Cert.Reference7Ideal.τ).loc Cert.Reference7Ideal.main_arg2) = m ((c : Thread Cert.Kernel7Ideal.nD Cert.Kernel7Ideal.τ).loc Cert.Kernel7Ideal.main_arg2))
    (h3 : m' ((c : Thread Cert.Reference7Ideal.nD Cert.Reference7Ideal.τ).loc Cert.Reference7Ideal.main_arg3) = m ((c : Thread Cert.Kernel7Ideal.nD Cert.Kernel7Ideal.τ).loc Cert.Kernel7Ideal.main_arg3))
    (h4 : m' ((c : Thread Cert.Reference7Ideal.nD Cert.Reference7Ideal.τ).loc Cert.Reference7Ideal.main_arg4) = m ((c : Thread Cert.Kernel7Ideal.nD Cert.Kernel7Ideal.τ).loc Cert.Kernel7Ideal.main_arg4))
    (r : Fin 32768) (l : Fin 1024) :
    (StableHlo.finalContents Cert.Reference7Ideal.Value.condOps Cert.Reference7Ideal.Value.preI Cert.Reference7Ideal.Value.bodyI Cert.Reference7Ideal.Value.postI 256 m' c
      (Proc.devRef .tc Cert.Reference7Ideal.main_v170) : FVec Ideal Cert.Reference7Ideal.S32768x1024 .f32) (ix2 r l) = Cert.Kernel7Ideal.Value.G9 m c (ix2 r l) := by
  have hr : r.val = 16384 * (r.val / 16384) + 64 * (r.val % 16384 / 64) + r.val % 64 := by omega
  have hl : l.val = 128 * (l.val / 128) + l.val % 128 := by omega
  refine (Cert.Reference7Ideal.Entry.result_at m' c ⟨r.val / 16384, by omega⟩ ⟨r.val % 16384 / 64, by omega⟩ ⟨r.val % 64, by omega⟩
    ⟨l.val / 128, by omega⟩ ⟨l.val % 128, by omega⟩ r l hr hl).trans ?_
  refine Eq.trans ?_ (Cert.Kernel7Ideal.Delta.G9_at m c ⟨r.val / 16384, by omega⟩ ⟨r.val % 16384 / 64, by omega⟩ ⟨r.val % 64, by omega⟩
    ⟨l.val / 128, by omega⟩ ⟨l.val % 128, by omega⟩ r l hr hl).symm
  rw [Cert.Reference7Ideal.Entry.A, Cert.Reference7Ideal.Entry.CW, Cert.Reference7Ideal.Entry.AL, Cert.Reference7Ideal.Entry.DT, h0, h1, h2, h3, h4]
  rfl

/-- The results, from memories that agree on the arguments. -/
theorem result_eq
    (h0 : m' ((c : Thread Cert.Reference7Ideal.nD Cert.Reference7Ideal.τ).loc Cert.Reference7Ideal.main_arg0) = m ((c : Thread Cert.Kernel7Ideal.nD Cert.Kernel7Ideal.τ).loc Cert.Kernel7Ideal.main_arg0))
    (h1 : m' ((c : Thread Cert.Reference7Ideal.nD Cert.Reference7Ideal.τ).loc Cert.Reference7Ideal.main_arg1) = m ((c : Thread Cert.Kernel7Ideal.nD Cert.Kernel7Ideal.τ).loc Cert.Kernel7Ideal.main_arg1))
    (h2 : m' ((c : Thread Cert.Reference7Ideal.nD Cert.Reference7Ideal.τ).loc Cert.Reference7Ideal.main_arg2) = m ((c : Thread Cert.Kernel7Ideal.nD Cert.Kernel7Ideal.τ).loc Cert.Kernel7Ideal.main_arg2))
    (h3 : m' ((c : Thread Cert.Reference7Ideal.nD Cert.Reference7Ideal.τ).loc Cert.Reference7Ideal.main_arg3) = m ((c : Thread Cert.Kernel7Ideal.nD Cert.Kernel7Ideal.τ).loc Cert.Kernel7Ideal.main_arg3))
    (h4 : m' ((c : Thread Cert.Reference7Ideal.nD Cert.Reference7Ideal.τ).loc Cert.Reference7Ideal.main_arg4) = m ((c : Thread Cert.Kernel7Ideal.nD Cert.Kernel7Ideal.τ).loc Cert.Kernel7Ideal.main_arg4)) :
    (StableHlo.finalContents Cert.Reference7Ideal.Value.condOps Cert.Reference7Ideal.Value.preI Cert.Reference7Ideal.Value.bodyI Cert.Reference7Ideal.Value.postI 256 m' c
      (Proc.devRef .tc Cert.Reference7Ideal.main_v170) : FVec Ideal Cert.Reference7Ideal.S32768x1024 .f32) = Cert.Kernel7Ideal.Value.G9 m c := by
  funext j
  rw [show j = ix2 (j 0) (j 1) from by funext a; match a with | ⟨0, _⟩ => rfl | ⟨1, _⟩ => rfl]
  exact result_at m m' c h0 h1 h2 h3 h4 (j 0) (j 1)

end Cert.Delta.Equal

end
-- ==== Proof.lean ====
/-
  The certificate's claims: the frames of the three programs, and that the kernel and the reference end with equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel2
public import proofs.«01_k».proof.Proof.Gen.Kernel2.Frame
public import proofs.«01_k».proof.Proof.Gen.Kernel2Ideal.Frame
public import proofs.«01_k».proof.Proof.Gen.Kernel3
public import proofs.«01_k».proof.Proof.Gen.Kernel3.Frame
public import proofs.«01_k».proof.Proof.Gen.Kernel3Ideal.Frame
public import proofs.«01_k».proof.Proof.Gen.Kernel4
public import proofs.«01_k».proof.Proof.Gen.Kernel4.Frame
public import proofs.«01_k».proof.Proof.Gen.Kernel4Ideal.Frame
public import proofs.«01_k».proof.Proof.Gen.Kernel5
public import proofs.«01_k».proof.Proof.Gen.Kernel5.Frame
public import proofs.«01_k».proof.Proof.Gen.Kernel5Ideal.Frame
public import proofs.«01_k».proof.Proof.Gen.Kernel6
public import proofs.«01_k».proof.Proof.Gen.Kernel6.Frame
public import proofs.«01_k».proof.Proof.Gen.Kernel6Ideal.Frame
public import proofs.«01_k».proof.Proof.Gen.Kernel7
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Equal
public import proofs.«01_k».proof.Proof.Project
public import proofs.«01_k».proof.Proof.ProjectPadded
public import proofs.«01_k».proof.Proof.Query
public import proofs.«01_k».proof.Proof.GateOut
public import proofs.«01_k».proof.Proof.Residual
public import proofs.«01_k».proof.Proof.DeltaEqual
public import Idealize.ShloMosaic.Adequacy
public import Idealize.ShloMosaic.Init

@[expose] public section

noncomputable section

namespace Cert.Proof

open Idealize.ShloMosaic Idealize.SL.Sem Cert.Kernel

/-- The reference runs, keeps its arguments, and has no semaphores to leave raised. -/
theorem quiescent_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Entry.run m ρ)

/-- The kernel and the reference end with equal results. -/
theorem equal_results : Cert.algebraic_KernelIdeal_ReferenceIdeal (hKernelIdeal := Cert.KernelIdeal.Gen.facts) (hReferenceIdeal := Cert.ReferenceIdeal.Gen.facts) :=
  fun m ρ m' ρ' _ hag => ⟨fun c => Cert.KernelIdeal.Value.G6 m c, Cert.KernelIdeal.Value.run m ρ,
    (θ_run Cert.ReferenceIdeal.defs _ _).mono (fun r h c => ⟨(h c).1.trans (Cert.Equal.result_eq m m' c (hag c).1 (hag c).2.1 (hag c).2.2), (h c).2⟩)
      (Cert.ReferenceIdeal.Entry.run m' ρ')⟩

/-- The reference of the norm and the input projection of layer 0 runs, keeps its arguments, and has no semaphores to leave raised. -/
theorem quiescent_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run m ρ)

/-- The kernel and the reference of the norm and the input projection of layer 0 end with equal results. -/
theorem equal_results2 : Cert.algebraic_Kernel2Ideal_Reference2Ideal (hKernel2Ideal := Cert.Kernel2Ideal.Gen.facts) (hReference2Ideal := Cert.Reference2Ideal.Gen.facts) :=
  fun m ρ m' ρ' _ hag => ⟨fun c => Cert.Project.REF (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    (θ_run Cert.Kernel2Ideal.defs _ _).mono (fun r h c => ⟨(h c).1.trans (Cert.Project.final m c), (h c).2⟩) (Cert.Kernel2Ideal.Value.run_blocks m ρ),
    (θ_run Cert.Reference2Ideal.defs _ _).mono (fun r h c => ⟨(h c).1.trans (by rw [(hag c).1, (hag c).2.1, (hag c).2.2]), (h c).2⟩)
      (Cert.Reference2Ideal.Value.run m' ρ')⟩

/-- The reference of the norm and the input projection of layer 1 runs, keeps its arguments, and has no semaphores to leave raised. -/
theorem quiescent_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run m ρ)

/-- The kernel and the reference of the norm and the input projection of layer 1 end with equal results. -/
theorem equal_results3 : Cert.algebraic_Kernel3Ideal_Reference3Ideal (hKernel3Ideal := Cert.Kernel3Ideal.Gen.facts) (hReference3Ideal := Cert.Reference3Ideal.Gen.facts) :=
  fun m ρ m' ρ' _ hag => ⟨fun c => Cert.ProjectPadded.REF (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    (θ_run Cert.Kernel3Ideal.defs _ _).mono (fun r h c => ⟨(h c).1.trans (Cert.ProjectPadded.final m c), (h c).2⟩) (Cert.Kernel3Ideal.Value.run_blocks m ρ),
    (θ_run Cert.Reference3Ideal.defs _ _).mono (fun r h c => ⟨(h c).1.trans (by rw [(hag c).1, (hag c).2.1, (hag c).2.2]), (h c).2⟩)
      (Cert.Reference3Ideal.Value.run m' ρ')⟩

/-- The reference of the norm and the query projection runs, keeps its arguments, and has no semaphores to leave raised. -/
theorem quiescent_reference4 : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.Reference4Ideal.Value.run m ρ)

/-- The kernel and the reference of the norm and the query projection end with equal results. -/
theorem equal_results4 : Cert.algebraic_Kernel4Ideal_Reference4Ideal (hKernel4Ideal := Cert.Kernel4Ideal.Gen.facts) (hReference4Ideal := Cert.Reference4Ideal.Gen.facts) :=
  fun m ρ m' ρ' _ hag => ⟨fun c => Cert.Query.REF0 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)), fun c => Cert.Query.REF1 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    (θ_run Cert.Kernel4Ideal.defs _ _).mono (fun r h c => ⟨(h c).1.trans (Cert.Query.final0 m c), (h c).2.1.trans (Cert.Query.final1 m c), (h c).2.2⟩) (Cert.Kernel4Ideal.Value.run_blocks m ρ),
    (θ_run Cert.Reference4Ideal.defs _ _).mono (fun r h c => ⟨(h c).1.trans (by rw [(hag c).1, (hag c).2.1, (hag c).2.2]), (h c).2.1.trans (by rw [(hag c).1, (hag c).2.1]), (h c).2.2⟩)
      (Cert.Reference4Ideal.Value.run m' ρ')⟩

/-- The reference of the gate and the output projection of layer 0 runs, keeps its arguments, and has no semaphores to leave raised. -/
theorem quiescent_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run m ρ)

/-- The kernel and the reference of the gate and the output projection of layer 0 end with equal results. -/
theorem equal_results5 : Cert.algebraic_Kernel5Ideal_Reference5Ideal (hKernel5Ideal := Cert.Kernel5Ideal.Gen.facts) (hReference5Ideal := Cert.Reference5Ideal.Gen.facts) :=
  fun m ρ m' ρ' _ hag => ⟨fun c => Cert.GateOut.REF (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)),
    (θ_run Cert.Kernel5Ideal.defs _ _).mono (fun r h c => ⟨(h c).1.trans (Cert.GateOut.final m c), (h c).2⟩) (Cert.Kernel5Ideal.Value.run_blocks m ρ),
    (θ_run Cert.Reference5Ideal.defs _ _).mono (fun r h c => ⟨(h c).1.trans (by rw [(hag c).1, (hag c).2.1, (hag c).2.2.1, (hag c).2.2.2.1, (hag c).2.2.2.2]), (h c).2⟩)
      (Cert.Reference5Ideal.Value.run m' ρ')⟩

/-- The reference of the output projection of layer 1 runs, keeps its arguments, and has no semaphores to leave raised. -/
theorem quiescent_reference6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run m ρ)

/-- The kernel and the reference of the output projection of layer 1 end with equal results. -/
theorem equal_results6 : Cert.algebraic_Kernel6Ideal_Reference6Ideal (hKernel6Ideal := Cert.Kernel6Ideal.Gen.facts) (hReference6Ideal := Cert.Reference6Ideal.Gen.facts) :=
  fun m ρ m' ρ' _ hag => ⟨fun c => Cert.Residual.REF (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)),
    (θ_run Cert.Kernel6Ideal.defs _ _).mono (fun r h c => ⟨(h c).1.trans (Cert.Residual.final m c), (h c).2⟩) (Cert.Kernel6Ideal.Value.run_blocks m ρ),
    (θ_run Cert.Reference6Ideal.defs _ _).mono (fun r h c => ⟨(h c).1.trans (by rw [(hag c).1, (hag c).2.1, (hag c).2.2]), (h c).2⟩)
      (Cert.Reference6Ideal.Value.run m' ρ')⟩

/-- The reference of the gated delta rule runs, keeps its arguments, and has no semaphores to leave raised. -/
theorem quiescent_reference7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Entry.run m ρ)

/-- The kernel and the reference of the gated delta rule end with equal results. -/
theorem equal_results7 : Cert.algebraic_Kernel7Ideal_Reference7Ideal (hKernel7Ideal := Cert.Kernel7Ideal.Gen.facts) (hReference7Ideal := Cert.Reference7Ideal.Gen.facts) :=
  fun m ρ m' ρ' _ hag => ⟨fun c => Cert.Kernel7Ideal.Value.G9 m c, Cert.Kernel7Ideal.Value.run m ρ,
    (θ_run Cert.Reference7Ideal.defs _ _).mono (fun r h c => ⟨(h c).1.trans (Cert.Delta.Equal.result_eq m m' c (hag c).1 (hag c).2.1 (hag c).2.2.1 (hag c).2.2.2.1 (hag c).2.2.2.2), (h c).2⟩)
      (Cert.Reference7Ideal.Entry.run m' ρ')⟩

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  fun m ρ _ => Cert.Kernel.Gen.frame m ρ, fun m ρ _ => Cert.KernelIdeal.Gen.frame m ρ, quiescent_reference,
  fun m ρ _ => Cert.Kernel2.Gen.frame m ρ, fun m ρ _ => Cert.Kernel2Ideal.Gen.frame m ρ, quiescent_reference2,
  fun m ρ _ => Cert.Kernel3.Gen.frame m ρ, fun m ρ _ => Cert.Kernel3Ideal.Gen.frame m ρ, quiescent_reference3,
  fun m ρ _ => Cert.Kernel4.Gen.frame m ρ, fun m ρ _ => Cert.Kernel4Ideal.Gen.frame m ρ, quiescent_reference4,
  fun m ρ _ => Cert.Kernel5.Gen.frame m ρ, fun m ρ _ => Cert.Kernel5Ideal.Gen.frame m ρ, quiescent_reference5,
  fun m ρ _ => Cert.Kernel6.Gen.frame m ρ, fun m ρ _ => Cert.Kernel6Ideal.Gen.frame m ρ, quiescent_reference6,
  fun m ρ _ => Cert.Kernel7.Gen.frame m ρ, fun m ρ _ => Cert.Kernel7Ideal.Gen.frame m ρ, quiescent_reference7,
  trivial, equal_results, trivial, equal_results2, trivial, equal_results3, trivial, equal_results4, trivial, equal_results5, trivial, equal_results6, trivial, equal_results7⟩

end Cert.Proof

end
